-- ==== Defs.lean ====
def Pre_ScKernel (m : (ℓ : Loc Cert.ScKernel.nD Cert.ScKernel.τ Cert.ScKernel.sig) → Buf (Elt Bits) ℓ) : Prop :=
  True

def Pre_ScKernelIdeal (m : (ℓ : Loc Cert.ScKernelIdeal.nD Cert.ScKernelIdeal.τ Cert.ScKernelIdeal.sig) → Buf (Elt Ideal) ℓ) : Prop :=
  True

def Pre_ScReferenceIdeal (m : (ℓ : Loc Cert.ScReferenceIdeal.nD Cert.ScReferenceIdeal.τ Cert.ScReferenceIdeal.sig) → Buf (Elt Ideal) ℓ) : Prop :=
  True

def Pre_FiKernel (m : (ℓ : Loc Cert.FiKernel.nD Cert.FiKernel.τ Cert.FiKernel.sig) → Buf (Elt Bits) ℓ) : Prop :=
  True

def Pre_FiKernelIdeal (m : (ℓ : Loc Cert.FiKernelIdeal.nD Cert.FiKernelIdeal.τ Cert.FiKernelIdeal.sig) → Buf (Elt Ideal) ℓ) : Prop :=
  True

def Pre_FiReferenceIdeal (m : (ℓ : Loc Cert.FiReferenceIdeal.nD Cert.FiReferenceIdeal.τ Cert.FiReferenceIdeal.sig) → Buf (Elt Ideal) ℓ) : Prop :=
  True

def Pre_WuKernel (m : (ℓ : Loc Cert.WuKernel.nD Cert.WuKernel.τ Cert.WuKernel.sig) → Buf (Elt Bits) ℓ) : Prop :=
  True

def Pre_WuKernelIdeal (m : (ℓ : Loc Cert.WuKernelIdeal.nD Cert.WuKernelIdeal.τ Cert.WuKernelIdeal.sig) → Buf (Elt Ideal) ℓ) : Prop :=
  True

def Pre_WuReferenceIdeal (m : (ℓ : Loc Cert.WuReferenceIdeal.nD Cert.WuReferenceIdeal.τ Cert.WuReferenceIdeal.sig) → Buf (Elt Ideal) ℓ) : Prop :=
  True

def Pre_WdKernel (m : (ℓ : Loc Cert.WdKernel.nD Cert.WdKernel.τ Cert.WdKernel.sig) → Buf (Elt Bits) ℓ) : Prop :=
  True

def Pre_WdKernelIdeal (m : (ℓ : Loc Cert.WdKernelIdeal.nD Cert.WdKernelIdeal.τ Cert.WdKernelIdeal.sig) → Buf (Elt Ideal) ℓ) : Prop :=
  True

def Pre_WdReferenceIdeal (m : (ℓ : Loc Cert.WdReferenceIdeal.nD Cert.WdReferenceIdeal.τ Cert.WdReferenceIdeal.sig) → Buf (Elt Ideal) ℓ) : Prop :=
  True

def Pre_FoKernel (m : (ℓ : Loc Cert.FoKernel.nD Cert.FoKernel.τ Cert.FoKernel.sig) → Buf (Elt Bits) ℓ) : Prop :=
  True

def Pre_FoKernelIdeal (m : (ℓ : Loc Cert.FoKernelIdeal.nD Cert.FoKernelIdeal.τ Cert.FoKernelIdeal.sig) → Buf (Elt Ideal) ℓ) : Prop :=
  True

def Pre_FoReferenceIdeal (m : (ℓ : Loc Cert.FoReferenceIdeal.nD Cert.FoReferenceIdeal.τ Cert.FoReferenceIdeal.sig) → Buf (Elt Ideal) ℓ) : Prop :=
  True

def Pre_WiKernel (m : (ℓ : Loc Cert.WiKernel.nD Cert.WiKernel.τ Cert.WiKernel.sig) → Buf (Elt Bits) ℓ) : Prop :=
  True

def Pre_WiKernelIdeal (m : (ℓ : Loc Cert.WiKernelIdeal.nD Cert.WiKernelIdeal.τ Cert.WiKernelIdeal.sig) → Buf (Elt Ideal) ℓ) : Prop :=
  True

def Pre_WiReferenceIdeal (m : (ℓ : Loc Cert.WiReferenceIdeal.nD Cert.WiReferenceIdeal.τ Cert.WiReferenceIdeal.sig) → Buf (Elt Ideal) ℓ) : Prop :=
  True

def Pre_WoKernel (m : (ℓ : Loc Cert.WoKernel.nD Cert.WoKernel.τ Cert.WoKernel.sig) → Buf (Elt Bits) ℓ) : Prop :=
  True

def Pre_WoKernelIdeal (m : (ℓ : Loc Cert.WoKernelIdeal.nD Cert.WoKernelIdeal.τ Cert.WoKernelIdeal.sig) → Buf (Elt Ideal) ℓ) : Prop :=
  True

def Pre_WoReferenceIdeal (m : (ℓ : Loc Cert.WoReferenceIdeal.nD Cert.WoReferenceIdeal.τ Cert.WoReferenceIdeal.sig) → Buf (Elt Ideal) ℓ) : Prop :=
  True

def Pre_UfKernel (m : (ℓ : Loc Cert.UfKernel.nD Cert.UfKernel.τ Cert.UfKernel.sig) → Buf (Elt Bits) ℓ) : Prop :=
  True

def Pre_UfKernelIdeal (m : (ℓ : Loc Cert.UfKernelIdeal.nD Cert.UfKernelIdeal.τ Cert.UfKernelIdeal.sig) → Buf (Elt Ideal) ℓ) : Prop :=
  True

def Pre_UfReferenceIdeal (m : (ℓ : Loc Cert.UfReferenceIdeal.nD Cert.UfReferenceIdeal.τ Cert.UfReferenceIdeal.sig) → Buf (Elt Ideal) ℓ) : Prop :=
  True

def Pre_IfKernel (m : (ℓ : Loc Cert.IfKernel.nD Cert.IfKernel.τ Cert.IfKernel.sig) → Buf (Elt Bits) ℓ) : Prop :=
  True

def Pre_IfKernelIdeal (m : (ℓ : Loc Cert.IfKernelIdeal.nD Cert.IfKernelIdeal.τ Cert.IfKernelIdeal.sig) → Buf (Elt Ideal) ℓ) : Prop :=
  True

def Pre_IfReferenceIdeal (m : (ℓ : Loc Cert.IfReferenceIdeal.nD Cert.IfReferenceIdeal.τ Cert.IfReferenceIdeal.sig) → Buf (Elt Ideal) ℓ) : Prop :=
  True

def Pre_FfKernel (m : (ℓ : Loc Cert.FfKernel.nD Cert.FfKernel.τ Cert.FfKernel.sig) → Buf (Elt Bits) ℓ) : Prop :=
  True

def Pre_FfKernelIdeal (m : (ℓ : Loc Cert.FfKernelIdeal.nD Cert.FfKernelIdeal.τ Cert.FfKernelIdeal.sig) → Buf (Elt Ideal) ℓ) : Prop :=
  True

def Pre_FfReferenceIdeal (m : (ℓ : Loc Cert.FfReferenceIdeal.nD Cert.FfReferenceIdeal.τ Cert.FfReferenceIdeal.sig) → Buf (Elt Ideal) ℓ) : Prop :=
  True

def quiescent_ScKernel [hScKernel : Cert.ScKernel.Facts] : Prop :=
  ∀ (m : (ℓ : Loc Cert.ScKernel.nD Cert.ScKernel.τ Cert.ScKernel.sig) → Buf (Elt Bits) ℓ) (g : Dev Cert.ScKernel.nD → PrngReg), Pre_ScKernel m →
    θ_run (Cert.ScKernel.defs (F := Bits)) (onTc (τ := Cert.ScKernel.τ) (Cert.ScKernel.main (F := Bits))) ⟨m, fun _ => 0, g⟩ (fun r => (∀ c : Dev Cert.ScKernel.nD,
      r.2.mem ((c.tc : Thread Cert.ScKernel.nD Cert.ScKernel.τ).loc Cert.ScKernel.main_arg0) = m ((c.tc : Thread Cert.ScKernel.nD Cert.ScKernel.τ).loc Cert.ScKernel.main_arg0)
      ∧ r.2.mem ((c.tc : Thread Cert.ScKernel.nD Cert.ScKernel.τ).loc Cert.ScKernel.main_arg1) = m ((c.tc : Thread Cert.ScKernel.nD Cert.ScKernel.τ).loc Cert.ScKernel.main_arg1)
      ∧ r.2.mem ((c.tc : Thread Cert.ScKernel.nD Cert.ScKernel.τ).loc Cert.ScKernel.main_arg2) = m ((c.tc : Thread Cert.ScKernel.nD Cert.ScKernel.τ).loc Cert.ScKernel.main_arg2)
      ∧ r.2.mem ((c.tc : Thread Cert.ScKernel.nD Cert.ScKernel.τ).loc Cert.ScKernel.main_arg3) = m ((c.tc : Thread Cert.ScKernel.nD Cert.ScKernel.τ).loc Cert.ScKernel.main_arg3)
      ∧ r.2.mem ((c.tc : Thread Cert.ScKernel.nD Cert.ScKernel.τ).loc Cert.ScKernel.main_arg4) = m ((c.tc : Thread Cert.ScKernel.nD Cert.ScKernel.τ).loc Cert.ScKernel.main_arg4)
      ∧ r.2.mem ((c.tc : Thread Cert.ScKernel.nD Cert.ScKernel.τ).loc Cert.ScKernel.main_arg5) = m ((c.tc : Thread Cert.ScKernel.nD Cert.ScKernel.τ).loc Cert.ScKernel.main_arg5)
      ∧ r.2.mem ((c.tc : Thread Cert.ScKernel.nD Cert.ScKernel.τ).loc Cert.ScKernel.main_arg6) = m ((c.tc : Thread Cert.ScKernel.nD Cert.ScKernel.τ).loc Cert.ScKernel.main_arg6)
      ∧ r.2.mem ((c.tc : Thread Cert.ScKernel.nD Cert.ScKernel.τ).loc Cert.ScKernel.main_arg7) = m ((c.tc : Thread Cert.ScKernel.nD Cert.ScKernel.τ).loc Cert.ScKernel.main_arg7)
      ∧ r.2.mem ((c.tc : Thread Cert.ScKernel.nD Cert.ScKernel.τ).loc Cert.ScKernel.main_arg8) = m ((c.tc : Thread Cert.ScKernel.nD Cert.ScKernel.τ).loc Cert.ScKernel.main_arg8))
      ∧ r.2.sem = fun _ => 0)

def quiescent_ScKernelIdeal [hScKernelIdeal : Cert.ScKernelIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg), Pre_ScKernelIdeal m →
    θ_run (Cert.ScKernelIdeal.defs (F := Ideal)) (onTc (τ := Cert.ScKernelIdeal.τ) (Cert.ScKernelIdeal.main (F := Ideal))) ⟨m, fun _ => 0, g⟩ (fun r => (∀ c : Dev Cert.ScKernelIdeal.nD,
      r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
      ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1)
      ∧ r.2.mem ((c.tc : Thread Cert.ScKernelIdeal.nD Cert.ScKernelIdeal.τ).loc Cert.ScKernelIdeal.main_arg2) = m ((c.tc : Thread Cert.ScKernelIdeal.nD Cert.ScKernelIdeal.τ).loc Cert.ScKernelIdeal.main_arg2)
      ∧ r.2.mem ((c.tc : Thread Cert.ScKernelIdeal.nD Cert.ScKernelIdeal.τ).loc Cert.ScKernelIdeal.main_arg3) = m ((c.tc : Thread Cert.ScKernelIdeal.nD Cert.ScKernelIdeal.τ).loc Cert.ScKernelIdeal.main_arg3)
      ∧ r.2.mem ((c.tc : Thread Cert.ScKernelIdeal.nD Cert.ScKernelIdeal.τ).loc Cert.ScKernelIdeal.main_arg4) = m ((c.tc : Thread Cert.ScKernelIdeal.nD Cert.ScKernelIdeal.τ).loc Cert.ScKernelIdeal.main_arg4)
      ∧ r.2.mem ((c.tc : Thread Cert.ScKernelIdeal.nD Cert.ScKernelIdeal.τ).loc Cert.ScKernelIdeal.main_arg5) = m ((c.tc : Thread Cert.ScKernelIdeal.nD Cert.ScKernelIdeal.τ).loc Cert.ScKernelIdeal.main_arg5)
      ∧ r.2.mem ((c.tc : Thread Cert.ScKernelIdeal.nD Cert.ScKernelIdeal.τ).loc Cert.ScKernelIdeal.main_arg6) = m ((c.tc : Thread Cert.ScKernelIdeal.nD Cert.ScKernelIdeal.τ).loc Cert.ScKernelIdeal.main_arg6)
      ∧ r.2.mem ((c.tc : Thread Cert.ScKernelIdeal.nD Cert.ScKernelIdeal.τ).loc Cert.ScKernelIdeal.main_arg7) = m ((c.tc : Thread Cert.ScKernelIdeal.nD Cert.ScKernelIdeal.τ).loc Cert.ScKernelIdeal.main_arg7)
      ∧ r.2.mem ((c.tc : Thread Cert.ScKernelIdeal.nD Cert.ScKernelIdeal.τ).loc Cert.ScKernelIdeal.main_arg8) = m ((c.tc : Thread Cert.ScKernelIdeal.nD Cert.ScKernelIdeal.τ).loc Cert.ScKernelIdeal.main_arg8))
      ∧ r.2.sem = fun _ => 0)

def quiescent_ScReferenceIdeal [hScReferenceIdeal : Cert.ScReferenceIdeal.Facts] : Prop :=
  ∀ (m : (ℓ : Loc Cert.ScReferenceIdeal.nD Cert.ScReferenceIdeal.τ Cert.ScReferenceIdeal.sig) → Buf (Elt Ideal) ℓ) (g : Dev Cert.ScReferenceIdeal.nD → PrngReg), Pre_ScReferenceIdeal m →
    θ_run (Cert.ScReferenceIdeal.defs (F := Ideal)) (onTc (τ := Cert.ScReferenceIdeal.τ) (Cert.ScReferenceIdeal.main (F := Ideal))) ⟨m, fun _ => 0, g⟩ (fun r => (∀ c : Dev Cert.ScReferenceIdeal.nD,
      r.2.mem ((c.tc : Thread Cert.ScReferenceIdeal.nD Cert.ScReferenceIdeal.τ).loc Cert.ScReferenceIdeal.main_arg0) = m ((c.tc : Thread Cert.ScReferenceIdeal.nD Cert.ScReferenceIdeal.τ).loc Cert.ScReferenceIdeal.main_arg0)
      ∧ r.2.mem ((c.tc : Thread Cert.ScReferenceIdeal.nD Cert.ScReferenceIdeal.τ).loc Cert.ScReferenceIdeal.main_arg1) = m ((c.tc : Thread Cert.ScReferenceIdeal.nD Cert.ScReferenceIdeal.τ).loc Cert.ScReferenceIdeal.main_arg1)
      ∧ r.2.mem ((c.tc : Thread Cert.ScReferenceIdeal.nD Cert.ScReferenceIdeal.τ).loc Cert.ScReferenceIdeal.main_arg2) = m ((c.tc : Thread Cert.ScReferenceIdeal.nD Cert.ScReferenceIdeal.τ).loc Cert.ScReferenceIdeal.main_arg2)
      ∧ r.2.mem ((c.tc : Thread Cert.ScReferenceIdeal.nD Cert.ScReferenceIdeal.τ).loc Cert.ScReferenceIdeal.main_arg3) = m ((c.tc : Thread Cert.ScReferenceIdeal.nD Cert.ScReferenceIdeal.τ).loc Cert.ScReferenceIdeal.main_arg3)
      ∧ r.2.mem ((c.tc : Thread Cert.ScReferenceIdeal.nD Cert.ScReferenceIdeal.τ).loc Cert.ScReferenceIdeal.main_arg4) = m ((c.tc : Thread Cert.ScReferenceIdeal.nD Cert.ScReferenceIdeal.τ).loc Cert.ScReferenceIdeal.main_arg4)
      ∧ r.2.mem ((c.tc : Thread Cert.ScReferenceIdeal.nD Cert.ScReferenceIdeal.τ).loc Cert.ScReferenceIdeal.main_arg5) = m ((c.tc : Thread Cert.ScReferenceIdeal.nD Cert.ScReferenceIdeal.τ).loc Cert.ScReferenceIdeal.main_arg5)
      ∧ r.2.mem ((c.tc : Thread Cert.ScReferenceIdeal.nD Cert.ScReferenceIdeal.τ).loc Cert.ScReferenceIdeal.main_arg6) = m ((c.tc : Thread Cert.ScReferenceIdeal.nD Cert.ScReferenceIdeal.τ).loc Cert.ScReferenceIdeal.main_arg6)
      ∧ r.2.mem ((c.tc : Thread Cert.ScReferenceIdeal.nD Cert.ScReferenceIdeal.τ).loc Cert.ScReferenceIdeal.main_arg7) = m ((c.tc : Thread Cert.ScReferenceIdeal.nD Cert.ScReferenceIdeal.τ).loc Cert.ScReferenceIdeal.main_arg7)
      ∧ r.2.mem ((c.tc : Thread Cert.ScReferenceIdeal.nD Cert.ScReferenceIdeal.τ).loc Cert.ScReferenceIdeal.main_arg8) = m ((c.tc : Thread Cert.ScReferenceIdeal.nD Cert.ScReferenceIdeal.τ).loc Cert.ScReferenceIdeal.main_arg8))
      ∧ r.2.sem = fun _ => 0)

def quiescent_FiKernel [hFiKernel : Cert.FiKernel.Facts] : Prop :=
  ∀ (m : (ℓ : Loc Cert.FiKernel.nD Cert.FiKernel.τ Cert.FiKernel.sig) → Buf (Elt Bits) ℓ) (g : Dev Cert.FiKernel.nD → PrngReg), Pre_FiKernel m →
    θ_run (Cert.FiKernel.defs (F := Bits)) (onTc (τ := Cert.FiKernel.τ) (Cert.FiKernel.main (F := Bits))) ⟨m, fun _ => 0, g⟩ (fun r => (∀ c : Dev Cert.FiKernel.nD,
      r.2.mem ((c.tc : Thread Cert.FiKernel.nD Cert.FiKernel.τ).loc Cert.FiKernel.main_arg0) = m ((c.tc : Thread Cert.FiKernel.nD Cert.FiKernel.τ).loc Cert.FiKernel.main_arg0)
      ∧ r.2.mem ((c.tc : Thread Cert.FiKernel.nD Cert.FiKernel.τ).loc Cert.FiKernel.main_arg1) = m ((c.tc : Thread Cert.FiKernel.nD Cert.FiKernel.τ).loc Cert.FiKernel.main_arg1)
      ∧ r.2.mem ((c.tc : Thread Cert.FiKernel.nD Cert.FiKernel.τ).loc Cert.FiKernel.main_arg2) = m ((c.tc : Thread Cert.FiKernel.nD Cert.FiKernel.τ).loc Cert.FiKernel.main_arg2)
      ∧ r.2.mem ((c.tc : Thread Cert.FiKernel.nD Cert.FiKernel.τ).loc Cert.FiKernel.main_arg3) = m ((c.tc : Thread Cert.FiKernel.nD Cert.FiKernel.τ).loc Cert.FiKernel.main_arg3)
      ∧ r.2.mem ((c.tc : Thread Cert.FiKernel.nD Cert.FiKernel.τ).loc Cert.FiKernel.main_arg4) = m ((c.tc : Thread Cert.FiKernel.nD Cert.FiKernel.τ).loc Cert.FiKernel.main_arg4)
      ∧ r.2.mem ((c.tc : Thread Cert.FiKernel.nD Cert.FiKernel.τ).loc Cert.FiKernel.main_arg5) = m ((c.tc : Thread Cert.FiKernel.nD Cert.FiKernel.τ).loc Cert.FiKernel.main_arg5)
      ∧ r.2.mem ((c.tc : Thread Cert.FiKernel.nD Cert.FiKernel.τ).loc Cert.FiKernel.main_arg6) = m ((c.tc : Thread Cert.FiKernel.nD Cert.FiKernel.τ).loc Cert.FiKernel.main_arg6)
      ∧ r.2.mem ((c.tc : Thread Cert.FiKernel.nD Cert.FiKernel.τ).loc Cert.FiKernel.main_arg7) = m ((c.tc : Thread Cert.FiKernel.nD Cert.FiKernel.τ).loc Cert.FiKernel.main_arg7)
      ∧ r.2.mem ((c.tc : Thread Cert.FiKernel.nD Cert.FiKernel.τ).loc Cert.FiKernel.main_arg8) = m ((c.tc : Thread Cert.FiKernel.nD Cert.FiKernel.τ).loc Cert.FiKernel.main_arg8))
      ∧ r.2.sem = fun _ => 0)

def quiescent_FiKernelIdeal [hFiKernelIdeal : Cert.FiKernelIdeal.Facts] : Prop :=
  ∀ (m : (ℓ : Loc Cert.FiKernelIdeal.nD Cert.FiKernelIdeal.τ Cert.FiKernelIdeal.sig) → Buf (Elt Ideal) ℓ) (g : Dev Cert.FiKernelIdeal.nD → PrngReg), Pre_FiKernelIdeal m →
    θ_run (Cert.FiKernelIdeal.defs (F := Ideal)) (onTc (τ := Cert.FiKernelIdeal.τ) (Cert.FiKernelIdeal.main (F := Ideal))) ⟨m, fun _ => 0, g⟩ (fun r => (∀ c : Dev Cert.FiKernelIdeal.nD,
      r.2.mem ((c.tc : Thread Cert.FiKernelIdeal.nD Cert.FiKernelIdeal.τ).loc Cert.FiKernelIdeal.main_arg0) = m ((c.tc : Thread Cert.FiKernelIdeal.nD Cert.FiKernelIdeal.τ).loc Cert.FiKernelIdeal.main_arg0)
      ∧ r.2.mem ((c.tc : Thread Cert.FiKernelIdeal.nD Cert.FiKernelIdeal.τ).loc Cert.FiKernelIdeal.main_arg1) = m ((c.tc : Thread Cert.FiKernelIdeal.nD Cert.FiKernelIdeal.τ).loc Cert.FiKernelIdeal.main_arg1)
      ∧ r.2.mem ((c.tc : Thread Cert.FiKernelIdeal.nD Cert.FiKernelIdeal.τ).loc Cert.FiKernelIdeal.main_arg2) = m ((c.tc : Thread Cert.FiKernelIdeal.nD Cert.FiKernelIdeal.τ).loc Cert.FiKernelIdeal.main_arg2)
      ∧ r.2.mem ((c.tc : Thread Cert.FiKernelIdeal.nD Cert.FiKernelIdeal.τ).loc Cert.FiKernelIdeal.main_arg3) = m ((c.tc : Thread Cert.FiKernelIdeal.nD Cert.FiKernelIdeal.τ).loc Cert.FiKernelIdeal.main_arg3)
      ∧ r.2.mem ((c.tc : Thread Cert.FiKernelIdeal.nD Cert.FiKernelIdeal.τ).loc Cert.FiKernelIdeal.main_arg4) = m ((c.tc : Thread Cert.FiKernelIdeal.nD Cert.FiKernelIdeal.τ).loc Cert.FiKernelIdeal.main_arg4)
      ∧ r.2.mem ((c.tc : Thread Cert.FiKernelIdeal.nD Cert.FiKernelIdeal.τ).loc Cert.FiKernelIdeal.main_arg5) = m ((c.tc : Thread Cert.FiKernelIdeal.nD Cert.FiKernelIdeal.τ).loc Cert.FiKernelIdeal.main_arg5)
      ∧ r.2.mem ((c.tc : Thread Cert.FiKernelIdeal.nD Cert.FiKernelIdeal.τ).loc Cert.FiKernelIdeal.main_arg6) = m ((c.tc : Thread Cert.FiKernelIdeal.nD Cert.FiKernelIdeal.τ).loc Cert.FiKernelIdeal.main_arg6)
      ∧ r.2.mem ((c.tc : Thread Cert.FiKernelIdeal.nD Cert.FiKernelIdeal.τ).loc Cert.FiKernelIdeal.main_arg7) = m ((c.tc : Thread Cert.FiKernelIdeal.nD Cert.FiKernelIdeal.τ).loc Cert.FiKernelIdeal.main_arg7)
      ∧ r.2.mem ((c.tc : Thread Cert.FiKernelIdeal.nD Cert.FiKernelIdeal.τ).loc Cert.FiKernelIdeal.main_arg8) = m ((c.tc : Thread Cert.FiKernelIdeal.nD Cert.FiKernelIdeal.τ).loc Cert.FiKernelIdeal.main_arg8))
      ∧ r.2.sem = fun _ => 0)

def quiescent_FiReferenceIdeal [hFiReferenceIdeal : Cert.FiReferenceIdeal.Facts] : Prop :=
  ∀ (m : (ℓ : Loc Cert.FiReferenceIdeal.nD Cert.FiReferenceIdeal.τ Cert.FiReferenceIdeal.sig) → Buf (Elt Ideal) ℓ) (g : Dev Cert.FiReferenceIdeal.nD → PrngReg), Pre_FiReferenceIdeal m →
    θ_run (Cert.FiReferenceIdeal.defs (F := Ideal)) (onTc (τ := Cert.FiReferenceIdeal.τ) (Cert.FiReferenceIdeal.main (F := Ideal))) ⟨m, fun _ => 0, g⟩ (fun r => (∀ c : Dev Cert.FiReferenceIdeal.nD,
      r.2.mem ((c.tc : Thread Cert.FiReferenceIdeal.nD Cert.FiReferenceIdeal.τ).loc Cert.FiReferenceIdeal.main_arg0) = m ((c.tc : Thread Cert.FiReferenceIdeal.nD Cert.FiReferenceIdeal.τ).loc Cert.FiReferenceIdeal.main_arg0)
      ∧ r.2.mem ((c.tc : Thread Cert.FiReferenceIdeal.nD Cert.FiReferenceIdeal.τ).loc Cert.FiReferenceIdeal.main_arg1) = m ((c.tc : Thread Cert.FiReferenceIdeal.nD Cert.FiReferenceIdeal.τ).loc Cert.FiReferenceIdeal.main_arg1)
      ∧ r.2.mem ((c.tc : Thread Cert.FiReferenceIdeal.nD Cert.FiReferenceIdeal.τ).loc Cert.FiReferenceIdeal.main_arg2) = m ((c.tc : Thread Cert.FiReferenceIdeal.nD Cert.FiReferenceIdeal.τ).loc Cert.FiReferenceIdeal.main_arg2)
      ∧ r.2.mem ((c.tc : Thread Cert.FiReferenceIdeal.nD Cert.FiReferenceIdeal.τ).loc Cert.FiReferenceIdeal.main_arg3) = m ((c.tc : Thread Cert.FiReferenceIdeal.nD Cert.FiReferenceIdeal.τ).loc Cert.FiReferenceIdeal.main_arg3)
      ∧ r.2.mem ((c.tc : Thread Cert.FiReferenceIdeal.nD Cert.FiReferenceIdeal.τ).loc Cert.FiReferenceIdeal.main_arg4) = m ((c.tc : Thread Cert.FiReferenceIdeal.nD Cert.FiReferenceIdeal.τ).loc Cert.FiReferenceIdeal.main_arg4)
      ∧ r.2.mem ((c.tc : Thread Cert.FiReferenceIdeal.nD Cert.FiReferenceIdeal.τ).loc Cert.FiReferenceIdeal.main_arg5) = m ((c.tc : Thread Cert.FiReferenceIdeal.nD Cert.FiReferenceIdeal.τ).loc Cert.FiReferenceIdeal.main_arg5)
      ∧ r.2.mem ((c.tc : Thread Cert.FiReferenceIdeal.nD Cert.FiReferenceIdeal.τ).loc Cert.FiReferenceIdeal.main_arg6) = m ((c.tc : Thread Cert.FiReferenceIdeal.nD Cert.FiReferenceIdeal.τ).loc Cert.FiReferenceIdeal.main_arg6)
      ∧ r.2.mem ((c.tc : Thread Cert.FiReferenceIdeal.nD Cert.FiReferenceIdeal.τ).loc Cert.FiReferenceIdeal.main_arg7) = m ((c.tc : Thread Cert.FiReferenceIdeal.nD Cert.FiReferenceIdeal.τ).loc Cert.FiReferenceIdeal.main_arg7)
      ∧ r.2.mem ((c.tc : Thread Cert.FiReferenceIdeal.nD Cert.FiReferenceIdeal.τ).loc Cert.FiReferenceIdeal.main_arg8) = m ((c.tc : Thread Cert.FiReferenceIdeal.nD Cert.FiReferenceIdeal.τ).loc Cert.FiReferenceIdeal.main_arg8))
      ∧ r.2.sem = fun _ => 0)

def quiescent_WuKernel [hWuKernel : Cert.WuKernel.Facts] : Prop :=
  ∀ (m : (ℓ : Loc Cert.WuKernel.nD Cert.WuKernel.τ Cert.WuKernel.sig) → Buf (Elt Bits) ℓ) (g : Dev Cert.WuKernel.nD → PrngReg), Pre_WuKernel m →
    θ_run (Cert.WuKernel.defs (F := Bits)) (onTc (τ := Cert.WuKernel.τ) (Cert.WuKernel.main (F := Bits))) ⟨m, fun _ => 0, g⟩ (fun r => (∀ c : Dev Cert.WuKernel.nD,
      r.2.mem ((c.tc : Thread Cert.WuKernel.nD Cert.WuKernel.τ).loc Cert.WuKernel.main_arg0) = m ((c.tc : Thread Cert.WuKernel.nD Cert.WuKernel.τ).loc Cert.WuKernel.main_arg0)
      ∧ r.2.mem ((c.tc : Thread Cert.WuKernel.nD Cert.WuKernel.τ).loc Cert.WuKernel.main_arg1) = m ((c.tc : Thread Cert.WuKernel.nD Cert.WuKernel.τ).loc Cert.WuKernel.main_arg1))
      ∧ r.2.sem = fun _ => 0)

def quiescent_WuKernelIdeal [hWuKernelIdeal : Cert.WuKernelIdeal.Facts] : Prop :=
  ∀ (m : (ℓ : Loc Cert.WuKernelIdeal.nD Cert.WuKernelIdeal.τ Cert.WuKernelIdeal.sig) → Buf (Elt Ideal) ℓ) (g : Dev Cert.WuKernelIdeal.nD → PrngReg), Pre_WuKernelIdeal m →
    θ_run (Cert.WuKernelIdeal.defs (F := Ideal)) (onTc (τ := Cert.WuKernelIdeal.τ) (Cert.WuKernelIdeal.main (F := Ideal))) ⟨m, fun _ => 0, g⟩ (fun r => (∀ c : Dev Cert.WuKernelIdeal.nD,
      r.2.mem ((c.tc : Thread Cert.WuKernelIdeal.nD Cert.WuKernelIdeal.τ).loc Cert.WuKernelIdeal.main_arg0) = m ((c.tc : Thread Cert.WuKernelIdeal.nD Cert.WuKernelIdeal.τ).loc Cert.WuKernelIdeal.main_arg0)
      ∧ r.2.mem ((c.tc : Thread Cert.WuKernelIdeal.nD Cert.WuKernelIdeal.τ).loc Cert.WuKernelIdeal.main_arg1) = m ((c.tc : Thread Cert.WuKernelIdeal.nD Cert.WuKernelIdeal.τ).loc Cert.WuKernelIdeal.main_arg1))
      ∧ r.2.sem = fun _ => 0)

def quiescent_WuReferenceIdeal [hWuReferenceIdeal : Cert.WuReferenceIdeal.Facts] : Prop :=
  ∀ (m : (ℓ : Loc Cert.WuReferenceIdeal.nD Cert.WuReferenceIdeal.τ Cert.WuReferenceIdeal.sig) → Buf (Elt Ideal) ℓ) (g : Dev Cert.WuReferenceIdeal.nD → PrngReg), Pre_WuReferenceIdeal m →
    θ_run (Cert.WuReferenceIdeal.defs (F := Ideal)) (onTc (τ := Cert.WuReferenceIdeal.τ) (Cert.WuReferenceIdeal.main (F := Ideal))) ⟨m, fun _ => 0, g⟩ (fun r => (∀ c : Dev Cert.WuReferenceIdeal.nD,
      r.2.mem ((c.tc : Thread Cert.WuReferenceIdeal.nD Cert.WuReferenceIdeal.τ).loc Cert.WuReferenceIdeal.main_arg0) = m ((c.tc : Thread Cert.WuReferenceIdeal.nD Cert.WuReferenceIdeal.τ).loc Cert.WuReferenceIdeal.main_arg0)
      ∧ r.2.mem ((c.tc : Thread Cert.WuReferenceIdeal.nD Cert.WuReferenceIdeal.τ).loc Cert.WuReferenceIdeal.main_arg1) = m ((c.tc : Thread Cert.WuReferenceIdeal.nD Cert.WuReferenceIdeal.τ).loc Cert.WuReferenceIdeal.main_arg1))
      ∧ r.2.sem = fun _ => 0)

def quiescent_WdKernel [hWdKernel : Cert.WdKernel.Facts] : Prop :=
  ∀ (m : (ℓ : Loc Cert.WdKernel.nD Cert.WdKernel.τ Cert.WdKernel.sig) → Buf (Elt Bits) ℓ) (g : Dev Cert.WdKernel.nD → PrngReg), Pre_WdKernel m →
    θ_run (Cert.WdKernel.defs (F := Bits)) (onTc (τ := Cert.WdKernel.τ) (Cert.WdKernel.main (F := Bits))) ⟨m, fun _ => 0, g⟩ (fun r => (∀ c : Dev Cert.WdKernel.nD,
      r.2.mem ((c.tc : Thread Cert.WdKernel.nD Cert.WdKernel.τ).loc Cert.WdKernel.main_arg0) = m ((c.tc : Thread Cert.WdKernel.nD Cert.WdKernel.τ).loc Cert.WdKernel.main_arg0)
      ∧ r.2.mem ((c.tc : Thread Cert.WdKernel.nD Cert.WdKernel.τ).loc Cert.WdKernel.main_arg1) = m ((c.tc : Thread Cert.WdKernel.nD Cert.WdKernel.τ).loc Cert.WdKernel.main_arg1))
      ∧ r.2.sem = fun _ => 0)

def quiescent_WdKernelIdeal [hWdKernelIdeal : Cert.WdKernelIdeal.Facts] : Prop :=
  ∀ (m : (ℓ : Loc Cert.WdKernelIdeal.nD Cert.WdKernelIdeal.τ Cert.WdKernelIdeal.sig) → Buf (Elt Ideal) ℓ) (g : Dev Cert.WdKernelIdeal.nD → PrngReg), Pre_WdKernelIdeal m →
    θ_run (Cert.WdKernelIdeal.defs (F := Ideal)) (onTc (τ := Cert.WdKernelIdeal.τ) (Cert.WdKernelIdeal.main (F := Ideal))) ⟨m, fun _ => 0, g⟩ (fun r => (∀ c : Dev Cert.WdKernelIdeal.nD,
      r.2.mem ((c.tc : Thread Cert.WdKernelIdeal.nD Cert.WdKernelIdeal.τ).loc Cert.WdKernelIdeal.main_arg0) = m ((c.tc : Thread Cert.WdKernelIdeal.nD Cert.WdKernelIdeal.τ).loc Cert.WdKernelIdeal.main_arg0)
      ∧ r.2.mem ((c.tc : Thread Cert.WdKernelIdeal.nD Cert.WdKernelIdeal.τ).loc Cert.WdKernelIdeal.main_arg1) = m ((c.tc : Thread Cert.WdKernelIdeal.nD Cert.WdKernelIdeal.τ).loc Cert.WdKernelIdeal.main_arg1))
      ∧ r.2.sem = fun _ => 0)

def quiescent_WdReferenceIdeal [hWdReferenceIdeal : Cert.WdReferenceIdeal.Facts] : Prop :=
  ∀ (m : (ℓ : Loc Cert.WdReferenceIdeal.nD Cert.WdReferenceIdeal.τ Cert.WdReferenceIdeal.sig) → Buf (Elt Ideal) ℓ) (g : Dev Cert.WdReferenceIdeal.nD → PrngReg), Pre_WdReferenceIdeal m →
    θ_run (Cert.WdReferenceIdeal.defs (F := Ideal)) (onTc (τ := Cert.WdReferenceIdeal.τ) (Cert.WdReferenceIdeal.main (F := Ideal))) ⟨m, fun _ => 0, g⟩ (fun r => (∀ c : Dev Cert.WdReferenceIdeal.nD,
      r.2.mem ((c.tc : Thread Cert.WdReferenceIdeal.nD Cert.WdReferenceIdeal.τ).loc Cert.WdReferenceIdeal.main_arg0) = m ((c.tc : Thread Cert.WdReferenceIdeal.nD Cert.WdReferenceIdeal.τ).loc Cert.WdReferenceIdeal.main_arg0)
      ∧ r.2.mem ((c.tc : Thread Cert.WdReferenceIdeal.nD Cert.WdReferenceIdeal.τ).loc Cert.WdReferenceIdeal.main_arg1) = m ((c.tc : Thread Cert.WdReferenceIdeal.nD Cert.WdReferenceIdeal.τ).loc Cert.WdReferenceIdeal.main_arg1))
      ∧ r.2.sem = fun _ => 0)

def quiescent_FoKernel [hFoKernel : Cert.FoKernel.Facts] : Prop :=
  ∀ (m : (ℓ : Loc Cert.FoKernel.nD Cert.FoKernel.τ Cert.FoKernel.sig) → Buf (Elt Bits) ℓ) (g : Dev Cert.FoKernel.nD → PrngReg), Pre_FoKernel m →
    θ_run (Cert.FoKernel.defs (F := Bits)) (onTc (τ := Cert.FoKernel.τ) (Cert.FoKernel.main (F := Bits))) ⟨m, fun _ => 0, g⟩ (fun r => (∀ c : Dev Cert.FoKernel.nD,
      r.2.mem ((c.tc : Thread Cert.FoKernel.nD Cert.FoKernel.τ).loc Cert.FoKernel.main_arg0) = m ((c.tc : Thread Cert.FoKernel.nD Cert.FoKernel.τ).loc Cert.FoKernel.main_arg0)
      ∧ r.2.mem ((c.tc : Thread Cert.FoKernel.nD Cert.FoKernel.τ).loc Cert.FoKernel.main_arg1) = m ((c.tc : Thread Cert.FoKernel.nD Cert.FoKernel.τ).loc Cert.FoKernel.main_arg1)
      ∧ r.2.mem ((c.tc : Thread Cert.FoKernel.nD Cert.FoKernel.τ).loc Cert.FoKernel.main_arg2) = m ((c.tc : Thread Cert.FoKernel.nD Cert.FoKernel.τ).loc Cert.FoKernel.main_arg2)
      ∧ r.2.mem ((c.tc : Thread Cert.FoKernel.nD Cert.FoKernel.τ).loc Cert.FoKernel.main_arg3) = m ((c.tc : Thread Cert.FoKernel.nD Cert.FoKernel.τ).loc Cert.FoKernel.main_arg3)
      ∧ r.2.mem ((c.tc : Thread Cert.FoKernel.nD Cert.FoKernel.τ).loc Cert.FoKernel.main_arg4) = m ((c.tc : Thread Cert.FoKernel.nD Cert.FoKernel.τ).loc Cert.FoKernel.main_arg4)
      ∧ r.2.mem ((c.tc : Thread Cert.FoKernel.nD Cert.FoKernel.τ).loc Cert.FoKernel.main_arg5) = m ((c.tc : Thread Cert.FoKernel.nD Cert.FoKernel.τ).loc Cert.FoKernel.main_arg5))
      ∧ r.2.sem = fun _ => 0)

def quiescent_FoKernelIdeal [hFoKernelIdeal : Cert.FoKernelIdeal.Facts] : Prop :=
  ∀ (m : (ℓ : Loc Cert.FoKernelIdeal.nD Cert.FoKernelIdeal.τ Cert.FoKernelIdeal.sig) → Buf (Elt Ideal) ℓ) (g : Dev Cert.FoKernelIdeal.nD → PrngReg), Pre_FoKernelIdeal m →
    θ_run (Cert.FoKernelIdeal.defs (F := Ideal)) (onTc (τ := Cert.FoKernelIdeal.τ) (Cert.FoKernelIdeal.main (F := Ideal))) ⟨m, fun _ => 0, g⟩ (fun r => (∀ c : Dev Cert.FoKernelIdeal.nD,
      r.2.mem ((c.tc : Thread Cert.FoKernelIdeal.nD Cert.FoKernelIdeal.τ).loc Cert.FoKernelIdeal.main_arg0) = m ((c.tc : Thread Cert.FoKernelIdeal.nD Cert.FoKernelIdeal.τ).loc Cert.FoKernelIdeal.main_arg0)
      ∧ r.2.mem ((c.tc : Thread Cert.FoKernelIdeal.nD Cert.FoKernelIdeal.τ).loc Cert.FoKernelIdeal.main_arg1) = m ((c.tc : Thread Cert.FoKernelIdeal.nD Cert.FoKernelIdeal.τ).loc Cert.FoKernelIdeal.main_arg1)
      ∧ r.2.mem ((c.tc : Thread Cert.FoKernelIdeal.nD Cert.FoKernelIdeal.τ).loc Cert.FoKernelIdeal.main_arg2) = m ((c.tc : Thread Cert.FoKernelIdeal.nD Cert.FoKernelIdeal.τ).loc Cert.FoKernelIdeal.main_arg2)
      ∧ r.2.mem ((c.tc : Thread Cert.FoKernelIdeal.nD Cert.FoKernelIdeal.τ).loc Cert.FoKernelIdeal.main_arg3) = m ((c.tc : Thread Cert.FoKernelIdeal.nD Cert.FoKernelIdeal.τ).loc Cert.FoKernelIdeal.main_arg3)
      ∧ r.2.mem ((c.tc : Thread Cert.FoKernelIdeal.nD Cert.FoKernelIdeal.τ).loc Cert.FoKernelIdeal.main_arg4) = m ((c.tc : Thread Cert.FoKernelIdeal.nD Cert.FoKernelIdeal.τ).loc Cert.FoKernelIdeal.main_arg4)
      ∧ r.2.mem ((c.tc : Thread Cert.FoKernelIdeal.nD Cert.FoKernelIdeal.τ).loc Cert.FoKernelIdeal.main_arg5) = m ((c.tc : Thread Cert.FoKernelIdeal.nD Cert.FoKernelIdeal.τ).loc Cert.FoKernelIdeal.main_arg5))
      ∧ r.2.sem = fun _ => 0)

def quiescent_FoReferenceIdeal [hFoReferenceIdeal : Cert.FoReferenceIdeal.Facts] : Prop :=
  ∀ (m : (ℓ : Loc Cert.FoReferenceIdeal.nD Cert.FoReferenceIdeal.τ Cert.FoReferenceIdeal.sig) → Buf (Elt Ideal) ℓ) (g : Dev Cert.FoReferenceIdeal.nD → PrngReg), Pre_FoReferenceIdeal m →
    θ_run (Cert.FoReferenceIdeal.defs (F := Ideal)) (onTc (τ := Cert.FoReferenceIdeal.τ) (Cert.FoReferenceIdeal.main (F := Ideal))) ⟨m, fun _ => 0, g⟩ (fun r => (∀ c : Dev Cert.FoReferenceIdeal.nD,
      r.2.mem ((c.tc : Thread Cert.FoReferenceIdeal.nD Cert.FoReferenceIdeal.τ).loc Cert.FoReferenceIdeal.main_arg0) = m ((c.tc : Thread Cert.FoReferenceIdeal.nD Cert.FoReferenceIdeal.τ).loc Cert.FoReferenceIdeal.main_arg0)
      ∧ r.2.mem ((c.tc : Thread Cert.FoReferenceIdeal.nD Cert.FoReferenceIdeal.τ).loc Cert.FoReferenceIdeal.main_arg1) = m ((c.tc : Thread Cert.FoReferenceIdeal.nD Cert.FoReferenceIdeal.τ).loc Cert.FoReferenceIdeal.main_arg1)
      ∧ r.2.mem ((c.tc : Thread Cert.FoReferenceIdeal.nD Cert.FoReferenceIdeal.τ).loc Cert.FoReferenceIdeal.main_arg2) = m ((c.tc : Thread Cert.FoReferenceIdeal.nD Cert.FoReferenceIdeal.τ).loc Cert.FoReferenceIdeal.main_arg2)
      ∧ r.2.mem ((c.tc : Thread Cert.FoReferenceIdeal.nD Cert.FoReferenceIdeal.τ).loc Cert.FoReferenceIdeal.main_arg3) = m ((c.tc : Thread Cert.FoReferenceIdeal.nD Cert.FoReferenceIdeal.τ).loc Cert.FoReferenceIdeal.main_arg3)
      ∧ r.2.mem ((c.tc : Thread Cert.FoReferenceIdeal.nD Cert.FoReferenceIdeal.τ).loc Cert.FoReferenceIdeal.main_arg4) = m ((c.tc : Thread Cert.FoReferenceIdeal.nD Cert.FoReferenceIdeal.τ).loc Cert.FoReferenceIdeal.main_arg4)
      ∧ r.2.mem ((c.tc : Thread Cert.FoReferenceIdeal.nD Cert.FoReferenceIdeal.τ).loc Cert.FoReferenceIdeal.main_arg5) = m ((c.tc : Thread Cert.FoReferenceIdeal.nD Cert.FoReferenceIdeal.τ).loc Cert.FoReferenceIdeal.main_arg5))
      ∧ r.2.sem = fun _ => 0)

def quiescent_WiKernel [hWiKernel : Cert.WiKernel.Facts] : Prop :=
  ∀ (m : (ℓ : Loc Cert.WiKernel.nD Cert.WiKernel.τ Cert.WiKernel.sig) → Buf (Elt Bits) ℓ) (g : Dev Cert.WiKernel.nD → PrngReg), Pre_WiKernel m →
    θ_run (Cert.WiKernel.defs (F := Bits)) (onTc (τ := Cert.WiKernel.τ) (Cert.WiKernel.main (F := Bits))) ⟨m, fun _ => 0, g⟩ (fun r => (∀ c : Dev Cert.WiKernel.nD,
      r.2.mem ((c.tc : Thread Cert.WiKernel.nD Cert.WiKernel.τ).loc Cert.WiKernel.main_arg0) = m ((c.tc : Thread Cert.WiKernel.nD Cert.WiKernel.τ).loc Cert.WiKernel.main_arg0)
      ∧ r.2.mem ((c.tc : Thread Cert.WiKernel.nD Cert.WiKernel.τ).loc Cert.WiKernel.main_arg1) = m ((c.tc : Thread Cert.WiKernel.nD Cert.WiKernel.τ).loc Cert.WiKernel.main_arg1))
      ∧ r.2.sem = fun _ => 0)

def quiescent_WiKernelIdeal [hWiKernelIdeal : Cert.WiKernelIdeal.Facts] : Prop :=
  ∀ (m : (ℓ : Loc Cert.WiKernelIdeal.nD Cert.WiKernelIdeal.τ Cert.WiKernelIdeal.sig) → Buf (Elt Ideal) ℓ) (g : Dev Cert.WiKernelIdeal.nD → PrngReg), Pre_WiKernelIdeal m →
    θ_run (Cert.WiKernelIdeal.defs (F := Ideal)) (onTc (τ := Cert.WiKernelIdeal.τ) (Cert.WiKernelIdeal.main (F := Ideal))) ⟨m, fun _ => 0, g⟩ (fun r => (∀ c : Dev Cert.WiKernelIdeal.nD,
      r.2.mem ((c.tc : Thread Cert.WiKernelIdeal.nD Cert.WiKernelIdeal.τ).loc Cert.WiKernelIdeal.main_arg0) = m ((c.tc : Thread Cert.WiKernelIdeal.nD Cert.WiKernelIdeal.τ).loc Cert.WiKernelIdeal.main_arg0)
      ∧ r.2.mem ((c.tc : Thread Cert.WiKernelIdeal.nD Cert.WiKernelIdeal.τ).loc Cert.WiKernelIdeal.main_arg1) = m ((c.tc : Thread Cert.WiKernelIdeal.nD Cert.WiKernelIdeal.τ).loc Cert.WiKernelIdeal.main_arg1))
      ∧ r.2.sem = fun _ => 0)

def quiescent_WiReferenceIdeal [hWiReferenceIdeal : Cert.WiReferenceIdeal.Facts] : Prop :=
  ∀ (m : (ℓ : Loc Cert.WiReferenceIdeal.nD Cert.WiReferenceIdeal.τ Cert.WiReferenceIdeal.sig) → Buf (Elt Ideal) ℓ) (g : Dev Cert.WiReferenceIdeal.nD → PrngReg), Pre_WiReferenceIdeal m →
    θ_run (Cert.WiReferenceIdeal.defs (F := Ideal)) (onTc (τ := Cert.WiReferenceIdeal.τ) (Cert.WiReferenceIdeal.main (F := Ideal))) ⟨m, fun _ => 0, g⟩ (fun r => (∀ c : Dev Cert.WiReferenceIdeal.nD,
      r.2.mem ((c.tc : Thread Cert.WiReferenceIdeal.nD Cert.WiReferenceIdeal.τ).loc Cert.WiReferenceIdeal.main_arg0) = m ((c.tc : Thread Cert.WiReferenceIdeal.nD Cert.WiReferenceIdeal.τ).loc Cert.WiReferenceIdeal.main_arg0)
      ∧ r.2.mem ((c.tc : Thread Cert.WiReferenceIdeal.nD Cert.WiReferenceIdeal.τ).loc Cert.WiReferenceIdeal.main_arg1) = m ((c.tc : Thread Cert.WiReferenceIdeal.nD Cert.WiReferenceIdeal.τ).loc Cert.WiReferenceIdeal.main_arg1))
      ∧ r.2.sem = fun _ => 0)

def quiescent_WoKernel [hWoKernel : Cert.WoKernel.Facts] : Prop :=
  ∀ (m : (ℓ : Loc Cert.WoKernel.nD Cert.WoKernel.τ Cert.WoKernel.sig) → Buf (Elt Bits) ℓ) (g : Dev Cert.WoKernel.nD → PrngReg), Pre_WoKernel m →
    θ_run (Cert.WoKernel.defs (F := Bits)) (onTc (τ := Cert.WoKernel.τ) (Cert.WoKernel.main (F := Bits))) ⟨m, fun _ => 0, g⟩ (fun r => (∀ c : Dev Cert.WoKernel.nD,
      r.2.mem ((c.tc : Thread Cert.WoKernel.nD Cert.WoKernel.τ).loc Cert.WoKernel.main_arg0) = m ((c.tc : Thread Cert.WoKernel.nD Cert.WoKernel.τ).loc Cert.WoKernel.main_arg0)
      ∧ r.2.mem ((c.tc : Thread Cert.WoKernel.nD Cert.WoKernel.τ).loc Cert.WoKernel.main_arg1) = m ((c.tc : Thread Cert.WoKernel.nD Cert.WoKernel.τ).loc Cert.WoKernel.main_arg1))
      ∧ r.2.sem = fun _ => 0)

def quiescent_WoKernelIdeal [hWoKernelIdeal : Cert.WoKernelIdeal.Facts] : Prop :=
  ∀ (m : (ℓ : Loc Cert.WoKernelIdeal.nD Cert.WoKernelIdeal.τ Cert.WoKernelIdeal.sig) → Buf (Elt Ideal) ℓ) (g : Dev Cert.WoKernelIdeal.nD → PrngReg), Pre_WoKernelIdeal m →
    θ_run (Cert.WoKernelIdeal.defs (F := Ideal)) (onTc (τ := Cert.WoKernelIdeal.τ) (Cert.WoKernelIdeal.main (F := Ideal))) ⟨m, fun _ => 0, g⟩ (fun r => (∀ c : Dev Cert.WoKernelIdeal.nD,
      r.2.mem ((c.tc : Thread Cert.WoKernelIdeal.nD Cert.WoKernelIdeal.τ).loc Cert.WoKernelIdeal.main_arg0) = m ((c.tc : Thread Cert.WoKernelIdeal.nD Cert.WoKernelIdeal.τ).loc Cert.WoKernelIdeal.main_arg0)
      ∧ r.2.mem ((c.tc : Thread Cert.WoKernelIdeal.nD Cert.WoKernelIdeal.τ).loc Cert.WoKernelIdeal.main_arg1) = m ((c.tc : Thread Cert.WoKernelIdeal.nD Cert.WoKernelIdeal.τ).loc Cert.WoKernelIdeal.main_arg1))
      ∧ r.2.sem = fun _ => 0)

def quiescent_WoReferenceIdeal [hWoReferenceIdeal : Cert.WoReferenceIdeal.Facts] : Prop :=
  ∀ (m : (ℓ : Loc Cert.WoReferenceIdeal.nD Cert.WoReferenceIdeal.τ Cert.WoReferenceIdeal.sig) → Buf (Elt Ideal) ℓ) (g : Dev Cert.WoReferenceIdeal.nD → PrngReg), Pre_WoReferenceIdeal m →
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1))
      ∧ r.2.sem = fun _ => 0)

def quiescent_UfKernel [hUfKernel : Cert.UfKernel.Facts] : Prop :=
  ∀ (m : (ℓ : Loc Cert.UfKernel.nD Cert.UfKernel.τ Cert.UfKernel.sig) → Buf (Elt Bits) ℓ) (g : Dev Cert.UfKernel.nD → PrngReg), Pre_UfKernel m →
    θ_run (Cert.UfKernel.defs (F := Bits)) (onTc (τ := Cert.UfKernel.τ) (Cert.UfKernel.main (F := Bits))) ⟨m, fun _ => 0, g⟩ (fun r => (∀ c : Dev Cert.UfKernel.nD,
      r.2.mem ((c.tc : Thread Cert.UfKernel.nD Cert.UfKernel.τ).loc Cert.UfKernel.main_arg0) = m ((c.tc : Thread Cert.UfKernel.nD Cert.UfKernel.τ).loc Cert.UfKernel.main_arg0)
      ∧ r.2.mem ((c.tc : Thread Cert.UfKernel.nD Cert.UfKernel.τ).loc Cert.UfKernel.main_arg1) = m ((c.tc : Thread Cert.UfKernel.nD Cert.UfKernel.τ).loc Cert.UfKernel.main_arg1)
      ∧ r.2.mem ((c.tc : Thread Cert.UfKernel.nD Cert.UfKernel.τ).loc Cert.UfKernel.main_arg2) = m ((c.tc : Thread Cert.UfKernel.nD Cert.UfKernel.τ).loc Cert.UfKernel.main_arg2)
      ∧ r.2.mem ((c.tc : Thread Cert.UfKernel.nD Cert.UfKernel.τ).loc Cert.UfKernel.main_arg3) = m ((c.tc : Thread Cert.UfKernel.nD Cert.UfKernel.τ).loc Cert.UfKernel.main_arg3)
      ∧ r.2.mem ((c.tc : Thread Cert.UfKernel.nD Cert.UfKernel.τ).loc Cert.UfKernel.main_arg4) = m ((c.tc : Thread Cert.UfKernel.nD Cert.UfKernel.τ).loc Cert.UfKernel.main_arg4))
      ∧ r.2.sem = fun _ => 0)

def quiescent_UfKernelIdeal [hUfKernelIdeal : Cert.UfKernelIdeal.Facts] : Prop :=
  ∀ (m : (ℓ : Loc Cert.UfKernelIdeal.nD Cert.UfKernelIdeal.τ Cert.UfKernelIdeal.sig) → Buf (Elt Ideal) ℓ) (g : Dev Cert.UfKernelIdeal.nD → PrngReg), Pre_UfKernelIdeal m →
    θ_run (Cert.UfKernelIdeal.defs (F := Ideal)) (onTc (τ := Cert.UfKernelIdeal.τ) (Cert.UfKernelIdeal.main (F := Ideal))) ⟨m, fun _ => 0, g⟩ (fun r => (∀ c : Dev Cert.UfKernelIdeal.nD,
      r.2.mem ((c.tc : Thread Cert.UfKernelIdeal.nD Cert.UfKernelIdeal.τ).loc Cert.UfKernelIdeal.main_arg0) = m ((c.tc : Thread Cert.UfKernelIdeal.nD Cert.UfKernelIdeal.τ).loc Cert.UfKernelIdeal.main_arg0)
      ∧ r.2.mem ((c.tc : Thread Cert.UfKernelIdeal.nD Cert.UfKernelIdeal.τ).loc Cert.UfKernelIdeal.main_arg1) = m ((c.tc : Thread Cert.UfKernelIdeal.nD Cert.UfKernelIdeal.τ).loc Cert.UfKernelIdeal.main_arg1)
      ∧ r.2.mem ((c.tc : Thread Cert.UfKernelIdeal.nD Cert.UfKernelIdeal.τ).loc Cert.UfKernelIdeal.main_arg2) = m ((c.tc : Thread Cert.UfKernelIdeal.nD Cert.UfKernelIdeal.τ).loc Cert.UfKernelIdeal.main_arg2)
      ∧ r.2.mem ((c.tc : Thread Cert.UfKernelIdeal.nD Cert.UfKernelIdeal.τ).loc Cert.UfKernelIdeal.main_arg3) = m ((c.tc : Thread Cert.UfKernelIdeal.nD Cert.UfKernelIdeal.τ).loc Cert.UfKernelIdeal.main_arg3)
      ∧ r.2.mem ((c.tc : Thread Cert.UfKernelIdeal.nD Cert.UfKernelIdeal.τ).loc Cert.UfKernelIdeal.main_arg4) = m ((c.tc : Thread Cert.UfKernelIdeal.nD Cert.UfKernelIdeal.τ).loc Cert.UfKernelIdeal.main_arg4))
      ∧ r.2.sem = fun _ => 0)

def quiescent_UfReferenceIdeal [hUfReferenceIdeal : Cert.UfReferenceIdeal.Facts] : Prop :=
  ∀ (m : (ℓ : Loc Cert.UfReferenceIdeal.nD Cert.UfReferenceIdeal.τ Cert.UfReferenceIdeal.sig) → Buf (Elt Ideal) ℓ) (g : Dev Cert.UfReferenceIdeal.nD → PrngReg), Pre_UfReferenceIdeal m →
    θ_run (Cert.UfReferenceIdeal.defs (F := Ideal)) (onTc (τ := Cert.UfReferenceIdeal.τ) (Cert.UfReferenceIdeal.main (F := Ideal))) ⟨m, fun _ => 0, g⟩ (fun r => (∀ c : Dev Cert.UfReferenceIdeal.nD,
      r.2.mem ((c.tc : Thread Cert.UfReferenceIdeal.nD Cert.UfReferenceIdeal.τ).loc Cert.UfReferenceIdeal.main_arg0) = m ((c.tc : Thread Cert.UfReferenceIdeal.nD Cert.UfReferenceIdeal.τ).loc Cert.UfReferenceIdeal.main_arg0)
      ∧ r.2.mem ((c.tc : Thread Cert.UfReferenceIdeal.nD Cert.UfReferenceIdeal.τ).loc Cert.UfReferenceIdeal.main_arg1) = m ((c.tc : Thread Cert.UfReferenceIdeal.nD Cert.UfReferenceIdeal.τ).loc Cert.UfReferenceIdeal.main_arg1)
      ∧ r.2.mem ((c.tc : Thread Cert.UfReferenceIdeal.nD Cert.UfReferenceIdeal.τ).loc Cert.UfReferenceIdeal.main_arg2) = m ((c.tc : Thread Cert.UfReferenceIdeal.nD Cert.UfReferenceIdeal.τ).loc Cert.UfReferenceIdeal.main_arg2)
      ∧ r.2.mem ((c.tc : Thread Cert.UfReferenceIdeal.nD Cert.UfReferenceIdeal.τ).loc Cert.UfReferenceIdeal.main_arg3) = m ((c.tc : Thread Cert.UfReferenceIdeal.nD Cert.UfReferenceIdeal.τ).loc Cert.UfReferenceIdeal.main_arg3)
      ∧ r.2.mem ((c.tc : Thread Cert.UfReferenceIdeal.nD Cert.UfReferenceIdeal.τ).loc Cert.UfReferenceIdeal.main_arg4) = m ((c.tc : Thread Cert.UfReferenceIdeal.nD Cert.UfReferenceIdeal.τ).loc Cert.UfReferenceIdeal.main_arg4))
      ∧ r.2.sem = fun _ => 0)

def quiescent_IfKernel [hIfKernel : Cert.IfKernel.Facts] : Prop :=
  ∀ (m : (ℓ : Loc Cert.IfKernel.nD Cert.IfKernel.τ Cert.IfKernel.sig) → Buf (Elt Bits) ℓ) (g : Dev Cert.IfKernel.nD → PrngReg), Pre_IfKernel m →
    θ_run (Cert.IfKernel.defs (F := Bits)) (onTc (τ := Cert.IfKernel.τ) (Cert.IfKernel.main (F := Bits))) ⟨m, fun _ => 0, g⟩ (fun r => (∀ c : Dev Cert.IfKernel.nD,
      r.2.mem ((c.tc : Thread Cert.IfKernel.nD Cert.IfKernel.τ).loc Cert.IfKernel.main_arg0) = m ((c.tc : Thread Cert.IfKernel.nD Cert.IfKernel.τ).loc Cert.IfKernel.main_arg0)
      ∧ r.2.mem ((c.tc : Thread Cert.IfKernel.nD Cert.IfKernel.τ).loc Cert.IfKernel.main_arg1) = m ((c.tc : Thread Cert.IfKernel.nD Cert.IfKernel.τ).loc Cert.IfKernel.main_arg1)
      ∧ r.2.mem ((c.tc : Thread Cert.IfKernel.nD Cert.IfKernel.τ).loc Cert.IfKernel.main_arg2) = m ((c.tc : Thread Cert.IfKernel.nD Cert.IfKernel.τ).loc Cert.IfKernel.main_arg2)
      ∧ r.2.mem ((c.tc : Thread Cert.IfKernel.nD Cert.IfKernel.τ).loc Cert.IfKernel.main_arg3) = m ((c.tc : Thread Cert.IfKernel.nD Cert.IfKernel.τ).loc Cert.IfKernel.main_arg3)
      ∧ r.2.mem ((c.tc : Thread Cert.IfKernel.nD Cert.IfKernel.τ).loc Cert.IfKernel.main_arg4) = m ((c.tc : Thread Cert.IfKernel.nD Cert.IfKernel.τ).loc Cert.IfKernel.main_arg4))
      ∧ r.2.sem = fun _ => 0)

def quiescent_IfKernelIdeal [hIfKernelIdeal : Cert.IfKernelIdeal.Facts] : Prop :=
  ∀ (m : (ℓ : Loc Cert.IfKernelIdeal.nD Cert.IfKernelIdeal.τ Cert.IfKernelIdeal.sig) → Buf (Elt Ideal) ℓ) (g : Dev Cert.IfKernelIdeal.nD → PrngReg), Pre_IfKernelIdeal m →
    θ_run (Cert.IfKernelIdeal.defs (F := Ideal)) (onTc (τ := Cert.IfKernelIdeal.τ) (Cert.IfKernelIdeal.main (F := Ideal))) ⟨m, fun _ => 0, g⟩ (fun r => (∀ c : Dev Cert.IfKernelIdeal.nD,
      r.2.mem ((c.tc : Thread Cert.IfKernelIdeal.nD Cert.IfKernelIdeal.τ).loc Cert.IfKernelIdeal.main_arg0) = m ((c.tc : Thread Cert.IfKernelIdeal.nD Cert.IfKernelIdeal.τ).loc Cert.IfKernelIdeal.main_arg0)
      ∧ r.2.mem ((c.tc : Thread Cert.IfKernelIdeal.nD Cert.IfKernelIdeal.τ).loc Cert.IfKernelIdeal.main_arg1) = m ((c.tc : Thread Cert.IfKernelIdeal.nD Cert.IfKernelIdeal.τ).loc Cert.IfKernelIdeal.main_arg1)
      ∧ r.2.mem ((c.tc : Thread Cert.IfKernelIdeal.nD Cert.IfKernelIdeal.τ).loc Cert.IfKernelIdeal.main_arg2) = m ((c.tc : Thread Cert.IfKernelIdeal.nD Cert.IfKernelIdeal.τ).loc Cert.IfKernelIdeal.main_arg2)
      ∧ r.2.mem ((c.tc : Thread Cert.IfKernelIdeal.nD Cert.IfKernelIdeal.τ).loc Cert.IfKernelIdeal.main_arg3) = m ((c.tc : Thread Cert.IfKernelIdeal.nD Cert.IfKernelIdeal.τ).loc Cert.IfKernelIdeal.main_arg3)
      ∧ r.2.mem ((c.tc : Thread Cert.IfKernelIdeal.nD Cert.IfKernelIdeal.τ).loc Cert.IfKernelIdeal.main_arg4) = m ((c.tc : Thread Cert.IfKernelIdeal.nD Cert.IfKernelIdeal.τ).loc Cert.IfKernelIdeal.main_arg4))
      ∧ r.2.sem = fun _ => 0)

def quiescent_IfReferenceIdeal [hIfReferenceIdeal : Cert.IfReferenceIdeal.Facts] : Prop :=
  ∀ (m : (ℓ : Loc Cert.IfReferenceIdeal.nD Cert.IfReferenceIdeal.τ Cert.IfReferenceIdeal.sig) → Buf (Elt Ideal) ℓ) (g : Dev Cert.IfReferenceIdeal.nD → PrngReg), Pre_IfReferenceIdeal m →
    θ_run (Cert.IfReferenceIdeal.defs (F := Ideal)) (onTc (τ := Cert.IfReferenceIdeal.τ) (Cert.IfReferenceIdeal.main (F := Ideal))) ⟨m, fun _ => 0, g⟩ (fun r => (∀ c : Dev Cert.IfReferenceIdeal.nD,
      r.2.mem ((c.tc : Thread Cert.IfReferenceIdeal.nD Cert.IfReferenceIdeal.τ).loc Cert.IfReferenceIdeal.main_arg0) = m ((c.tc : Thread Cert.IfReferenceIdeal.nD Cert.IfReferenceIdeal.τ).loc Cert.IfReferenceIdeal.main_arg0)
      ∧ r.2.mem ((c.tc : Thread Cert.IfReferenceIdeal.nD Cert.IfReferenceIdeal.τ).loc Cert.IfReferenceIdeal.main_arg1) = m ((c.tc : Thread Cert.IfReferenceIdeal.nD Cert.IfReferenceIdeal.τ).loc Cert.IfReferenceIdeal.main_arg1)
      ∧ r.2.mem ((c.tc : Thread Cert.IfReferenceIdeal.nD Cert.IfReferenceIdeal.τ).loc Cert.IfReferenceIdeal.main_arg2) = m ((c.tc : Thread Cert.IfReferenceIdeal.nD Cert.IfReferenceIdeal.τ).loc Cert.IfReferenceIdeal.main_arg2)
      ∧ r.2.mem ((c.tc : Thread Cert.IfReferenceIdeal.nD Cert.IfReferenceIdeal.τ).loc Cert.IfReferenceIdeal.main_arg3) = m ((c.tc : Thread Cert.IfReferenceIdeal.nD Cert.IfReferenceIdeal.τ).loc Cert.IfReferenceIdeal.main_arg3)
      ∧ r.2.mem ((c.tc : Thread Cert.IfReferenceIdeal.nD Cert.IfReferenceIdeal.τ).loc Cert.IfReferenceIdeal.main_arg4) = m ((c.tc : Thread Cert.IfReferenceIdeal.nD Cert.IfReferenceIdeal.τ).loc Cert.IfReferenceIdeal.main_arg4))
      ∧ r.2.sem = fun _ => 0)

def quiescent_FfKernel [hFfKernel : Cert.FfKernel.Facts] : Prop :=
  ∀ (m : (ℓ : Loc Cert.FfKernel.nD Cert.FfKernel.τ Cert.FfKernel.sig) → Buf (Elt Bits) ℓ) (g : Dev Cert.FfKernel.nD → PrngReg), Pre_FfKernel m →
    θ_run (Cert.FfKernel.defs (F := Bits)) (onTc (τ := Cert.FfKernel.τ) (Cert.FfKernel.main (F := Bits))) ⟨m, fun _ => 0, g⟩ (fun r => (∀ c : Dev Cert.FfKernel.nD,
      r.2.mem ((c.tc : Thread Cert.FfKernel.nD Cert.FfKernel.τ).loc Cert.FfKernel.main_arg0) = m ((c.tc : Thread Cert.FfKernel.nD Cert.FfKernel.τ).loc Cert.FfKernel.main_arg0)
      ∧ r.2.mem ((c.tc : Thread Cert.FfKernel.nD Cert.FfKernel.τ).loc Cert.FfKernel.main_arg1) = m ((c.tc : Thread Cert.FfKernel.nD Cert.FfKernel.τ).loc Cert.FfKernel.main_arg1)
      ∧ r.2.mem ((c.tc : Thread Cert.FfKernel.nD Cert.FfKernel.τ).loc Cert.FfKernel.main_arg2) = m ((c.tc : Thread Cert.FfKernel.nD Cert.FfKernel.τ).loc Cert.FfKernel.main_arg2)
      ∧ r.2.mem ((c.tc : Thread Cert.FfKernel.nD Cert.FfKernel.τ).loc Cert.FfKernel.main_arg3) = m ((c.tc : Thread Cert.FfKernel.nD Cert.FfKernel.τ).loc Cert.FfKernel.main_arg3)
      ∧ r.2.mem ((c.tc : Thread Cert.FfKernel.nD Cert.FfKernel.τ).loc Cert.FfKernel.main_arg4) = m ((c.tc : Thread Cert.FfKernel.nD Cert.FfKernel.τ).loc Cert.FfKernel.main_arg4)
      ∧ r.2.mem ((c.tc : Thread Cert.FfKernel.nD Cert.FfKernel.τ).loc Cert.FfKernel.main_arg5) = m ((c.tc : Thread Cert.FfKernel.nD Cert.FfKernel.τ).loc Cert.FfKernel.main_arg5)
      ∧ r.2.mem ((c.tc : Thread Cert.FfKernel.nD Cert.FfKernel.τ).loc Cert.FfKernel.main_arg6) = m ((c.tc : Thread Cert.FfKernel.nD Cert.FfKernel.τ).loc Cert.FfKernel.main_arg6))
      ∧ r.2.sem = fun _ => 0)

def quiescent_FfKernelIdeal [hFfKernelIdeal : Cert.FfKernelIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg), Pre_FfKernelIdeal m →
    θ_run (Cert.FfKernelIdeal.defs (F := Ideal)) (onTc (τ := Cert.FfKernelIdeal.τ) (Cert.FfKernelIdeal.main (F := Ideal))) ⟨m, fun _ => 0, g⟩ (fun r => (∀ c : Dev Cert.FfKernelIdeal.nD,
      r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
      ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
      ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
      ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
      ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4)
      ∧ r.2.mem ((c.tc : Thread Cert.FfKernelIdeal.nD Cert.FfKernelIdeal.τ).loc Cert.FfKernelIdeal.main_arg5) = m ((c.tc : Thread Cert.FfKernelIdeal.nD Cert.FfKernelIdeal.τ).loc Cert.FfKernelIdeal.main_arg5)
      ∧ r.2.mem ((c.tc : Thread Cert.FfKernelIdeal.nD Cert.FfKernelIdeal.τ).loc Cert.FfKernelIdeal.main_arg6) = m ((c.tc : Thread Cert.FfKernelIdeal.nD Cert.FfKernelIdeal.τ).loc Cert.FfKernelIdeal.main_arg6))
      ∧ r.2.sem = fun _ => 0)

def quiescent_FfReferenceIdeal [hFfReferenceIdeal : Cert.FfReferenceIdeal.Facts] : Prop :=
  ∀ (m : (ℓ : Loc Cert.FfReferenceIdeal.nD Cert.FfReferenceIdeal.τ Cert.FfReferenceIdeal.sig) → Buf (Elt Ideal) ℓ) (g : Dev Cert.FfReferenceIdeal.nD → PrngReg), Pre_FfReferenceIdeal m →
    θ_run (Cert.FfReferenceIdeal.defs (F := Ideal)) (onTc (τ := Cert.FfReferenceIdeal.τ) (Cert.FfReferenceIdeal.main (F := Ideal))) ⟨m, fun _ => 0, g⟩ (fun r => (∀ c : Dev Cert.FfReferenceIdeal.nD,
      r.2.mem ((c.tc : Thread Cert.FfReferenceIdeal.nD Cert.FfReferenceIdeal.τ).loc Cert.FfReferenceIdeal.main_arg0) = m ((c.tc : Thread Cert.FfReferenceIdeal.nD Cert.FfReferenceIdeal.τ).loc Cert.FfReferenceIdeal.main_arg0)
      ∧ r.2.mem ((c.tc : Thread Cert.FfReferenceIdeal.nD Cert.FfReferenceIdeal.τ).loc Cert.FfReferenceIdeal.main_arg1) = m ((c.tc : Thread Cert.FfReferenceIdeal.nD Cert.FfReferenceIdeal.τ).loc Cert.FfReferenceIdeal.main_arg1)
      ∧ r.2.mem ((c.tc : Thread Cert.FfReferenceIdeal.nD Cert.FfReferenceIdeal.τ).loc Cert.FfReferenceIdeal.main_arg2) = m ((c.tc : Thread Cert.FfReferenceIdeal.nD Cert.FfReferenceIdeal.τ).loc Cert.FfReferenceIdeal.main_arg2)
      ∧ r.2.mem ((c.tc : Thread Cert.FfReferenceIdeal.nD Cert.FfReferenceIdeal.τ).loc Cert.FfReferenceIdeal.main_arg3) = m ((c.tc : Thread Cert.FfReferenceIdeal.nD Cert.FfReferenceIdeal.τ).loc Cert.FfReferenceIdeal.main_arg3)
      ∧ r.2.mem ((c.tc : Thread Cert.FfReferenceIdeal.nD Cert.FfReferenceIdeal.τ).loc Cert.FfReferenceIdeal.main_arg4) = m ((c.tc : Thread Cert.FfReferenceIdeal.nD Cert.FfReferenceIdeal.τ).loc Cert.FfReferenceIdeal.main_arg4)
      ∧ r.2.mem ((c.tc : Thread Cert.FfReferenceIdeal.nD Cert.FfReferenceIdeal.τ).loc Cert.FfReferenceIdeal.main_arg5) = m ((c.tc : Thread Cert.FfReferenceIdeal.nD Cert.FfReferenceIdeal.τ).loc Cert.FfReferenceIdeal.main_arg5)
      ∧ r.2.mem ((c.tc : Thread Cert.FfReferenceIdeal.nD Cert.FfReferenceIdeal.τ).loc Cert.FfReferenceIdeal.main_arg6) = m ((c.tc : Thread Cert.FfReferenceIdeal.nD Cert.FfReferenceIdeal.τ).loc Cert.FfReferenceIdeal.main_arg6))
      ∧ r.2.sem = fun _ => 0)

def preserves_ScKernel_ScKernelIdeal : Prop :=
  True

def algebraic_ScKernelIdeal_ScReferenceIdeal [hScKernelIdeal : Cert.ScKernelIdeal.Facts] [hScReferenceIdeal : Cert.ScReferenceIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg)
    (m' : (ℓ : Loc Cert.ScReferenceIdeal.nD Cert.ScReferenceIdeal.τ Cert.ScReferenceIdeal.sig) → Buf (Elt Ideal) ℓ) (g' : Dev Cert.ScReferenceIdeal.nD → PrngReg), Pre_ScKernelIdeal m →
    (∀ c : Dev Cert.ScKernelIdeal.nD,
      m' ((c.tc : Thread Cert.ScReferenceIdeal.nD Cert.ScReferenceIdeal.τ).loc Cert.ScReferenceIdeal.main_arg0) = m ((c.tc : Thread Cert.ScKernelIdeal.nD Cert.ScKernelIdeal.τ).loc Cert.ScKernelIdeal.main_arg0)
      ∧ m' ((c.tc : Thread Cert.ScReferenceIdeal.nD Cert.ScReferenceIdeal.τ).loc Cert.ScReferenceIdeal.main_arg1) = m ((c.tc : Thread Cert.ScKernelIdeal.nD Cert.ScKernelIdeal.τ).loc Cert.ScKernelIdeal.main_arg1)
      ∧ m' ((c.tc : Thread Cert.ScReferenceIdeal.nD Cert.ScReferenceIdeal.τ).loc Cert.ScReferenceIdeal.main_arg2) = m ((c.tc : Thread Cert.ScKernelIdeal.nD Cert.ScKernelIdeal.τ).loc Cert.ScKernelIdeal.main_arg2)
      ∧ m' ((c.tc : Thread Cert.ScReferenceIdeal.nD Cert.ScReferenceIdeal.τ).loc Cert.ScReferenceIdeal.main_arg3) = m ((c.tc : Thread Cert.ScKernelIdeal.nD Cert.ScKernelIdeal.τ).loc Cert.ScKernelIdeal.main_arg3)
      ∧ m' ((c.tc : Thread Cert.ScReferenceIdeal.nD Cert.ScReferenceIdeal.τ).loc Cert.ScReferenceIdeal.main_arg4) = m ((c.tc : Thread Cert.ScKernelIdeal.nD Cert.ScKernelIdeal.τ).loc Cert.ScKernelIdeal.main_arg4)
      ∧ m' ((c.tc : Thread Cert.ScReferenceIdeal.nD Cert.ScReferenceIdeal.τ).loc Cert.ScReferenceIdeal.main_arg5) = m ((c.tc : Thread Cert.ScKernelIdeal.nD Cert.ScKernelIdeal.τ).loc Cert.ScKernelIdeal.main_arg5)
      ∧ m' ((c.tc : Thread Cert.ScReferenceIdeal.nD Cert.ScReferenceIdeal.τ).loc Cert.ScReferenceIdeal.main_arg6) = m ((c.tc : Thread Cert.ScKernelIdeal.nD Cert.ScKernelIdeal.τ).loc Cert.ScKernelIdeal.main_arg6)
      ∧ m' ((c.tc : Thread Cert.ScReferenceIdeal.nD Cert.ScReferenceIdeal.τ).loc Cert.ScReferenceIdeal.main_arg7) = m ((c.tc : Thread Cert.ScKernelIdeal.nD Cert.ScKernelIdeal.τ).loc Cert.ScKernelIdeal.main_arg7)
      ∧ m' ((c.tc : Thread Cert.ScReferenceIdeal.nD Cert.ScReferenceIdeal.τ).loc Cert.ScReferenceIdeal.main_arg8) = m ((c.tc : Thread Cert.ScKernelIdeal.nD Cert.ScKernelIdeal.τ).loc Cert.ScKernelIdeal.main_arg8)) →
    ∃ (v0 : (c : Dev Cert.ScKernelIdeal.nD) → Buf (Elt Ideal) ((c.tc : Thread Cert.ScKernelIdeal.nD Cert.ScKernelIdeal.τ).loc Cert.ScKernelIdeal.main_v25_0)) (v1 : (c : Dev Cert.ScKernelIdeal.nD) → Buf (Elt Ideal) ((c.tc : Thread Cert.ScKernelIdeal.nD Cert.ScKernelIdeal.τ).loc Cert.ScKernelIdeal.main_v25_1)) (v2 : (c : Dev Cert.ScKernelIdeal.nD) → Buf (Elt Ideal) ((c.tc : Thread Cert.ScKernelIdeal.nD Cert.ScKernelIdeal.τ).loc Cert.ScKernelIdeal.main_v25_2)) (v3 : (c : Dev Cert.ScKernelIdeal.nD) → Buf (Elt Ideal) ((c.tc : Thread Cert.ScKernelIdeal.nD Cert.ScKernelIdeal.τ).loc Cert.ScKernelIdeal.main_v25_3)),
      θ_run (Cert.ScKernelIdeal.defs (F := Ideal)) (onTc (τ := Cert.ScKernelIdeal.τ) (Cert.ScKernelIdeal.main (F := Ideal))) ⟨m, fun _ => 0, g⟩ (fun r => ∀ c : Dev Cert.ScKernelIdeal.nD,
          r.2.mem ((c.tc : Thread Cert.ScKernelIdeal.nD Cert.ScKernelIdeal.τ).loc Cert.ScKernelIdeal.main_v25_0) = v0 c
          ∧ r.2.mem ((c.tc : Thread Cert.ScKernelIdeal.nD Cert.ScKernelIdeal.τ).loc Cert.ScKernelIdeal.main_v25_1) = v1 c
          ∧ r.2.mem ((c.tc : Thread Cert.ScKernelIdeal.nD Cert.ScKernelIdeal.τ).loc Cert.ScKernelIdeal.main_v25_2) = v2 c
          ∧ r.2.mem ((c.tc : Thread Cert.ScKernelIdeal.nD Cert.ScKernelIdeal.τ).loc Cert.ScKernelIdeal.main_v25_3) = v3 c
          ∧ r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
          ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1)
          ∧ r.2.mem ((c.tc : Thread Cert.ScKernelIdeal.nD Cert.ScKernelIdeal.τ).loc Cert.ScKernelIdeal.main_arg2) = m ((c.tc : Thread Cert.ScKernelIdeal.nD Cert.ScKernelIdeal.τ).loc Cert.ScKernelIdeal.main_arg2)
          ∧ r.2.mem ((c.tc : Thread Cert.ScKernelIdeal.nD Cert.ScKernelIdeal.τ).loc Cert.ScKernelIdeal.main_arg3) = m ((c.tc : Thread Cert.ScKernelIdeal.nD Cert.ScKernelIdeal.τ).loc Cert.ScKernelIdeal.main_arg3)
          ∧ r.2.mem ((c.tc : Thread Cert.ScKernelIdeal.nD Cert.ScKernelIdeal.τ).loc Cert.ScKernelIdeal.main_arg4) = m ((c.tc : Thread Cert.ScKernelIdeal.nD Cert.ScKernelIdeal.τ).loc Cert.ScKernelIdeal.main_arg4)
          ∧ r.2.mem ((c.tc : Thread Cert.ScKernelIdeal.nD Cert.ScKernelIdeal.τ).loc Cert.ScKernelIdeal.main_arg5) = m ((c.tc : Thread Cert.ScKernelIdeal.nD Cert.ScKernelIdeal.τ).loc Cert.ScKernelIdeal.main_arg5)
          ∧ r.2.mem ((c.tc : Thread Cert.ScKernelIdeal.nD Cert.ScKernelIdeal.τ).loc Cert.ScKernelIdeal.main_arg6) = m ((c.tc : Thread Cert.ScKernelIdeal.nD Cert.ScKernelIdeal.τ).loc Cert.ScKernelIdeal.main_arg6)
          ∧ r.2.mem ((c.tc : Thread Cert.ScKernelIdeal.nD Cert.ScKernelIdeal.τ).loc Cert.ScKernelIdeal.main_arg7) = m ((c.tc : Thread Cert.ScKernelIdeal.nD Cert.ScKernelIdeal.τ).loc Cert.ScKernelIdeal.main_arg7)
          ∧ r.2.mem ((c.tc : Thread Cert.ScKernelIdeal.nD Cert.ScKernelIdeal.τ).loc Cert.ScKernelIdeal.main_arg8) = m ((c.tc : Thread Cert.ScKernelIdeal.nD Cert.ScKernelIdeal.τ).loc Cert.ScKernelIdeal.main_arg8))
      ∧ θ_run (Cert.ScReferenceIdeal.defs (F := Ideal)) (onTc (τ := Cert.ScReferenceIdeal.τ) (Cert.ScReferenceIdeal.main (F := Ideal))) ⟨m', fun _ => 0, g'⟩ (fun r => ∀ c : Dev Cert.ScReferenceIdeal.nD,
          r.2.mem ((c.tc : Thread Cert.ScReferenceIdeal.nD Cert.ScReferenceIdeal.τ).loc Cert.ScReferenceIdeal.main_v114) = v0 c
          ∧ r.2.mem ((c.tc : Thread Cert.ScReferenceIdeal.nD Cert.ScReferenceIdeal.τ).loc Cert.ScReferenceIdeal.main_v119) = v1 c
          ∧ r.2.mem ((c.tc : Thread Cert.ScReferenceIdeal.nD Cert.ScReferenceIdeal.τ).loc Cert.ScReferenceIdeal.main_v116) = v2 c
          ∧ r.2.mem ((c.tc : Thread Cert.ScReferenceIdeal.nD Cert.ScReferenceIdeal.τ).loc Cert.ScReferenceIdeal.main_v118) = v3 c
          ∧ r.2.mem ((c.tc : Thread Cert.ScReferenceIdeal.nD Cert.ScReferenceIdeal.τ).loc Cert.ScReferenceIdeal.main_arg0) = m' ((c.tc : Thread Cert.ScReferenceIdeal.nD Cert.ScReferenceIdeal.τ).loc Cert.ScReferenceIdeal.main_arg0)
          ∧ r.2.mem ((c.tc : Thread Cert.ScReferenceIdeal.nD Cert.ScReferenceIdeal.τ).loc Cert.ScReferenceIdeal.main_arg1) = m' ((c.tc : Thread Cert.ScReferenceIdeal.nD Cert.ScReferenceIdeal.τ).loc Cert.ScReferenceIdeal.main_arg1)
          ∧ r.2.mem ((c.tc : Thread Cert.ScReferenceIdeal.nD Cert.ScReferenceIdeal.τ).loc Cert.ScReferenceIdeal.main_arg2) = m' ((c.tc : Thread Cert.ScReferenceIdeal.nD Cert.ScReferenceIdeal.τ).loc Cert.ScReferenceIdeal.main_arg2)
          ∧ r.2.mem ((c.tc : Thread Cert.ScReferenceIdeal.nD Cert.ScReferenceIdeal.τ).loc Cert.ScReferenceIdeal.main_arg3) = m' ((c.tc : Thread Cert.ScReferenceIdeal.nD Cert.ScReferenceIdeal.τ).loc Cert.ScReferenceIdeal.main_arg3)
          ∧ r.2.mem ((c.tc : Thread Cert.ScReferenceIdeal.nD Cert.ScReferenceIdeal.τ).loc Cert.ScReferenceIdeal.main_arg4) = m' ((c.tc : Thread Cert.ScReferenceIdeal.nD Cert.ScReferenceIdeal.τ).loc Cert.ScReferenceIdeal.main_arg4)
          ∧ r.2.mem ((c.tc : Thread Cert.ScReferenceIdeal.nD Cert.ScReferenceIdeal.τ).loc Cert.ScReferenceIdeal.main_arg5) = m' ((c.tc : Thread Cert.ScReferenceIdeal.nD Cert.ScReferenceIdeal.τ).loc Cert.ScReferenceIdeal.main_arg5)
          ∧ r.2.mem ((c.tc : Thread Cert.ScReferenceIdeal.nD Cert.ScReferenceIdeal.τ).loc Cert.ScReferenceIdeal.main_arg6) = m' ((c.tc : Thread Cert.ScReferenceIdeal.nD Cert.ScReferenceIdeal.τ).loc Cert.ScReferenceIdeal.main_arg6)
          ∧ r.2.mem ((c.tc : Thread Cert.ScReferenceIdeal.nD Cert.ScReferenceIdeal.τ).loc Cert.ScReferenceIdeal.main_arg7) = m' ((c.tc : Thread Cert.ScReferenceIdeal.nD Cert.ScReferenceIdeal.τ).loc Cert.ScReferenceIdeal.main_arg7)
          ∧ r.2.mem ((c.tc : Thread Cert.ScReferenceIdeal.nD Cert.ScReferenceIdeal.τ).loc Cert.ScReferenceIdeal.main_arg8) = m' ((c.tc : Thread Cert.ScReferenceIdeal.nD Cert.ScReferenceIdeal.τ).loc Cert.ScReferenceIdeal.main_arg8))

def preserves_FiKernel_FiKernelIdeal : Prop :=
  True

def algebraic_FiKernelIdeal_FiReferenceIdeal [hFiKernelIdeal : Cert.FiKernelIdeal.Facts] [hFiReferenceIdeal : Cert.FiReferenceIdeal.Facts] : Prop :=
  ∀ (m : (ℓ : Loc Cert.FiKernelIdeal.nD Cert.FiKernelIdeal.τ Cert.FiKernelIdeal.sig) → Buf (Elt Ideal) ℓ) (g : Dev Cert.FiKernelIdeal.nD → PrngReg)
    (m' : (ℓ : Loc Cert.FiReferenceIdeal.nD Cert.FiReferenceIdeal.τ Cert.FiReferenceIdeal.sig) → Buf (Elt Ideal) ℓ) (g' : Dev Cert.FiReferenceIdeal.nD → PrngReg), Pre_FiKernelIdeal m →
    (∀ c : Dev Cert.FiKernelIdeal.nD,
      m' ((c.tc : Thread Cert.FiReferenceIdeal.nD Cert.FiReferenceIdeal.τ).loc Cert.FiReferenceIdeal.main_arg0) = m ((c.tc : Thread Cert.FiKernelIdeal.nD Cert.FiKernelIdeal.τ).loc Cert.FiKernelIdeal.main_arg0)
      ∧ m' ((c.tc : Thread Cert.FiReferenceIdeal.nD Cert.FiReferenceIdeal.τ).loc Cert.FiReferenceIdeal.main_arg1) = m ((c.tc : Thread Cert.FiKernelIdeal.nD Cert.FiKernelIdeal.τ).loc Cert.FiKernelIdeal.main_arg1)
      ∧ m' ((c.tc : Thread Cert.FiReferenceIdeal.nD Cert.FiReferenceIdeal.τ).loc Cert.FiReferenceIdeal.main_arg2) = m ((c.tc : Thread Cert.FiKernelIdeal.nD Cert.FiKernelIdeal.τ).loc Cert.FiKernelIdeal.main_arg2)
      ∧ m' ((c.tc : Thread Cert.FiReferenceIdeal.nD Cert.FiReferenceIdeal.τ).loc Cert.FiReferenceIdeal.main_arg3) = m ((c.tc : Thread Cert.FiKernelIdeal.nD Cert.FiKernelIdeal.τ).loc Cert.FiKernelIdeal.main_arg3)
      ∧ m' ((c.tc : Thread Cert.FiReferenceIdeal.nD Cert.FiReferenceIdeal.τ).loc Cert.FiReferenceIdeal.main_arg4) = m ((c.tc : Thread Cert.FiKernelIdeal.nD Cert.FiKernelIdeal.τ).loc Cert.FiKernelIdeal.main_arg4)
      ∧ m' ((c.tc : Thread Cert.FiReferenceIdeal.nD Cert.FiReferenceIdeal.τ).loc Cert.FiReferenceIdeal.main_arg5) = m ((c.tc : Thread Cert.FiKernelIdeal.nD Cert.FiKernelIdeal.τ).loc Cert.FiKernelIdeal.main_arg5)
      ∧ m' ((c.tc : Thread Cert.FiReferenceIdeal.nD Cert.FiReferenceIdeal.τ).loc Cert.FiReferenceIdeal.main_arg6) = m ((c.tc : Thread Cert.FiKernelIdeal.nD Cert.FiKernelIdeal.τ).loc Cert.FiKernelIdeal.main_arg6)
      ∧ m' ((c.tc : Thread Cert.FiReferenceIdeal.nD Cert.FiReferenceIdeal.τ).loc Cert.FiReferenceIdeal.main_arg7) = m ((c.tc : Thread Cert.FiKernelIdeal.nD Cert.FiKernelIdeal.τ).loc Cert.FiKernelIdeal.main_arg7)
      ∧ m' ((c.tc : Thread Cert.FiReferenceIdeal.nD Cert.FiReferenceIdeal.τ).loc Cert.FiReferenceIdeal.main_arg8) = m ((c.tc : Thread Cert.FiKernelIdeal.nD Cert.FiKernelIdeal.τ).loc Cert.FiKernelIdeal.main_arg8)) →
    ∃ (v0 : (c : Dev Cert.FiKernelIdeal.nD) → Buf (Elt Ideal) ((c.tc : Thread Cert.FiKernelIdeal.nD Cert.FiKernelIdeal.τ).loc Cert.FiKernelIdeal.main_v35_0)) (v1 : (c : Dev Cert.FiKernelIdeal.nD) → Buf (Elt Ideal) ((c.tc : Thread Cert.FiKernelIdeal.nD Cert.FiKernelIdeal.τ).loc Cert.FiKernelIdeal.main_v35_1)) (v2 : (c : Dev Cert.FiKernelIdeal.nD) → Buf (Elt Ideal) ((c.tc : Thread Cert.FiKernelIdeal.nD Cert.FiKernelIdeal.τ).loc Cert.FiKernelIdeal.main_v35_2)) (v3 : (c : Dev Cert.FiKernelIdeal.nD) → Buf (Elt Ideal) ((c.tc : Thread Cert.FiKernelIdeal.nD Cert.FiKernelIdeal.τ).loc Cert.FiKernelIdeal.main_v35_3)),
      θ_run (Cert.FiKernelIdeal.defs (F := Ideal)) (onTc (τ := Cert.FiKernelIdeal.τ) (Cert.FiKernelIdeal.main (F := Ideal))) ⟨m, fun _ => 0, g⟩ (fun r => ∀ c : Dev Cert.FiKernelIdeal.nD,
          r.2.mem ((c.tc : Thread Cert.FiKernelIdeal.nD Cert.FiKernelIdeal.τ).loc Cert.FiKernelIdeal.main_v35_0) = v0 c
          ∧ r.2.mem ((c.tc : Thread Cert.FiKernelIdeal.nD Cert.FiKernelIdeal.τ).loc Cert.FiKernelIdeal.main_v35_1) = v1 c
          ∧ r.2.mem ((c.tc : Thread Cert.FiKernelIdeal.nD Cert.FiKernelIdeal.τ).loc Cert.FiKernelIdeal.main_v35_2) = v2 c
          ∧ r.2.mem ((c.tc : Thread Cert.FiKernelIdeal.nD Cert.FiKernelIdeal.τ).loc Cert.FiKernelIdeal.main_v35_3) = v3 c
          ∧ r.2.mem ((c.tc : Thread Cert.FiKernelIdeal.nD Cert.FiKernelIdeal.τ).loc Cert.FiKernelIdeal.main_arg0) = m ((c.tc : Thread Cert.FiKernelIdeal.nD Cert.FiKernelIdeal.τ).loc Cert.FiKernelIdeal.main_arg0)
          ∧ r.2.mem ((c.tc : Thread Cert.FiKernelIdeal.nD Cert.FiKernelIdeal.τ).loc Cert.FiKernelIdeal.main_arg1) = m ((c.tc : Thread Cert.FiKernelIdeal.nD Cert.FiKernelIdeal.τ).loc Cert.FiKernelIdeal.main_arg1)
          ∧ r.2.mem ((c.tc : Thread Cert.FiKernelIdeal.nD Cert.FiKernelIdeal.τ).loc Cert.FiKernelIdeal.main_arg2) = m ((c.tc : Thread Cert.FiKernelIdeal.nD Cert.FiKernelIdeal.τ).loc Cert.FiKernelIdeal.main_arg2)
          ∧ r.2.mem ((c.tc : Thread Cert.FiKernelIdeal.nD Cert.FiKernelIdeal.τ).loc Cert.FiKernelIdeal.main_arg3) = m ((c.tc : Thread Cert.FiKernelIdeal.nD Cert.FiKernelIdeal.τ).loc Cert.FiKernelIdeal.main_arg3)
          ∧ r.2.mem ((c.tc : Thread Cert.FiKernelIdeal.nD Cert.FiKernelIdeal.τ).loc Cert.FiKernelIdeal.main_arg4) = m ((c.tc : Thread Cert.FiKernelIdeal.nD Cert.FiKernelIdeal.τ).loc Cert.FiKernelIdeal.main_arg4)
          ∧ r.2.mem ((c.tc : Thread Cert.FiKernelIdeal.nD Cert.FiKernelIdeal.τ).loc Cert.FiKernelIdeal.main_arg5) = m ((c.tc : Thread Cert.FiKernelIdeal.nD Cert.FiKernelIdeal.τ).loc Cert.FiKernelIdeal.main_arg5)
          ∧ r.2.mem ((c.tc : Thread Cert.FiKernelIdeal.nD Cert.FiKernelIdeal.τ).loc Cert.FiKernelIdeal.main_arg6) = m ((c.tc : Thread Cert.FiKernelIdeal.nD Cert.FiKernelIdeal.τ).loc Cert.FiKernelIdeal.main_arg6)
          ∧ r.2.mem ((c.tc : Thread Cert.FiKernelIdeal.nD Cert.FiKernelIdeal.τ).loc Cert.FiKernelIdeal.main_arg7) = m ((c.tc : Thread Cert.FiKernelIdeal.nD Cert.FiKernelIdeal.τ).loc Cert.FiKernelIdeal.main_arg7)
          ∧ r.2.mem ((c.tc : Thread Cert.FiKernelIdeal.nD Cert.FiKernelIdeal.τ).loc Cert.FiKernelIdeal.main_arg8) = m ((c.tc : Thread Cert.FiKernelIdeal.nD Cert.FiKernelIdeal.τ).loc Cert.FiKernelIdeal.main_arg8))
      ∧ θ_run (Cert.FiReferenceIdeal.defs (F := Ideal)) (onTc (τ := Cert.FiReferenceIdeal.τ) (Cert.FiReferenceIdeal.main (F := Ideal))) ⟨m', fun _ => 0, g'⟩ (fun r => ∀ c : Dev Cert.FiReferenceIdeal.nD,
          r.2.mem ((c.tc : Thread Cert.FiReferenceIdeal.nD Cert.FiReferenceIdeal.τ).loc Cert.FiReferenceIdeal.main_v110) = v0 c
          ∧ r.2.mem ((c.tc : Thread Cert.FiReferenceIdeal.nD Cert.FiReferenceIdeal.τ).loc Cert.FiReferenceIdeal.main_v114) = v1 c
          ∧ r.2.mem ((c.tc : Thread Cert.FiReferenceIdeal.nD Cert.FiReferenceIdeal.τ).loc Cert.FiReferenceIdeal.main_v116) = v2 c
          ∧ r.2.mem ((c.tc : Thread Cert.FiReferenceIdeal.nD Cert.FiReferenceIdeal.τ).loc Cert.FiReferenceIdeal.main_v121) = v3 c
          ∧ r.2.mem ((c.tc : Thread Cert.FiReferenceIdeal.nD Cert.FiReferenceIdeal.τ).loc Cert.FiReferenceIdeal.main_arg0) = m' ((c.tc : Thread Cert.FiReferenceIdeal.nD Cert.FiReferenceIdeal.τ).loc Cert.FiReferenceIdeal.main_arg0)
          ∧ r.2.mem ((c.tc : Thread Cert.FiReferenceIdeal.nD Cert.FiReferenceIdeal.τ).loc Cert.FiReferenceIdeal.main_arg1) = m' ((c.tc : Thread Cert.FiReferenceIdeal.nD Cert.FiReferenceIdeal.τ).loc Cert.FiReferenceIdeal.main_arg1)
          ∧ r.2.mem ((c.tc : Thread Cert.FiReferenceIdeal.nD Cert.FiReferenceIdeal.τ).loc Cert.FiReferenceIdeal.main_arg2) = m' ((c.tc : Thread Cert.FiReferenceIdeal.nD Cert.FiReferenceIdeal.τ).loc Cert.FiReferenceIdeal.main_arg2)
          ∧ r.2.mem ((c.tc : Thread Cert.FiReferenceIdeal.nD Cert.FiReferenceIdeal.τ).loc Cert.FiReferenceIdeal.main_arg3) = m' ((c.tc : Thread Cert.FiReferenceIdeal.nD Cert.FiReferenceIdeal.τ).loc Cert.FiReferenceIdeal.main_arg3)
          ∧ r.2.mem ((c.tc : Thread Cert.FiReferenceIdeal.nD Cert.FiReferenceIdeal.τ).loc Cert.FiReferenceIdeal.main_arg4) = m' ((c.tc : Thread Cert.FiReferenceIdeal.nD Cert.FiReferenceIdeal.τ).loc Cert.FiReferenceIdeal.main_arg4)
          ∧ r.2.mem ((c.tc : Thread Cert.FiReferenceIdeal.nD Cert.FiReferenceIdeal.τ).loc Cert.FiReferenceIdeal.main_arg5) = m' ((c.tc : Thread Cert.FiReferenceIdeal.nD Cert.FiReferenceIdeal.τ).loc Cert.FiReferenceIdeal.main_arg5)
          ∧ r.2.mem ((c.tc : Thread Cert.FiReferenceIdeal.nD Cert.FiReferenceIdeal.τ).loc Cert.FiReferenceIdeal.main_arg6) = m' ((c.tc : Thread Cert.FiReferenceIdeal.nD Cert.FiReferenceIdeal.τ).loc Cert.FiReferenceIdeal.main_arg6)
          ∧ r.2.mem ((c.tc : Thread Cert.FiReferenceIdeal.nD Cert.FiReferenceIdeal.τ).loc Cert.FiReferenceIdeal.main_arg7) = m' ((c.tc : Thread Cert.FiReferenceIdeal.nD Cert.FiReferenceIdeal.τ).loc Cert.FiReferenceIdeal.main_arg7)
          ∧ r.2.mem ((c.tc : Thread Cert.FiReferenceIdeal.nD Cert.FiReferenceIdeal.τ).loc Cert.FiReferenceIdeal.main_arg8) = m' ((c.tc : Thread Cert.FiReferenceIdeal.nD Cert.FiReferenceIdeal.τ).loc Cert.FiReferenceIdeal.main_arg8))

def preserves_WuKernel_WuKernelIdeal : Prop :=
  True

def algebraic_WuKernelIdeal_WuReferenceIdeal [hWuKernelIdeal : Cert.WuKernelIdeal.Facts] [hWuReferenceIdeal : Cert.WuReferenceIdeal.Facts] : Prop :=
  ∀ (m : (ℓ : Loc Cert.WuKernelIdeal.nD Cert.WuKernelIdeal.τ Cert.WuKernelIdeal.sig) → Buf (Elt Ideal) ℓ) (g : Dev Cert.WuKernelIdeal.nD → PrngReg)
    (m' : (ℓ : Loc Cert.WuReferenceIdeal.nD Cert.WuReferenceIdeal.τ Cert.WuReferenceIdeal.sig) → Buf (Elt Ideal) ℓ) (g' : Dev Cert.WuReferenceIdeal.nD → PrngReg), Pre_WuKernelIdeal m →
    (∀ c : Dev Cert.WuKernelIdeal.nD,
      m' ((c.tc : Thread Cert.WuReferenceIdeal.nD Cert.WuReferenceIdeal.τ).loc Cert.WuReferenceIdeal.main_arg0) = m ((c.tc : Thread Cert.WuKernelIdeal.nD Cert.WuKernelIdeal.τ).loc Cert.WuKernelIdeal.main_arg0)
      ∧ m' ((c.tc : Thread Cert.WuReferenceIdeal.nD Cert.WuReferenceIdeal.τ).loc Cert.WuReferenceIdeal.main_arg1) = m ((c.tc : Thread Cert.WuKernelIdeal.nD Cert.WuKernelIdeal.τ).loc Cert.WuKernelIdeal.main_arg1)) →
    ∃ (v0 : (c : Dev Cert.WuKernelIdeal.nD) → Buf (Elt Ideal) ((c.tc : Thread Cert.WuKernelIdeal.nD Cert.WuKernelIdeal.τ).loc Cert.WuKernelIdeal.main_v4)),
      θ_run (Cert.WuKernelIdeal.defs (F := Ideal)) (onTc (τ := Cert.WuKernelIdeal.τ) (Cert.WuKernelIdeal.main (F := Ideal))) ⟨m, fun _ => 0, g⟩ (fun r => ∀ c : Dev Cert.WuKernelIdeal.nD,
          r.2.mem ((c.tc : Thread Cert.WuKernelIdeal.nD Cert.WuKernelIdeal.τ).loc Cert.WuKernelIdeal.main_v4) = v0 c
          ∧ r.2.mem ((c.tc : Thread Cert.WuKernelIdeal.nD Cert.WuKernelIdeal.τ).loc Cert.WuKernelIdeal.main_arg0) = m ((c.tc : Thread Cert.WuKernelIdeal.nD Cert.WuKernelIdeal.τ).loc Cert.WuKernelIdeal.main_arg0)
          ∧ r.2.mem ((c.tc : Thread Cert.WuKernelIdeal.nD Cert.WuKernelIdeal.τ).loc Cert.WuKernelIdeal.main_arg1) = m ((c.tc : Thread Cert.WuKernelIdeal.nD Cert.WuKernelIdeal.τ).loc Cert.WuKernelIdeal.main_arg1))
      ∧ θ_run (Cert.WuReferenceIdeal.defs (F := Ideal)) (onTc (τ := Cert.WuReferenceIdeal.τ) (Cert.WuReferenceIdeal.main (F := Ideal))) ⟨m', fun _ => 0, g'⟩ (fun r => ∀ c : Dev Cert.WuReferenceIdeal.nD,
          r.2.mem ((c.tc : Thread Cert.WuReferenceIdeal.nD Cert.WuReferenceIdeal.τ).loc Cert.WuReferenceIdeal.main_v6) = v0 c
          ∧ r.2.mem ((c.tc : Thread Cert.WuReferenceIdeal.nD Cert.WuReferenceIdeal.τ).loc Cert.WuReferenceIdeal.main_arg0) = m' ((c.tc : Thread Cert.WuReferenceIdeal.nD Cert.WuReferenceIdeal.τ).loc Cert.WuReferenceIdeal.main_arg0)
          ∧ r.2.mem ((c.tc : Thread Cert.WuReferenceIdeal.nD Cert.WuReferenceIdeal.τ).loc Cert.WuReferenceIdeal.main_arg1) = m' ((c.tc : Thread Cert.WuReferenceIdeal.nD Cert.WuReferenceIdeal.τ).loc Cert.WuReferenceIdeal.main_arg1))

def preserves_WdKernel_WdKernelIdeal : Prop :=
  True

def algebraic_WdKernelIdeal_WdReferenceIdeal [hWdKernelIdeal : Cert.WdKernelIdeal.Facts] [hWdReferenceIdeal : Cert.WdReferenceIdeal.Facts] : Prop :=
  ∀ (m : (ℓ : Loc Cert.WdKernelIdeal.nD Cert.WdKernelIdeal.τ Cert.WdKernelIdeal.sig) → Buf (Elt Ideal) ℓ) (g : Dev Cert.WdKernelIdeal.nD → PrngReg)
    (m' : (ℓ : Loc Cert.WdReferenceIdeal.nD Cert.WdReferenceIdeal.τ Cert.WdReferenceIdeal.sig) → Buf (Elt Ideal) ℓ) (g' : Dev Cert.WdReferenceIdeal.nD → PrngReg), Pre_WdKernelIdeal m →
    (∀ c : Dev Cert.WdKernelIdeal.nD,
      m' ((c.tc : Thread Cert.WdReferenceIdeal.nD Cert.WdReferenceIdeal.τ).loc Cert.WdReferenceIdeal.main_arg0) = m ((c.tc : Thread Cert.WdKernelIdeal.nD Cert.WdKernelIdeal.τ).loc Cert.WdKernelIdeal.main_arg0)
      ∧ m' ((c.tc : Thread Cert.WdReferenceIdeal.nD Cert.WdReferenceIdeal.τ).loc Cert.WdReferenceIdeal.main_arg1) = m ((c.tc : Thread Cert.WdKernelIdeal.nD Cert.WdKernelIdeal.τ).loc Cert.WdKernelIdeal.main_arg1)) →
    ∃ (v0 : (c : Dev Cert.WdKernelIdeal.nD) → Buf (Elt Ideal) ((c.tc : Thread Cert.WdKernelIdeal.nD Cert.WdKernelIdeal.τ).loc Cert.WdKernelIdeal.main_v4)),
      θ_run (Cert.WdKernelIdeal.defs (F := Ideal)) (onTc (τ := Cert.WdKernelIdeal.τ) (Cert.WdKernelIdeal.main (F := Ideal))) ⟨m, fun _ => 0, g⟩ (fun r => ∀ c : Dev Cert.WdKernelIdeal.nD,
          r.2.mem ((c.tc : Thread Cert.WdKernelIdeal.nD Cert.WdKernelIdeal.τ).loc Cert.WdKernelIdeal.main_v4) = v0 c
          ∧ r.2.mem ((c.tc : Thread Cert.WdKernelIdeal.nD Cert.WdKernelIdeal.τ).loc Cert.WdKernelIdeal.main_arg0) = m ((c.tc : Thread Cert.WdKernelIdeal.nD Cert.WdKernelIdeal.τ).loc Cert.WdKernelIdeal.main_arg0)
          ∧ r.2.mem ((c.tc : Thread Cert.WdKernelIdeal.nD Cert.WdKernelIdeal.τ).loc Cert.WdKernelIdeal.main_arg1) = m ((c.tc : Thread Cert.WdKernelIdeal.nD Cert.WdKernelIdeal.τ).loc Cert.WdKernelIdeal.main_arg1))
      ∧ θ_run (Cert.WdReferenceIdeal.defs (F := Ideal)) (onTc (τ := Cert.WdReferenceIdeal.τ) (Cert.WdReferenceIdeal.main (F := Ideal))) ⟨m', fun _ => 0, g'⟩ (fun r => ∀ c : Dev Cert.WdReferenceIdeal.nD,
          r.2.mem ((c.tc : Thread Cert.WdReferenceIdeal.nD Cert.WdReferenceIdeal.τ).loc Cert.WdReferenceIdeal.main_v5) = v0 c
          ∧ r.2.mem ((c.tc : Thread Cert.WdReferenceIdeal.nD Cert.WdReferenceIdeal.τ).loc Cert.WdReferenceIdeal.main_arg0) = m' ((c.tc : Thread Cert.WdReferenceIdeal.nD Cert.WdReferenceIdeal.τ).loc Cert.WdReferenceIdeal.main_arg0)
          ∧ r.2.mem ((c.tc : Thread Cert.WdReferenceIdeal.nD Cert.WdReferenceIdeal.τ).loc Cert.WdReferenceIdeal.main_arg1) = m' ((c.tc : Thread Cert.WdReferenceIdeal.nD Cert.WdReferenceIdeal.τ).loc Cert.WdReferenceIdeal.main_arg1))

def preserves_FoKernel_FoKernelIdeal : Prop :=
  True

def algebraic_FoKernelIdeal_FoReferenceIdeal [hFoKernelIdeal : Cert.FoKernelIdeal.Facts] [hFoReferenceIdeal : Cert.FoReferenceIdeal.Facts] : Prop :=
  ∀ (m : (ℓ : Loc Cert.FoKernelIdeal.nD Cert.FoKernelIdeal.τ Cert.FoKernelIdeal.sig) → Buf (Elt Ideal) ℓ) (g : Dev Cert.FoKernelIdeal.nD → PrngReg)
    (m' : (ℓ : Loc Cert.FoReferenceIdeal.nD Cert.FoReferenceIdeal.τ Cert.FoReferenceIdeal.sig) → Buf (Elt Ideal) ℓ) (g' : Dev Cert.FoReferenceIdeal.nD → PrngReg), Pre_FoKernelIdeal m →
    (∀ c : Dev Cert.FoKernelIdeal.nD,
      m' ((c.tc : Thread Cert.FoReferenceIdeal.nD Cert.FoReferenceIdeal.τ).loc Cert.FoReferenceIdeal.main_arg0) = m ((c.tc : Thread Cert.FoKernelIdeal.nD Cert.FoKernelIdeal.τ).loc Cert.FoKernelIdeal.main_arg0)
      ∧ m' ((c.tc : Thread Cert.FoReferenceIdeal.nD Cert.FoReferenceIdeal.τ).loc Cert.FoReferenceIdeal.main_arg1) = m ((c.tc : Thread Cert.FoKernelIdeal.nD Cert.FoKernelIdeal.τ).loc Cert.FoKernelIdeal.main_arg1)
      ∧ m' ((c.tc : Thread Cert.FoReferenceIdeal.nD Cert.FoReferenceIdeal.τ).loc Cert.FoReferenceIdeal.main_arg2) = m ((c.tc : Thread Cert.FoKernelIdeal.nD Cert.FoKernelIdeal.τ).loc Cert.FoKernelIdeal.main_arg2)
      ∧ m' ((c.tc : Thread Cert.FoReferenceIdeal.nD Cert.FoReferenceIdeal.τ).loc Cert.FoReferenceIdeal.main_arg3) = m ((c.tc : Thread Cert.FoKernelIdeal.nD Cert.FoKernelIdeal.τ).loc Cert.FoKernelIdeal.main_arg3)
      ∧ m' ((c.tc : Thread Cert.FoReferenceIdeal.nD Cert.FoReferenceIdeal.τ).loc Cert.FoReferenceIdeal.main_arg4) = m ((c.tc : Thread Cert.FoKernelIdeal.nD Cert.FoKernelIdeal.τ).loc Cert.FoKernelIdeal.main_arg4)
      ∧ m' ((c.tc : Thread Cert.FoReferenceIdeal.nD Cert.FoReferenceIdeal.τ).loc Cert.FoReferenceIdeal.main_arg5) = m ((c.tc : Thread Cert.FoKernelIdeal.nD Cert.FoKernelIdeal.τ).loc Cert.FoKernelIdeal.main_arg5)) →
    ∃ (v0 : (c : Dev Cert.FoKernelIdeal.nD) → Buf (Elt Ideal) ((c.tc : Thread Cert.FoKernelIdeal.nD Cert.FoKernelIdeal.τ).loc Cert.FoKernelIdeal.main_v13_0)) (v1 : (c : Dev Cert.FoKernelIdeal.nD) → Buf (Elt Ideal) ((c.tc : Thread Cert.FoKernelIdeal.nD Cert.FoKernelIdeal.τ).loc Cert.FoKernelIdeal.main_v13_1)) (v2 : (c : Dev Cert.FoKernelIdeal.nD) → Buf (Elt Ideal) ((c.tc : Thread Cert.FoKernelIdeal.nD Cert.FoKernelIdeal.τ).loc Cert.FoKernelIdeal.main_v13_2)) (v3 : (c : Dev Cert.FoKernelIdeal.nD) → Buf (Elt Ideal) ((c.tc : Thread Cert.FoKernelIdeal.nD Cert.FoKernelIdeal.τ).loc Cert.FoKernelIdeal.main_v13_3)) (v4 : (c : Dev Cert.FoKernelIdeal.nD) → Buf (Elt Ideal) ((c.tc : Thread Cert.FoKernelIdeal.nD Cert.FoKernelIdeal.τ).loc Cert.FoKernelIdeal.main_v13_4)),
      θ_run (Cert.FoKernelIdeal.defs (F := Ideal)) (onTc (τ := Cert.FoKernelIdeal.τ) (Cert.FoKernelIdeal.main (F := Ideal))) ⟨m, fun _ => 0, g⟩ (fun r => ∀ c : Dev Cert.FoKernelIdeal.nD,
          r.2.mem ((c.tc : Thread Cert.FoKernelIdeal.nD Cert.FoKernelIdeal.τ).loc Cert.FoKernelIdeal.main_v13_0) = v0 c
          ∧ r.2.mem ((c.tc : Thread Cert.FoKernelIdeal.nD Cert.FoKernelIdeal.τ).loc Cert.FoKernelIdeal.main_v13_1) = v1 c
          ∧ r.2.mem ((c.tc : Thread Cert.FoKernelIdeal.nD Cert.FoKernelIdeal.τ).loc Cert.FoKernelIdeal.main_v13_2) = v2 c
          ∧ r.2.mem ((c.tc : Thread Cert.FoKernelIdeal.nD Cert.FoKernelIdeal.τ).loc Cert.FoKernelIdeal.main_v13_3) = v3 c
          ∧ r.2.mem ((c.tc : Thread Cert.FoKernelIdeal.nD Cert.FoKernelIdeal.τ).loc Cert.FoKernelIdeal.main_v13_4) = v4 c
          ∧ r.2.mem ((c.tc : Thread Cert.FoKernelIdeal.nD Cert.FoKernelIdeal.τ).loc Cert.FoKernelIdeal.main_arg0) = m ((c.tc : Thread Cert.FoKernelIdeal.nD Cert.FoKernelIdeal.τ).loc Cert.FoKernelIdeal.main_arg0)
          ∧ r.2.mem ((c.tc : Thread Cert.FoKernelIdeal.nD Cert.FoKernelIdeal.τ).loc Cert.FoKernelIdeal.main_arg1) = m ((c.tc : Thread Cert.FoKernelIdeal.nD Cert.FoKernelIdeal.τ).loc Cert.FoKernelIdeal.main_arg1)
          ∧ r.2.mem ((c.tc : Thread Cert.FoKernelIdeal.nD Cert.FoKernelIdeal.τ).loc Cert.FoKernelIdeal.main_arg2) = m ((c.tc : Thread Cert.FoKernelIdeal.nD Cert.FoKernelIdeal.τ).loc Cert.FoKernelIdeal.main_arg2)
          ∧ r.2.mem ((c.tc : Thread Cert.FoKernelIdeal.nD Cert.FoKernelIdeal.τ).loc Cert.FoKernelIdeal.main_arg3) = m ((c.tc : Thread Cert.FoKernelIdeal.nD Cert.FoKernelIdeal.τ).loc Cert.FoKernelIdeal.main_arg3)
          ∧ r.2.mem ((c.tc : Thread Cert.FoKernelIdeal.nD Cert.FoKernelIdeal.τ).loc Cert.FoKernelIdeal.main_arg4) = m ((c.tc : Thread Cert.FoKernelIdeal.nD Cert.FoKernelIdeal.τ).loc Cert.FoKernelIdeal.main_arg4)
          ∧ r.2.mem ((c.tc : Thread Cert.FoKernelIdeal.nD Cert.FoKernelIdeal.τ).loc Cert.FoKernelIdeal.main_arg5) = m ((c.tc : Thread Cert.FoKernelIdeal.nD Cert.FoKernelIdeal.τ).loc Cert.FoKernelIdeal.main_arg5))
      ∧ θ_run (Cert.FoReferenceIdeal.defs (F := Ideal)) (onTc (τ := Cert.FoReferenceIdeal.τ) (Cert.FoReferenceIdeal.main (F := Ideal))) ⟨m', fun _ => 0, g'⟩ (fun r => ∀ c : Dev Cert.FoReferenceIdeal.nD,
          r.2.mem ((c.tc : Thread Cert.FoReferenceIdeal.nD Cert.FoReferenceIdeal.τ).loc Cert.FoReferenceIdeal.main_v56) = v0 c
          ∧ r.2.mem ((c.tc : Thread Cert.FoReferenceIdeal.nD Cert.FoReferenceIdeal.τ).loc Cert.FoReferenceIdeal.main_v59) = v1 c
          ∧ r.2.mem ((c.tc : Thread Cert.FoReferenceIdeal.nD Cert.FoReferenceIdeal.τ).loc Cert.FoReferenceIdeal.main_v62) = v2 c
          ∧ r.2.mem ((c.tc : Thread Cert.FoReferenceIdeal.nD Cert.FoReferenceIdeal.τ).loc Cert.FoReferenceIdeal.main_v51) = v3 c
          ∧ r.2.mem ((c.tc : Thread Cert.FoReferenceIdeal.nD Cert.FoReferenceIdeal.τ).loc Cert.FoReferenceIdeal.main_v64) = v4 c
          ∧ r.2.mem ((c.tc : Thread Cert.FoReferenceIdeal.nD Cert.FoReferenceIdeal.τ).loc Cert.FoReferenceIdeal.main_arg0) = m' ((c.tc : Thread Cert.FoReferenceIdeal.nD Cert.FoReferenceIdeal.τ).loc Cert.FoReferenceIdeal.main_arg0)
          ∧ r.2.mem ((c.tc : Thread Cert.FoReferenceIdeal.nD Cert.FoReferenceIdeal.τ).loc Cert.FoReferenceIdeal.main_arg1) = m' ((c.tc : Thread Cert.FoReferenceIdeal.nD Cert.FoReferenceIdeal.τ).loc Cert.FoReferenceIdeal.main_arg1)
          ∧ r.2.mem ((c.tc : Thread Cert.FoReferenceIdeal.nD Cert.FoReferenceIdeal.τ).loc Cert.FoReferenceIdeal.main_arg2) = m' ((c.tc : Thread Cert.FoReferenceIdeal.nD Cert.FoReferenceIdeal.τ).loc Cert.FoReferenceIdeal.main_arg2)
          ∧ r.2.mem ((c.tc : Thread Cert.FoReferenceIdeal.nD Cert.FoReferenceIdeal.τ).loc Cert.FoReferenceIdeal.main_arg3) = m' ((c.tc : Thread Cert.FoReferenceIdeal.nD Cert.FoReferenceIdeal.τ).loc Cert.FoReferenceIdeal.main_arg3)
          ∧ r.2.mem ((c.tc : Thread Cert.FoReferenceIdeal.nD Cert.FoReferenceIdeal.τ).loc Cert.FoReferenceIdeal.main_arg4) = m' ((c.tc : Thread Cert.FoReferenceIdeal.nD Cert.FoReferenceIdeal.τ).loc Cert.FoReferenceIdeal.main_arg4)
          ∧ r.2.mem ((c.tc : Thread Cert.FoReferenceIdeal.nD Cert.FoReferenceIdeal.τ).loc Cert.FoReferenceIdeal.main_arg5) = m' ((c.tc : Thread Cert.FoReferenceIdeal.nD Cert.FoReferenceIdeal.τ).loc Cert.FoReferenceIdeal.main_arg5))

def preserves_WiKernel_WiKernelIdeal : Prop :=
  True

def algebraic_WiKernelIdeal_WiReferenceIdeal [hWiKernelIdeal : Cert.WiKernelIdeal.Facts] [hWiReferenceIdeal : Cert.WiReferenceIdeal.Facts] : Prop :=
  ∀ (m : (ℓ : Loc Cert.WiKernelIdeal.nD Cert.WiKernelIdeal.τ Cert.WiKernelIdeal.sig) → Buf (Elt Ideal) ℓ) (g : Dev Cert.WiKernelIdeal.nD → PrngReg)
    (m' : (ℓ : Loc Cert.WiReferenceIdeal.nD Cert.WiReferenceIdeal.τ Cert.WiReferenceIdeal.sig) → Buf (Elt Ideal) ℓ) (g' : Dev Cert.WiReferenceIdeal.nD → PrngReg), Pre_WiKernelIdeal m →
    (∀ c : Dev Cert.WiKernelIdeal.nD,
      m' ((c.tc : Thread Cert.WiReferenceIdeal.nD Cert.WiReferenceIdeal.τ).loc Cert.WiReferenceIdeal.main_arg0) = m ((c.tc : Thread Cert.WiKernelIdeal.nD Cert.WiKernelIdeal.τ).loc Cert.WiKernelIdeal.main_arg0)
      ∧ m' ((c.tc : Thread Cert.WiReferenceIdeal.nD Cert.WiReferenceIdeal.τ).loc Cert.WiReferenceIdeal.main_arg1) = m ((c.tc : Thread Cert.WiKernelIdeal.nD Cert.WiKernelIdeal.τ).loc Cert.WiKernelIdeal.main_arg1)) →
    ∃ (v0 : (c : Dev Cert.WiKernelIdeal.nD) → Buf (Elt Ideal) ((c.tc : Thread Cert.WiKernelIdeal.nD Cert.WiKernelIdeal.τ).loc Cert.WiKernelIdeal.main_v2)),
      θ_run (Cert.WiKernelIdeal.defs (F := Ideal)) (onTc (τ := Cert.WiKernelIdeal.τ) (Cert.WiKernelIdeal.main (F := Ideal))) ⟨m, fun _ => 0, g⟩ (fun r => ∀ c : Dev Cert.WiKernelIdeal.nD,
          r.2.mem ((c.tc : Thread Cert.WiKernelIdeal.nD Cert.WiKernelIdeal.τ).loc Cert.WiKernelIdeal.main_v2) = v0 c
          ∧ r.2.mem ((c.tc : Thread Cert.WiKernelIdeal.nD Cert.WiKernelIdeal.τ).loc Cert.WiKernelIdeal.main_arg0) = m ((c.tc : Thread Cert.WiKernelIdeal.nD Cert.WiKernelIdeal.τ).loc Cert.WiKernelIdeal.main_arg0)
          ∧ r.2.mem ((c.tc : Thread Cert.WiKernelIdeal.nD Cert.WiKernelIdeal.τ).loc Cert.WiKernelIdeal.main_arg1) = m ((c.tc : Thread Cert.WiKernelIdeal.nD Cert.WiKernelIdeal.τ).loc Cert.WiKernelIdeal.main_arg1))
      ∧ θ_run (Cert.WiReferenceIdeal.defs (F := Ideal)) (onTc (τ := Cert.WiReferenceIdeal.τ) (Cert.WiReferenceIdeal.main (F := Ideal))) ⟨m', fun _ => 0, g'⟩ (fun r => ∀ c : Dev Cert.WiReferenceIdeal.nD,
          r.2.mem ((c.tc : Thread Cert.WiReferenceIdeal.nD Cert.WiReferenceIdeal.τ).loc Cert.WiReferenceIdeal.main_v6) = v0 c
          ∧ r.2.mem ((c.tc : Thread Cert.WiReferenceIdeal.nD Cert.WiReferenceIdeal.τ).loc Cert.WiReferenceIdeal.main_arg0) = m' ((c.tc : Thread Cert.WiReferenceIdeal.nD Cert.WiReferenceIdeal.τ).loc Cert.WiReferenceIdeal.main_arg0)
          ∧ r.2.mem ((c.tc : Thread Cert.WiReferenceIdeal.nD Cert.WiReferenceIdeal.τ).loc Cert.WiReferenceIdeal.main_arg1) = m' ((c.tc : Thread Cert.WiReferenceIdeal.nD Cert.WiReferenceIdeal.τ).loc Cert.WiReferenceIdeal.main_arg1))

def preserves_WoKernel_WoKernelIdeal : Prop :=
  True

def algebraic_WoKernelIdeal_WoReferenceIdeal [hWoKernelIdeal : Cert.WoKernelIdeal.Facts] [hWoReferenceIdeal : Cert.WoReferenceIdeal.Facts] : Prop :=
  ∀ (m : (ℓ : Loc Cert.WoKernelIdeal.nD Cert.WoKernelIdeal.τ Cert.WoKernelIdeal.sig) → Buf (Elt Ideal) ℓ) (g : Dev Cert.WoKernelIdeal.nD → PrngReg)
    (m' : (ℓ : Loc Cert.WoReferenceIdeal.nD Cert.WoReferenceIdeal.τ Cert.WoReferenceIdeal.sig) → Buf (Elt Ideal) ℓ) (g' : Dev Cert.WoReferenceIdeal.nD → PrngReg), Pre_WoKernelIdeal m →
    (∀ c : Dev Cert.WoKernelIdeal.nD,
      m' ((c.tc : Thread Cert.WoReferenceIdeal.nD Cert.WoReferenceIdeal.τ).loc Cert.WoReferenceIdeal.main_arg0) = m ((c.tc : Thread Cert.WoKernelIdeal.nD Cert.WoKernelIdeal.τ).loc Cert.WoKernelIdeal.main_arg0)
      ∧ m' ((c.tc : Thread Cert.WoReferenceIdeal.nD Cert.WoReferenceIdeal.τ).loc Cert.WoReferenceIdeal.main_arg1) = m ((c.tc : Thread Cert.WoKernelIdeal.nD Cert.WoKernelIdeal.τ).loc Cert.WoKernelIdeal.main_arg1)) →
    ∃ (v0 : (c : Dev Cert.WoKernelIdeal.nD) → Buf (Elt Ideal) ((c.tc : Thread Cert.WoKernelIdeal.nD Cert.WoKernelIdeal.τ).loc Cert.WoKernelIdeal.main_v2)),
      θ_run (Cert.WoKernelIdeal.defs (F := Ideal)) (onTc (τ := Cert.WoKernelIdeal.τ) (Cert.WoKernelIdeal.main (F := Ideal))) ⟨m, fun _ => 0, g⟩ (fun r => ∀ c : Dev Cert.WoKernelIdeal.nD,
          r.2.mem ((c.tc : Thread Cert.WoKernelIdeal.nD Cert.WoKernelIdeal.τ).loc Cert.WoKernelIdeal.main_v2) = v0 c
          ∧ r.2.mem ((c.tc : Thread Cert.WoKernelIdeal.nD Cert.WoKernelIdeal.τ).loc Cert.WoKernelIdeal.main_arg0) = m ((c.tc : Thread Cert.WoKernelIdeal.nD Cert.WoKernelIdeal.τ).loc Cert.WoKernelIdeal.main_arg0)
          ∧ r.2.mem ((c.tc : Thread Cert.WoKernelIdeal.nD Cert.WoKernelIdeal.τ).loc Cert.WoKernelIdeal.main_arg1) = m ((c.tc : Thread Cert.WoKernelIdeal.nD Cert.WoKernelIdeal.τ).loc Cert.WoKernelIdeal.main_arg1))
      ∧ θ_run (Cert.WoReferenceIdeal.defs (F := Ideal)) (onTc (τ := Cert.WoReferenceIdeal.τ) (Cert.WoReferenceIdeal.main (F := Ideal))) ⟨m', fun _ => 0, g'⟩ (fun r => ∀ c : Dev Cert.WoReferenceIdeal.nD,
          r.2.mem ((c.tc : Thread Cert.WoReferenceIdeal.nD Cert.WoReferenceIdeal.τ).loc Cert.WoReferenceIdeal.main_v5) = v0 c
          ∧ r.2.mem ((c.tc : Thread Cert.WoReferenceIdeal.nD Cert.WoReferenceIdeal.τ).loc Cert.WoReferenceIdeal.main_arg0) = m' ((c.tc : Thread Cert.WoReferenceIdeal.nD Cert.WoReferenceIdeal.τ).loc Cert.WoReferenceIdeal.main_arg0)
          ∧ r.2.mem ((c.tc : Thread Cert.WoReferenceIdeal.nD Cert.WoReferenceIdeal.τ).loc Cert.WoReferenceIdeal.main_arg1) = m' ((c.tc : Thread Cert.WoReferenceIdeal.nD Cert.WoReferenceIdeal.τ).loc Cert.WoReferenceIdeal.main_arg1))

def preserves_UfKernel_UfKernelIdeal : Prop :=
  True

def algebraic_UfKernelIdeal_UfReferenceIdeal [hUfKernelIdeal : Cert.UfKernelIdeal.Facts] [hUfReferenceIdeal : Cert.UfReferenceIdeal.Facts] : Prop :=
  ∀ (m : (ℓ : Loc Cert.UfKernelIdeal.nD Cert.UfKernelIdeal.τ Cert.UfKernelIdeal.sig) → Buf (Elt Ideal) ℓ) (g : Dev Cert.UfKernelIdeal.nD → PrngReg)
    (m' : (ℓ : Loc Cert.UfReferenceIdeal.nD Cert.UfReferenceIdeal.τ Cert.UfReferenceIdeal.sig) → Buf (Elt Ideal) ℓ) (g' : Dev Cert.UfReferenceIdeal.nD → PrngReg), Pre_UfKernelIdeal m →
    (∀ c : Dev Cert.UfKernelIdeal.nD,
      m' ((c.tc : Thread Cert.UfReferenceIdeal.nD Cert.UfReferenceIdeal.τ).loc Cert.UfReferenceIdeal.main_arg0) = m ((c.tc : Thread Cert.UfKernelIdeal.nD Cert.UfKernelIdeal.τ).loc Cert.UfKernelIdeal.main_arg0)
      ∧ m' ((c.tc : Thread Cert.UfReferenceIdeal.nD Cert.UfReferenceIdeal.τ).loc Cert.UfReferenceIdeal.main_arg1) = m ((c.tc : Thread Cert.UfKernelIdeal.nD Cert.UfKernelIdeal.τ).loc Cert.UfKernelIdeal.main_arg1)
      ∧ m' ((c.tc : Thread Cert.UfReferenceIdeal.nD Cert.UfReferenceIdeal.τ).loc Cert.UfReferenceIdeal.main_arg2) = m ((c.tc : Thread Cert.UfKernelIdeal.nD Cert.UfKernelIdeal.τ).loc Cert.UfKernelIdeal.main_arg2)
      ∧ m' ((c.tc : Thread Cert.UfReferenceIdeal.nD Cert.UfReferenceIdeal.τ).loc Cert.UfReferenceIdeal.main_arg3) = m ((c.tc : Thread Cert.UfKernelIdeal.nD Cert.UfKernelIdeal.τ).loc Cert.UfKernelIdeal.main_arg3)
      ∧ m' ((c.tc : Thread Cert.UfReferenceIdeal.nD Cert.UfReferenceIdeal.τ).loc Cert.UfReferenceIdeal.main_arg4) = m ((c.tc : Thread Cert.UfKernelIdeal.nD Cert.UfKernelIdeal.τ).loc Cert.UfKernelIdeal.main_arg4)) →
    ∃ (v0 : (c : Dev Cert.UfKernelIdeal.nD) → Buf (Elt Ideal) ((c.tc : Thread Cert.UfKernelIdeal.nD Cert.UfKernelIdeal.τ).loc Cert.UfKernelIdeal.main_v3_0)) (v1 : (c : Dev Cert.UfKernelIdeal.nD) → Buf (Elt Ideal) ((c.tc : Thread Cert.UfKernelIdeal.nD Cert.UfKernelIdeal.τ).loc Cert.UfKernelIdeal.main_v3_1)),
      θ_run (Cert.UfKernelIdeal.defs (F := Ideal)) (onTc (τ := Cert.UfKernelIdeal.τ) (Cert.UfKernelIdeal.main (F := Ideal))) ⟨m, fun _ => 0, g⟩ (fun r => ∀ c : Dev Cert.UfKernelIdeal.nD,
          r.2.mem ((c.tc : Thread Cert.UfKernelIdeal.nD Cert.UfKernelIdeal.τ).loc Cert.UfKernelIdeal.main_v3_0) = v0 c
          ∧ r.2.mem ((c.tc : Thread Cert.UfKernelIdeal.nD Cert.UfKernelIdeal.τ).loc Cert.UfKernelIdeal.main_v3_1) = v1 c
          ∧ r.2.mem ((c.tc : Thread Cert.UfKernelIdeal.nD Cert.UfKernelIdeal.τ).loc Cert.UfKernelIdeal.main_arg0) = m ((c.tc : Thread Cert.UfKernelIdeal.nD Cert.UfKernelIdeal.τ).loc Cert.UfKernelIdeal.main_arg0)
          ∧ r.2.mem ((c.tc : Thread Cert.UfKernelIdeal.nD Cert.UfKernelIdeal.τ).loc Cert.UfKernelIdeal.main_arg1) = m ((c.tc : Thread Cert.UfKernelIdeal.nD Cert.UfKernelIdeal.τ).loc Cert.UfKernelIdeal.main_arg1)
          ∧ r.2.mem ((c.tc : Thread Cert.UfKernelIdeal.nD Cert.UfKernelIdeal.τ).loc Cert.UfKernelIdeal.main_arg2) = m ((c.tc : Thread Cert.UfKernelIdeal.nD Cert.UfKernelIdeal.τ).loc Cert.UfKernelIdeal.main_arg2)
          ∧ r.2.mem ((c.tc : Thread Cert.UfKernelIdeal.nD Cert.UfKernelIdeal.τ).loc Cert.UfKernelIdeal.main_arg3) = m ((c.tc : Thread Cert.UfKernelIdeal.nD Cert.UfKernelIdeal.τ).loc Cert.UfKernelIdeal.main_arg3)
          ∧ r.2.mem ((c.tc : Thread Cert.UfKernelIdeal.nD Cert.UfKernelIdeal.τ).loc Cert.UfKernelIdeal.main_arg4) = m ((c.tc : Thread Cert.UfKernelIdeal.nD Cert.UfKernelIdeal.τ).loc Cert.UfKernelIdeal.main_arg4))
      ∧ θ_run (Cert.UfReferenceIdeal.defs (F := Ideal)) (onTc (τ := Cert.UfReferenceIdeal.τ) (Cert.UfReferenceIdeal.main (F := Ideal))) ⟨m', fun _ => 0, g'⟩ (fun r => ∀ c : Dev Cert.UfReferenceIdeal.nD,
          r.2.mem ((c.tc : Thread Cert.UfReferenceIdeal.nD Cert.UfReferenceIdeal.τ).loc Cert.UfReferenceIdeal.main_v18) = v0 c
          ∧ r.2.mem ((c.tc : Thread Cert.UfReferenceIdeal.nD Cert.UfReferenceIdeal.τ).loc Cert.UfReferenceIdeal.main_v22) = v1 c
          ∧ r.2.mem ((c.tc : Thread Cert.UfReferenceIdeal.nD Cert.UfReferenceIdeal.τ).loc Cert.UfReferenceIdeal.main_arg0) = m' ((c.tc : Thread Cert.UfReferenceIdeal.nD Cert.UfReferenceIdeal.τ).loc Cert.UfReferenceIdeal.main_arg0)
          ∧ r.2.mem ((c.tc : Thread Cert.UfReferenceIdeal.nD Cert.UfReferenceIdeal.τ).loc Cert.UfReferenceIdeal.main_arg1) = m' ((c.tc : Thread Cert.UfReferenceIdeal.nD Cert.UfReferenceIdeal.τ).loc Cert.UfReferenceIdeal.main_arg1)
          ∧ r.2.mem ((c.tc : Thread Cert.UfReferenceIdeal.nD Cert.UfReferenceIdeal.τ).loc Cert.UfReferenceIdeal.main_arg2) = m' ((c.tc : Thread Cert.UfReferenceIdeal.nD Cert.UfReferenceIdeal.τ).loc Cert.UfReferenceIdeal.main_arg2)
          ∧ r.2.mem ((c.tc : Thread Cert.UfReferenceIdeal.nD Cert.UfReferenceIdeal.τ).loc Cert.UfReferenceIdeal.main_arg3) = m' ((c.tc : Thread Cert.UfReferenceIdeal.nD Cert.UfReferenceIdeal.τ).loc Cert.UfReferenceIdeal.main_arg3)
          ∧ r.2.mem ((c.tc : Thread Cert.UfReferenceIdeal.nD Cert.UfReferenceIdeal.τ).loc Cert.UfReferenceIdeal.main_arg4) = m' ((c.tc : Thread Cert.UfReferenceIdeal.nD Cert.UfReferenceIdeal.τ).loc Cert.UfReferenceIdeal.main_arg4))

def preserves_IfKernel_IfKernelIdeal : Prop :=
  True

def algebraic_IfKernelIdeal_IfReferenceIdeal [hIfKernelIdeal : Cert.IfKernelIdeal.Facts] [hIfReferenceIdeal : Cert.IfReferenceIdeal.Facts] : Prop :=
  ∀ (m : (ℓ : Loc Cert.IfKernelIdeal.nD Cert.IfKernelIdeal.τ Cert.IfKernelIdeal.sig) → Buf (Elt Ideal) ℓ) (g : Dev Cert.IfKernelIdeal.nD → PrngReg)
    (m' : (ℓ : Loc Cert.IfReferenceIdeal.nD Cert.IfReferenceIdeal.τ Cert.IfReferenceIdeal.sig) → Buf (Elt Ideal) ℓ) (g' : Dev Cert.IfReferenceIdeal.nD → PrngReg), Pre_IfKernelIdeal m →
    (∀ c : Dev Cert.IfKernelIdeal.nD,
      m' ((c.tc : Thread Cert.IfReferenceIdeal.nD Cert.IfReferenceIdeal.τ).loc Cert.IfReferenceIdeal.main_arg0) = m ((c.tc : Thread Cert.IfKernelIdeal.nD Cert.IfKernelIdeal.τ).loc Cert.IfKernelIdeal.main_arg0)
      ∧ m' ((c.tc : Thread Cert.IfReferenceIdeal.nD Cert.IfReferenceIdeal.τ).loc Cert.IfReferenceIdeal.main_arg1) = m ((c.tc : Thread Cert.IfKernelIdeal.nD Cert.IfKernelIdeal.τ).loc Cert.IfKernelIdeal.main_arg1)
      ∧ m' ((c.tc : Thread Cert.IfReferenceIdeal.nD Cert.IfReferenceIdeal.τ).loc Cert.IfReferenceIdeal.main_arg2) = m ((c.tc : Thread Cert.IfKernelIdeal.nD Cert.IfKernelIdeal.τ).loc Cert.IfKernelIdeal.main_arg2)
      ∧ m' ((c.tc : Thread Cert.IfReferenceIdeal.nD Cert.IfReferenceIdeal.τ).loc Cert.IfReferenceIdeal.main_arg3) = m ((c.tc : Thread Cert.IfKernelIdeal.nD Cert.IfKernelIdeal.τ).loc Cert.IfKernelIdeal.main_arg3)
      ∧ m' ((c.tc : Thread Cert.IfReferenceIdeal.nD Cert.IfReferenceIdeal.τ).loc Cert.IfReferenceIdeal.main_arg4) = m ((c.tc : Thread Cert.IfKernelIdeal.nD Cert.IfKernelIdeal.τ).loc Cert.IfKernelIdeal.main_arg4)) →
    ∃ (v0 : (c : Dev Cert.IfKernelIdeal.nD) → Buf (Elt Ideal) ((c.tc : Thread Cert.IfKernelIdeal.nD Cert.IfKernelIdeal.τ).loc Cert.IfKernelIdeal.main_v3_0)) (v1 : (c : Dev Cert.IfKernelIdeal.nD) → Buf (Elt Ideal) ((c.tc : Thread Cert.IfKernelIdeal.nD Cert.IfKernelIdeal.τ).loc Cert.IfKernelIdeal.main_v3_1)),
      θ_run (Cert.IfKernelIdeal.defs (F := Ideal)) (onTc (τ := Cert.IfKernelIdeal.τ) (Cert.IfKernelIdeal.main (F := Ideal))) ⟨m, fun _ => 0, g⟩ (fun r => ∀ c : Dev Cert.IfKernelIdeal.nD,
          r.2.mem ((c.tc : Thread Cert.IfKernelIdeal.nD Cert.IfKernelIdeal.τ).loc Cert.IfKernelIdeal.main_v3_0) = v0 c
          ∧ r.2.mem ((c.tc : Thread Cert.IfKernelIdeal.nD Cert.IfKernelIdeal.τ).loc Cert.IfKernelIdeal.main_v3_1) = v1 c
          ∧ r.2.mem ((c.tc : Thread Cert.IfKernelIdeal.nD Cert.IfKernelIdeal.τ).loc Cert.IfKernelIdeal.main_arg0) = m ((c.tc : Thread Cert.IfKernelIdeal.nD Cert.IfKernelIdeal.τ).loc Cert.IfKernelIdeal.main_arg0)
          ∧ r.2.mem ((c.tc : Thread Cert.IfKernelIdeal.nD Cert.IfKernelIdeal.τ).loc Cert.IfKernelIdeal.main_arg1) = m ((c.tc : Thread Cert.IfKernelIdeal.nD Cert.IfKernelIdeal.τ).loc Cert.IfKernelIdeal.main_arg1)
          ∧ r.2.mem ((c.tc : Thread Cert.IfKernelIdeal.nD Cert.IfKernelIdeal.τ).loc Cert.IfKernelIdeal.main_arg2) = m ((c.tc : Thread Cert.IfKernelIdeal.nD Cert.IfKernelIdeal.τ).loc Cert.IfKernelIdeal.main_arg2)
          ∧ r.2.mem ((c.tc : Thread Cert.IfKernelIdeal.nD Cert.IfKernelIdeal.τ).loc Cert.IfKernelIdeal.main_arg3) = m ((c.tc : Thread Cert.IfKernelIdeal.nD Cert.IfKernelIdeal.τ).loc Cert.IfKernelIdeal.main_arg3)
          ∧ r.2.mem ((c.tc : Thread Cert.IfKernelIdeal.nD Cert.IfKernelIdeal.τ).loc Cert.IfKernelIdeal.main_arg4) = m ((c.tc : Thread Cert.IfKernelIdeal.nD Cert.IfKernelIdeal.τ).loc Cert.IfKernelIdeal.main_arg4))
      ∧ θ_run (Cert.IfReferenceIdeal.defs (F := Ideal)) (onTc (τ := Cert.IfReferenceIdeal.τ) (Cert.IfReferenceIdeal.main (F := Ideal))) ⟨m', fun _ => 0, g'⟩ (fun r => ∀ c : Dev Cert.IfReferenceIdeal.nD,
          r.2.mem ((c.tc : Thread Cert.IfReferenceIdeal.nD Cert.IfReferenceIdeal.τ).loc Cert.IfReferenceIdeal.main_v18) = v0 c
          ∧ r.2.mem ((c.tc : Thread Cert.IfReferenceIdeal.nD Cert.IfReferenceIdeal.τ).loc Cert.IfReferenceIdeal.main_v20) = v1 c
          ∧ r.2.mem ((c.tc : Thread Cert.IfReferenceIdeal.nD Cert.IfReferenceIdeal.τ).loc Cert.IfReferenceIdeal.main_arg0) = m' ((c.tc : Thread Cert.IfReferenceIdeal.nD Cert.IfReferenceIdeal.τ).loc Cert.IfReferenceIdeal.main_arg0)
          ∧ r.2.mem ((c.tc : Thread Cert.IfReferenceIdeal.nD Cert.IfReferenceIdeal.τ).loc Cert.IfReferenceIdeal.main_arg1) = m' ((c.tc : Thread Cert.IfReferenceIdeal.nD Cert.IfReferenceIdeal.τ).loc Cert.IfReferenceIdeal.main_arg1)
          ∧ r.2.mem ((c.tc : Thread Cert.IfReferenceIdeal.nD Cert.IfReferenceIdeal.τ).loc Cert.IfReferenceIdeal.main_arg2) = m' ((c.tc : Thread Cert.IfReferenceIdeal.nD Cert.IfReferenceIdeal.τ).loc Cert.IfReferenceIdeal.main_arg2)
          ∧ r.2.mem ((c.tc : Thread Cert.IfReferenceIdeal.nD Cert.IfReferenceIdeal.τ).loc Cert.IfReferenceIdeal.main_arg3) = m' ((c.tc : Thread Cert.IfReferenceIdeal.nD Cert.IfReferenceIdeal.τ).loc Cert.IfReferenceIdeal.main_arg3)
          ∧ r.2.mem ((c.tc : Thread Cert.IfReferenceIdeal.nD Cert.IfReferenceIdeal.τ).loc Cert.IfReferenceIdeal.main_arg4) = m' ((c.tc : Thread Cert.IfReferenceIdeal.nD Cert.IfReferenceIdeal.τ).loc Cert.IfReferenceIdeal.main_arg4))

def preserves_FfKernel_FfKernelIdeal : Prop :=
  True

def algebraic_FfKernelIdeal_FfReferenceIdeal [hFfKernelIdeal : Cert.FfKernelIdeal.Facts] [hFfReferenceIdeal : Cert.FfReferenceIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg)
    (m' : (ℓ : Loc Cert.FfReferenceIdeal.nD Cert.FfReferenceIdeal.τ Cert.FfReferenceIdeal.sig) → Buf (Elt Ideal) ℓ) (g' : Dev Cert.FfReferenceIdeal.nD → PrngReg), Pre_FfKernelIdeal m →
    (∀ c : Dev Cert.FfKernelIdeal.nD,
      m' ((c.tc : Thread Cert.FfReferenceIdeal.nD Cert.FfReferenceIdeal.τ).loc Cert.FfReferenceIdeal.main_arg0) = m ((c.tc : Thread Cert.FfKernelIdeal.nD Cert.FfKernelIdeal.τ).loc Cert.FfKernelIdeal.main_arg0)
      ∧ m' ((c.tc : Thread Cert.FfReferenceIdeal.nD Cert.FfReferenceIdeal.τ).loc Cert.FfReferenceIdeal.main_arg1) = m ((c.tc : Thread Cert.FfKernelIdeal.nD Cert.FfKernelIdeal.τ).loc Cert.FfKernelIdeal.main_arg1)
      ∧ m' ((c.tc : Thread Cert.FfReferenceIdeal.nD Cert.FfReferenceIdeal.τ).loc Cert.FfReferenceIdeal.main_arg2) = m ((c.tc : Thread Cert.FfKernelIdeal.nD Cert.FfKernelIdeal.τ).loc Cert.FfKernelIdeal.main_arg2)
      ∧ m' ((c.tc : Thread Cert.FfReferenceIdeal.nD Cert.FfReferenceIdeal.τ).loc Cert.FfReferenceIdeal.main_arg3) = m ((c.tc : Thread Cert.FfKernelIdeal.nD Cert.FfKernelIdeal.τ).loc Cert.FfKernelIdeal.main_arg3)
      ∧ m' ((c.tc : Thread Cert.FfReferenceIdeal.nD Cert.FfReferenceIdeal.τ).loc Cert.FfReferenceIdeal.main_arg4) = m ((c.tc : Thread Cert.FfKernelIdeal.nD Cert.FfKernelIdeal.τ).loc Cert.FfKernelIdeal.main_arg4)
      ∧ m' ((c.tc : Thread Cert.FfReferenceIdeal.nD Cert.FfReferenceIdeal.τ).loc Cert.FfReferenceIdeal.main_arg5) = m ((c.tc : Thread Cert.FfKernelIdeal.nD Cert.FfKernelIdeal.τ).loc Cert.FfKernelIdeal.main_arg5)
      ∧ m' ((c.tc : Thread Cert.FfReferenceIdeal.nD Cert.FfReferenceIdeal.τ).loc Cert.FfReferenceIdeal.main_arg6) = m ((c.tc : Thread Cert.FfKernelIdeal.nD Cert.FfKernelIdeal.τ).loc Cert.FfKernelIdeal.main_arg6)) →
    ∃ (v0 : (c : Dev Cert.FfKernelIdeal.nD) → Buf (Elt Ideal) ((c.tc : Thread Cert.FfKernelIdeal.nD Cert.FfKernelIdeal.τ).loc Cert.FfKernelIdeal.main_v8_0)) (v1 : (c : Dev Cert.FfKernelIdeal.nD) → Buf (Elt Ideal) ((c.tc : Thread Cert.FfKernelIdeal.nD Cert.FfKernelIdeal.τ).loc Cert.FfKernelIdeal.main_v8_1)) (v2 : (c : Dev Cert.FfKernelIdeal.nD) → Buf (Elt Ideal) ((c.tc : Thread Cert.FfKernelIdeal.nD Cert.FfKernelIdeal.τ).loc Cert.FfKernelIdeal.main_v8_2)) (v3 : (c : Dev Cert.FfKernelIdeal.nD) → Buf (Elt Ideal) ((c.tc : Thread Cert.FfKernelIdeal.nD Cert.FfKernelIdeal.τ).loc Cert.FfKernelIdeal.main_v8_3)),
      θ_run (Cert.FfKernelIdeal.defs (F := Ideal)) (onTc (τ := Cert.FfKernelIdeal.τ) (Cert.FfKernelIdeal.main (F := Ideal))) ⟨m, fun _ => 0, g⟩ (fun r => ∀ c : Dev Cert.FfKernelIdeal.nD,
          r.2.mem ((c.tc : Thread Cert.FfKernelIdeal.nD Cert.FfKernelIdeal.τ).loc Cert.FfKernelIdeal.main_v8_0) = v0 c
          ∧ r.2.mem ((c.tc : Thread Cert.FfKernelIdeal.nD Cert.FfKernelIdeal.τ).loc Cert.FfKernelIdeal.main_v8_1) = v1 c
          ∧ r.2.mem ((c.tc : Thread Cert.FfKernelIdeal.nD Cert.FfKernelIdeal.τ).loc Cert.FfKernelIdeal.main_v8_2) = v2 c
          ∧ r.2.mem ((c.tc : Thread Cert.FfKernelIdeal.nD Cert.FfKernelIdeal.τ).loc Cert.FfKernelIdeal.main_v8_3) = v3 c
          ∧ r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
          ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
          ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
          ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
          ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4)
          ∧ r.2.mem ((c.tc : Thread Cert.FfKernelIdeal.nD Cert.FfKernelIdeal.τ).loc Cert.FfKernelIdeal.main_arg5) = m ((c.tc : Thread Cert.FfKernelIdeal.nD Cert.FfKernelIdeal.τ).loc Cert.FfKernelIdeal.main_arg5)
          ∧ r.2.mem ((c.tc : Thread Cert.FfKernelIdeal.nD Cert.FfKernelIdeal.τ).loc Cert.FfKernelIdeal.main_arg6) = m ((c.tc : Thread Cert.FfKernelIdeal.nD Cert.FfKernelIdeal.τ).loc Cert.FfKernelIdeal.main_arg6))
      ∧ θ_run (Cert.FfReferenceIdeal.defs (F := Ideal)) (onTc (τ := Cert.FfReferenceIdeal.τ) (Cert.FfReferenceIdeal.main (F := Ideal))) ⟨m', fun _ => 0, g'⟩ (fun r => ∀ c : Dev Cert.FfReferenceIdeal.nD,
          r.2.mem ((c.tc : Thread Cert.FfReferenceIdeal.nD Cert.FfReferenceIdeal.τ).loc Cert.FfReferenceIdeal.main_v43) = v0 c
          ∧ r.2.mem ((c.tc : Thread Cert.FfReferenceIdeal.nD Cert.FfReferenceIdeal.τ).loc Cert.FfReferenceIdeal.main_v44) = v1 c
          ∧ r.2.mem ((c.tc : Thread Cert.FfReferenceIdeal.nD Cert.FfReferenceIdeal.τ).loc Cert.FfReferenceIdeal.main_v47) = v2 c
          ∧ r.2.mem ((c.tc : Thread Cert.FfReferenceIdeal.nD Cert.FfReferenceIdeal.τ).loc Cert.FfReferenceIdeal.main_v50) = v3 c
          ∧ r.2.mem ((c.tc : Thread Cert.FfReferenceIdeal.nD Cert.FfReferenceIdeal.τ).loc Cert.FfReferenceIdeal.main_arg0) = m' ((c.tc : Thread Cert.FfReferenceIdeal.nD Cert.FfReferenceIdeal.τ).loc Cert.FfReferenceIdeal.main_arg0)
          ∧ r.2.mem ((c.tc : Thread Cert.FfReferenceIdeal.nD Cert.FfReferenceIdeal.τ).loc Cert.FfReferenceIdeal.main_arg1) = m' ((c.tc : Thread Cert.FfReferenceIdeal.nD Cert.FfReferenceIdeal.τ).loc Cert.FfReferenceIdeal.main_arg1)
          ∧ r.2.mem ((c.tc : Thread Cert.FfReferenceIdeal.nD Cert.FfReferenceIdeal.τ).loc Cert.FfReferenceIdeal.main_arg2) = m' ((c.tc : Thread Cert.FfReferenceIdeal.nD Cert.FfReferenceIdeal.τ).loc Cert.FfReferenceIdeal.main_arg2)
          ∧ r.2.mem ((c.tc : Thread Cert.FfReferenceIdeal.nD Cert.FfReferenceIdeal.τ).loc Cert.FfReferenceIdeal.main_arg3) = m' ((c.tc : Thread Cert.FfReferenceIdeal.nD Cert.FfReferenceIdeal.τ).loc Cert.FfReferenceIdeal.main_arg3)
          ∧ r.2.mem ((c.tc : Thread Cert.FfReferenceIdeal.nD Cert.FfReferenceIdeal.τ).loc Cert.FfReferenceIdeal.main_arg4) = m' ((c.tc : Thread Cert.FfReferenceIdeal.nD Cert.FfReferenceIdeal.τ).loc Cert.FfReferenceIdeal.main_arg4)
          ∧ r.2.mem ((c.tc : Thread Cert.FfReferenceIdeal.nD Cert.FfReferenceIdeal.τ).loc Cert.FfReferenceIdeal.main_arg5) = m' ((c.tc : Thread Cert.FfReferenceIdeal.nD Cert.FfReferenceIdeal.τ).loc Cert.FfReferenceIdeal.main_arg5)
          ∧ r.2.mem ((c.tc : Thread Cert.FfReferenceIdeal.nD Cert.FfReferenceIdeal.τ).loc Cert.FfReferenceIdeal.main_arg6) = m' ((c.tc : Thread Cert.FfReferenceIdeal.nD Cert.FfReferenceIdeal.τ).loc Cert.FfReferenceIdeal.main_arg6))

def Claim : Prop :=
  ∃ (hScKernel : Cert.ScKernel.Facts) (hScKernelIdeal : Cert.ScKernelIdeal.Facts) (hScReferenceIdeal : Cert.ScReferenceIdeal.Facts) (hFiKernel : Cert.FiKernel.Facts) (hFiKernelIdeal : Cert.FiKernelIdeal.Facts) (hFiReferenceIdeal : Cert.FiReferenceIdeal.Facts) (hWuKernel : Cert.WuKernel.Facts) (hWuKernelIdeal : Cert.WuKernelIdeal.Facts) (hWuReferenceIdeal : Cert.WuReferenceIdeal.Facts) (hWdKernel : Cert.WdKernel.Facts) (hWdKernelIdeal : Cert.WdKernelIdeal.Facts) (hWdReferenceIdeal : Cert.WdReferenceIdeal.Facts) (hFoKernel : Cert.FoKernel.Facts) (hFoKernelIdeal : Cert.FoKernelIdeal.Facts) (hFoReferenceIdeal : Cert.FoReferenceIdeal.Facts) (hWiKernel : Cert.WiKernel.Facts) (hWiKernelIdeal : Cert.WiKernelIdeal.Facts) (hWiReferenceIdeal : Cert.WiReferenceIdeal.Facts) (hWoKernel : Cert.WoKernel.Facts) (hWoKernelIdeal : Cert.WoKernelIdeal.Facts) (hWoReferenceIdeal : Cert.WoReferenceIdeal.Facts) (hUfKernel : Cert.UfKernel.Facts) (hUfKernelIdeal : Cert.UfKernelIdeal.Facts) (hUfReferenceIdeal : Cert.UfReferenceIdeal.Facts) (hIfKernel : Cert.IfKernel.Facts) (hIfKernelIdeal : Cert.IfKernelIdeal.Facts) (hIfReferenceIdeal : Cert.IfReferenceIdeal.Facts) (hFfKernel : Cert.FfKernel.Facts) (hFfKernelIdeal : Cert.FfKernelIdeal.Facts) (hFfReferenceIdeal : Cert.FfReferenceIdeal.Facts),
    quiescent_ScKernel (hScKernel := hScKernel)
    ∧ quiescent_ScKernelIdeal (hScKernelIdeal := hScKernelIdeal)
    ∧ quiescent_ScReferenceIdeal (hScReferenceIdeal := hScReferenceIdeal)
    ∧ quiescent_FiKernel (hFiKernel := hFiKernel)
    ∧ quiescent_FiKernelIdeal (hFiKernelIdeal := hFiKernelIdeal)
    ∧ quiescent_FiReferenceIdeal (hFiReferenceIdeal := hFiReferenceIdeal)
    ∧ quiescent_WuKernel (hWuKernel := hWuKernel)
    ∧ quiescent_WuKernelIdeal (hWuKernelIdeal := hWuKernelIdeal)
    ∧ quiescent_WuReferenceIdeal (hWuReferenceIdeal := hWuReferenceIdeal)
    ∧ quiescent_WdKernel (hWdKernel := hWdKernel)
    ∧ quiescent_WdKernelIdeal (hWdKernelIdeal := hWdKernelIdeal)
    ∧ quiescent_WdReferenceIdeal (hWdReferenceIdeal := hWdReferenceIdeal)
    ∧ quiescent_FoKernel (hFoKernel := hFoKernel)
    ∧ quiescent_FoKernelIdeal (hFoKernelIdeal := hFoKernelIdeal)
    ∧ quiescent_FoReferenceIdeal (hFoReferenceIdeal := hFoReferenceIdeal)
    ∧ quiescent_WiKernel (hWiKernel := hWiKernel)
    ∧ quiescent_WiKernelIdeal (hWiKernelIdeal := hWiKernelIdeal)
    ∧ quiescent_WiReferenceIdeal (hWiReferenceIdeal := hWiReferenceIdeal)
    ∧ quiescent_WoKernel (hWoKernel := hWoKernel)
    ∧ quiescent_WoKernelIdeal (hWoKernelIdeal := hWoKernelIdeal)
    ∧ quiescent_WoReferenceIdeal (hWoReferenceIdeal := hWoReferenceIdeal)
    ∧ quiescent_UfKernel (hUfKernel := hUfKernel)
    ∧ quiescent_UfKernelIdeal (hUfKernelIdeal := hUfKernelIdeal)
    ∧ quiescent_UfReferenceIdeal (hUfReferenceIdeal := hUfReferenceIdeal)
    ∧ quiescent_IfKernel (hIfKernel := hIfKernel)
    ∧ quiescent_IfKernelIdeal (hIfKernelIdeal := hIfKernelIdeal)
    ∧ quiescent_IfReferenceIdeal (hIfReferenceIdeal := hIfReferenceIdeal)
    ∧ quiescent_FfKernel (hFfKernel := hFfKernel)
    ∧ quiescent_FfKernelIdeal (hFfKernelIdeal := hFfKernelIdeal)
    ∧ quiescent_FfReferenceIdeal (hFfReferenceIdeal := hFfReferenceIdeal)
    ∧ preserves_ScKernel_ScKernelIdeal
    ∧ algebraic_ScKernelIdeal_ScReferenceIdeal (hScKernelIdeal := hScKernelIdeal) (hScReferenceIdeal := hScReferenceIdeal)
    ∧ preserves_FiKernel_FiKernelIdeal
    ∧ algebraic_FiKernelIdeal_FiReferenceIdeal (hFiKernelIdeal := hFiKernelIdeal) (hFiReferenceIdeal := hFiReferenceIdeal)
    ∧ preserves_WuKernel_WuKernelIdeal
    ∧ algebraic_WuKernelIdeal_WuReferenceIdeal (hWuKernelIdeal := hWuKernelIdeal) (hWuReferenceIdeal := hWuReferenceIdeal)
    ∧ preserves_WdKernel_WdKernelIdeal
    ∧ algebraic_WdKernelIdeal_WdReferenceIdeal (hWdKernelIdeal := hWdKernelIdeal) (hWdReferenceIdeal := hWdReferenceIdeal)
    ∧ preserves_FoKernel_FoKernelIdeal
    ∧ algebraic_FoKernelIdeal_FoReferenceIdeal (hFoKernelIdeal := hFoKernelIdeal) (hFoReferenceIdeal := hFoReferenceIdeal)
    ∧ preserves_WiKernel_WiKernelIdeal
    ∧ algebraic_WiKernelIdeal_WiReferenceIdeal (hWiKernelIdeal := hWiKernelIdeal) (hWiReferenceIdeal := hWiReferenceIdeal)
    ∧ preserves_WoKernel_WoKernelIdeal
    ∧ algebraic_WoKernelIdeal_WoReferenceIdeal (hWoKernelIdeal := hWoKernelIdeal) (hWoReferenceIdeal := hWoReferenceIdeal)
    ∧ preserves_UfKernel_UfKernelIdeal
    ∧ algebraic_UfKernelIdeal_UfReferenceIdeal (hUfKernelIdeal := hUfKernelIdeal) (hUfReferenceIdeal := hUfReferenceIdeal)
    ∧ preserves_IfKernel_IfKernelIdeal
    ∧ algebraic_IfKernelIdeal_IfReferenceIdeal (hIfKernelIdeal := hIfKernelIdeal) (hIfReferenceIdeal := hIfReferenceIdeal)
    ∧ preserves_FfKernel_FfKernelIdeal
    ∧ algebraic_FfKernelIdeal_FfReferenceIdeal (hFfKernelIdeal := hFfKernelIdeal) (hFfReferenceIdeal := hFfReferenceIdeal)
-- ==== ScKernel.lean ====
abbrev S16384x1024 : Shape := ⟨2, ![16384, 1024]⟩
abbrev S1x1024 : Shape := ⟨2, ![1, 1024]⟩
abbrev S1024x3072 : Shape := ⟨2, ![1024, 3072]⟩
abbrev S3x1024 : Shape := ⟨2, ![3, 1024]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S1024x3x1024 : Shape := ⟨3, ![1024, 3, 1024]⟩
abbrev S3x1024x1024 : Shape := ⟨3, ![3, 1024, 1024]⟩
abbrev S8x1024 : Shape := ⟨2, ![8, 1024]⟩
abbrev S512x1024 : Shape := ⟨2, ![512, 1024]⟩
abbrev S16x1024 : Shape := ⟨2, ![16, 1024]⟩
abbrev S512x3072 : Shape := ⟨2, ![512, 3072]⟩
abbrev S520x1024 : Shape := ⟨2, ![520, 1024]⟩
abbrev S1x1024x1024 : Shape := ⟨3, ![1, 1024, 1024]⟩
abbrev S1024x1024 : Shape := ⟨2, ![1024, 1024]⟩
abbrev S1024 : Shape := ⟨1, ![1024]⟩
abbrev S512 : Shape := ⟨1, ![512]⟩
abbrev S512x1 : Shape := ⟨2, ![512, 1]⟩

abbrev nBuf : Space → Nat
  | .hbm => 42
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S3x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x3072, .f32⟩
  | .hbm, ⟨32, _⟩ => ⟨S1024x3x1024, .f32⟩
  | .hbm, ⟨33, _⟩ => ⟨S3x1024x1024, .f32⟩
  | .hbm, ⟨34, _⟩ => ⟨S16384x1024, .bf16⟩
  | .hbm, ⟨35, _⟩ => ⟨S16384x1024, .bf16⟩
  | .hbm, ⟨36, _⟩ => ⟨S16384x3072, .bf16⟩
  | .hbm, ⟨37, _⟩ => ⟨S3x1024x1024, .bf16⟩
  | .hbm, ⟨38, _⟩ => ⟨S16384x1024, .f32⟩
  | .hbm, ⟨39, _⟩ => ⟨S16384x3072, .bf16⟩
  | .hbm, ⟨40, _⟩ => ⟨S8x1024, .f32⟩
  | .hbm, ⟨41, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S3x1024, .f32⟩
  | .local _ .vmem, ⟨9, _⟩ => ⟨S3x1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x3072, .bf16⟩
  | .local _ .vmem, ⟨19, _⟩ => ⟨S512x3072, .bf16⟩
  | .local _ .vmem, ⟨20, _⟩ => ⟨S8x1024, .f32⟩
  | .local _ .vmem, ⟨21, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ScReferenceIdeal.lean ====
abbrev S16384x1024 : Shape := ⟨2, ![16384, 1024]⟩
abbrev S1x1024 : Shape := ⟨2, ![1, 1024]⟩
abbrev S1024x3072 : Shape := ⟨2, ![1024, 3072]⟩
abbrev S3x1024 : Shape := ⟨2, ![3, 1024]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S2x1024 : Shape := ⟨2, ![2, 1024]⟩
abbrev S16386x1024 : Shape := ⟨2, ![16386, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 156
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1x1024, .f32⟩
  | 4 => ⟨S1024x3072, .f32⟩
  | 5 => ⟨S3x1024, .f32⟩
  | 6 => ⟨S16384x1024, .f32⟩
  | 7 => ⟨S16384x1024, .f32⟩
  | 8 => ⟨S16384x1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S16384x1024, .f32⟩
  | 28 => ⟨S_, .f32⟩
  | 29 => ⟨S1x1024, .f32⟩
  | 30 => ⟨S1x1024, .f32⟩
  | 31 => ⟨S16384x1024, .f32⟩
  | 32 => ⟨S16384x1024, .f32⟩
  | 33 => ⟨S16384x1024, .f32⟩
  | 34 => ⟨S16384x1024, .f32⟩
  | 35 => ⟨S16384x3072, .f32⟩
  | 36 => ⟨S16384x1024, .f32⟩
  | 37 => ⟨S16384x1024, .f32⟩
  | 38 => ⟨S16384x1024, .f32⟩
  | 39 => ⟨S16384x1024, .f32⟩
  | 40 => ⟨S_, .f32⟩
  | 41 => ⟨S2x1024, .f32⟩
  | 42 => ⟨S16386x1024, .f32⟩
  | 43 => ⟨S_, .f32⟩
  | 44 => ⟨S2x1024, .f32⟩
  | 45 => ⟨S1x1024, .f32⟩
  | 46 => ⟨S1024, .f32⟩
  | 47 => ⟨S16384x1024, .f32⟩
  | 48 => ⟨S1x1024, .f32⟩
  | 49 => ⟨S16384x1024, .f32⟩
  | 50 => ⟨S16384x1024, .f32⟩
  | 51 => ⟨S1x1024, .f32⟩
  | 52 => ⟨S1024, .f32⟩
  | 53 => ⟨S16384x1024, .f32⟩
  | 54 => ⟨S1x1024, .f32⟩
  | 55 => ⟨S16384x1024, .f32⟩
  | 56 => ⟨S16384x1024, .f32⟩
  | 57 => ⟨S16384x1024, .f32⟩
  | 58 => ⟨S1x1024, .f32⟩
  | 59 => ⟨S1024, .f32⟩
  | 60 => ⟨S16384x1024, .f32⟩
  | 61 => ⟨S1x1024, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S_, .f32⟩
  | 71 => ⟨S1024, .f32⟩
  | 72 => ⟨S1x1024, .f32⟩
  | 73 => ⟨S_, .f32⟩
  | 74 => ⟨S1024, .f32⟩
  | 75 => ⟨S_, .f32⟩
  | 76 => ⟨S16386x1024, .f32⟩
  | 77 => ⟨S1x1024, .f32⟩
  | 78 => ⟨S_, .f32⟩
  | 79 => ⟨S3x1024, .f32⟩
  | 80 => ⟨S16384x1024, .f32⟩
  | 81 => ⟨S16384x1024, .f32⟩
  | 82 => ⟨S16384x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S_, .f32⟩
  | 89 => ⟨S16386x1024, .f32⟩
  | 90 => ⟨S16386x1024, .f32⟩
  | 91 => ⟨S1x1024, .f32⟩
  | 92 => ⟨S_, .f32⟩
  | 93 => ⟨S3x1024, .f32⟩
  | 94 => ⟨S3x1024, .f32⟩
  | 95 => ⟨S16384x1024, .f32⟩
  | 96 => ⟨S16384x1024, .f32⟩
  | 97 => ⟨S16384x1024, .f32⟩
  | 98 => ⟨S_, .f32⟩
  | 99 => ⟨S1024, .f32⟩
  | 100 => ⟨S1x1024, .f32⟩
  | 101 => ⟨S_, .f32⟩
  | 102 => ⟨S1024, .f32⟩
  | 103 => ⟨S_, .f32⟩
  | 104 => ⟨S16386x1024, .f32⟩
  | 105 => ⟨S16386x1024, .f32⟩
  | 106 => ⟨S1x1024, .f32⟩
  | 107 => ⟨S_, .f32⟩
  | 108 => ⟨S3x1024, .f32⟩
  | 109 => ⟨S3x1024, .f32⟩
  | 110 => ⟨S2x1024, .f32⟩
  | 111 => ⟨S16384x1024, .f32⟩
  | 112 => ⟨S16384x1024, .f32⟩
  | 113 => ⟨S16384x1024, .f32⟩
  | 114 => ⟨S16384x3072, .f32⟩
  | 115 => ⟨S16384x1024, .f32⟩
  | 116 => ⟨S_, .f32⟩
  | 117 => ⟨S1024, .f32⟩
  | 118 => ⟨S1x1024, .f32⟩
  | 119 => ⟨S16384x1024, .f32⟩
  | 120 => ⟨S_, .f32⟩
  | 121 => ⟨S1024, .f32⟩
  | 122 => ⟨S1x1024, .f32⟩
  | 123 => ⟨S16384x1024, .f32⟩
  | 124 => ⟨S16384x1024, .f32⟩
  | 125 => ⟨S16384x1024, .f32⟩
  | 126 => ⟨S_, .f32⟩
  | 127 => ⟨S1024, .f32⟩
  | _ => ⟨S16384x1024, .f32⟩

abbrev hbmTy0_1 (i : Nat) : BufTy := match i % 128 with
  | 0 => ⟨S1x1024, .f32⟩
  | 1 => ⟨S16384x1024, .f32⟩
  | 2 => ⟨S16384x1024, .f32⟩
  | 3 => ⟨S16384x1024, .f32⟩
  | 4 => ⟨S_, .f32⟩
  | 5 => ⟨S16384, .f32⟩
  | 6 => ⟨S16384x1, .f32⟩
  | 7 => ⟨S16384x1024, .f32⟩
  | 8 => ⟨S16384x1024, .f32⟩
  | 9 => ⟨S16384x1024, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S_, .f32⟩
  | 22 => ⟨S5x1024, .f32⟩
  | 23 => ⟨S8x1024, .f32⟩
  | 24 => ⟨S_, .f32⟩
  | 25 => ⟨S5x1024, .f32⟩
  | 26 => ⟨S8x1024, .f32⟩
  | 27 => ⟨S16384x3072, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_20 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_v107 : Ref sig .tc := ⟨.hbm, 140, rfl⟩
abbrev main_v108 : Ref sig .tc := ⟨.hbm, 141, rfl⟩
abbrev main_cst_23 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_24 : Ref sig .tc := ⟨.hbm, 149, rfl⟩
abbrev main_v115 : Ref sig .tc := ⟨.hbm, 150, rfl⟩
abbrev main_v116 : Ref sig .tc := ⟨.hbm, 151, rfl⟩
abbrev main_cst_25 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩

abbrev nD : Nat := 1
abbrev τ : Topo := Topo.v7x

variable {F : FTy → Type} [FloatOps F]
-- ==== FiKernel.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x8x704 : Shape := ⟨3, ![16384, 8, 704]⟩
abbrev S8x16384x704 : Shape := ⟨3, ![8, 16384, 704]⟩
abbrev S3x4x704 : Shape := ⟨3, ![3, 4, 704]⟩
abbrev S4x3x704 : Shape := ⟨3, ![4, 3, 704]⟩
abbrev S4x16384x704 : Shape := ⟨3, ![4, 16384, 704]⟩
abbrev S16384x4x704 : Shape := ⟨3, ![16384, 4, 704]⟩
abbrev S5632x1024 : Shape := ⟨2, ![5632, 1024]⟩
abbrev S8x704x1024 : Shape := ⟨3, ![8, 704, 1024]⟩
abbrev S8x1024 : Shape := ⟨2, ![8, 1024]⟩
abbrev S4x8x704 : Shape := ⟨3, ![4, 8, 704]⟩
abbrev S4x512x704 : Shape := ⟨3, ![4, 512, 704]⟩
abbrev S4x16x704 : Shape := ⟨3, ![4, 16, 704]⟩
abbrev S512x1024 : Shape := ⟨2, ![512, 1024]⟩
abbrev S1x512x704 : Shape := ⟨3, ![1, 512, 704]⟩
abbrev S512x704 : Shape := ⟨2, ![512, 704]⟩
abbrev S1x8x704 : Shape := ⟨3, ![1, 8, 704]⟩
abbrev S8x704 : Shape := ⟨2, ![8, 704]⟩
abbrev S520x704 : Shape := ⟨2, ![520, 704]⟩
abbrev S1x1x704 : Shape := ⟨3, ![1, 1, 704]⟩
abbrev S1x704 : Shape := ⟨2, ![1, 704]⟩
abbrev S1x704x1024 : Shape := ⟨3, ![1, 704, 1024]⟩
abbrev S704x1024 : Shape := ⟨2, ![704, 1024]⟩
abbrev S704 : Shape := ⟨1, ![704]⟩
abbrev S512 : Shape := ⟨1, ![512]⟩
abbrev S512x1 : Shape := ⟨2, ![512, 1]⟩
abbrev S1024 : Shape := ⟨1, ![1024]⟩

abbrev nBuf : Space → Nat
  | .hbm => 53
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S3x2816, .f32⟩
  | .hbm, ⟨6, _⟩ => ⟨S16384x2816, .f32⟩
  | .hbm, ⟨7, _⟩ => ⟨S16384x2816, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x5632, .f32⟩
  | .hbm, ⟨32, _⟩ => ⟨S16384x8x704, .f32⟩
  | .hbm, ⟨33, _⟩ => ⟨S8x16384x704, .f32⟩
  | .hbm, ⟨34, _⟩ => ⟨S8x16384x704, .bf16⟩
  | .hbm, ⟨35, _⟩ => ⟨S3x4x704, .f32⟩
  | .hbm, ⟨36, _⟩ => ⟨S4x3x704, .f32⟩
  | .hbm, ⟨37, _⟩ => ⟨S_, .f32⟩
  | .hbm, ⟨38, _⟩ => ⟨S4x16384x704, .f32⟩
  | .hbm, ⟨39, _⟩ => ⟨S16384x4x704, .f32⟩
  | .hbm, ⟨40, _⟩ => ⟨S4x16384x704, .f32⟩
  | .hbm, ⟨41, _⟩ => ⟨S8x16384x704, .f32⟩
  | .hbm, ⟨42, _⟩ => ⟨S8x16384x704, .bf16⟩
  | .hbm, ⟨43, _⟩ => ⟨S5632x1024, .f32⟩
  | .hbm, ⟨44, _⟩ => ⟨S8x704x1024, .f32⟩
  | .hbm, ⟨45, _⟩ => ⟨S8x704x1024, .bf16⟩
  | .hbm, ⟨46, _⟩ => ⟨S16384x4x704, .f32⟩
  | .hbm, ⟨47, _⟩ => ⟨S4x16384x704, .f32⟩
  | .hbm, ⟨48, _⟩ => ⟨S4x16384x704, .bf16⟩
  | .hbm, ⟨49, _⟩ => ⟨S16384x1024, .f32⟩
  | .hbm, ⟨50, _⟩ => ⟨S4x16384x704, .bf16⟩
  | .hbm, ⟨51, _⟩ => ⟨S8x1024, .f32⟩
  | .hbm, ⟨52, _⟩ => ⟨S4x8x704, .f32⟩
  | .local _ .vmem, ⟨0, _⟩ => ⟨S4x512x704, .bf16⟩
  | .local _ .vmem, ⟨1, _⟩ => ⟨S4x512x704, .bf16⟩
  | .local _ .vmem, ⟨2, _⟩ => ⟨S4x16x704, .bf16⟩
  | .local _ .vmem, ⟨3, _⟩ => ⟨S4x16x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x3x704, .f32⟩
  | .local _ .vmem, ⟨9, _⟩ => ⟨S8x704x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S4x512x704, .bf16⟩
  | .local _ .vmem, ⟨19, _⟩ => ⟨S4x512x704, .bf16⟩
  | .local _ .vmem, ⟨20, _⟩ => ⟨S8x1024, .f32⟩
  | .local _ .vmem, ⟨21, _⟩ => ⟨S4x8x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v35_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x8x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FiReferenceIdeal.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S2x2816 : Shape := ⟨2, ![2, 2816]⟩
abbrev S16386x2816 : Shape := ⟨2, ![16386, 2816]⟩
abbrev S1x2816 : Shape := ⟨2, ![1, 2816]⟩
abbrev S2816 : Shape := ⟨1, ![2816]⟩
abbrev S1024 : Shape := ⟨1, ![1024]⟩
abbrev S16384x4x704 : Shape := ⟨3, ![16384, 4, 704]⟩
abbrev S4x16384x704 : Shape := ⟨3, ![4, 16384, 704]⟩
abbrev S5x1024 : Shape := ⟨2, ![5, 1024]⟩
abbrev S8x1024 : Shape := ⟨2, ![8, 1024]⟩
abbrev S4x2816 : Shape := ⟨2, ![4, 2816]⟩
abbrev S8x2816 : Shape := ⟨2, ![8, 2816]⟩
abbrev S8x4x704 : Shape := ⟨3, ![8, 4, 704]⟩
abbrev S4x8x704 : Shape := ⟨3, ![4, 8, 704]⟩

abbrev nBuf : Space → Nat
  | .hbm => 159
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1x1024, .f32⟩
  | 4 => ⟨S1024x5632, .f32⟩
  | 5 => ⟨S3x2816, .f32⟩
  | 6 => ⟨S16384x2816, .f32⟩
  | 7 => ⟨S16384x2816, .f32⟩
  | 8 => ⟨S16384x1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S16384x1024, .f32⟩
  | 28 => ⟨S_, .f32⟩
  | 29 => ⟨S1x1024, .f32⟩
  | 30 => ⟨S1x1024, .f32⟩
  | 31 => ⟨S16384x1024, .f32⟩
  | 32 => ⟨S16384x1024, .f32⟩
  | 33 => ⟨S16384x1024, .f32⟩
  | 34 => ⟨S16384x1024, .f32⟩
  | 35 => ⟨S16384x5632, .f32⟩
  | 36 => ⟨S16384x2816, .f32⟩
  | 37 => ⟨S16384x2816, .f32⟩
  | 38 => ⟨S_, .f32⟩
  | 39 => ⟨S2x2816, .f32⟩
  | 40 => ⟨S16386x2816, .f32⟩
  | 41 => ⟨S_, .f32⟩
  | 42 => ⟨S2x2816, .f32⟩
  | 43 => ⟨S1x2816, .f32⟩
  | 44 => ⟨S2816, .f32⟩
  | 45 => ⟨S16384x2816, .f32⟩
  | 46 => ⟨S1x2816, .f32⟩
  | 47 => ⟨S16384x2816, .f32⟩
  | 48 => ⟨S16384x2816, .f32⟩
  | 49 => ⟨S1x2816, .f32⟩
  | 50 => ⟨S2816, .f32⟩
  | 51 => ⟨S16384x2816, .f32⟩
  | 52 => ⟨S1x2816, .f32⟩
  | 53 => ⟨S16384x2816, .f32⟩
  | 54 => ⟨S16384x2816, .f32⟩
  | 55 => ⟨S16384x2816, .f32⟩
  | 56 => ⟨S1x2816, .f32⟩
  | 57 => ⟨S2816, .f32⟩
  | 58 => ⟨S16384x2816, .f32⟩
  | 59 => ⟨S1x2816, .f32⟩
  | 60 => ⟨S16384x2816, .f32⟩
  | 61 => ⟨S16384x2816, .f32⟩
  | 62 => ⟨S16384x2816, .f32⟩
  | 63 => ⟨S16384x2816, .f32⟩
  | 64 => ⟨S16384x2816, .f32⟩
  | 65 => ⟨S16384x2816, .f32⟩
  | 66 => ⟨S16384x2816, .f32⟩
  | 67 => ⟨S16384x2816, .f32⟩
  | 68 => ⟨S_, .f32⟩
  | 69 => ⟨S2816, .f32⟩
  | 70 => ⟨S1x2816, .f32⟩
  | 71 => ⟨S_, .f32⟩
  | 72 => ⟨S2816, .f32⟩
  | 73 => ⟨S_, .f32⟩
  | 74 => ⟨S16386x2816, .f32⟩
  | 75 => ⟨S1x2816, .f32⟩
  | 76 => ⟨S_, .f32⟩
  | 77 => ⟨S3x2816, .f32⟩
  | 78 => ⟨S16384x2816, .f32⟩
  | 79 => ⟨S16384x2816, .f32⟩
  | 80 => ⟨S16384x2816, .f32⟩
  | 81 => ⟨S_, .f32⟩
  | 82 => ⟨S2816, .f32⟩
  | 83 => ⟨S1x2816, .f32⟩
  | 84 => ⟨S_, .f32⟩
  | 85 => ⟨S2816, .f32⟩
  | 86 => ⟨S_, .f32⟩
  | 87 => ⟨S16386x2816, .f32⟩
  | 88 => ⟨S16386x2816, .f32⟩
  | 89 => ⟨S1x2816, .f32⟩
  | 90 => ⟨S_, .f32⟩
  | 91 => ⟨S3x2816, .f32⟩
  | 92 => ⟨S3x2816, .f32⟩
  | 93 => ⟨S16384x2816, .f32⟩
  | 94 => ⟨S16384x2816, .f32⟩
  | 95 => ⟨S16384x2816, .f32⟩
  | 96 => ⟨S_, .f32⟩
  | 97 => ⟨S2816, .f32⟩
  | 98 => ⟨S1x2816, .f32⟩
  | 99 => ⟨S_, .f32⟩
  | 100 => ⟨S2816, .f32⟩
  | 101 => ⟨S_, .f32⟩
  | 102 => ⟨S16386x2816, .f32⟩
  | 103 => ⟨S16386x2816, .f32⟩
  | 104 => ⟨S1x2816, .f32⟩
  | 105 => ⟨S_, .f32⟩
  | 106 => ⟨S3x2816, .f32⟩
  | 107 => ⟨S3x2816, .f32⟩
  | 108 => ⟨S2x2816, .f32⟩
  | 109 => ⟨S16384x2816, .f32⟩
  | 110 => ⟨S16384x5632, .f32⟩
  | 111 => ⟨S16384x1024, .f32⟩
  | 112 => ⟨S_, .f32⟩
  | 113 => ⟨S1024, .f32⟩
  | 114 => ⟨S1x1024, .f32⟩
  | 115 => ⟨S16384x1024, .f32⟩
  | 116 => ⟨S_, .f32⟩
  | 117 => ⟨S1024, .f32⟩
  | 118 => ⟨S1x1024, .f32⟩
  | 119 => ⟨S16384x1024, .f32⟩
  | 120 => ⟨S16384x1024, .f32⟩
  | 121 => ⟨S16384x1024, .f32⟩
  | 122 => ⟨S_, .f32⟩
  | 123 => ⟨S1024, .f32⟩
  | 124 => ⟨S1x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S_, .f32⟩
  | 1 => ⟨S16384, .f32⟩
  | 2 => ⟨S16384x1, .f32⟩
  | 3 => ⟨S16384x1024, .f32⟩
  | 4 => ⟨S16384x1024, .f32⟩
  | 5 => ⟨S16384x1024, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384, .f32⟩
  | 12 => ⟨S16384x1024, .f32⟩
  | 13 => ⟨S16384x1024, .f32⟩
  | 14 => ⟨S16384x1024, .f32⟩
  | 15 => ⟨S16384x1024, .f32⟩
  | 16 => ⟨S16384x1024, .f32⟩
  | 17 => ⟨S16384x2816, .f32⟩
  | 18 => ⟨S16384x4x704, .f32⟩
  | 19 => ⟨S4x16384x704, .f32⟩
  | 20 => ⟨S4x16384x704, .bf16⟩
  | 21 => ⟨S_, .f32⟩
  | 22 => ⟨S5x1024, .f32⟩
  | 23 => ⟨S8x1024, .f32⟩
  | 24 => ⟨S_, .f32⟩
  | 25 => ⟨S1x2816, .f32⟩
  | 26 => ⟨S_, .f32⟩
  | 27 => ⟨S4x2816, .f32⟩
  | 28 => ⟨S8x2816, .f32⟩
  | 29 => ⟨S8x4x704, .f32⟩
  | 30 => ⟨S4x8x704, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_21 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_22 : Ref sig .tc := ⟨.hbm, 135, rfl⟩
abbrev main_v103 : Ref sig .tc := ⟨.hbm, 136, rfl⟩
abbrev main_v104 : Ref sig .tc := ⟨.hbm, 137, rfl⟩
abbrev main_cst_23 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_24 : Ref sig .tc := ⟨.hbm, 149, rfl⟩
abbrev main_v115 : Ref sig .tc := ⟨.hbm, 150, rfl⟩
abbrev main_v116 : Ref sig .tc := ⟨.hbm, 151, rfl⟩
abbrev main_cst_25 : Ref sig .tc := ⟨.hbm, 152, rfl⟩
abbrev main_v117 : Ref sig .tc := ⟨.hbm, 153, rfl⟩
abbrev main_cst_26 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩

abbrev nD : Nat := 1
abbrev τ : Topo := Topo.v7x

variable {F : FTy → Type} [FloatOps F]
-- ==== WuKernel.lean ====
abbrev S16384x1024 : Shape := ⟨2, ![16384, 1024]⟩
abbrev S16384x5632 : Shape := ⟨2, ![16384, 5632]⟩
abbrev S16384x8x704 : Shape := ⟨3, ![16384, 8, 704]⟩
abbrev S8x16384x704 : Shape := ⟨3, ![8, 16384, 704]⟩
abbrev S8x704x1024 : Shape := ⟨3, ![8, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x8x704, .f32⟩
  | .hbm, ⟨3, _⟩ => ⟨S8x16384x704, .f32⟩
  | .hbm, ⟨4, _⟩ => ⟨S8x16384x704, .bf16⟩
  | .hbm, ⟨5, _⟩ => ⟨S16384x1024, .bf16⟩
  | .hbm, ⟨6, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WuReferenceIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WdKernel.lean ====
abbrev S16384x2816 : Shape := ⟨2, ![16384, 2816]⟩
abbrev S16384x1024 : Shape := ⟨2, ![16384, 1024]⟩
abbrev S16384x4x704 : Shape := ⟨3, ![16384, 4, 704]⟩
abbrev S4x16384x704 : Shape := ⟨3, ![4, 16384, 704]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x4x704, .f32⟩
  | .hbm, ⟨3, _⟩ => ⟨S4x16384x704, .f32⟩
  | .hbm, ⟨4, _⟩ => ⟨S4x16384x704, .bf16⟩
  | .hbm, ⟨5, _⟩ => ⟨S16384x1024, .bf16⟩
  | .hbm, ⟨6, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WdReferenceIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FoKernel.lean ====
abbrev S16384x2816 : Shape := ⟨2, ![16384, 2816]⟩
abbrev S2816x1024 : Shape := ⟨2, ![2816, 1024]⟩
abbrev S1x1024 : Shape := ⟨2, ![1, 1024]⟩
abbrev S16384x1024 : Shape := ⟨2, ![16384, 1024]⟩
abbrev S_ : Shape := ⟨0, ![]⟩
abbrev S4x16384x704 : Shape := ⟨3, ![4, 16384, 704]⟩
abbrev S16384x4x704 : Shape := ⟨3, ![16384, 4, 704]⟩
abbrev S8x16384x704 : Shape := ⟨3, ![8, 16384, 704]⟩
abbrev S8x1024 : Shape := ⟨2, ![8, 1024]⟩
abbrev S4x8x704 : Shape := ⟨3, ![4, 8, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1024 : Shape := ⟨1, ![1024]⟩
abbrev S512x2816 : Shape := ⟨2, ![512, 2816]⟩
abbrev S512x704 : Shape := ⟨2, ![512, 704]⟩
abbrev S1x512x704 : Shape := ⟨3, ![1, 512, 704]⟩
abbrev S1x1x704 : Shape := ⟨3, ![1, 1, 704]⟩
abbrev S1x704 : Shape := ⟨2, ![1, 704]⟩
abbrev S704 : Shape := ⟨1, ![704]⟩

abbrev nBuf : Space → Nat
  | .hbm => 33
  | .vmem => 19
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x1024, .f32⟩
  | .hbm, ⟨17, _⟩ => ⟨S_, .f32⟩
  | .hbm, ⟨18, _⟩ => ⟨S4x16384x704, .f32⟩
  | .hbm, ⟨19, _⟩ => ⟨S16384x4x704, .f32⟩
  | .hbm, ⟨20, _⟩ => ⟨S4x16384x704, .f32⟩
  | .hbm, ⟨21, _⟩ => ⟨S8x16384x704, .f32⟩
  | .hbm, ⟨22, _⟩ => ⟨S8x16384x704, .bf16⟩
  | .hbm, ⟨23, _⟩ => ⟨S16384x1024, .bf16⟩
  | .hbm, ⟨24, _⟩ => ⟨S2816x1024, .bf16⟩
  | .hbm, ⟨25, _⟩ => ⟨S16384x4x704, .f32⟩
  | .hbm, ⟨26, _⟩ => ⟨S4x16384x704, .f32⟩
  | .hbm, ⟨27, _⟩ => ⟨S4x16384x704, .bf16⟩
  | .hbm, ⟨28, _⟩ => ⟨S16384x1024, .bf16⟩
  | .hbm, ⟨29, _⟩ => ⟨S4x16384x704, .bf16⟩
  | .hbm, ⟨30, _⟩ => ⟨S4x16384x704, .bf16⟩
  | .hbm, ⟨31, _⟩ => ⟨S8x1024, .f32⟩
  | .hbm, ⟨32, _⟩ => ⟨S4x8x704, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S512x1024, .bf16⟩
  | .local _ .vmem, ⟨12, _⟩ => ⟨S512x1024, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | .local _ .vmem, ⟨17, _⟩ => ⟨S8x1024, .f32⟩
  | .local _ .vmem, ⟨18, _⟩ => ⟨S4x8x704, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v13_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x8x704 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FoReferenceIdeal.lean ====
abbrev S16384x2816 : Shape := ⟨2, ![16384, 2816]⟩
abbrev S2816x1024 : Shape := ⟨2, ![2816, 1024]⟩
abbrev S1x1024 : Shape := ⟨2, ![1, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S6x1024 : Shape := ⟨2, ![6, 1024]⟩
abbrev S8x1024 : Shape := ⟨2, ![8, 1024]⟩
abbrev S2816 : Shape := ⟨1, ![2816]⟩
abbrev S1x2816 : Shape := ⟨2, ![1, 2816]⟩
abbrev S7x2816 : Shape := ⟨2, ![7, 2816]⟩
abbrev S8x2816 : Shape := ⟨2, ![8, 2816]⟩
abbrev S16384x4x704 : Shape := ⟨3, ![16384, 4, 704]⟩
abbrev S4x16384x704 : Shape := ⟨3, ![4, 16384, 704]⟩
abbrev S8x4x704 : Shape := ⟨3, ![8, 4, 704]⟩
abbrev S4x8x704 : Shape := ⟨3, ![4, 8, 704]⟩

abbrev nBuf : Space → Nat
  | .hbm => 99
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S_, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S16384x2816, .f32⟩
  | .hbm, ⟨80, _⟩ => ⟨S16384x2816, .f32⟩
  | .hbm, ⟨81, _⟩ => ⟨S_, .f32⟩
  | .hbm, ⟨82, _⟩ => ⟨S6x1024, .f32⟩
  | .hbm, ⟨83, _⟩ => ⟨S8x1024, .f32⟩
  | .hbm, ⟨84, _⟩ => ⟨S_, .f32⟩
  | .hbm, ⟨85, _⟩ => ⟨S2816, .f32⟩
  | .hbm, ⟨86, _⟩ => ⟨S1x2816, .f32⟩
  | .hbm, ⟨87, _⟩ => ⟨S_, .f32⟩
  | .hbm, ⟨88, _⟩ => ⟨S7x2816, .f32⟩
  | .hbm, ⟨89, _⟩ => ⟨S8x2816, .f32⟩
  | .hbm, ⟨90, _⟩ => ⟨S16384x1024, .bf16⟩
  | .hbm, ⟨91, _⟩ => ⟨S16384x4x704, .f32⟩
  | .hbm, ⟨92, _⟩ => ⟨S4x16384x704, .f32⟩
  | .hbm, ⟨93, _⟩ => ⟨S4x16384x704, .bf16⟩
  | .hbm, ⟨94, _⟩ => ⟨S16384x4x704, .f32⟩
  | .hbm, ⟨95, _⟩ => ⟨S4x16384x704, .f32⟩
  | .hbm, ⟨96, _⟩ => ⟨S4x16384x704, .bf16⟩
  | .hbm, ⟨97, _⟩ => ⟨S8x4x704, .f32⟩
  | .hbm, ⟨98, _⟩ => ⟨S4x8x704, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== WiKernel.lean ====
abbrev S16384x1024 : Shape := ⟨2, ![16384, 1024]⟩
abbrev S16384x3072 : Shape := ⟨2, ![16384, 3072]⟩
abbrev S4x1024x768 : Shape := ⟨3, ![4, 1024, 768]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x1024, .bf16⟩
  | .hbm, ⟨3, _⟩ => ⟨S16384x3072, .bf16⟩
  | .hbm, ⟨4, _⟩ => ⟨S4x1024x768, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WiReferenceIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S_, .f32⟩
  | .hbm, ⟨3, _⟩ => ⟨S1024x3072, .f32⟩
  | .hbm, ⟨4, _⟩ => ⟨S16384x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | .hbm, ⟨9, _⟩ => ⟨S4x1024x768, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WoKernel.lean ====
abbrev S16384x1024 : Shape := ⟨2, ![16384, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoReferenceIdeal.lean ====
abbrev S16384x1024 : Shape := ⟨2, ![16384, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UfKernel.lean ====
abbrev S16384x1024 : Shape := ⟨2, ![16384, 1024]⟩
abbrev S1x1024 : Shape := ⟨2, ![1, 1024]⟩
abbrev S1024x5632 : Shape := ⟨2, ![1024, 5632]⟩
abbrev S5632x1024 : Shape := ⟨2, ![5632, 1024]⟩
abbrev S8x704x1024 : Shape := ⟨3, ![8, 704, 1024]⟩
abbrev S8x16384x704 : Shape := ⟨3, ![8, 16384, 704]⟩
abbrev S512x1024 : Shape := ⟨2, ![512, 1024]⟩
abbrev S8x512x704 : Shape := ⟨3, ![8, 512, 704]⟩
abbrev S512 : Shape := ⟨1, ![512]⟩
abbrev S512x1 : Shape := ⟨2, ![512, 1]⟩
abbrev S4x704x1024 : Shape := ⟨3, ![4, 704, 1024]⟩
abbrev S2816x1024 : Shape := ⟨2, ![2816, 1024]⟩
abbrev S512x2816 : Shape := ⟨2, ![512, 2816]⟩
abbrev S512x704 : Shape := ⟨2, ![512, 704]⟩
abbrev S1x512x704 : Shape := ⟨3, ![1, 512, 704]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S5632x1024, .f32⟩
  | .hbm, ⟨6, _⟩ => ⟨S8x704x1024, .f32⟩
  | .hbm, ⟨7, _⟩ => ⟨S8x704x1024, .bf16⟩
  | .hbm, ⟨8, _⟩ => ⟨S16384x1024, .bf16⟩
  | .hbm, ⟨9, _⟩ => ⟨S8x16384x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S8x704x1024, .bf16⟩
  | .local _ .vmem, ⟨6, _⟩ => ⟨S512x1024, .bf16⟩
  | .local _ .vmem, ⟨7, _⟩ => ⟨S512x1024, .bf16⟩
  | .local _ .vmem, ⟨8, _⟩ => ⟨S8x512x704, .bf16⟩
  | .local _ .vmem, ⟨9, _⟩ => ⟨S8x512x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UfReferenceIdeal.lean ====
abbrev S16384x1024 : Shape := ⟨2, ![16384, 1024]⟩
abbrev S1x1024 : Shape := ⟨2, ![1, 1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x8x704 : Shape := ⟨3, ![16384, 8, 704]⟩
abbrev S8x16384x704 : Shape := ⟨3, ![8, 16384, 704]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x5632, .f32⟩
  | .hbm, ⟨29, _⟩ => ⟨S16384x8x704, .f32⟩
  | .hbm, ⟨30, _⟩ => ⟨S8x16384x704, .f32⟩
  | .hbm, ⟨31, _⟩ => ⟨S8x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== IfKernel.lean ====
abbrev S16384x1024 : Shape := ⟨2, ![16384, 1024]⟩
abbrev S1x1024 : Shape := ⟨2, ![1, 1024]⟩
abbrev S1024x3072 : Shape := ⟨2, ![1024, 3072]⟩
abbrev S1024x3x1024 : Shape := ⟨3, ![1024, 3, 1024]⟩
abbrev S3x1024x1024 : Shape := ⟨3, ![3, 1024, 1024]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S1024x3x1024, .f32⟩
  | .hbm, ⟨6, _⟩ => ⟨S3x1024x1024, .f32⟩
  | .hbm, ⟨7, _⟩ => ⟨S3x1024x1024, .bf16⟩
  | .hbm, ⟨8, _⟩ => ⟨S16384x1024, .bf16⟩
  | .hbm, ⟨9, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S3x1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== IfReferenceIdeal.lean ====
abbrev S16384x1024 : Shape := ⟨2, ![16384, 1024]⟩
abbrev S1x1024 : Shape := ⟨2, ![1, 1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x3072, .f32⟩
  | .hbm, ⟨29, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== FfKernel.lean ====
abbrev S16384x5632 : Shape := ⟨2, ![16384, 5632]⟩
abbrev S3x2816 : Shape := ⟨2, ![3, 2816]⟩
abbrev S1x2816 : Shape := ⟨2, ![1, 2816]⟩
abbrev S2816x1024 : Shape := ⟨2, ![2816, 1024]⟩
abbrev S16384x1024 : Shape := ⟨2, ![16384, 1024]⟩
abbrev S1x1024 : Shape := ⟨2, ![1, 1024]⟩
abbrev S16384x8x704 : Shape := ⟨3, ![16384, 8, 704]⟩
abbrev S8x16384x704 : Shape := ⟨3, ![8, 16384, 704]⟩
abbrev S3x4x704 : Shape := ⟨3, ![3, 4, 704]⟩
abbrev S4x3x704 : Shape := ⟨3, ![4, 3, 704]⟩
abbrev S1x4x704 : Shape := ⟨3, ![1, 4, 704]⟩
abbrev S4x1x704 : Shape := ⟨3, ![4, 1, 704]⟩
abbrev S4x16384x704 : Shape := ⟨3, ![4, 16384, 704]⟩
abbrev S4x512x704 : Shape := ⟨3, ![4, 512, 704]⟩
abbrev S4x16x704 : Shape := ⟨3, ![4, 16, 704]⟩
abbrev S512x1024 : Shape := ⟨2, ![512, 1024]⟩
abbrev S1x512x704 : Shape := ⟨3, ![1, 512, 704]⟩
abbrev S512x704 : Shape := ⟨2, ![512, 704]⟩
abbrev S1x8x704 : Shape := ⟨3, ![1, 8, 704]⟩
abbrev S8x704 : Shape := ⟨2, ![8, 704]⟩
abbrev S520x704 : Shape := ⟨2, ![520, 704]⟩
abbrev S1x1x704 : Shape := ⟨3, ![1, 1, 704]⟩
abbrev S1x704 : Shape := ⟨2, ![1, 704]⟩
abbrev S704x1024 : Shape := ⟨2, ![704, 1024]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S16384x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x8x704, .f32⟩
  | .hbm, ⟨8, _⟩ => ⟨S8x16384x704, .f32⟩
  | .hbm, ⟨9, _⟩ => ⟨S8x16384x704, .bf16⟩
  | .hbm, ⟨10, _⟩ => ⟨S3x4x704, .f32⟩
  | .hbm, ⟨11, _⟩ => ⟨S4x3x704, .f32⟩
  | .hbm, ⟨12, _⟩ => ⟨S1x4x704, .f32⟩
  | .hbm, ⟨13, _⟩ => ⟨S4x1x704, .f32⟩
  | .hbm, ⟨14, _⟩ => ⟨S2816x1024, .bf16⟩
  | .hbm, ⟨15, _⟩ => ⟨S16384x1024, .f32⟩
  | .hbm, ⟨16, _⟩ => ⟨S16384x1024, .bf16⟩
  | .hbm, ⟨17, _⟩ => ⟨S4x16384x704, .bf16⟩
  | .hbm, ⟨18, _⟩ => ⟨S4x16384x704, .bf16⟩
  | .local _ .vmem, ⟨0, _⟩ => ⟨S4x512x704, .bf16⟩
  | .local _ .vmem, ⟨1, _⟩ => ⟨S4x512x704, .bf16⟩
  | .local _ .vmem, ⟨2, _⟩ => ⟨S4x16x704, .bf16⟩
  | .local _ .vmem, ⟨3, _⟩ => ⟨S4x16x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x3x704, .f32⟩
  | .local _ .vmem, ⟨7, _⟩ => ⟨S4x1x704, .f32⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S4x512x704, .bf16⟩
  | .local _ .vmem, ⟨18, _⟩ => ⟨S4x512x704, .bf16⟩
  | .local _ .vmem, ⟨19, _⟩ => ⟨S4x512x704, .bf16⟩
  | .local _ .vmem, ⟨20, _⟩ => ⟨S4x512x704, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfReferenceIdeal.lean ====
abbrev S16384x5632 : Shape := ⟨2, ![16384, 5632]⟩
abbrev S3x2816 : Shape := ⟨2, ![3, 2816]⟩
abbrev S1x2816 : Shape := ⟨2, ![1, 2816]⟩
abbrev S2816x1024 : Shape := ⟨2, ![2816, 1024]⟩
abbrev S16384x1024 : Shape := ⟨2, ![16384, 1024]⟩
abbrev S1x1024 : Shape := ⟨2, ![1, 1024]⟩
abbrev S16384x2816 : Shape := ⟨2, ![16384, 2816]⟩
abbrev S_ : Shape := ⟨0, ![]⟩
abbrev S2x2816 : Shape := ⟨2, ![2, 2816]⟩
abbrev S16386x2816 : Shape := ⟨2, ![16386, 2816]⟩
abbrev S2816 : Shape := ⟨1, ![2816]⟩
abbrev S16384 : Shape := ⟨1, ![16384]⟩
abbrev S16384x1 : Shape := ⟨2, ![16384, 1]⟩
abbrev S16384x4x704 : Shape := ⟨3, ![16384, 4, 704]⟩
abbrev S4x16384x704 : Shape := ⟨3, ![4, 16384, 704]⟩

abbrev nBuf : Space → Nat
  | .hbm => 70
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S2x2816, .f32⟩
  | .hbm, ⟨11, _⟩ => ⟨S16386x2816, .f32⟩
  | .hbm, ⟨12, _⟩ => ⟨S1x2816, .f32⟩
  | .hbm, ⟨13, _⟩ => ⟨S2816, .f32⟩
  | .hbm, ⟨14, _⟩ => ⟨S16384x2816, .f32⟩
  | .hbm, ⟨15, _⟩ => ⟨S1x2816, .f32⟩
  | .hbm, ⟨16, _⟩ => ⟨S16384x2816, .f32⟩
  | .hbm, ⟨17, _⟩ => ⟨S16384x2816, .f32⟩
  | .hbm, ⟨18, _⟩ => ⟨S1x2816, .f32⟩
  | .hbm, ⟨19, _⟩ => ⟨S2816, .f32⟩
  | .hbm, ⟨20, _⟩ => ⟨S16384x2816, .f32⟩
  | .hbm, ⟨21, _⟩ => ⟨S1x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S1x2816, .f32⟩
  | .hbm, ⟨26, _⟩ => ⟨S2816, .f32⟩
  | .hbm, ⟨27, _⟩ => ⟨S16384x2816, .f32⟩
  | .hbm, ⟨28, _⟩ => ⟨S1x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .bf16⟩
  | .hbm, ⟨64, _⟩ => ⟨S16384x4x704, .f32⟩
  | .hbm, ⟨65, _⟩ => ⟨S4x16384x704, .f32⟩
  | .hbm, ⟨66, _⟩ => ⟨S4x16384x704, .bf16⟩
  | .hbm, ⟨67, _⟩ => ⟨S16384x4x704, .f32⟩
  | .hbm, ⟨68, _⟩ => ⟨S4x16384x704, .f32⟩
  | .hbm, ⟨69, _⟩ => ⟨S4x16384x704, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_0 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.ScSpec.lean ====
/-
  The gated short convolution's input gradient, entry by entry over the extended reals: the gradient of the gate's
  product moved two rows up through the causal convolution, the projection's gradient, the affine map's sums and the
  normalisation's gradient. Both programs are brought to these functions of matrices.
-/
module

public import Idealize.ShloMosaic.PureOps.Ideal
public import Idealize.ShloMosaic.PureOps.Ideal.Laws

@[expose] public section
noncomputable section
namespace Cert.Sc
open Idealize.ShloMosaic

/-- A matrix of extended reals. -/
abbrev Mat (a b : ℕ) := Fin a → Fin b → EReal

/-- The column of the projection that holds entry `d` of its second third. -/
abbrev mid (d : Fin 1024) : Fin 3072 := ⟨1024 + d.val, by omega⟩
/-- The column of the projection that holds entry `d` of its last third. -/
abbrev hig (d : Fin 1024) : Fin 3072 := ⟨2048 + d.val, by omega⟩
/-- The column of the projection that holds entry `d` of its first third. -/
abbrev low (d : Fin 1024) : Fin 3072 := ⟨d.val, by omega⟩

/-- The rows `k` below, zero past the end. -/
def up (du : Mat 16384 1024) (k : ℕ) : Mat 16384 1024 := fun t d =>
  if h : t.val + k < 16384 then du ⟨t.val + k, h⟩ d else 0

/-- The gradient of the convolution's input. -/
def dz (cw : Mat 3 1024) (du : Mat 16384 1024) : Mat 16384 1024 := fun t d =>
  cw 2 d * du t d + cw 1 d * up du 1 t d + cw 0 d * up du 2 t d

/-- The gradient of the projection's output, its three parts side by side. -/
def dp (cw : Mat 3 1024) (dbg du : Mat 16384 1024) (p : Mat 16384 3072) : Mat 16384 3072 := fun t k =>
  if h : k.val < 1024 then dbg t ⟨k.val, h⟩
  else if h2 : k.val < 2048 then dz cw du t ⟨k.val - 1024, by omega⟩ * p t (hig ⟨k.val - 1024, by omega⟩)
  else dz cw du t ⟨k.val - 2048, by omega⟩ * p t (mid ⟨k.val - 2048, by omega⟩)

/-- The gradient of the projection's input. -/
def dh (cw : Mat 3 1024) (dbg du : Mat 16384 1024) (p : Mat 16384 3072) (w : Mat 1024 3072) : Mat 16384 1024 := fun t j =>
  (∑ k : Fin 1024, dbg t k * w j (low k)) + (∑ k : Fin 1024, dz cw du t k * p t (hig k) * w j (mid k))
    + ∑ k : Fin 1024, dz cw du t k * p t (mid k) * w j (hig k)

/-- One token's part of row `a` of the sums that are the gradient of the convolution's weights. -/
def gcwT (du : Mat 16384 1024) (p : Mat 16384 3072) (a : Fin 8) : Mat 16384 1024 := fun t d =>
  if a.val = 0 then p t (mid d) * p t (hig d) * up du 2 t d
  else if a.val = 1 then p t (mid d) * p t (hig d) * up du 1 t d
  else if a.val = 2 then p t (mid d) * p t (hig d) * du t d
  else 0

/-- The argument of the row's root. -/
def ms (x : Mat 16384 1024) (t : Fin 16384) : EReal :=
  Ideal.div (∑ k, x t k * x t k) (Ideal.ofBits .f32 0x44800000#32) + Ideal.ofBits .f32 0x358637BD#32

/-- The row's reciprocal root. -/
def rs (x : Mat 16384 1024) (t : Fin 16384) : EReal := Ideal.rsqrt (ms x t)

/-- The projection of the normalised and modulated rows. -/
def proj (x : Mat 16384 1024) (g sc sh : Fin 1024 → EReal) (w : Mat 1024 3072) : Mat 16384 3072 := fun t k =>
  ∑ j, (x t j * rs x t * g j * (1 + sc j) + sh j) * w j k

/-- One token's part of row `a` of the sums that are the gradients of the affine map: of the shift, the scale, the gain. -/
def stT (x h : Mat 16384 1024) (g sc : Fin 1024 → EReal) (a : Fin 8) : Mat 16384 1024 := fun t d =>
  if a.val = 0 then h t d
  else if a.val = 1 then h t d * (x t d * rs x t * g d)
  else if a.val = 2 then h t d * (1 + sc d) * (x t d * rs x t)
  else 0

/-- The gradient of the normalisation's input, in the centred form. -/
def dx (x h o : Mat 16384 1024) (g sc : Fin 1024 → EReal) : Mat 16384 1024 := fun t j =>
  o t j + rs x t * (h t j * (1 + sc j) * g j
    - x t j * rs x t * Ideal.div (∑ k, h t k * (1 + sc k) * g k * (x t k * rs x t)) (Ideal.ofBits .f32 0x44800000#32))

/-- Moving one factor of a sum of products down by `k` rows is moving the other up. -/
theorem sum_shift {N : ℕ} (k : ℕ) (hk : k ≤ N) (z u : Fin N → EReal) :
    (∑ t : Fin N, z t * (if h : t.val + k < N then u ⟨t.val + k, h⟩ else 0))
      = ∑ t : Fin N, u t * (if h : k ≤ t.val then z ⟨t.val - k, by omega⟩ else 0) := by
  obtain ⟨M, rfl⟩ := Nat.exists_eq_add_of_le hk
  set Z : ℕ → EReal := fun i => if h : i < k + M then z ⟨i, h⟩ else 0 with hZ
  set U : ℕ → EReal := fun i => if h : i < k + M then u ⟨i, h⟩ else 0 with hU
  have hl : (∑ t : Fin (k + M), z t * (if h : t.val + k < k + M then u ⟨t.val + k, h⟩ else 0))
      = ∑ i ∈ Finset.range (M + k), Z i * U (i + k) := by
    rw [add_comm M k, ← Fin.sum_univ_eq_sum_range (fun i => Z i * U (i + k))]
    exact Finset.sum_congr rfl fun t _ => by simp only [hZ, hU, t.isLt, dif_pos]
  have hr : (∑ t : Fin (k + M), u t * (if h : k ≤ t.val then z ⟨t.val - k, by omega⟩ else 0))
      = ∑ i ∈ Finset.range (k + M), U i * (if k ≤ i then Z (i - k) else 0) := by
    rw [← Fin.sum_univ_eq_sum_range (fun i => U i * (if k ≤ i then Z (i - k) else 0))]
    refine Finset.sum_congr rfl fun t _ => ?_
    by_cases h : k ≤ t.val
    · have : t.val - k < k + M := by omega
      simp only [hZ, hU, t.isLt, dif_pos, h, if_pos, this]
    · simp only [dif_neg h, if_neg h, mul_zero]
  rw [hl, hr, Finset.sum_range_add, Finset.sum_range_add]
  have h0 : ∑ x ∈ Finset.range k, Z (M + x) * U (M + x + k) = 0 :=
    Finset.sum_eq_zero fun x _ => by simp only [hU, dif_neg (show ¬ M + x + k < k + M by omega), mul_zero]
  have h1 : ∑ x ∈ Finset.range k, U x * (if k ≤ x then Z (x - k) else 0) = 0 :=
    Finset.sum_eq_zero fun x hx => by rw [if_neg (by have := Finset.mem_range.mp hx; omega), mul_zero]
  rw [h0, h1, add_zero, zero_add]
  exact Finset.sum_congr rfl fun x _ => by
    rw [if_pos (by omega), Nat.add_sub_cancel_left, mul_comm, add_comm x k]

end Cert.Sc
end
-- ==== Proof.ScBlocks.lean ====
/-
  The blocks the gated convolution's gradient kernel reads at a grid point, entry by entry: row `r` of the point's block
  of 512 rows is row `512 t + r` of the array, the projection's weights are read third by third, and the eight rows below
  the block are the next block's first rows.
-/
module

public import proofs.«01_k».proof.Proof.Gen.ScKernelIdeal.Frame
public import proofs.«01_k».proof.Proof.ScSpec
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Sc
namespace Cert.ScKernelIdeal.Hand
open Cert.ScKernelIdeal Cert.ScKernelIdeal.Gen
variable (m : (ℓ : Loc nD τ sig) → Buf (Elt Ideal) ℓ) (c : Dev nD)

/-- The arguments as matrices. -/
def mX : Mat 16384 1024 := fun t d => (m ((c : Thread nD τ).loc main_arg0) : Vec Ideal S16384x1024 .f32) (ix2 t d)
@[inherit_doc mX] def mG : Fin 1024 → EReal := fun d => (m ((c : Thread nD τ).loc main_arg1) : Vec Ideal S1x1024 .f32) (ix2 0 d)
@[inherit_doc mX] def mSc : Fin 1024 → EReal := fun d => (m ((c : Thread nD τ).loc main_arg2) : Vec Ideal S1x1024 .f32) (ix2 0 d)
@[inherit_doc mX] def mSh : Fin 1024 → EReal := fun d => (m ((c : Thread nD τ).loc main_arg3) : Vec Ideal S1x1024 .f32) (ix2 0 d)
@[inherit_doc mX] def mW : Mat 1024 3072 := fun t d => (m ((c : Thread nD τ).loc main_arg4) : Vec Ideal S1024x3072 .f32) (ix2 t d)
@[inherit_doc mX] def mCw : Mat 3 1024 := fun t d => (m ((c : Thread nD τ).loc main_arg5) : Vec Ideal S3x1024 .f32) (ix2 t d)
@[inherit_doc mX] def mDbg : Mat 16384 1024 := fun t d => (m ((c : Thread nD τ).loc main_arg6) : Vec Ideal S16384x1024 .f32) (ix2 t d)
@[inherit_doc mX] def mDu : Mat 16384 1024 := fun t d => (m ((c : Thread nD τ).loc main_arg7) : Vec Ideal S16384x1024 .f32) (ix2 t d)
@[inherit_doc mX] def mDxo : Mat 16384 1024 := fun t d => (m ((c : Thread nD τ).loc main_arg8) : Vec Ideal S16384x1024 .f32) (ix2 t d)

/-- The projection the host hands the kernel, entry by entry. -/
def mP : Mat 16384 3072 := proj (mX m c) (mG m c) (mSc m c) (mSh m c) (mW m c)

theorem idx : ∀ t : Fin cfg0.N, win0_0.index t = ![t.val, 0] ∧ win0_1.index t = ![min (32 * t.val + 32) 1023, 0]
    ∧ win0_2.index t = ![t.val, 0] ∧ win0_3.index t = ![t.val, 0] ∧ win0_4.index t = ![0, 0] ∧ win0_5.index t = ![0, 0, 0]
    ∧ win0_6.index t = ![t.val, 0] ∧ win0_7.index t = ![0, 0] ∧ win0_8.index t = ![0, 0] ∧ win0_9.index t = ![t.val, 0]
    ∧ win0_10.index t = ![t.val, 0] ∧ win0_11.index t = ![t.val, 0] ∧ win0_12.index t = ![0, 0] ∧ win0_13.index t = ![0, 0] :=
  (by decide +kernel : ∀ t : Fin grid0.N, _)

theorem coord : ∀ t : Fin cfg0.N, (grid0.coords t 0).val = t.val := (by decide +kernel : ∀ t : Fin grid0.N, _)

theorem lt32 (t : Fin cfg0.N) : t.val < 32 := lt_of_lt_of_eq t.isLt N_0

/-- The array's row that is row `r` of the block at `t`. -/
abbrev row (t : Fin cfg0.N) (r : Fin 512) : Fin 16384 := ⟨512 * t.val + r.val, by have := lt32 t; omega⟩

theorem ib0 (t : Fin cfg0.N) (r : Fin 512) (d : Fin 1024) : iblk m c 0 t (ix2 r d) = mDu m c (row t r) d := by
  blk_point [iblk, V, idx t]
theorem ib1 (t : Fin cfg0.N) (r : Fin 16) (d : Fin 1024) :
    iblk m c 1 t (ix2 r d) = mDu m c ⟨16 * min (32 * t.val + 32) 1023 + r.val, by omega⟩ d := by
  blk_point [iblk, V, idx t]
theorem ib2 (t : Fin cfg0.N) (r : Fin 512) (d : Fin 1024) : iblk m c 2 t (ix2 r d) = mDbg m c (row t r) d := by
  blk_point [iblk, V, idx t]
theorem V18 (t : Fin 16384) (k : Fin 3072) : (V m c main_v18 : Vec Ideal S16384x3072 .f32) (ix2 t k) = mP m c t k := by
  simp only [V]
  entry_read
  pointwise
  rfl
theorem ib3 (t : Fin cfg0.N) (r : Fin 512) (k : Fin 3072) : iblk m c 3 t (ix2 r k) = mP m c (row t r) k := by
  rw [← V18]; blk_point [iblk, V, idx t]
theorem ib4 (t : Fin cfg0.N) (a : Fin 3) (d : Fin 1024) : iblk m c 4 t (ix2 a d) = mCw m c a d := by
  blk_point [iblk, V, idx t]
theorem ib5 (t : Fin cfg0.N) (a : Fin 3) (r : Fin 1024) (d : Fin 1024) :
    iblk m c 5 t (ix3 a r d) = mW m c r ⟨1024 * a.val + d.val, by omega⟩ := by
  blk_point [iblk, V, idx t]
theorem ib6 (t : Fin cfg0.N) (r : Fin 512) (d : Fin 1024) : iblk m c 6 t (ix2 r d) = mX m c (row t r) d := by
  blk_point [iblk, V, idx t]
theorem ib7 (t : Fin cfg0.N) (d : Fin 1024) : iblk m c 7 t (ix2 0 d) = mG m c d := by
  blk_point [iblk, V, idx t]
theorem ib8 (t : Fin cfg0.N) (d : Fin 1024) : iblk m c 8 t (ix2 0 d) = mSc m c d := by
  blk_point [iblk, V, idx t]
theorem ib9 (t : Fin cfg0.N) (r : Fin 512) (d : Fin 1024) : iblk m c 9 t (ix2 r d) = mDxo m c (row t r) d := by
  blk_point [iblk, V, idx t]

end Cert.ScKernelIdeal.Hand
end
-- ==== Proof.Rows.lean ====
/-
  A buffer of eight rows whose first three are written one by one, read row by row: a row reads its own store, any other
  row what was there before.
-/
module

public import Idealize.ShloMosaic.Lib.Pipeline.ValueKit
public import Idealize.ShloMosaic.Lib.WritesUnit
public import Idealize.ShloMosaic.Lib.Pointwise

@[expose] public section
noncomputable section
namespace Cert.Rows
open Idealize.ShloMosaic

/-- A load of a unit-stride rectangle reads the block at the offset index. -/
theorem ld2 {α : Type} {a b o p a' b' : ℕ} (f : (⟨2, ![a, b]⟩ : Shape).Idx → α) (h) (r : Fin a') (d : Fin b')
    (hr : o + r.val < a) (hd : p + d.val < b) :
    f ((Rect.unit (s := ⟨2, ![a, b]⟩) ![o, p] ![a', b'] h).emb (ix2 r d)) = f (ix2 ⟨o + r.val, hr⟩ ⟨p + d.val, hd⟩) := by
  congr 1; funext i; refine Fin.ext ?_
  match i with
  | 0 => show o + 1 * r.val = o + r.val; omega
  | 1 => show p + 1 * d.val = p + d.val; omega

/-- The same of a block of three axes. -/
theorem ld3 {α : Type} {a b e o p q a' b' e' : ℕ} (f : (⟨3, ![a, b, e]⟩ : Shape).Idx → α) (h) (r : Fin a') (d : Fin b')
    (k : Fin e') (hr : o + r.val < a) (hd : p + d.val < b) (hk : q + k.val < e) :
    f ((Rect.unit (s := ⟨3, ![a, b, e]⟩) ![o, p, q] ![a', b', e'] h).emb (ix3 r d k))
      = f (ix3 ⟨o + r.val, hr⟩ ⟨p + d.val, hd⟩ ⟨q + k.val, hk⟩) := by
  congr 1; funext i; refine Fin.ext ?_
  match i with
  | 0 => show o + 1 * r.val = o + r.val; omega
  | 1 => show p + 1 * d.val = p + d.val; omega
  | 2 => show q + 1 * k.val = q + k.val; omega

/-- One row of a buffer of rows. -/
theorem ldRow {α : Type} {a b o : ℕ} (f : (⟨2, ![a, b]⟩ : Shape).Idx → α) (h) (d : Fin b) (ho : o < a) :
    f ((Rect.unit (s := ⟨2, ![a, b]⟩) ![o, 0] ![1, b] h).emb (ix2 (0 : Fin 1) d)) = f (ix2 ⟨o, ho⟩ d) := by
  refine (ld2 f h 0 d (by simpa using ho) (by simp)).trans ?_
  congr 1
  funext i; refine Fin.ext ?_
  match i with
  | 0 => rfl
  | 1 => show 0 + d.val = d.val; omega

section
variable {sig : RefSig} {κ : Kind} {sp : Space} {b : ℕ} {e : EltTy} {Val : EltTy → Type}
variable (v : View sig κ sp ⟨2, ![8, b]⟩ e) (f : v.ty.Contents Val)

/-- One row's store, read at that row and off it. -/
theorem row1 {o : ℕ} (h) (w : (Rect.unit (s := ⟨2, ![8, b]⟩) ![o, 0] ![1, b] h).shape.Idx → Val e) (L : List (View.Piece Val (⟨2, ![8, b]⟩ : Shape) e))
    (r : Fin 8) (d : Fin b) :
    v.read Val (v.writes Val f (⟨Rect.unit (s := ⟨2, ![8, b]⟩) ![o, 0] ![1, b] h, w⟩ :: L)) (ix2 r d)
      = if r.val = o then w (ix2 (0 : Fin 1) d) else v.read Val (v.writes Val f L) (ix2 r d) := by
  by_cases hr : r.val = o
  · rw [if_pos hr]
    exact View.read_writes_cons_rows_of_mem v f h w L (ix2 r d) (ix2 (0 : Fin 1) d) rfl (by simpa using hr) rfl
  · rw [if_neg hr]
    exact View.read_writes_cons_rows_of_not_mem (W := 1) v f h w L (ix2 r d) rfl rfl (by
      show r.val < o ∨ o + 1 ≤ r.val; omega)
end

end Cert.Rows
end
-- ==== Proof.ScPay.lean ====
/-
  What the gated convolution's gradient kernel computes at a grid point, entry by entry: each value of its body at row `r`
  of the point's block is the specification's at row `512 t + r`.
-/
module

public import proofs.«01_k».proof.Proof.ScBlocks
public import proofs.«01_k».proof.Proof.Rows

@[expose] public section
set_option maxRecDepth 16384
noncomputable section
open Idealize.ShloMosaic Idealize.ShloMosaic.TcCoe Idealize.SL.Sem
open Idealize.ShloMosaic.Pipeline (Dat)
open Cert.Sc Cert.Rows
namespace Cert.ScKernelIdeal.Hand
open Cert.ScKernelIdeal Cert.ScKernelIdeal.Gen
variable (m : (ℓ : Loc nD τ sig) → Buf (Elt Ideal) ℓ) (c : Dev nD)

/-- The eight rows below the block, as the kernel reads them. -/
abbrev bNx (t : Fin cfg0.N) := View.ld (iblk m c 1 t) (Rect.unit ![0, 0] ![8, 1024] inb_S16x1024_S8x1024_0_0)
/-- One row of the convolution's weights, as the kernel reads it. -/
abbrev bW0 (t : Fin cfg0.N) := View.ld (iblk m c 4 t) (Rect.unit ![0, 0] ![1, 1024] inb_S3x1024_S1x1024_0_0)
@[inherit_doc bW0] abbrev bW1 (t : Fin cfg0.N) := View.ld (iblk m c 4 t) (Rect.unit ![1, 0] ![1, 1024] inb_S3x1024_S1x1024_1_0)
@[inherit_doc bW0] abbrev bW2 (t : Fin cfg0.N) := View.ld (iblk m c 4 t) (Rect.unit ![2, 0] ![1, 1024] inb_S3x1024_S1x1024_2_0)
/-- The projection's second and last third, as the kernel reads them. -/
abbrev bMid (t : Fin cfg0.N) := View.ld (iblk m c 3 t) (Rect.unit ![0, 1024] ![512, 1024] inb_S512x3072_S512x1024_0_1024)
@[inherit_doc bMid] abbrev bHig (t : Fin cfg0.N) := View.ld (iblk m c 3 t) (Rect.unit ![0, 2048] ![512, 1024] inb_S512x3072_S512x1024_0_2048)
/-- One third of the projection's weights, as the kernel reads it. -/
abbrev bP0 (t : Fin cfg0.N) := View.ld (iblk m c 5 t) (Rect.unit ![0, 0, 0] ![1, 1024, 1024] inb_S3x1024x1024_S1x1024x1024_0_0_0)
@[inherit_doc bP0] abbrev bP1 (t : Fin cfg0.N) := View.ld (iblk m c 5 t) (Rect.unit ![1, 0, 0] ![1, 1024, 1024] inb_S3x1024x1024_S1x1024x1024_1_0_0)
@[inherit_doc bP0] abbrev bP2 (t : Fin cfg0.N) := View.ld (iblk m c 5 t) (Rect.unit ![2, 0, 0] ![1, 1024, 1024] inb_S3x1024x1024_S1x1024x1024_2_0_0)

theorem bNx_at (t : Fin cfg0.N) (r : Fin 8) (d : Fin 1024) :
    bNx m c t (ix2 r d) = mDu m c ⟨16 * min (32 * t.val + 32) 1023 + r.val, by omega⟩ d := by
  refine (ld2 (iblk m c 1 t) _ r d (by omega) (by omega)).trans ((ib1 m c t _ _).trans ?_)
  congr 1 <;> exact Fin.ext (by simp)
theorem bW0_at (t : Fin cfg0.N) (d : Fin 1024) : bW0 m c t (ix2 0 d) = mCw m c 0 d := by
  refine (ld2 (iblk m c 4 t) _ (0 : Fin 1) d (by simp) (by omega)).trans ((ib4 m c t _ _).trans ?_)
  congr 1 <;> exact Fin.ext (by simp)
theorem bW1_at (t : Fin cfg0.N) (d : Fin 1024) : bW1 m c t (ix2 0 d) = mCw m c 1 d := by
  refine (ld2 (iblk m c 4 t) _ (0 : Fin 1) d (by simp) (by omega)).trans ((ib4 m c t _ _).trans ?_)
  congr 1 <;> exact Fin.ext (by simp)
theorem bW2_at (t : Fin cfg0.N) (d : Fin 1024) : bW2 m c t (ix2 0 d) = mCw m c 2 d := by
  refine (ld2 (iblk m c 4 t) _ (0 : Fin 1) d (by simp) (by omega)).trans ((ib4 m c t _ _).trans ?_)
  congr 1 <;> exact Fin.ext (by simp)
theorem bMid_at (t : Fin cfg0.N) (r : Fin 512) (d : Fin 1024) : bMid m c t (ix2 r d) = mP m c (row t r) (mid d) := by
  refine (ld2 (iblk m c 3 t) _ r d (by omega) (by omega)).trans ((ib3 m c t _ _).trans ?_)
  congr 1 <;> exact Fin.ext (by simp)
theorem bHig_at (t : Fin cfg0.N) (r : Fin 512) (d : Fin 1024) : bHig m c t (ix2 r d) = mP m c (row t r) (hig d) := by
  refine (ld2 (iblk m c 3 t) _ r d (by omega) (by omega)).trans ((ib3 m c t _ _).trans ?_)
  congr 1 <;> exact Fin.ext (by simp)
theorem bP0_at (t : Fin cfg0.N) (r d : Fin 1024) : bP0 m c t (ix3 0 r d) = mW m c r (low d) := by
  refine (ld3 (iblk m c 5 t) _ (0 : Fin 1) r d (by simp) (by omega) (by omega)).trans ((ib5 m c t _ _ _).trans ?_)
  congr 1 <;> exact Fin.ext (by simp)
theorem bP1_at (t : Fin cfg0.N) (r d : Fin 1024) : bP1 m c t (ix3 0 r d) = mW m c r (mid d) := by
  refine (ld3 (iblk m c 5 t) _ (0 : Fin 1) r d (by simp) (by omega) (by omega)).trans ((ib5 m c t _ _ _).trans ?_)
  congr 1 <;> exact Fin.ext (by simp)
theorem bP2_at (t : Fin cfg0.N) (r d : Fin 1024) : bP2 m c t (ix3 0 r d) = mW m c r (hig d) := by
  refine (ld3 (iblk m c 5 t) _ (0 : Fin 1) r d (by simp) (by omega) (by omega)).trans ((ib5 m c t _ _ _).trans ?_)
  congr 1 <;> exact Fin.ext (by simp)

/-- The last block's test. -/
theorem last_at : ∀ t : Fin cfg0.N, Scalar.cmpi .eq (BitVec.ofNat 32 (grid0.coords t 0).val) 31#32 = if t.val = 31 then 1#1 else 0#1 :=
  (by decide +kernel : ∀ t : Fin grid0.N, _)

/-- The values of the kernel's body at a point, under names. -/
abbrev vE1 (t : Fin cfg0.N) := k0_pay9 (grid0.coords t) (iblk m c 0 t) (bNx m c t)
@[inherit_doc vE1] abbrev vE2 (t : Fin cfg0.N) := k0_pay10 (grid0.coords t) (iblk m c 0 t) (bNx m c t)
@[inherit_doc vE1] abbrev vDz (t : Fin cfg0.N) := k0_pay11 (grid0.coords t) (iblk m c 0 t) (bNx m c t) (bW2 m c t) (bW1 m c t) (bW0 m c t)
@[inherit_doc vE1] abbrev vDh (t : Fin cfg0.N) := k0_pay17 (vDz m c t) (k0_pay12 (bMid m c t)) (k0_pay13 (bHig m c t)) (iblk m c 2 t) (bP0 m c t) (bP1 m c t) (bP2 m c t)
@[inherit_doc vE1] abbrev vXh (t : Fin cfg0.N) := k0_pay25 (F := Ideal) (iblk m c 6 t)

theorem vE1_at (t : Fin cfg0.N) (r : Fin 512) (d : Fin 1024) : vE1 m c t (ix2 r d) = up (mDu m c) 1 (row t r) d := by
  have ht := lt32 t
  pointwise [vE1, k0_pay9, k0_pay8, k0_pay7]
  rw [last_at]
  simp only [ib0, bNx_at, up]
  by_cases h : 1 + r.val < 512
  · rw [dif_pos h, dif_pos (by omega)]
    congr 1; exact Fin.ext (by dsimp only; omega)
  · rw [dif_neg h]
    by_cases h2 : t.val = 31
    · rw [if_pos h2, dif_neg (by omega)]; rfl
    · rw [if_neg h2, dif_pos (by omega)]
      refine Eq.trans (b := mDu m c ⟨16 * min (32 * t.val + 32) 1023 + (1 + r.val - 512), by omega⟩ d) rfl ?_
      congr 1; exact Fin.ext (by dsimp only; omega)
theorem vE2_at (t : Fin cfg0.N) (r : Fin 512) (d : Fin 1024) : vE2 m c t (ix2 r d) = up (mDu m c) 2 (row t r) d := by
  have ht := lt32 t
  pointwise [vE2, k0_pay10, k0_pay8, k0_pay7]
  rw [last_at]
  simp only [ib0, bNx_at, up]
  by_cases h : 2 + r.val < 512
  · rw [dif_pos h, dif_pos (by omega)]
    congr 1; exact Fin.ext (by dsimp only; omega)
  · rw [dif_neg h]
    by_cases h2 : t.val = 31
    · rw [if_pos h2, dif_neg (by omega)]; rfl
    · rw [if_neg h2, dif_pos (by omega)]
      refine Eq.trans (b := mDu m c ⟨16 * min (32 * t.val + 32) 1023 + (2 + r.val - 512), by omega⟩ d) rfl ?_
      congr 1; exact Fin.ext (by dsimp only; omega)
theorem vDz_at (t : Fin cfg0.N) (r : Fin 512) (d : Fin 1024) : vDz m c t (ix2 r d) = dz (mCw m c) (mDu m c) (row t r) d := by
  pointwise [k0_pay11, vE1_at m c t, vE2_at m c t, k0_pay7]
  rw [bW0_at, bW1_at, bW2_at, ib0]
  rfl
theorem vDh_at (t : Fin cfg0.N) (r : Fin 512) (d : Fin 1024) :
    vDh m c t (ix2 r d) = dh (mCw m c) (mDbg m c) (mDu m c) (mP m c) (mW m c) (row t r) d := by
  pointwise [k0_pay17, k0_pay14, k0_pay15, k0_pay16, vDz_at m c t, k0_pay12, k0_pay13]
  simp only [bP0_at, bP1_at, bP2_at, bMid_at, bHig_at, ib2]
  rfl
theorem vR_at (t : Fin cfg0.N) (r : Fin 512) : k0_pay24 (F := Ideal) (iblk m c 6 t) (ix2 r 0) = rs (mX m c) (row t r) := by
  pointwise [k0_pay24]
  simp only [ib6]
  rfl
theorem vXh_at (t : Fin cfg0.N) (r : Fin 512) (d : Fin 1024) :
    vXh m c t (ix2 r d) = mX m c (row t r) d * rs (mX m c) (row t r) := by
  pointwise [k0_pay25, vR_at m c t]
  rw [ib6]
theorem vDx_at (t : Fin cfg0.N) (r : Fin 512) (d : Fin 1024) :
    k0_pay4 (vDh m c t) (k0_pay24 (iblk m c 6 t)) (vXh m c t) (iblk m c 7 t) (iblk m c 8 t) (iblk m c 9 t) (ix2 r d)
      = dx (mX m c) (dh (mCw m c) (mDbg m c) (mDu m c) (mP m c) (mW m c)) (mDxo m c) (mG m c) (mSc m c) (row t r) d := by
  pointwise [k0_pay4, k0_pay2, vR_at m c t, vXh_at m c t, vDh_at m c t]
  simp only [ib7, ib8, ib9]
  rfl

end Cert.ScKernelIdeal.Hand
end
-- ==== Proof.ScFinal.lean ====
/-
  The arrays the gated convolution's gradient kernel leaves: the input's and the projection's gradients block by block,
  and the two blocks of sums, whose rows gather one block of 512 tokens at each of the 32 points.
-/
module

public import proofs.«01_k».proof.Proof.ScPay
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
open Cert.Sc Cert.Rows
namespace Cert.ScKernelIdeal.Hand
open Cert.ScKernelIdeal Cert.ScKernelIdeal.Gen
variable (m : (ℓ : Loc nD τ sig) → Buf (Elt Ideal) ℓ) (c : Dev nD)

/-- The projection's input gradient of this launch. -/
abbrev mDh : Mat 16384 1024 := dh (mCw m c) (mDbg m c) (mDu m c) (mP m c) (mW m c)

/-- Each row of the first block of sums gains the point's part of it. -/
theorem st_step (t : Fin cfg0.N) (old : Vec Ideal S8x1024 .f32) (v : View sig .tc .vmem S8x1024 .f32) (f) (L)
    (h2 h1 h0) (o2 o1 o0 : Vec Ideal S1x1024 .f32)
    (ho2 : ∀ d, o2 (ix2 0 d) = old (ix2 2 d)) (ho1 : ∀ d, o1 (ix2 0 d) = old (ix2 1 d)) (ho0 : ∀ d, o0 (ix2 0 d) = old (ix2 0 d)) (hL : v.read (Elt Ideal) (v.writes (Elt Ideal) f L) = old) (r : Fin 8) (d : Fin 1024) :
    v.read (Elt Ideal) (v.writes (Elt Ideal) f
      (⟨Rect.unit (s := S8x1024) ![2, 0] ![1, 1024] h2, k0_pay3 (F := Ideal) (vDh m c t) (vXh m c t) (iblk m c 8 t) o2⟩
        :: ⟨Rect.unit (s := S8x1024) ![1, 0] ![1, 1024] h1, k0_pay1 (F := Ideal) (k0_pay27 o1) (k0_pay28 (vDh m c t) (iblk m c 6 t) (iblk m c 7 t))⟩
        :: ⟨Rect.unit (s := S8x1024) ![0, 0] ![1, 1024] h0, k0_pay26 (F := Ideal) (vDh m c t) o0⟩ :: L)) (ix2 r d)
      = old (ix2 r d) + ∑ k : Fin 512, stT (mX m c) (mDh m c) (mG m c) (mSc m c) r (row t k) d := by
  rw [row1, row1, row1, hL]
  by_cases e2 : r.val = 2
  · obtain rfl : r = 2 := Fin.ext e2
    rw [if_pos e2]
    pointwise [k0_pay3, k0_pay2, vXh_at m c t, vDh_at m c t]
    simp only [ib8]
    exact congrArg₂ (· + ·) (ho2 d) (Finset.sum_congr rfl fun k _ => by simp only [stT]; rfl)
  by_cases e1 : r.val = 1
  · obtain rfl : r = 1 := Fin.ext e1
    rw [if_neg e2, if_pos e1]
    pointwise [k0_pay1, k0_pay27, k0_pay28, vXh_at m c t, vDh_at m c t]
    simp only [ib6, ib7]
    exact congrArg₂ (· + ·) (ho1 d) (Finset.sum_congr rfl fun k _ => by simp only [stT]; rfl)
  by_cases e0 : r.val = 0
  · obtain rfl : r = 0 := Fin.ext e0
    rw [if_neg e2, if_neg e1, if_pos e0]
    pointwise [k0_pay26, vDh_at m c t]
    exact congrArg₂ (· + ·) (ho0 d) (Finset.sum_congr rfl fun k _ => by simp only [stT]; rfl)
  · rw [if_neg e2, if_neg e1, if_neg e0]
    simp only [stT, if_neg e2, if_neg e1, if_neg e0, Finset.sum_const_zero, add_zero]

/-- Each row of the second block of sums gains the point's part of it. -/
theorem gcw_step (t : Fin cfg0.N) (old : Vec Ideal S8x1024 .f32) (v : View sig .tc .vmem S8x1024 .f32) (f) (L)
    (h2 h1 h0) (o2 o1 o0 : Vec Ideal S1x1024 .f32)
    (ho2 : ∀ d, o2 (ix2 0 d) = old (ix2 2 d)) (ho1 : ∀ d, o1 (ix2 0 d) = old (ix2 1 d)) (ho0 : ∀ d, o0 (ix2 0 d) = old (ix2 0 d)) (hL : v.read (Elt Ideal) (v.writes (Elt Ideal) f L) = old) (r : Fin 8) (d : Fin 1024) :
    v.read (Elt Ideal) (v.writes (Elt Ideal) f
      (⟨Rect.unit (s := S8x1024) ![2, 0] ![1, 1024] h2, k0_pay23 (F := Ideal) (k0_pay7 (iblk m c 0 t)) (k0_pay18 (k0_pay12 (bMid m c t)) (k0_pay13 (bHig m c t))) o2⟩
        :: ⟨Rect.unit (s := S8x1024) ![1, 0] ![1, 1024] h1, k0_pay22 (F := Ideal) (k0_pay20 o1) (k0_pay21 (vE1 m c t) (k0_pay12 (bMid m c t)) (k0_pay13 (bHig m c t)))⟩
        :: ⟨Rect.unit (s := S8x1024) ![0, 0] ![1, 1024] h0, k0_pay19 (F := Ideal) (vE2 m c t) (k0_pay12 (bMid m c t)) (k0_pay13 (bHig m c t)) o0⟩ :: L)) (ix2 r d)
      = old (ix2 r d) + ∑ k : Fin 512, gcwT (mDu m c) (mP m c) r (row t k) d := by
  rw [row1, row1, row1, hL]
  by_cases e2 : r.val = 2
  · obtain rfl : r = 2 := Fin.ext e2
    rw [if_pos e2]
    pointwise [k0_pay23, k0_pay18, k0_pay12, k0_pay13, k0_pay7]
    simp only [bMid_at, bHig_at, ib0]
    exact congrArg₂ (· + ·) (ho2 d) (Finset.sum_congr rfl fun k _ => by simp only [gcwT]; rfl)
  by_cases e1 : r.val = 1
  · obtain rfl : r = 1 := Fin.ext e1
    rw [if_neg e2, if_pos e1]
    pointwise [k0_pay22, k0_pay20, k0_pay21, k0_pay12, k0_pay13, vE1_at m c t, k0_pay18]
    simp only [bMid_at, bHig_at]
    exact congrArg₂ (· + ·) (ho1 d) (Finset.sum_congr rfl fun k _ => by simp only [gcwT]; rfl)
  by_cases e0 : r.val = 0
  · obtain rfl : r = 0 := Fin.ext e0
    rw [if_neg e2, if_neg e1, if_pos e0]
    pointwise [k0_pay19, k0_pay18, k0_pay12, k0_pay13, vE2_at m c t]
    simp only [bMid_at, bHig_at]
    exact congrArg₂ (· + ·) (ho0 d) (Finset.sum_congr rfl fun k _ => by simp only [gcwT]; rfl)
  · rw [if_neg e2, if_neg e1, if_neg e0]
    simp only [gcwT, if_neg e2, if_neg e1, if_neg e0, Finset.sum_const_zero, add_zero]

/-- Where entry `y` of the block at `t` lies in the array. -/
theorem emb10 (t : Fin cfg0.N) (y : S512x1024.Idx) : (((View.whole main_v25_0).slice (win0_10.rect t)).emb y) = ix2 (row t (y 0)) (y 1) := by
  have h10 : win0_10.index t = ![t.val, 0] := by simp only [idx t]
  funext a; refine Fin.ext ?_
  match a with
  | 0 =>
    show win0_10.index t 0 * 512 + 1 * (y 0).val = _
    rw [h10]; show t.val * 512 + 1 * (y 0).val = 512 * t.val + (y 0).val; omega
  | 1 =>
    show win0_10.index t 1 * 1024 + 1 * (y 1).val = _
    rw [h10]; show 0 * 1024 + 1 * (y 1).val = (y 1).val; omega

theorem emb11_0 (t : Fin cfg0.N) (y : S512x3072.Idx) :
    (((View.whole main_v25_1).slice (win0_11.rect t)).emb y 0) = row t (y 0) := by
  have h11 : win0_11.index t = ![t.val, 0] := by simp only [idx t]
  refine Fin.ext ?_
  show win0_11.index t 0 * 512 + 1 * (y 0).val = _
  rw [h11]; show t.val * 512 + 1 * (y 0).val = 512 * t.val + (y 0).val; omega

theorem emb11_1 (t : Fin cfg0.N) (y : S512x3072.Idx) :
    (((View.whole main_v25_1).slice (win0_11.rect t)).emb y 1) = y 1 := by
  have h11 : win0_11.index t = ![t.val, 0] := by simp only [idx t]
  refine Fin.ext ?_
  show win0_11.index t 1 * 3072 + 1 * (y 1).val = _
  rw [h11]; show 0 * 3072 + 1 * (y 1).val = (y 1).val; omega

/-- The three thirds of the projection's gradient, at the column of the whole. -/
theorem dp0 (t : Fin cfg0.N) (r : Fin 512) (d : Fin 1024) (k : Fin 3072) (h1 : k.val = d.val) :
    k0_pay14 (iblk m c 2 t) (ix2 r d) = dp (mCw m c) (mDbg m c) (mDu m c) (mP m c) (row t r) k := by
  pointwise [k0_pay14]
  rw [ib2, dp, dif_pos (by omega)]
  congr 1; exact Fin.ext h1.symm
@[inherit_doc dp0]
theorem dp1 (t : Fin cfg0.N) (r : Fin 512) (d : Fin 1024) (k : Fin 3072) (h1 : k.val = 1024 + d.val) :
    k0_pay15 (vDz m c t) (k0_pay13 (bHig m c t)) (ix2 r d) = dp (mCw m c) (mDbg m c) (mDu m c) (mP m c) (row t r) k := by
  pointwise [k0_pay15, k0_pay13, vDz_at m c t]
  rw [bHig_at, dp, dif_neg (by omega), dif_pos (by omega)]
  have : (⟨k.val - 1024, by omega⟩ : Fin 1024) = d := Fin.ext (by dsimp only; omega)
  rw [this]
@[inherit_doc dp0]
theorem dp2 (t : Fin cfg0.N) (r : Fin 512) (d : Fin 1024) (k : Fin 3072) (h1 : k.val = 2048 + d.val) :
    k0_pay16 (vDz m c t) (k0_pay12 (bMid m c t)) (ix2 r d) = dp (mCw m c) (mDbg m c) (mDu m c) (mP m c) (row t r) k := by
  pointwise [k0_pay16, k0_pay12, vDz_at m c t]
  rw [bMid_at, dp, dif_neg (by omega), dif_neg (by omega)]
  have : (⟨k.val - 2048, by omega⟩ : Fin 1024) = d := Fin.ext (by dsimp only; omega)
  rw [this]

/-- The projection's gradient at a point, from the three stores. -/
theorem dpAll (t : Fin cfg0.N) (z : S512x3072.Idx) :
    View.canon (Val := Elt Ideal) (s := S512x3072) (e := .bf16) [⟨Rect.unit ![0, 2048] ![512, 1024] inb_S512x3072_S512x1024_0_2048, k0_pay16 (vDz m c t) (k0_pay12 (bMid m c t))⟩, ⟨Rect.unit ![0, 1024] ![512, 1024] inb_S512x3072_S512x1024_0_1024, k0_pay15 (vDz m c t) (k0_pay13 (bHig m c t))⟩,
      ⟨Rect.unit ![0, 0] ![512, 1024] inb_S512x3072_S512x1024_0_0, k0_pay14 (iblk m c 2 t)⟩] z = dp (mCw m c) (mDbg m c) (mDu m c) (mP m c) (row t (z 0)) (z 1) := by
  canon_tiles z h
  · idx_vars z
    exact (dp2 m c t _ _ _ h1).trans (by congr 2; exact Fin.ext h0.symm)
  · idx_vars z
    exact (dp1 m c t _ _ _ h1).trans (by congr 2; exact Fin.ext h0.symm)
  · idx_vars z
    exact (dp0 m c t _ _ _ h1).trans (by congr 2; exact Fin.ext h0.symm)

theorem out10 : (dats m 0 c).arrAt 10 cfg0.N = fun j : S16384x1024.Idx => dx (mX m c) (mDh m c) (mDxo m c) (mG m c) (mSc m c) (j 0) (j 1) := by
  refine (dats m 0 c).arrAt_eq_of_covers 10 _ (by decide +kernel) fun t hf y => ?_
  blk_simp
  rw [after0_10]
  have hy : ∀ y : S512x1024.Idx, k0_pay4 (vDh m c t) (k0_pay24 (iblk m c 6 t)) (vXh m c t) (iblk m c 7 t) (iblk m c 8 t) (iblk m c 9 t) y =
    dx (mX m c) (mDh m c) (mDxo m c) (mG m c) (mSc m c) (((View.whole main_v25_0).slice (win0_10.rect t)).emb y 0)
      (((View.whole main_v25_0).slice (win0_10.rect t)).emb y 1) := by
    intro y
    rw [emb10]
    idx_vars y
    exact vDx_at m c t _ _
  by_cases h : t.val % 32 = 0
  · rw [outsAt0_A m c t h h]; frame_out; exact hy y
  · rw [outsAt0_B m c t h h]; frame_out; exact hy y

theorem out11 : (dats m 0 c).arrAt 11 cfg0.N = fun j : S16384x3072.Idx => dp (mCw m c) (mDbg m c) (mDu m c) (mP m c) (j 0) (j 1) := by
  refine (dats m 0 c).arrAt_eq_of_covers 11 _ (by decide +kernel) fun t hf y => ?_
  blk_simp
  rw [after0_11]
  have he : ∀ z : S512x3072.Idx, dp (mCw m c) (mDbg m c) (mDu m c) (mP m c) (row t (z 0)) (z 1)
      = dp (mCw m c) (mDbg m c) (mDu m c) (mP m c) (((View.whole main_v25_1).slice (win0_11.rect t)).emb z 0)
        (((View.whole main_v25_1).slice (win0_11.rect t)).emb z 1) := fun z => by rw [emb11_0, emb11_1]
  by_cases h : t.val % 32 = 0
  · rw [outsAt0_A m c t h h]; frame_out; exact (dpAll m c t y).trans (he y)
  · rw [outsAt0_B m c t h h]; frame_out; exact (dpAll m c t y).trans (he y)

theorem out12 : (dats m 0 c).arrAt 12 cfg0.N = fun j : S8x1024.Idx => ∑ t, stT (mX m c) (mDh m c) (mG m c) (mSc m c) (j 0) t (j 1) := by
  refine (dats m 0 c).arrAt_eq_of_covers 12 _ (by decide +kernel) fun t hf y => ?_
  blk_simp
  rw [after0_12, Pipeline.eq_sum_fin_of_reset_step_apply_of_flush (fun n h => (outsAt0 m c n h).2.2.1) 32 (fun _ => 0)
    (fun t (j : S8x1024.Idx) => ∑ k : Fin 512, stT (mX m c) (mDh m c) (mG m c) (mSc m c) (j 0) (row t k) (j 1))
    (fun t h j => by
      rw [outsAt0_A m c t h h]; frame_out
      idx_vars j
      rw [← View.read_writes_junk_eq_canon (ms0_12 t).view]
      refine (st_step m c t (k0_pay5 (F := Ideal)) _ _ [_] _ _ _ _ _ _ ?_ ?_ ?_ ?_ _ _).trans ?_
      · intro d
        rw [View.readCov_skip _ _ _ _ _ (by decide), View.readCov_skip _ _ _ _ _ (by decide), View.readCov_fill _ _ _ _ _ (by decide)]
        exact ldRow (k0_pay5 (F := Ideal)) _ d (by decide)
      · intro d
        rw [View.readCov_skip _ _ _ _ _ (by decide), View.readCov_fill _ _ _ _ _ (by decide)]
        exact ldRow (k0_pay5 (F := Ideal)) _ d (by decide)
      · intro d
        rw [View.readCov_fill _ _ _ _ _ (by decide)]
        exact ldRow (k0_pay5 (F := Ideal)) _ d (by decide)
      · rw [View.read_writes_junk_eq_canon]; exact View.canon_cons_unit_lit _ _ _ (by decide)
      · rw [show (k0_pay5 (F := Ideal)) (ix2 j0 j1) = (0 : EReal) from Ideal.ofBits_zero_f32])
    (fun t h j => by
      rw [outsAt0_B m c t h h]; frame_out
      idx_vars j
      exact st_step m c t _ _ _ [] _ _ _ _ _ _ (fun d => ldRow _ _ d (by decide)) (fun d => ldRow _ _ d (by decide)) (fun d => ldRow _ _ d (by decide)) (by exact Memref.IsWhole.read_unread _ _) _ _)
     t ((flush0_12 t).mp hf) _, zero_add]
  have ht : t.val = 31 := by have := (flush0_12 t).mp hf; have := lt32 t; omega
  have he : ((win0_12.blk t).view.emb y : S8x1024.Idx) = y := by
    have hi : win0_12.index t = ![0, 0] := by simp only [idx t]
    funext a; refine Fin.ext ?_
    match a with
    | 0 =>
      show win0_12.index t 0 * 8 + 1 * (y 0).val = _
      rw [hi]; show 0 * 8 + 1 * (y 0).val = (y 0).val; omega
    | 1 =>
      show win0_12.index t 1 * 1024 + 1 * (y 1).val = _
      rw [hi]; show 0 * 1024 + 1 * (y 1).val = (y 1).val; omega
  rw [he]
  exact Fin.sum_mul_add_congr fun s k hl => congrArg (fun i => stT (mX m c) (mDh m c) (mG m c) (mSc m c) (y 0) i (y 1)) (Fin.ext (by
    show 512 * (32 * (t.val / 32) + s.val) + k.val = s.val * 512 + k.val
    omega))

theorem out13 : (dats m 0 c).arrAt 13 cfg0.N = fun j : S8x1024.Idx => ∑ t, gcwT (mDu m c) (mP m c) (j 0) t (j 1) := by
  refine (dats m 0 c).arrAt_eq_of_covers 13 _ (by decide +kernel) fun t hf y => ?_
  blk_simp
  rw [after0_13, Pipeline.eq_sum_fin_of_reset_step_apply_of_flush (fun n h => (outsAt0 m c n h).2.2.2) 32 (fun _ => 0)
    (fun t (j : S8x1024.Idx) => ∑ k : Fin 512, gcwT (mDu m c) (mP m c) (j 0) (row t k) (j 1))
    (fun t h j => by
      rw [outsAt0_A m c t h h]; frame_out
      idx_vars j
      rw [← View.read_writes_junk_eq_canon (ms0_13 t).view]
      refine (gcw_step m c t (k0_pay6 (F := Ideal)) _ _ [_] _ _ _ _ _ _ ?_ ?_ ?_ ?_ _ _).trans ?_
      · intro d
        rw [View.readCov_skip _ _ _ _ _ (by decide), View.readCov_skip _ _ _ _ _ (by decide), View.readCov_fill _ _ _ _ _ (by decide)]
        exact ldRow (k0_pay6 (F := Ideal)) _ d (by decide)
      · intro d
        rw [View.readCov_skip _ _ _ _ _ (by decide), View.readCov_fill _ _ _ _ _ (by decide)]
        exact ldRow (k0_pay6 (F := Ideal)) _ d (by decide)
      · intro d
        rw [View.readCov_fill _ _ _ _ _ (by decide)]
        exact ldRow (k0_pay6 (F := Ideal)) _ d (by decide)
      · rw [View.read_writes_junk_eq_canon]; exact View.canon_cons_unit_lit _ _ _ (by decide)
      · rw [show (k0_pay6 (F := Ideal)) (ix2 j0 j1) = (0 : EReal) from Ideal.ofBits_zero_f32])
    (fun t h j => by
      rw [outsAt0_B m c t h h]; frame_out
      idx_vars j
      exact gcw_step m c t _ _ _ [] _ _ _ _ _ _ (fun d => ldRow _ _ d (by decide)) (fun d => ldRow _ _ d (by decide)) (fun d => ldRow _ _ d (by decide)) (by exact Memref.IsWhole.read_unread _ _) _ _)
     t ((flush0_13 t).mp hf) _, zero_add]
  have ht : t.val = 31 := by have := (flush0_13 t).mp hf; have := lt32 t; omega
  have he : ((win0_13.blk t).view.emb y : S8x1024.Idx) = y := by
    have hi : win0_13.index t = ![0, 0] := by simp only [idx t]
    funext a; refine Fin.ext ?_
    match a with
    | 0 =>
      show win0_13.index t 0 * 8 + 1 * (y 0).val = _
      rw [hi]; show 0 * 8 + 1 * (y 0).val = (y 0).val; omega
    | 1 =>
      show win0_13.index t 1 * 1024 + 1 * (y 1).val = _
      rw [hi]; show 0 * 1024 + 1 * (y 1).val = (y 1).val; omega
  rw [he]
  exact Fin.sum_mul_add_congr fun s k hl => congrArg (fun i => gcwT (mDu m c) (mP m c) (y 0) i (y 1)) (Fin.ext (by
    show 512 * (32 * (t.val / 32) + s.val) + k.val = s.val * 512 + k.val
    omega))

end Cert.ScKernelIdeal.Hand
end
-- ==== Proof.Norm.lean ====
/-
  The gradient of a root-mean-square normalisation with an affine map, one row at a time, over the extended reals.
  The kernels compute it in the centred form `o + r (dy - x r mean(dy x r))`, the reference's chain rule in the
  expanded form `o + dy r + x B + B x` with `B = (Σ x dy) (-1/2) (r / u) / n`. The two agree for every row: where the
  row is finite the root's argument is a positive real and everything distributes; where an entry is infinite the
  root's argument is infinite, its reciprocal root is zero, and both forms are the carried gradient.
-/
module

public import Idealize.ShloMosaic.PureOps.Ideal
public import Idealize.ShloMosaic.PureOps.Ideal.Laws
public import Idealize.ShloMosaic.Lib.IdealHost

@[expose] public section
noncomputable section
namespace Cert.Norm
open Idealize.ShloMosaic

/-- The constant `2^10` of the row means. -/
theorem ofBits_1024 : Ideal.ofBits .f32 0x44800000#32 = ((1024 : ℝ) : EReal) := by
  simp [Ideal.ofBits, Ideal.ieee, -EReal.coe_mul, -EReal.coe_neg]; norm_num [-EReal.coe_mul, -EReal.coe_neg, Nat.shiftRight_eq_div_pow]

/-- The constant `-1/2` of the reciprocal root's derivative. -/
theorem ofBits_neg_half : Ideal.ofBits .f32 0xBF000000#32 = ((-(1 / 2) : ℝ) : EReal) := by
  simp [Ideal.ofBits, Ideal.ieee, -EReal.coe_mul, -EReal.coe_neg]; norm_num [-EReal.coe_mul, -EReal.coe_neg, Nat.shiftRight_eq_div_pow]

/-- The constant added under the root is a positive real. -/
theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul, -EReal.coe_neg]

/-- A positive real factor passes through a finite sum of extended reals. -/
theorem sum_mul_pos {n : ℕ} (f : Fin n → EReal) {c : ℝ} (hc : 0 ≤ c) :
    ∑ k, f k * (c : EReal) = (∑ k, f k) * (c : EReal) := by
  induction n with
  | zero => simp
  | succ n ih =>
    rw [Fin.sum_univ_succ, Fin.sum_univ_succ, ih,
      EReal.right_distrib_of_nonneg_of_ne_top (by exact_mod_cast hc) (EReal.coe_ne_top c)]

/-- The squares of a row add up to a real that is not negative, or the row has an infinite entry and they add up to `⊤`. -/
theorem sum_sq {n : ℕ} (x : Fin n → EReal) :
    (∃ s : ℝ, 0 ≤ s ∧ (∑ k, x k * x k) = (s : EReal) ∧ ∀ k, ∃ a : ℝ, x k = a) ∨ (∑ k, x k * x k) = ⊤ := by
  induction n with
  | zero => exact Or.inl ⟨0, le_refl _, by simp, fun k => k.elim0⟩
  | succ n ih =>
    rw [Fin.sum_univ_succ]
    have hsq : (∃ a : ℝ, x 0 = a) ∨ x 0 * x 0 = ⊤ := by
      induction x 0 using EReal.rec with
      | bot => exact Or.inr EReal.bot_mul_bot
      | top => exact Or.inr EReal.top_mul_top
      | coe a => exact Or.inl ⟨a, rfl⟩
    rcases ih (fun k => x k.succ) with ⟨s, hs, he, hx⟩ | h
    · rw [he]
      rcases hsq with ⟨a, h0⟩ | h0
      · left
        refine ⟨a * a + s, by nlinarith [mul_self_nonneg a], by rw [h0]; push_cast; rfl, fun k => ?_⟩
        exact Fin.cases ⟨a, h0⟩ (fun k => hx k) k
      · right; rw [h0]; exact EReal.top_add_coe _
    · right
      rw [h]
      rcases hsq with ⟨a, h0⟩ | h0
      · rw [h0, ← EReal.coe_mul]; exact EReal.coe_add_top _
      · rw [h0]; rfl

/-- A multiple by a real, doubled. -/
theorem twice (A : EReal) (k : ℝ) : A * (k : EReal) + A * (k : EReal) = A * ((2 * k : ℝ) : EReal) := by
  induction A using EReal.rec with
  | coe A => norm_cast; ring
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The two forms of the row's gradient agree. -/
theorem row {n : ℕ} (x dy : Fin n → EReal) (o : EReal) {c e : ℝ} (hc : 0 < c) (he : 0 < e) (j : Fin n) :
    o + Ideal.rsqrt (Ideal.div (∑ k, x k * x k) c + e)
          * (dy j - x j * Ideal.rsqrt (Ideal.div (∑ k, x k * x k) c + e)
              * Ideal.div (∑ k, dy k * (x k * Ideal.rsqrt (Ideal.div (∑ k, x k * x k) c + e))) c)
      = o + dy j * Ideal.rsqrt (Ideal.div (∑ k, x k * x k) c + e)
          + x j * Ideal.div ((∑ k, x k * dy k) * ((-(1 / 2) : ℝ) * Ideal.div (Ideal.rsqrt (Ideal.div (∑ k, x k * x k) c + e)) (Ideal.div (∑ k, x k * x k) c + e))) c
          + Ideal.div ((∑ k, x k * dy k) * ((-(1 / 2) : ℝ) * Ideal.div (Ideal.rsqrt (Ideal.div (∑ k, x k * x k) c + e)) (Ideal.div (∑ k, x k * x k) c + e))) c * x j := by
  have hsum : (∑ k, x k * dy k) = ∑ k, dy k * x k := Finset.sum_congr rfl fun k _ => mul_comm _ _
  rw [hsum]
  simp only [Ideal.div_coe hc.ne']
  rcases sum_sq x with ⟨s, hs, hsq, hx⟩ | h
  · have hu : (∑ k, x k * x k) * ((1 / c : ℝ) : EReal) + (e : EReal) = ((s * (1 / c) + e : ℝ) : EReal) := by
      rw [hsq]; push_cast; rfl
    have hupos : 0 < s * (1 / c) + e := by positivity
    rw [hu, Ideal.rsqrt_coe, if_neg (not_lt.mpr hupos.le), if_neg hupos.ne', Ideal.div_coe hupos.ne']
    set u := s * (1 / c) + e with hudef
    have hr : 0 < (Real.sqrt u)⁻¹ := by positivity
    set r := (Real.sqrt u)⁻¹ with hrdef
    have hrr : r * r = 1 / u := by
      rw [hrdef, ← mul_inv, Real.mul_self_sqrt hupos.le, one_div]
    have hs1 : ∑ k, dy k * (x k * (r : EReal)) = (∑ k, dy k * x k) * (r : EReal) := by
      rw [← sum_mul_pos _ hr.le]; exact Finset.sum_congr rfl fun k _ => (mul_assoc _ _ _).symm
    rw [hs1]
    set A := ∑ k, dy k * x k
    obtain ⟨a, ha⟩ := hx j
    rw [ha]
    have e1 : (a : EReal) * r * (A * ((r : ℝ) : EReal) * ((1 / c : ℝ) : EReal)) = A * ((a * r * r * (1 / c) : ℝ) : EReal) := by
      rw [mul_assoc A, ← EReal.coe_mul, ← EReal.coe_mul, mul_left_comm, ← EReal.coe_mul]
      congr 2; ring
    have e2 : A * (((-(1 / 2) : ℝ) : EReal) * ((r : EReal) * ((1 / u : ℝ) : EReal))) * ((1 / c : ℝ) : EReal)
        = A * ((-(1 / 2) * (r * (1 / u)) * (1 / c) : ℝ) : EReal) := by
      rw [← EReal.coe_mul, ← EReal.coe_mul, mul_assoc, ← EReal.coe_mul]
    rw [e1, e2, mul_comm (A * _) (a : EReal), mul_comm (a : EReal), mul_assoc A, ← EReal.coe_mul, ← hrr, sub_eq_add_neg,
      EReal.left_distrib_of_nonneg_of_ne_top (by exact_mod_cast hr.le) (EReal.coe_ne_top r), mul_comm (r : EReal) (dy j),
      add_assoc, add_assoc, twice, ← mul_neg, ← EReal.coe_neg, mul_left_comm, ← EReal.coe_mul]
    congr 4
    ring
  · have hu : (∑ k, x k * x k) * ((1 / c : ℝ) : EReal) + (e : EReal) = ⊤ := by
      rw [h, EReal.top_mul_coe_of_pos (by positivity)]; exact EReal.top_add_coe _
    rw [hu, Ideal.rsqrt_top]
    have : Ideal.div 0 ⊤ = 0 := by simp [Ideal.div]
    rw [this]; simp

end Cert.Norm
end
-- ==== Proof.ScRef.lean ====
/-
  The reference's gradients of the gated short convolution, entry by entry: the chain rule's terms are brought to the
  specification. The convolution's weight gradients are the reference's sums with the shift moved to the other factor;
  the normalisation's gradient is its expanded form brought to the centred one.
-/
module

public import proofs.«01_k».proof.Proof.Gen.ScReferenceIdeal.Run
public import proofs.«01_k».proof.Proof.ScSpec
public import proofs.«01_k».proof.Proof.Norm
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.Sc
namespace Cert.ScReferenceIdeal.Hand
open Cert.ScReferenceIdeal Cert.ScReferenceIdeal.Gen Cert.ScReferenceIdeal.Value
variable (m : (ℓ : Loc nD τ sig) → Buf (Elt Ideal) ℓ) (c : Dev nD)

/-- The arguments as matrices. -/
def mX : Mat 16384 1024 := fun t d => (m ((c.tc : Thread nD τ).loc main_arg0) : Vec Ideal S16384x1024 .f32) (ix2 t d)
@[inherit_doc mX] def mG : Fin 1024 → EReal := fun d => (m ((c.tc : Thread nD τ).loc main_arg1) : Vec Ideal S1x1024 .f32) (ix2 0 d)
@[inherit_doc mX] def mSc : Fin 1024 → EReal := fun d => (m ((c.tc : Thread nD τ).loc main_arg2) : Vec Ideal S1x1024 .f32) (ix2 0 d)
@[inherit_doc mX] def mSh : Fin 1024 → EReal := fun d => (m ((c.tc : Thread nD τ).loc main_arg3) : Vec Ideal S1x1024 .f32) (ix2 0 d)
@[inherit_doc mX] def mW : Mat 1024 3072 := fun t d => (m ((c.tc : Thread nD τ).loc main_arg4) : Vec Ideal S1024x3072 .f32) (ix2 t d)
@[inherit_doc mX] def mCw : Mat 3 1024 := fun t d => (m ((c.tc : Thread nD τ).loc main_arg5) : Vec Ideal S3x1024 .f32) (ix2 t d)
@[inherit_doc mX] def mDbg : Mat 16384 1024 := fun t d => (m ((c.tc : Thread nD τ).loc main_arg6) : Vec Ideal S16384x1024 .f32) (ix2 t d)
@[inherit_doc mX] def mDu : Mat 16384 1024 := fun t d => (m ((c.tc : Thread nD τ).loc main_arg7) : Vec Ideal S16384x1024 .f32) (ix2 t d)
@[inherit_doc mX] def mDxo : Mat 16384 1024 := fun t d => (m ((c.tc : Thread nD τ).loc main_arg8) : Vec Ideal S16384x1024 .f32) (ix2 t d)
/-- The projection. -/
def mP : Mat 16384 3072 := proj (mX m c) (mG m c) (mSc m c) (mSh m c) (mW m c)

/-- The rows' reciprocal roots. -/
def tR (a0 : FVec Ideal S16384x1024 .f32) : FVec Ideal S16384x1 .f32 :=
  (Host.rsqrt (addf (Host.divf (broadcastInDim S16384x1 ![0] bcast_S16384_S16384x1_0 (Host.reduceAdd (mulf a0 a0) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32))))

/-- The projection. -/
def tP (a0 : FVec Ideal S16384x1024 .f32) (tR' : FVec Ideal S16384x1 .f32) (a1 : FVec Ideal S1x1024 .f32) (a2 : FVec Ideal S1x1024 .f32) (a3 : FVec Ideal S1x1024 .f32) (a4 : FVec Ideal S1024x3072 .f32) : FVec Ideal S16384x3072 .f32 :=
  (Host.dotGeneral dot_S16384x1024_S1024x3072_S16384x3072_1_0_0_1_n_n none (addf (mulf (mulf (mulf a0 (broadcastInDim S16384x1024 ![0, 1] bcast_S16384x1_S16384x1024_0_1 tR')) (broadcastInDim S16384x1024 ![0, 1] bcast_S1x1024_S16384x1024_0_1 a1)) (broadcastInDim S16384x1024 ![0, 1] bcast_S1x1024_S16384x1024_0_1 (addf (broadcastInDim S1x1024 ![] bcast_S_S1x1024 (constant (F := Ideal) S_ .f32 0x3F800000#32)) a2))) (broadcastInDim S16384x1024 ![0, 1] bcast_S1x1024_S16384x1024_0_1 a3)) a4)

/-- The gate's product. -/
def tZ (tP' : FVec Ideal S16384x3072 .f32) : FVec Ideal S16384x1024 .f32 :=
  (mulf (extractStridedSlice S16384x1024 ![0, 1024] tP' slices_S16384x3072_S16384x1024_0_1024) (extractStridedSlice S16384x1024 ![0, 2048] tP' slices_S16384x3072_S16384x1024_0_2048))

/-- The gate's product below two rows of zeros. -/
def tZp (tZ' : FVec Ideal S16384x1024 .f32) : FVec Ideal S16386x1024 .f32 :=
  (fn_main_v27 (F := Ideal) (broadcastInDim S2x1024 ![] bcast_S_S2x1024 (constant (F := Ideal) S_ .f32 0x00000000#32)) tZ')

/-- The gradient of the convolution's weights. -/
def tGc (a7 : FVec Ideal S16384x1024 .f32) (tZp' : FVec Ideal S16386x1024 .f32) : FVec Ideal S3x1024 .f32 :=
  (addf (addf (pad S3x1024 ![2, 0] ![0, 0] ![0, 0] (broadcastInDim S1x1024 ![1] bcast_S1024_S1x1024_1 (Host.reduceAdd (shapeCast _ (Host.reduceAdd (mulf (shapeCast _ a7 shapeCasts_S16384x1024_S16384x1024) (extractStridedSlice S16384x1024 ![2, 0] tZp' slices_S16386x1024_S16384x1024_2_0)) (constant (F := Ideal) S_ .f32 0x00000000#32) reducesTo_S16384x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_200_000 h_S_) (pad S3x1024 ![1, 0] ![1, 0] ![0, 0] (broadcastInDim S1x1024 ![1] bcast_S1024_S1x1024_1 (Host.reduceAdd (shapeCast _ (Host.reduceAdd (mulf (shapeCast _ a7 shapeCasts_S16384x1024_S16384x1024) (extractStridedSlice S16384x1024 ![1, 0] tZp' slices_S16386x1024_S16384x1024_1_0)) (constant (F := Ideal) S_ .f32 0x00000000#32) reducesTo_S16384x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_110_000 h_S_)) (pad S3x1024 ![0, 0] ![2, 0] ![0, 0] (broadcastInDim S1x1024 ![1] bcast_S1024_S1x1024_1 (Host.reduceAdd (shapeCast _ (Host.reduceAdd (mulf (shapeCast _ a7 shapeCasts_S16384x1024_S16384x1024) (extractStridedSlice S16384x1024 ![0, 0] tZp' slices_S16386x1024_S16384x1024_0_0)) (constant (F := Ideal) S_ .f32 0x00000000#32) reducesTo_S16384x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_020_000 h_S_))

/-- The gradient of the gate's product. -/
def tDz (a5 : FVec Ideal S3x1024 .f32) (a7 : FVec Ideal S16384x1024 .f32) : FVec Ideal S16384x1024 .f32 :=
  (extractStridedSlice S16384x1024 ![2, 0] (addf (addf (pad S16386x1024 ![2, 0] ![0, 0] ![0, 0] (mulf (broadcastInDim S16384x1024 ![0, 1] bcast_S1x1024_S16384x1024_0_1 (broadcastInDim S1x1024 ![1] bcast_S1024_S1x1024_1 (shapeCast _ (extractStridedSlice S1x1024 ![2, 0] a5 slices_S3x1024_S1x1024_2_0) shapeCasts_S1x1024_S1024))) (shapeCast _ a7 shapeCasts_S16384x1024_S16384x1024)) (constant (F := Ideal) S_ .f32 0x00000000#32) pads_S16384x1024_S16386x1024_200_000 h_S_) (pad S16386x1024 ![1, 0] ![1, 0] ![0, 0] (mulf (broadcastInDim S16384x1024 ![0, 1] bcast_S1x1024_S16384x1024_0_1 (broadcastInDim S1x1024 ![1] bcast_S1024_S1x1024_1 (shapeCast _ (extractStridedSlice S1x1024 ![1, 0] a5 slices_S3x1024_S1x1024_1_0) shapeCasts_S1x1024_S1024))) (shapeCast _ a7 shapeCasts_S16384x1024_S16384x1024)) (constant (F := Ideal) S_ .f32 0x00000000#32) pads_S16384x1024_S16386x1024_110_000 h_S_)) (pad S16386x1024 ![0, 0] ![2, 0] ![0, 0] (mulf (broadcastInDim S16384x1024 ![0, 1] bcast_S1x1024_S16384x1024_0_1 (broadcastInDim S1x1024 ![1] bcast_S1024_S1x1024_1 (shapeCast _ (extractStridedSlice S1x1024 ![0, 0] a5 slices_S3x1024_S1x1024_0_0) shapeCasts_S1x1024_S1024))) (shapeCast _ a7 shapeCasts_S16384x1024_S16384x1024)) (constant (F := Ideal) S_ .f32 0x00000000#32) pads_S16384x1024_S16386x1024_020_000 h_S_)) slices_S16386x1024_S16384x1024_2_0)

/-- The gradient of the projection's output. -/
def tCat (a6 : FVec Ideal S16384x1024 .f32) (tDz' : FVec Ideal S16384x1024 .f32) (tP' : FVec Ideal S16384x3072 .f32) : FVec Ideal S16384x3072 .f32 :=
  (fn_main_v86 (F := Ideal) a6 (mulf tDz' (extractStridedSlice S16384x1024 ![0, 2048] tP' slices_S16384x3072_S16384x1024_0_2048)) (mulf (extractStridedSlice S16384x1024 ![0, 1024] tP' slices_S16384x3072_S16384x1024_0_1024) tDz'))

/-- The gradient of the projection's input. -/
def tDh (tCat' : FVec Ideal S16384x3072 .f32) (a4 : FVec Ideal S1024x3072 .f32) : FVec Ideal S16384x1024 .f32 :=
  (Host.dotGeneral (φ₁ := .f32) (φ₂ := .f32) dot_S16384x3072_S1024x3072_S16384x1024_1_1_0_0_n_n none tCat' a4)

/-- The gradient of the normalised rows. -/
def tDy (tDh' : FVec Ideal S16384x1024 .f32) (a2 : FVec Ideal S1x1024 .f32) (a1 : FVec Ideal S1x1024 .f32) : FVec Ideal S16384x1024 .f32 :=
  (mulf (mulf tDh' (broadcastInDim S16384x1024 ![0, 1] bcast_S1x1024_S16384x1024_0_1 (addf (broadcastInDim S1x1024 ![] bcast_S_S1x1024 (constant (F := Ideal) S_ .f32 0x3F800000#32)) a2))) (broadcastInDim S16384x1024 ![0, 1] bcast_S1x1024_S16384x1024_0_1 a1))

/-- The factor of the rows in the expanded form. -/
def tB (a0 : FVec Ideal S16384x1024 .f32) (tDy' : FVec Ideal S16384x1024 .f32) (tR' : FVec Ideal S16384x1 .f32) : FVec Ideal S16384x1 .f32 :=
  (Host.divf (mulf (shapeCast _ (Host.reduceAdd (mulf a0 tDy') (constant (F := Ideal) S_ .f32 0x00000000#32) reducesTo_S16384x1024_S16384_d1 h_S_) shapeCasts_S16384_S16384x1) (mulf (broadcastInDim S16384x1 ![] bcast_S_S16384x1 (constant (F := Ideal) S_ .f32 0xBF000000#32)) (Host.divf tR' (addf (Host.divf (broadcastInDim S16384x1 ![0] bcast_S16384_S16384x1_0 (Host.reduceAdd (mulf a0 a0) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1 ![] bcast_S_S16384x1 (constant (F := Ideal) S_ .f32 0x44800000#32)))

/-- The gradient of the input. -/
def tDx (a8 : FVec Ideal S16384x1024 .f32) (tDy' : FVec Ideal S16384x1024 .f32) (tR' : FVec Ideal S16384x1 .f32) (a0 : FVec Ideal S16384x1024 .f32) (tB' : FVec Ideal S16384x1 .f32) : FVec Ideal S16384x1024 .f32 :=
  (addf (addf (addf a8 (mulf tDy' (broadcastInDim S16384x1024 ![0, 1] bcast_S16384x1_S16384x1024_0_1 tR'))) (mulf a0 (broadcastInDim S16384x1024 ![0] bcast_S16384_S16384x1024_0 (Host.reduceAdd tB' (constant (F := Ideal) S_ .f32 0x00000000#32) reducesTo_S16384x1_S16384_d1 h_S_)))) (mulf (broadcastInDim S16384x1024 ![0] bcast_S16384_S16384x1024_0 (Host.reduceAdd tB' (constant (F := Ideal) S_ .f32 0x00000000#32) reducesTo_S16384x1_S16384_d1 h_S_)) a0))

/-- The sums for the affine map. -/
def tSt (tDh' : FVec Ideal S16384x1024 .f32) (a0 : FVec Ideal S16384x1024 .f32) (tR' : FVec Ideal S16384x1 .f32) (a1 : FVec Ideal S1x1024 .f32) (a2 : FVec Ideal S1x1024 .f32) : FVec Ideal S8x1024 .f32 :=
  (fn_main_v116 (F := Ideal) (shapeCast _ (Host.reduceAdd tDh' (constant (F := Ideal) S_ .f32 0x00000000#32) reducesTo_S16384x1024_S1024_d0 h_S_) shapeCasts_S1024_S1x1024) (shapeCast _ (Host.reduceAdd (mulf (mulf (mulf a0 (broadcastInDim S16384x1024 ![0, 1] bcast_S16384x1_S16384x1024_0_1 tR')) (broadcastInDim S16384x1024 ![0, 1] bcast_S1x1024_S16384x1024_0_1 a1)) tDh') (constant (F := Ideal) S_ .f32 0x00000000#32) reducesTo_S16384x1024_S1024_d0 h_S_) shapeCasts_S1024_S1x1024) (shapeCast _ (Host.reduceAdd (mulf (mulf a0 (broadcastInDim S16384x1024 ![0, 1] bcast_S16384x1_S16384x1024_0_1 tR')) (mulf tDh' (broadcastInDim S16384x1024 ![0, 1] bcast_S1x1024_S16384x1024_0_1 (addf (broadcastInDim S1x1024 ![] bcast_S_S1x1024 (constant (F := Ideal) S_ .f32 0x3F800000#32)) a2)))) (constant (F := Ideal) S_ .f32 0x00000000#32) reducesTo_S16384x1024_S1024_d0 h_S_) shapeCasts_S1024_S1x1024) (broadcastInDim S5x1024 ![] bcast_S_S5x1024 (constant (F := Ideal) S_ .f32 0x00000000#32)))

/-- The convolution's weight gradients in eight rows. -/
def tSc2 (tGc' : FVec Ideal S3x1024 .f32) : FVec Ideal S8x1024 .f32 :=
  (fn_main_v118 (F := Ideal) tGc' (broadcastInDim S5x1024 ![] bcast_S_S5x1024 (constant (F := Ideal) S_ .f32 0x00000000#32)))

/-- The gradient of the projection's output, stored. -/
def tDp (tCat' : FVec Ideal S16384x3072 .f32) : FVec Ideal S16384x3072 .bf16 :=
  (truncf (F := Ideal) .bf16 tCat' bitsLt_bf16_f32)

variable (a0 a6 a7 a8 : FVec Ideal S16384x1024 .f32) (a1 a2 a3 : FVec Ideal S1x1024 .f32) (a4 : FVec Ideal S1024x3072 .f32) (a5 : FVec Ideal S3x1024 .f32)

theorem tR_at (t : Fin 16384) : tR a0 (ix2 t 0) = rs (fun t d => a0 (ix2 t d)) t := by
  unfold tR
  pointwise
  rfl

theorem tP_at (t : Fin 16384) (k : Fin 3072) :
    tP a0 (tR a0) a1 a2 a3 a4 (ix2 t k) = proj (fun t d => a0 (ix2 t d)) (fun d => a1 (ix2 0 d)) (fun d => a2 (ix2 0 d)) (fun d => a3 (ix2 0 d)) (fun t d => a4 (ix2 t d)) t k := by
  unfold tP
  pointwise [tR_at]
  rfl

theorem tZ_at (P : FVec Ideal S16384x3072 .f32) (t : Fin 16384) (d : Fin 1024) :
    tZ P (ix2 t d) = P (ix2 t (mid d)) * P (ix2 t (hig d)) := by
  unfold tZ
  pointwise

theorem tZp_at (Z : FVec Ideal S16384x1024 .f32) (t : Fin 16386) (d : Fin 1024) :
    tZp Z (ix2 t d) = if h : t.val < 2 then 0 else Z (ix2 ⟨t.val - 2, by omega⟩ d) := by
  unfold tZp fn_main_v27
  pointwise

theorem tDz_at (t : Fin 16384) (d : Fin 1024) :
    tDz a5 a7 (ix2 t d) = dz (fun t d => a5 (ix2 t d)) (fun t d => a7 (ix2 t d)) t d := by
  unfold tDz
  pointwise
  unfold dz up
  congr 2
  · by_cases h : t.val + 1 < 16384
    · rw [dif_pos (by omega), dif_pos h]
      exact congrArg (fun i => a5 (ix2 1 d) * a7 (ix2 i d)) (Fin.ext (by dsimp only; omega))
    · rw [dif_neg (by omega), dif_neg h, mul_zero]
  · by_cases h : t.val + 2 < 16384
    · rw [dif_pos (by omega), dif_pos h]
      exact congrArg (fun i => a5 (ix2 0 d) * a7 (ix2 i d)) (Fin.ext (by dsimp only; omega))
    · rw [dif_neg (by omega), dif_neg h, mul_zero]

theorem tCat_at (P : FVec Ideal S16384x3072 .f32) (t : Fin 16384) (k : Fin 3072) :
    tCat a6 (tDz a5 a7) P (ix2 t k) = dp (fun t d => a5 (ix2 t d)) (fun t d => a6 (ix2 t d)) (fun t d => a7 (ix2 t d)) (fun t k => P (ix2 t k)) t k := by
  unfold tCat fn_main_v86
  pointwise [tDz_at]
  unfold dp
  by_cases h : k.val < 1024
  · rw [dif_pos h, dif_pos h]
  · rw [dif_neg h, dif_neg h]
    by_cases h2 : k.val < 2048
    · rw [dif_pos h2, dif_pos (by omega)]
    · rw [dif_neg h2, dif_neg (by omega), mul_comm]
      have e : (⟨k.val - 1024 - 1024, by omega⟩ : Fin 1024) = ⟨k.val - 2048, by omega⟩ := Fin.ext (by dsimp only; omega)
      simp only [e]
      rfl

/-- A sum over the columns is the three thirds' sums. -/
theorem sum_thirds (f : Fin 3072 → EReal) : ∑ k, f k = (∑ k, f (low k)) + (∑ k, f (mid k)) + ∑ k, f (hig k) := by
  rw [show (∑ k, f k) = ∑ k : Fin (1024 + 1024 + 1024), f k from rfl, Fin.sum_univ_add, Fin.sum_univ_add]
  rfl

theorem tDh_at (P : FVec Ideal S16384x3072 .f32) (t : Fin 16384) (j : Fin 1024) :
    tDh (tCat a6 (tDz a5 a7) P) a4 (ix2 t j) = dh (fun t d => a5 (ix2 t d)) (fun t d => a6 (ix2 t d)) (fun t d => a7 (ix2 t d)) (fun t k => P (ix2 t k)) (fun t d => a4 (ix2 t d)) t j := by
  unfold tDh
  pointwise [tCat_at]
  rw [sum_thirds]
  unfold dh
  rfl

theorem tGc_at (Zp : FVec Ideal S16386x1024 .f32) (a : Fin 3) (d : Fin 1024) :
    tGc a7 Zp (ix2 a d) = ∑ t : Fin 16384, a7 (ix2 t d) * Zp (ix2 ⟨t.val + a.val, by omega⟩ d) := by
  unfold tGc
  pointwise
  have key : ∀ (i j : Fin 16384 → Fin 16386), (∀ t, i t = j t) →
      (∑ _x : Fin 1, ∑ t : Fin 16384, a7 (ix2 t d) * Zp (ix2 (i t) d)) = ∑ t : Fin 16384, a7 (ix2 t d) * Zp (ix2 (j t) d) := by
    intro i j h
    rw [Fin.sum_univ_one]
    exact Finset.sum_congr rfl fun t _ => by rw [h t]
  by_cases h0 : a.val = 0
  · rw [dif_neg (by omega), dif_neg (by omega), dif_pos (by omega), add_zero, zero_add]
    exact key _ _ fun t => Fin.ext (by dsimp only; omega)
  · by_cases h1 : a.val = 1
    · rw [dif_neg (by omega), dif_pos (by omega), dif_neg (by omega), add_zero, zero_add]
      exact key _ _ fun t => Fin.ext (by dsimp only; omega)
    · rw [dif_pos (by omega), dif_neg (by omega), dif_neg (by omega), add_zero, add_zero]
      exact key _ _ fun t => Fin.ext (by dsimp only; omega)

theorem tDy_at (H : FVec Ideal S16384x1024 .f32) (t : Fin 16384) (d : Fin 1024) :
    tDy H a2 a1 (ix2 t d) = H (ix2 t d) * (1 + a2 (ix2 0 d)) * a1 (ix2 0 d) := by
  unfold tDy
  pointwise

theorem tB_at (Y : FVec Ideal S16384x1024 .f32) (R : FVec Ideal S16384x1 .f32) (t : Fin 16384) :
    tB a0 Y R (ix2 t 0) = Ideal.div ((∑ k, a0 (ix2 t k) * Y (ix2 t k)) * (Ideal.ofBits .f32 0xBF000000#32 * Ideal.div (R (ix2 t 0)) (ms (fun t d => a0 (ix2 t d)) t))) (Ideal.ofBits .f32 0x44800000#32) := by
  unfold tB
  pointwise
  rfl

theorem tDx_at (Y : FVec Ideal S16384x1024 .f32) (R B : FVec Ideal S16384x1 .f32) (t : Fin 16384) (d : Fin 1024) :
    tDx a8 Y R a0 B (ix2 t d) = a8 (ix2 t d) + Y (ix2 t d) * R (ix2 t 0) + a0 (ix2 t d) * B (ix2 t 0) + B (ix2 t 0) * a0 (ix2 t d) := by
  unfold tDx
  pointwise
  rw [Fin.sum_univ_one]

/-- The input's gradient in the centred form. -/
theorem tDx_eq (H : FVec Ideal S16384x1024 .f32) (t : Fin 16384) (j : Fin 1024) :
    tDx a8 (tDy H a2 a1) (tR a0) a0 (tB a0 (tDy H a2 a1) (tR a0)) (ix2 t j)
      = dx (fun t d => a0 (ix2 t d)) (fun t d => H (ix2 t d)) (fun t d => a8 (ix2 t d)) (fun d => a1 (ix2 0 d)) (fun d => a2 (ix2 0 d)) t j := by
  obtain ⟨e, he, hee⟩ := Norm.ofBits_eps
  rw [tDx_at, tB_at, tR_at]
  simp only [tDy_at]
  unfold dx rs ms
  rw [Norm.ofBits_1024, Norm.ofBits_neg_half, hee]
  exact (Norm.row (fun k => a0 (ix2 t k)) (fun k => H (ix2 t k) * (1 + a2 (ix2 0 k)) * a1 (ix2 0 k)) (a8 (ix2 t j)) (by norm_num : (0 : ℝ) < 1024) he j).symm

theorem tSt_at (H : FVec Ideal S16384x1024 .f32) (a : Fin 8) (d : Fin 1024) :
    tSt H a0 (tR a0) a1 a2 (ix2 a d) = ∑ t, stT (fun t d => a0 (ix2 t d)) (fun t d => H (ix2 t d)) (fun d => a1 (ix2 0 d)) (fun d => a2 (ix2 0 d)) a t d := by
  unfold tSt fn_main_v116
  pointwise [tR_at]
  unfold stT
  by_cases h0 : a.val = 0
  · simp only [h0, if_true]
    rw [dif_pos (by omega)]
  · rw [dif_neg (by omega)]
    by_cases h1 : a.val = 1
    · rw [dif_pos (by omega)]
      exact Finset.sum_congr rfl fun t _ => by rw [if_neg h0, if_pos h1, mul_comm]
    · rw [dif_neg (by omega)]
      by_cases h2 : a.val = 2
      · rw [dif_pos (by omega)]
        exact Finset.sum_congr rfl fun t _ => by rw [if_neg h0, if_neg h1, if_pos h2, mul_comm]
      · rw [dif_neg (by omega)]
        exact (Finset.sum_eq_zero fun t _ => by rw [if_neg h0, if_neg h1, if_neg h2]).symm

theorem tSc2_at (P : FVec Ideal S16384x3072 .f32) (a : Fin 8) (d : Fin 1024) :
    tSc2 (tGc a7 (tZp (tZ P))) (ix2 a d) = ∑ t, gcwT (fun t d => a7 (ix2 t d)) (fun t k => P (ix2 t k)) a t d := by
  unfold tSc2 fn_main_v118
  pointwise [tGc_at, tZp_at, tZ_at]
  by_cases h0 : a.val = 0
  · rw [dif_pos (by omega)]
    simp only [gcwT, if_pos h0, up]
    rw [sum_shift 2 (by omega) (fun t => P (ix2 t (mid d)) * P (ix2 t (hig d))) (fun t => a7 (ix2 t d))]
    refine Finset.sum_congr rfl fun t _ => ?_
    by_cases h : 2 ≤ t.val
    · rw [dif_neg (by omega), dif_pos h]
      have e : (⟨t.val + a.val - 2, by omega⟩ : Fin 16384) = ⟨t.val - 2, by omega⟩ := Fin.ext (by dsimp only; omega)
      simp only [e]
    · rw [dif_pos (by omega), dif_neg h]
  · by_cases h1 : a.val = 1
    · rw [dif_pos (by omega)]
      simp only [gcwT, if_neg h0, if_pos h1, up]
      rw [sum_shift 1 (by omega) (fun t => P (ix2 t (mid d)) * P (ix2 t (hig d))) (fun t => a7 (ix2 t d))]
      refine Finset.sum_congr rfl fun t _ => ?_
      by_cases h : 1 ≤ t.val
      · rw [dif_neg (by omega), dif_pos h]
        have e : (⟨t.val + a.val - 2, by omega⟩ : Fin 16384) = ⟨t.val - 1, by omega⟩ := Fin.ext (by dsimp only; omega)
        simp only [e]
      · rw [dif_pos (by omega), dif_neg h]
    · by_cases h2 : a.val = 2
      · rw [dif_pos (by omega)]
        refine Finset.sum_congr rfl fun t _ => ?_
        simp only [gcwT, if_neg h0, if_neg h1, if_pos h2]
        rw [dif_neg (by omega), mul_comm]
        have e : (⟨t.val + a.val - 2, by omega⟩ : Fin 16384) = t := Fin.ext (by dsimp only; omega)
        simp only [e]
      · rw [dif_neg (by omega)]
        exact (Finset.sum_eq_zero fun t _ => by simp only [gcwT, if_neg h0, if_neg h1, if_neg h2]).symm

/-- The projection's term in the reference. -/
abbrev rP : FVec Ideal S16384x3072 .f32 :=
  tP (m ((c.tc : Thread nD τ).loc main_arg0)) (tR (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))
/-- The gradient of the projection's output in the reference. -/
abbrev rCat : FVec Ideal S16384x3072 .f32 :=
  tCat (m ((c.tc : Thread nD τ).loc main_arg6)) (tDz (m ((c.tc : Thread nD τ).loc main_arg5)) (m ((c.tc : Thread nD τ).loc main_arg7))) (rP m c)
/-- The gradient of the projection's input in the reference. -/
abbrev rDh : FVec Ideal S16384x1024 .f32 := tDh (rCat m c) (m ((c.tc : Thread nD τ).loc main_arg4))
/-- The gradient of the projection's input. -/
def mDh : Mat 16384 1024 := dh (mCw m c) (mDbg m c) (mDu m c) (mP m c) (mW m c)

theorem rP_at (t : Fin 16384) (k : Fin 3072) : rP m c (ix2 t k) = mP m c t k := tP_at _ _ _ _ _ t k

theorem rDh_at (t : Fin 16384) (j : Fin 1024) : rDh m c (ix2 t j) = mDh m c t j := by
  rw [rDh, tDh_at]
  simp only [rP_at]
  rfl

theorem res0 : res_out0 m c = fun j : S16384x1024.Idx => dx (mX m c) (mDh m c) (mDxo m c) (mG m c) (mSc m c) (j 0) (j 1) := by
  have e : res_out0 m c = tDx (m ((c.tc : Thread nD τ).loc main_arg8)) (tDy (rDh m c) (m ((c.tc : Thread nD τ).loc main_arg2)) (m ((c.tc : Thread nD τ).loc main_arg1))) (tR (m ((c.tc : Thread nD τ).loc main_arg0))) (m ((c.tc : Thread nD τ).loc main_arg0)) (tB (m ((c.tc : Thread nD τ).loc main_arg0)) (tDy (rDh m c) (m ((c.tc : Thread nD τ).loc main_arg2)) (m ((c.tc : Thread nD τ).loc main_arg1))) (tR (m ((c.tc : Thread nD τ).loc main_arg0)))) := by
    unfold res_out0 res_main_v114
    rfl
  funext j
  idx_vars j
  rw [e, tDx_eq]
  simp only [rDh_at]
  rfl

theorem res2 : res_out2 m c = fun j : S8x1024.Idx => ∑ t, stT (mX m c) (mDh m c) (mG m c) (mSc m c) (j 0) t (j 1) := by
  have e : res_out2 m c = tSt (rDh m c) (m ((c.tc : Thread nD τ).loc main_arg0)) (tR (m ((c.tc : Thread nD τ).loc main_arg0))) (m ((c.tc : Thread nD τ).loc main_arg1)) (m ((c.tc : Thread nD τ).loc main_arg2)) := by
    unfold res_out2 res_main_v116
    rfl
  funext j
  idx_vars j
  rw [e, tSt_at]
  simp only [rDh_at]
  rfl

theorem res3 : res_out3 m c = fun j : S8x1024.Idx => ∑ t, gcwT (mDu m c) (mP m c) (j 0) t (j 1) := by
  have e : res_out3 m c = tSc2 (tGc (m ((c.tc : Thread nD τ).loc main_arg7)) (tZp (tZ (rP m c)))) := by
    unfold res_out3 res_main_v118
    rfl
  funext j
  idx_vars j
  rw [e, tSc2_at]
  simp only [rP_at]
  rfl

theorem res1 : res_out1 m c = fun j : S16384x3072.Idx => dp (mCw m c) (mDbg m c) (mDu m c) (mP m c) (j 0) (j 1) := by
  funext j
  idx_vars j
  have e : res_out1 m c = tDp (tCat (m ((c.tc : Thread nD τ).loc main_arg6)) (tDz (m ((c.tc : Thread nD τ).loc main_arg5)) (m ((c.tc : Thread nD τ).loc main_arg7))) (tP (m ((c.tc : Thread nD τ).loc main_arg0)) (tR (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)))) := by
    unfold res_out1 res_main_v119
    rfl
  rw [e]
  unfold tDp
  pointwise [tCat_at, tP_at]
  rfl
end Cert.ScReferenceIdeal.Hand
end
-- ==== Proof.ScClaim.lean ====
/-
  The five claims about the gated short convolution's input gradient: the three frames, that the ideal program is the
  kernel, and that kernel and reference compute the same four arrays over the extended reals.
-/
module

public import proofs.«01_k».proof.Defs
public import proofs.«01_k».proof.Proof.Gen.ScKernel
public import proofs.«01_k».proof.Proof.Gen.ScKernel.Frame
public import proofs.«01_k».proof.Proof.Gen.ScKernelIdeal.Value
public import proofs.«01_k».proof.Proof.ScFinal
public import proofs.«01_k».proof.Proof.ScRef
public import Idealize.ShloMosaic.Lib.Quiescent

@[expose] public section
noncomputable section
namespace Cert.ScClaim
open Idealize.ShloMosaic Idealize.ShloMosaic.TcCoe Idealize.SL.Sem Cert.Sc

/-- The kernel's frame. -/
theorem frame_kernel : Cert.quiescent_ScKernel (hScKernel := Cert.ScKernel.Gen.facts) :=
  fun m ρ _ => Cert.ScKernel.Gen.frame m ρ

/-- The ideal kernel's frame. -/
theorem frame_ideal : Cert.quiescent_ScKernelIdeal (hScKernelIdeal := Cert.ScKernelIdeal.Gen.facts) :=
  fun m ρ _ => Cert.ScKernelIdeal.Gen.frame m ρ

/-- The reference's frame: its run keeps the arguments, and it has no semaphore. -/
theorem frame_reference : Cert.quiescent_ScReferenceIdeal (hScReferenceIdeal := Cert.ScReferenceIdeal.Gen.facts) :=
  fun m ρ _ => (θ_run Cert.ScReferenceIdeal.defs _ _).mono
    (fun _ h => ⟨fun c => (h c).2.2.2.2, sem_eq_zero_of_no_sems (by decide) _⟩)
    (Cert.ScReferenceIdeal.Value.run (F := Ideal) m ρ)

section agree
variable (m : (ℓ : Loc ScKernelIdeal.nD ScKernelIdeal.τ ScKernelIdeal.sig) → Buf (Elt Ideal) ℓ)
  (m' : (ℓ : Loc ScReferenceIdeal.nD ScReferenceIdeal.τ ScReferenceIdeal.sig) → Buf (Elt Ideal) ℓ)
  (c : Dev ScKernelIdeal.nD)

/-- Where the arguments agree, so do their matrices. -/
structure Agree : Prop where
  x : ScReferenceIdeal.Hand.mX m' c = ScKernelIdeal.Hand.mX m c
  g : ScReferenceIdeal.Hand.mG m' c = ScKernelIdeal.Hand.mG m c
  sc : ScReferenceIdeal.Hand.mSc m' c = ScKernelIdeal.Hand.mSc m c
  sh : ScReferenceIdeal.Hand.mSh m' c = ScKernelIdeal.Hand.mSh m c
  w : ScReferenceIdeal.Hand.mW m' c = ScKernelIdeal.Hand.mW m c
  cw : ScReferenceIdeal.Hand.mCw m' c = ScKernelIdeal.Hand.mCw m c
  dbg : ScReferenceIdeal.Hand.mDbg m' c = ScKernelIdeal.Hand.mDbg m c
  du : ScReferenceIdeal.Hand.mDu m' c = ScKernelIdeal.Hand.mDu m c
  dxo : ScReferenceIdeal.Hand.mDxo m' c = ScKernelIdeal.Hand.mDxo m c

variable {m m' c}

/-- The projections agree. -/
theorem Agree.p (h : Agree m m' c) : ScReferenceIdeal.Hand.mP m' c = ScKernelIdeal.Hand.mP m c := by
  unfold ScReferenceIdeal.Hand.mP ScKernelIdeal.Hand.mP
  rw [h.x, h.g, h.sc, h.sh, h.w]

/-- The gradients of the projection's input agree. -/
theorem Agree.h (h : Agree m m' c) : ScReferenceIdeal.Hand.mDh m' c = ScKernelIdeal.Hand.mDh m c := by
  unfold ScReferenceIdeal.Hand.mDh ScKernelIdeal.Hand.mDh
  rw [h.cw, h.dbg, h.du, h.p, h.w]

end agree

/-- Kernel and reference compute the same four arrays. -/
theorem algebraic : Cert.algebraic_ScKernelIdeal_ScReferenceIdeal (hScKernelIdeal := Cert.ScKernelIdeal.Gen.facts)
    (hScReferenceIdeal := Cert.ScReferenceIdeal.Gen.facts) := by
  intro m ρ m' ρ' _ hargs
  have ha : ∀ c, Agree m m' c := fun c => by
    obtain ⟨h0, h1, h2, h3, h4, h5, h6, h7, h8⟩ := hargs c
    exact ⟨funext fun _ => funext fun _ => congrFun h0 _, funext fun _ => congrFun h1 _, funext fun _ => congrFun h2 _,
      funext fun _ => congrFun h3 _, funext fun _ => funext fun _ => congrFun h4 _, funext fun _ => funext fun _ => congrFun h5 _,
      funext fun _ => funext fun _ => congrFun h6 _, funext fun _ => funext fun _ => congrFun h7 _,
      funext fun _ => funext fun _ => congrFun h8 _⟩
  refine ⟨fun c => (ScKernelIdeal.Gen.dats m 0 c).arrAt 10 ScKernelIdeal.cfg0.N,
    fun c => (ScKernelIdeal.Gen.dats m 0 c).arrAt 11 ScKernelIdeal.cfg0.N,
    fun c => (ScKernelIdeal.Gen.dats m 0 c).arrAt 12 ScKernelIdeal.cfg0.N,
    fun c => (ScKernelIdeal.Gen.dats m 0 c).arrAt 13 ScKernelIdeal.cfg0.N,
    ScKernelIdeal.Value.run_blocks m ρ, ?_⟩
  refine (θ_run ScReferenceIdeal.defs _ _).mono (fun _ h c => ?_) (ScReferenceIdeal.Value.run (F := Ideal) m' ρ')
  obtain ⟨r0, r1, r2, r3, rest⟩ := h c
  have e := ha c
  refine ⟨(r0.trans (ScReferenceIdeal.Hand.res0 m' c)).trans (Eq.trans ?_ (ScKernelIdeal.Hand.out10 m c).symm),
    (r1.trans (ScReferenceIdeal.Hand.res1 m' c)).trans (Eq.trans ?_ (ScKernelIdeal.Hand.out11 m c).symm),
    (r2.trans (ScReferenceIdeal.Hand.res2 m' c)).trans (Eq.trans ?_ (ScKernelIdeal.Hand.out12 m c).symm),
    (r3.trans (ScReferenceIdeal.Hand.res3 m' c)).trans (Eq.trans ?_ (ScKernelIdeal.Hand.out13 m c).symm), rest⟩
  · rw [e.x, e.h, e.dxo, e.g, e.sc]
  · rw [e.cw, e.dbg, e.du, e.p]
  · rw [e.x, e.h, e.g, e.sc]
  · rw [e.du, e.p]

end Cert.ScClaim
end
-- ==== Proof.FiSpec.lean ====
/-
  The input gradient of the channel mixer's first half, entry by entry over the extended reals: the gate's gradient moved
  up through the causal convolution, the gradient of the up-projection's input, and the sums that are the gradient of the
  convolution's weights. The normalisation's part is the one of the gated convolution.
-/
module

public import proofs.«01_k».proof.Proof.ScSpec
public import Idealize.ShloMosaic.Lib.Pipeline.ValueKit.Acc

@[expose] public section
noncomputable section
namespace Cert.Fi
open Idealize.ShloMosaic Cert.Sc

/-- Column `k` of block `j` of the hidden units. -/
abbrev col (j : Fin 4) (k : Fin 704) : Fin 2816 := ⟨704 * j.val + k.val, by omega⟩
/-- The up-projection's column of a hidden unit's gate. -/
abbrev gat (q : Fin 2816) : Fin 5632 := ⟨q.val, by omega⟩
/-- The up-projection's column of a hidden unit's value. -/
abbrev val (q : Fin 2816) : Fin 5632 := ⟨2816 + q.val, by omega⟩

/-- The rows `k` below, zero past the end. -/
def up (du : Mat 16384 2816) (k : ℕ) : Mat 16384 2816 := fun t d =>
  if h : t.val + k < 16384 then du ⟨t.val + k, h⟩ d else 0

/-- The gradient of the convolution's input. -/
def dgate (cw : Mat 3 2816) (dgc : Mat 16384 2816) : Mat 16384 2816 := fun t q =>
  cw 2 q * dgc t q + cw 1 q * up dgc 1 t q + cw 0 q * up dgc 2 t q

/-- The gradient of the up-projection's output, its halves side by side. -/
def dup (cw : Mat 3 2816) (dgc dval : Mat 16384 2816) : Mat 16384 5632 := fun t q =>
  if h : q.val < 2816 then dgate cw dgc t ⟨q.val, h⟩ else dval t ⟨q.val - 2816, by omega⟩

/-- The gradient of the up-projection's input. -/
def dh (cw : Mat 3 2816) (dgc dval : Mat 16384 2816) (w : Mat 1024 5632) : Mat 16384 1024 := fun t d =>
  ∑ q, dup cw dgc dval t q * w d q

/-- The part of block `j` of the gates. -/
def hg (cw : Mat 3 2816) (dgc : Mat 16384 2816) (w : Mat 1024 5632) (t : Fin 16384) (d : Fin 1024) (j : Fin 4) : EReal :=
  ∑ k : Fin 704, dgate cw dgc t (col j k) * w d (gat (col j k))
/-- The part of block `j` of the values. -/
def hv (dval : Mat 16384 2816) (w : Mat 1024 5632) (t : Fin 16384) (d : Fin 1024) (j : Fin 4) : EReal :=
  ∑ k : Fin 704, dval t (col j k) * w d (val (col j k))

/-- The gradient of the up-projection's input, gathered block by block. -/
theorem dh_blocks (cw : Mat 3 2816) (dgc dval : Mat 16384 2816) (w : Mat 1024 5632) (t : Fin 16384) (d : Fin 1024) :
    dh cw dgc dval w t d = hg cw dgc w t d 0 + hg cw dgc w t d 1 + hg cw dgc w t d 2 + hg cw dgc w t d 3
      + hv dval w t d 0 + hv dval w t d 1 + hv dval w t d 2 + hv dval w t d 3 := by
  have e : ∀ (j : Fin 4), (∑ k : Fin 704, dup cw dgc dval t ⟨j.val * 704 + k.val, by omega⟩ * w d ⟨j.val * 704 + k.val, by omega⟩)
      = hg cw dgc w t d j := fun j => Finset.sum_congr rfl fun k _ => by
    have e : (⟨j.val * 704 + k.val, by omega⟩ : Fin 5632) = gat (col j k) := Fin.ext (by dsimp only; omega)
    simp only [e]
    rw [dup, dif_pos (by dsimp only; omega)]
  have e' : ∀ (j : Fin 4), (∑ k : Fin 704, dup cw dgc dval t ⟨(4 + j.val) * 704 + k.val, by omega⟩ * w d ⟨(4 + j.val) * 704 + k.val, by omega⟩)
      = hv dval w t d j := fun j => Finset.sum_congr rfl fun k _ => by
    have e : (⟨(4 + j.val) * 704 + k.val, by omega⟩ : Fin 5632) = val (col j k) := Fin.ext (by dsimp only; omega)
    simp only [e]
    rw [dup, dif_neg (by dsimp only; omega)]
    have e2 : (⟨2816 + (704 * j.val + k.val) - 2816, by omega⟩ : Fin 2816) = col j k := Fin.ext (by dsimp only; omega)
    simp only [e2]
  rw [← e 0, ← e 1, ← e 2, ← e 3, ← e' 0, ← e' 1, ← e' 2, ← e' 3, dh,
    ← Fin.sum_mul_add_fin 8 704 (fun q : Fin 5632 => dup cw dgc dval t q * w d q), Fin.sum_univ_eight]
  rfl

/-- One token's part of row `a` of the sums that are the gradient of the convolution's weights. -/
def gcT (dgc : Mat 16384 2816) (p : Mat 16384 5632) (a : Fin 8) : Mat 16384 2816 := fun t q =>
  if a.val = 1 then p t (gat q) * up dgc 2 t q
  else if a.val = 2 then p t (gat q) * up dgc 1 t q
  else if a.val = 3 then p t (gat q) * dgc t q
  else 0

/-- The up-projection of the normalised and modulated rows. -/
def proj (x : Mat 16384 1024) (g sc sh : Fin 1024 → EReal) (w : Mat 1024 5632) : Mat 16384 5632 := fun t k =>
  ∑ j, (x t j * rs x t * g j * (1 + sc j) + sh j) * w j k

end Cert.Fi
end
-- ==== Proof.FiBlocks.lean ====
/-
  The blocks the channel mixer's input gradient kernel reads at a grid point, entry by entry: row `r` of the point's block
  of 512 rows is row `512 t + r` of the array, and block `j` of the hidden units holds columns `704 j` and on.
-/
module

public import proofs.«01_k».proof.Proof.Gen.FiKernelIdeal.Frame
public import proofs.«01_k».proof.Proof.FiSpec
public import proofs.«01_k».proof.Proof.Rows
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Sc Cert.Fi Cert.Rows
namespace Cert.FiKernelIdeal.Hand
open Cert.FiKernelIdeal Cert.FiKernelIdeal.Gen
variable (m : (ℓ : Loc nD τ sig) → Buf (Elt Ideal) ℓ) (c : Dev nD)

/-- The arguments as matrices. -/
def mX : Mat 16384 1024 := fun t d => (m ((c : Thread nD τ).loc main_arg0) : Vec Ideal S16384x1024 .f32) (ix2 t d)
@[inherit_doc mX] def mG : Fin 1024 → EReal := fun d => (m ((c : Thread nD τ).loc main_arg1) : Vec Ideal S1x1024 .f32) (ix2 0 d)
@[inherit_doc mX] def mSc : Fin 1024 → EReal := fun d => (m ((c : Thread nD τ).loc main_arg2) : Vec Ideal S1x1024 .f32) (ix2 0 d)
@[inherit_doc mX] def mSh : Fin 1024 → EReal := fun d => (m ((c : Thread nD τ).loc main_arg3) : Vec Ideal S1x1024 .f32) (ix2 0 d)
@[inherit_doc mX] def mW : Mat 1024 5632 := fun t d => (m ((c : Thread nD τ).loc main_arg4) : Vec Ideal S1024x5632 .f32) (ix2 t d)
@[inherit_doc mX] def mCw : Mat 3 2816 := fun t d => (m ((c : Thread nD τ).loc main_arg5) : Vec Ideal S3x2816 .f32) (ix2 t d)
@[inherit_doc mX] def mDgc : Mat 16384 2816 := fun t d => (m ((c : Thread nD τ).loc main_arg6) : Vec Ideal S16384x2816 .f32) (ix2 t d)
@[inherit_doc mX] def mDval : Mat 16384 2816 := fun t d => (m ((c : Thread nD τ).loc main_arg7) : Vec Ideal S16384x2816 .f32) (ix2 t d)
@[inherit_doc mX] def mDxo : Mat 16384 1024 := fun t d => (m ((c : Thread nD τ).loc main_arg8) : Vec Ideal S16384x1024 .f32) (ix2 t d)

/-- The up-projection the host hands the kernel, entry by entry. -/
def mP : Mat 16384 5632 := proj (mX m c) (mG m c) (mSc m c) (mSh m c) (mW m c)

theorem idx : ∀ t : Fin cfg0.N, win0_0.index t = ![0, t.val, 0] ∧ win0_1.index t = ![0, min (32 * t.val + 32) 1023, 0]
    ∧ win0_2.index t = ![1, t.val, 0] ∧ win0_3.index t = ![0, t.val, 0] ∧ win0_4.index t = ![0, 0, 0] ∧ win0_5.index t = ![0, 0, 0]
    ∧ win0_6.index t = ![t.val, 0] ∧ win0_7.index t = ![0, 0] ∧ win0_8.index t = ![0, 0] ∧ win0_9.index t = ![t.val, 0]
    ∧ win0_10.index t = ![t.val, 0] ∧ win0_11.index t = ![0, t.val, 0] ∧ win0_12.index t = ![0, 0] ∧ win0_13.index t = ![0, 0, 0] :=
  (by decide +kernel : ∀ t : Fin grid0.N, _)

theorem lt32 (t : Fin cfg0.N) : t.val < 32 := lt_of_lt_of_eq t.isLt N_0

/-- The array's row that is row `r` of the block at `t`. -/
abbrev row (t : Fin cfg0.N) (r : Fin 512) : Fin 16384 := ⟨512 * t.val + r.val, by have := lt32 t; omega⟩

theorem V34 (j : Fin 4) (t : Fin 16384) (k : Fin 704) : (V m c main_v34 : Vec Ideal S4x16384x704 .bf16) (ix3 j t k) = mDgc m c t (col j k) := by
  simp only [V]
  entry_read
  pointwise
  unfold mDgc
  congr 2
  exact Fin.ext (by dsimp only; omega)
theorem V28 (j : Fin 4) (t : Fin 16384) (k : Fin 704) :
    (V m c main_v28 : Vec Ideal S8x16384x704 .bf16) (ix3 (⟨4 + j.val, by omega⟩ : Fin 8) t k) = mDval m c t (col j k) := by
  simp only [V]
  entry_read
  pointwise
  unfold mDval
  congr 2
  exact Fin.ext (by dsimp only; omega)
theorem V21 (j : Fin 4) (t : Fin 16384) (k : Fin 704) :
    (V m c main_v21 : Vec Ideal S8x16384x704 .bf16) (ix3 (⟨j.val, by omega⟩ : Fin 8) t k) = mP m c t (gat (col j k)) := by
  simp only [V]
  entry_read
  pointwise
  have e : (⟨j.val * 704 + k.val, by omega⟩ : Fin 5632) = gat (col j k) := Fin.ext (by dsimp only; omega)
  simp only [e]
  rfl
theorem V23 (j : Fin 4) (a : Fin 3) (k : Fin 704) : (V m c main_v23 : Vec Ideal S4x3x704 .f32) (ix3 j a k) = mCw m c a (col j k) := by
  simp only [V]
  entry_read
  pointwise
  unfold mCw
  congr 2
  exact Fin.ext (by dsimp only; omega)
theorem V31 (j : Fin 8) (k : Fin 704) (d : Fin 1024) :
    (V m c main_v31 : Vec Ideal S8x704x1024 .bf16) (ix3 j k d) = mW m c d ⟨704 * j.val + k.val, by omega⟩ := by
  simp only [V]
  entry_read
  pointwise
  unfold mW
  congr 2
  exact Fin.ext (by dsimp only; omega)

theorem ib0 (t : Fin cfg0.N) (j : Fin 4) (r : Fin 512) (k : Fin 704) : iblk m c 0 t (ix3 j r k) = mDgc m c (row t r) (col j k) := by
  rw [← V34]; blk_point [iblk, V, idx t]
theorem ib1 (t : Fin cfg0.N) (j : Fin 4) (r : Fin 16) (k : Fin 704) :
    iblk m c 1 t (ix3 j r k) = mDgc m c ⟨16 * min (32 * t.val + 32) 1023 + r.val, by omega⟩ (col j k) := by
  rw [← V34]; blk_point [iblk, V, idx t]
theorem ib2 (t : Fin cfg0.N) (j : Fin 4) (r : Fin 512) (k : Fin 704) : iblk m c 2 t (ix3 j r k) = mDval m c (row t r) (col j k) := by
  rw [← V28]; blk_point [iblk, V, idx t]
theorem ib3 (t : Fin cfg0.N) (j : Fin 4) (r : Fin 512) (k : Fin 704) : iblk m c 3 t (ix3 j r k) = mP m c (row t r) (gat (col j k)) := by
  rw [← V21]; blk_point [iblk, V, idx t]
theorem ib4 (t : Fin cfg0.N) (j : Fin 4) (a : Fin 3) (k : Fin 704) : iblk m c 4 t (ix3 j a k) = mCw m c a (col j k) := by
  rw [← V23]; blk_point [iblk, V, idx t]
theorem ib5 (t : Fin cfg0.N) (j : Fin 8) (k : Fin 704) (d : Fin 1024) :
    iblk m c 5 t (ix3 j k d) = mW m c d ⟨704 * j.val + k.val, by omega⟩ := by
  rw [← V31]; blk_point [iblk, V, idx t]
theorem ib6 (t : Fin cfg0.N) (r : Fin 512) (d : Fin 1024) : iblk m c 6 t (ix2 r d) = mX m c (row t r) d := by
  blk_point [iblk, V, idx t]
theorem ib7 (t : Fin cfg0.N) (d : Fin 1024) : iblk m c 7 t (ix2 0 d) = mG m c d := by
  blk_point [iblk, V, idx t]
theorem ib8 (t : Fin cfg0.N) (d : Fin 1024) : iblk m c 8 t (ix2 0 d) = mSc m c d := by
  blk_point [iblk, V, idx t]
theorem ib9 (t : Fin cfg0.N) (r : Fin 512) (d : Fin 1024) : iblk m c 9 t (ix2 r d) = mDxo m c (row t r) d := by
  blk_point [iblk, V, idx t]

end Cert.FiKernelIdeal.Hand
end
-- ==== Proof.FiPay.lean ====
/-
  What the channel mixer's input gradient kernel computes at a grid point, entry by entry: the four blocks of hidden units
  are one computation at four offsets, so each value is read once for an arbitrary block and then at the four.
-/
module

public import proofs.«01_k».proof.Proof.FiBlocks

@[expose] public section
set_option maxRecDepth 16384
noncomputable section
open Idealize.ShloMosaic Idealize.ShloMosaic.TcCoe Idealize.SL.Sem
open Idealize.ShloMosaic.Pipeline (Dat)
open Cert.Sc Cert.Fi Cert.Rows
namespace Cert.FiKernelIdeal.Hand
open Cert.FiKernelIdeal Cert.FiKernelIdeal.Gen
variable (m : (ℓ : Loc nD τ sig) → Buf (Elt Ideal) ℓ) (c : Dev nD)

/-- The input gradient of the up-projection in this launch. -/
abbrev mDh : Mat 16384 1024 := dh (mCw m c) (mDgc m c) (mDval m c) (mW m c)

/-- Loads of one block of hidden units, by its number. -/
theorem ldA (t : Fin cfg0.N) {o : ℕ} (h) (ho : o < 4) (r : Fin 512) (k : Fin 704) :
    View.ld (iblk m c 0 t) (Rect.unit (s := S4x512x704) ![o, 0, 0] ![1, 512, 704] h) (ix3 0 r k) = mDgc m c (row t r) (col ⟨o, ho⟩ k) := by
  refine (ld3 (iblk m c 0 t) _ (0 : Fin 1) r k (by simpa using ho) (by omega) (by omega)).trans ((ib0 m c t _ _ _).trans ?_)
  congr 1 <;> exact Fin.ext (by simp)
@[inherit_doc ldA]
theorem ldB (t : Fin cfg0.N) {o : ℕ} (h) (ho : o < 4) (r : Fin 8) (k : Fin 704) :
    View.ld (iblk m c 1 t) (Rect.unit (s := S4x16x704) ![o, 0, 0] ![1, 8, 704] h) (ix3 0 r k)
      = mDgc m c ⟨16 * min (32 * t.val + 32) 1023 + r.val, by omega⟩ (col ⟨o, ho⟩ k) := by
  refine (ld3 (iblk m c 1 t) _ (0 : Fin 1) r k (by simpa using ho) (by omega) (by omega)).trans ((ib1 m c t _ _ _).trans ?_)
  congr 1 <;> exact Fin.ext (by simp)
@[inherit_doc ldA]
theorem ldD (t : Fin cfg0.N) {o : ℕ} (h) (ho : o < 4) (r : Fin 512) (k : Fin 704) :
    View.ld (iblk m c 2 t) (Rect.unit (s := S4x512x704) ![o, 0, 0] ![1, 512, 704] h) (ix3 0 r k) = mDval m c (row t r) (col ⟨o, ho⟩ k) := by
  refine (ld3 (iblk m c 2 t) _ (0 : Fin 1) r k (by simpa using ho) (by omega) (by omega)).trans ((ib2 m c t _ _ _).trans ?_)
  congr 1 <;> exact Fin.ext (by simp)
@[inherit_doc ldA]
theorem ldG (t : Fin cfg0.N) {o : ℕ} (h) (ho : o < 4) (r : Fin 512) (k : Fin 704) :
    View.ld (iblk m c 3 t) (Rect.unit (s := S4x512x704) ![o, 0, 0] ![1, 512, 704] h) (ix3 0 r k) = mP m c (row t r) (gat (col ⟨o, ho⟩ k)) := by
  refine (ld3 (iblk m c 3 t) _ (0 : Fin 1) r k (by simpa using ho) (by omega) (by omega)).trans ((ib3 m c t _ _ _).trans ?_)
  congr 1 <;> exact Fin.ext (by simp)
@[inherit_doc ldA]
theorem ldC (t : Fin cfg0.N) {o a : ℕ} (h) (ho : o < 4) (ha : a < 3) (k : Fin 704) :
    View.ld (iblk m c 4 t) (Rect.unit (s := S4x3x704) ![o, a, 0] ![1, 1, 704] h) (ix3 0 0 k) = mCw m c ⟨a, ha⟩ (col ⟨o, ho⟩ k) := by
  refine (ld3 (iblk m c 4 t) _ (0 : Fin 1) (0 : Fin 1) k (by simpa using ho) (by simpa using ha) (by omega)).trans ((ib4 m c t _ _ _).trans ?_)
  congr 1 <;> exact Fin.ext (by simp)
@[inherit_doc ldA]
theorem ldU (t : Fin cfg0.N) {o : ℕ} (h) (ho : o < 4) (k : Fin 704) (d : Fin 1024) :
    View.ld (iblk m c 5 t) (Rect.unit (s := S8x704x1024) ![o, 0, 0] ![1, 704, 1024] h) (ix3 0 k d) = mW m c d (gat (col ⟨o, ho⟩ k)) := by
  refine (ld3 (iblk m c 5 t) _ (0 : Fin 1) k d (by simp; omega) (by omega) (by omega)).trans ((ib5 m c t _ _ _).trans ?_)
  congr 1 <;> exact Fin.ext (by simp)
@[inherit_doc ldA]
theorem ldV (t : Fin cfg0.N) {p : ℕ} (h) (hp : 4 ≤ p) (hp' : p < 8) (k : Fin 704) (d : Fin 1024) :
    View.ld (iblk m c 5 t) (Rect.unit (s := S8x704x1024) ![p, 0, 0] ![1, 704, 1024] h) (ix3 0 k d) = mW m c d (val (col ⟨p - 4, by omega⟩ k)) := by
  refine (ld3 (iblk m c 5 t) _ (0 : Fin 1) k d (by simpa using hp') (by omega) (by omega)).trans ((ib5 m c t _ _ _).trans ?_)
  congr 1 <;> exact Fin.ext (by simp; try omega)

/-- The last block's test. -/
abbrev v0 (t : Fin cfg0.N) : BitVec 1 := Scalar.cmpi .eq (BitVec.ofNat 32 (grid0.coords t 0).val) 31#32
/-- The last block's test, at each point. -/
theorem last_at : ∀ t : Fin cfg0.N, v0 t = if t.val = 31 then 1#1 else 0#1 :=
  (by decide +kernel : ∀ t : Fin grid0.N, _)

/-- One row below, for any block. -/
theorem e1_at (t : Fin cfg0.N) (j : Fin 4) (A : Vec Ideal S1x512x704 .bf16) (B : Vec Ideal S1x8x704 .bf16)
    (hA : ∀ r k, A (ix3 0 r k) = mDgc m c (row t r) (col j k))
    (hB : ∀ (r : Fin 8) k, B (ix3 0 r k) = mDgc m c ⟨16 * min (32 * t.val + 32) 1023 + r.val, by omega⟩ (col j k))
    (r : Fin 512) (k : Fin 704) : k0_pay20 (F := Ideal) (v0 t) A B (ix2 r k) = up (mDgc m c) 1 (row t r) (col j k) := by
  have ht := lt32 t
  pointwise [k0_pay20, k0_pay19, k0_pay18]
  rw [last_at]
  simp only [hA, hB, Fi.up]
  by_cases h : 1 + r.val < 512
  · rw [dif_pos h, dif_pos (by omega)]
    congr 1; exact Fin.ext (by dsimp only; omega)
  · rw [dif_neg h]
    by_cases h2 : t.val = 31
    · rw [if_pos h2, dif_neg (by omega)]; rfl
    · rw [if_neg h2, dif_pos (by omega)]
      refine Eq.trans (b := mDgc m c ⟨16 * min (32 * t.val + 32) 1023 + (1 + r.val - 512), by omega⟩ (col j k)) rfl ?_
      congr 1; exact Fin.ext (by dsimp only; omega)
/-- Two rows below, for any block. -/
theorem e2_at (t : Fin cfg0.N) (j : Fin 4) (A : Vec Ideal S1x512x704 .bf16) (B : Vec Ideal S1x8x704 .bf16)
    (hA : ∀ r k, A (ix3 0 r k) = mDgc m c (row t r) (col j k))
    (hB : ∀ (r : Fin 8) k, B (ix3 0 r k) = mDgc m c ⟨16 * min (32 * t.val + 32) 1023 + r.val, by omega⟩ (col j k))
    (r : Fin 512) (k : Fin 704) : k0_pay21 (F := Ideal) (v0 t) A B (ix2 r k) = up (mDgc m c) 2 (row t r) (col j k) := by
  have ht := lt32 t
  pointwise [k0_pay21, k0_pay19, k0_pay18]
  rw [last_at]
  simp only [hA, hB, Fi.up]
  by_cases h : 2 + r.val < 512
  · rw [dif_pos h, dif_pos (by omega)]
    congr 1; exact Fin.ext (by dsimp only; omega)
  · rw [dif_neg h]
    by_cases h2 : t.val = 31
    · rw [if_pos h2, dif_neg (by omega)]; rfl
    · rw [if_neg h2, dif_pos (by omega)]
      refine Eq.trans (b := mDgc m c ⟨16 * min (32 * t.val + 32) 1023 + (2 + r.val - 512), by omega⟩ (col j k)) rfl ?_
      congr 1; exact Fin.ext (by dsimp only; omega)
/-- The gate's gradient, for any block. -/
theorem dg_at (t : Fin cfg0.N) (j : Fin 4) (A : Vec Ideal S1x512x704 .bf16) (B : Vec Ideal S1x8x704 .bf16) (C2 C1 C0 : Vec Ideal S1x1x704 .f32)
    (hA : ∀ r k, A (ix3 0 r k) = mDgc m c (row t r) (col j k))
    (hB : ∀ (r : Fin 8) k, B (ix3 0 r k) = mDgc m c ⟨16 * min (32 * t.val + 32) 1023 + r.val, by omega⟩ (col j k))
    (h2 : ∀ k, C2 (ix3 0 0 k) = mCw m c 2 (col j k)) (h1 : ∀ k, C1 (ix3 0 0 k) = mCw m c 1 (col j k)) (h0 : ∀ k, C0 (ix3 0 0 k) = mCw m c 0 (col j k))
    (r : Fin 512) (k : Fin 704) : k0_pay22 (F := Ideal) (v0 t) A B C2 C1 C0 (ix2 r k) = dgate (mCw m c) (mDgc m c) (row t r) (col j k) := by
  pointwise [k0_pay22, e1_at m c t j A B hA hB, e2_at m c t j A B hA hB, k0_pay18]
  rw [hA, h2, h1, h0]
  rfl
/-- One block's part of the input gradient, added. -/
theorem mm_at (acc : FVec Ideal S512x1024 .f32) (D : FVec Ideal S512x704 .bf16) (U : Vec Ideal S1x704x1024 .bf16) (r : Fin 512) (d : Fin 1024) :
    k0_pay24 (F := Ideal) acc D U (ix2 r d) = acc (ix2 r d) + ∑ k : Fin 704, D (ix2 r k) * U (ix3 0 k d) := by
  pointwise [k0_pay24]

abbrev bA0 (t : Fin cfg0.N) := View.ld (iblk m c 0 t) (Rect.unit ![0, 0, 0] ![1, 512, 704] inb_S4x512x704_S1x512x704_0_0_0)
abbrev bB0 (t : Fin cfg0.N) := View.ld (iblk m c 1 t) (Rect.unit ![0, 0, 0] ![1, 8, 704] inb_S4x16x704_S1x8x704_0_0_0)
abbrev bD0 (t : Fin cfg0.N) := View.ld (iblk m c 2 t) (Rect.unit ![0, 0, 0] ![1, 512, 704] inb_S4x512x704_S1x512x704_0_0_0)
abbrev bG0 (t : Fin cfg0.N) := View.ld (iblk m c 3 t) (Rect.unit ![0, 0, 0] ![1, 512, 704] inb_S4x512x704_S1x512x704_0_0_0)
abbrev bC00 (t : Fin cfg0.N) := View.ld (iblk m c 4 t) (Rect.unit ![0, 0, 0] ![1, 1, 704] inb_S4x3x704_S1x1x704_0_0_0)
abbrev bC01 (t : Fin cfg0.N) := View.ld (iblk m c 4 t) (Rect.unit ![0, 1, 0] ![1, 1, 704] inb_S4x3x704_S1x1x704_0_1_0)
abbrev bC02 (t : Fin cfg0.N) := View.ld (iblk m c 4 t) (Rect.unit ![0, 2, 0] ![1, 1, 704] inb_S4x3x704_S1x1x704_0_2_0)
abbrev bA1 (t : Fin cfg0.N) := View.ld (iblk m c 0 t) (Rect.unit ![1, 0, 0] ![1, 512, 704] inb_S4x512x704_S1x512x704_1_0_0)
abbrev bB1 (t : Fin cfg0.N) := View.ld (iblk m c 1 t) (Rect.unit ![1, 0, 0] ![1, 8, 704] inb_S4x16x704_S1x8x704_1_0_0)
abbrev bD1 (t : Fin cfg0.N) := View.ld (iblk m c 2 t) (Rect.unit ![1, 0, 0] ![1, 512, 704] inb_S4x512x704_S1x512x704_1_0_0)
abbrev bG1 (t : Fin cfg0.N) := View.ld (iblk m c 3 t) (Rect.unit ![1, 0, 0] ![1, 512, 704] inb_S4x512x704_S1x512x704_1_0_0)
abbrev bC10 (t : Fin cfg0.N) := View.ld (iblk m c 4 t) (Rect.unit ![1, 0, 0] ![1, 1, 704] inb_S4x3x704_S1x1x704_1_0_0)
abbrev bC11 (t : Fin cfg0.N) := View.ld (iblk m c 4 t) (Rect.unit ![1, 1, 0] ![1, 1, 704] inb_S4x3x704_S1x1x704_1_1_0)
abbrev bC12 (t : Fin cfg0.N) := View.ld (iblk m c 4 t) (Rect.unit ![1, 2, 0] ![1, 1, 704] inb_S4x3x704_S1x1x704_1_2_0)
abbrev bA2 (t : Fin cfg0.N) := View.ld (iblk m c 0 t) (Rect.unit ![2, 0, 0] ![1, 512, 704] inb_S4x512x704_S1x512x704_2_0_0)
abbrev bB2 (t : Fin cfg0.N) := View.ld (iblk m c 1 t) (Rect.unit ![2, 0, 0] ![1, 8, 704] inb_S4x16x704_S1x8x704_2_0_0)
abbrev bD2 (t : Fin cfg0.N) := View.ld (iblk m c 2 t) (Rect.unit ![2, 0, 0] ![1, 512, 704] inb_S4x512x704_S1x512x704_2_0_0)
abbrev bG2 (t : Fin cfg0.N) := View.ld (iblk m c 3 t) (Rect.unit ![2, 0, 0] ![1, 512, 704] inb_S4x512x704_S1x512x704_2_0_0)
abbrev bC20 (t : Fin cfg0.N) := View.ld (iblk m c 4 t) (Rect.unit ![2, 0, 0] ![1, 1, 704] inb_S4x3x704_S1x1x704_2_0_0)
abbrev bC21 (t : Fin cfg0.N) := View.ld (iblk m c 4 t) (Rect.unit ![2, 1, 0] ![1, 1, 704] inb_S4x3x704_S1x1x704_2_1_0)
abbrev bC22 (t : Fin cfg0.N) := View.ld (iblk m c 4 t) (Rect.unit ![2, 2, 0] ![1, 1, 704] inb_S4x3x704_S1x1x704_2_2_0)
abbrev bA3 (t : Fin cfg0.N) := View.ld (iblk m c 0 t) (Rect.unit ![3, 0, 0] ![1, 512, 704] inb_S4x512x704_S1x512x704_3_0_0)
abbrev bB3 (t : Fin cfg0.N) := View.ld (iblk m c 1 t) (Rect.unit ![3, 0, 0] ![1, 8, 704] inb_S4x16x704_S1x8x704_3_0_0)
abbrev bD3 (t : Fin cfg0.N) := View.ld (iblk m c 2 t) (Rect.unit ![3, 0, 0] ![1, 512, 704] inb_S4x512x704_S1x512x704_3_0_0)
abbrev bG3 (t : Fin cfg0.N) := View.ld (iblk m c 3 t) (Rect.unit ![3, 0, 0] ![1, 512, 704] inb_S4x512x704_S1x512x704_3_0_0)
abbrev bC30 (t : Fin cfg0.N) := View.ld (iblk m c 4 t) (Rect.unit ![3, 0, 0] ![1, 1, 704] inb_S4x3x704_S1x1x704_3_0_0)
abbrev bC31 (t : Fin cfg0.N) := View.ld (iblk m c 4 t) (Rect.unit ![3, 1, 0] ![1, 1, 704] inb_S4x3x704_S1x1x704_3_1_0)
abbrev bC32 (t : Fin cfg0.N) := View.ld (iblk m c 4 t) (Rect.unit ![3, 2, 0] ![1, 1, 704] inb_S4x3x704_S1x1x704_3_2_0)
abbrev bU0 (t : Fin cfg0.N) := View.ld (iblk m c 5 t) (Rect.unit ![0, 0, 0] ![1, 704, 1024] inb_S8x704x1024_S1x704x1024_0_0_0)
abbrev bU1 (t : Fin cfg0.N) := View.ld (iblk m c 5 t) (Rect.unit ![1, 0, 0] ![1, 704, 1024] inb_S8x704x1024_S1x704x1024_1_0_0)
abbrev bU2 (t : Fin cfg0.N) := View.ld (iblk m c 5 t) (Rect.unit ![2, 0, 0] ![1, 704, 1024] inb_S8x704x1024_S1x704x1024_2_0_0)
abbrev bU3 (t : Fin cfg0.N) := View.ld (iblk m c 5 t) (Rect.unit ![3, 0, 0] ![1, 704, 1024] inb_S8x704x1024_S1x704x1024_3_0_0)
abbrev bU4 (t : Fin cfg0.N) := View.ld (iblk m c 5 t) (Rect.unit ![4, 0, 0] ![1, 704, 1024] inb_S8x704x1024_S1x704x1024_4_0_0)
abbrev bU5 (t : Fin cfg0.N) := View.ld (iblk m c 5 t) (Rect.unit ![5, 0, 0] ![1, 704, 1024] inb_S8x704x1024_S1x704x1024_5_0_0)
abbrev bU6 (t : Fin cfg0.N) := View.ld (iblk m c 5 t) (Rect.unit ![6, 0, 0] ![1, 704, 1024] inb_S8x704x1024_S1x704x1024_6_0_0)
abbrev bU7 (t : Fin cfg0.N) := View.ld (iblk m c 5 t) (Rect.unit ![7, 0, 0] ![1, 704, 1024] inb_S8x704x1024_S1x704x1024_7_0_0)

/-- The gate's gradient in each of the four blocks. -/
abbrev vDg0 (t : Fin cfg0.N) := k0_pay9 (F := Ideal) (grid0.coords t) (bA0 m c t) (bB0 m c t) (bC02 m c t) (bC01 m c t) (bC00 m c t)
@[inherit_doc vDg0] abbrev vDg1 (t : Fin cfg0.N) := k0_pay22 (F := Ideal) (v0 t) (bA1 m c t) (bB1 m c t) (bC12 m c t) (bC11 m c t) (bC10 m c t)
@[inherit_doc vDg0] abbrev vDg2 (t : Fin cfg0.N) := k0_pay34 (F := Ideal) (v0 t) (bA2 m c t) (bB2 m c t) (bC22 m c t) (bC21 m c t) (bC20 m c t)
@[inherit_doc vDg0] abbrev vDg3 (t : Fin cfg0.N) := k0_pay46 (F := Ideal) (v0 t) (bA3 m c t) (bB3 m c t) (bC32 m c t) (bC31 m c t) (bC30 m c t)
theorem vDg0_at (t : Fin cfg0.N) (r : Fin 512) (k : Fin 704) : vDg0 m c t (ix2 r k) = dgate (mCw m c) (mDgc m c) (row t r) (col 0 k) :=
  dg_at m c t 0 (bA0 m c t) (bB0 m c t) (bC02 m c t) (bC01 m c t) (bC00 m c t) (ldA m c t _ (by decide)) (ldB m c t _ (by decide))
    (ldC m c t _ (by decide) (by decide)) (ldC m c t _ (by decide) (by decide)) (ldC m c t _ (by decide) (by decide)) r k
theorem vDg1_at (t : Fin cfg0.N) (r : Fin 512) (k : Fin 704) : vDg1 m c t (ix2 r k) = dgate (mCw m c) (mDgc m c) (row t r) (col 1 k) :=
  dg_at m c t 1 (bA1 m c t) (bB1 m c t) (bC12 m c t) (bC11 m c t) (bC10 m c t) (ldA m c t _ (by decide)) (ldB m c t _ (by decide))
    (ldC m c t _ (by decide) (by decide)) (ldC m c t _ (by decide) (by decide)) (ldC m c t _ (by decide) (by decide)) r k
theorem vDg2_at (t : Fin cfg0.N) (r : Fin 512) (k : Fin 704) : vDg2 m c t (ix2 r k) = dgate (mCw m c) (mDgc m c) (row t r) (col 2 k) :=
  dg_at m c t 2 (bA2 m c t) (bB2 m c t) (bC22 m c t) (bC21 m c t) (bC20 m c t) (ldA m c t _ (by decide)) (ldB m c t _ (by decide))
    (ldC m c t _ (by decide) (by decide)) (ldC m c t _ (by decide) (by decide)) (ldC m c t _ (by decide) (by decide)) r k
theorem vDg3_at (t : Fin cfg0.N) (r : Fin 512) (k : Fin 704) : vDg3 m c t (ix2 r k) = dgate (mCw m c) (mDgc m c) (row t r) (col 3 k) :=
  dg_at m c t 3 (bA3 m c t) (bB3 m c t) (bC32 m c t) (bC31 m c t) (bC30 m c t) (ldA m c t _ (by decide)) (ldB m c t _ (by decide))
    (ldC m c t _ (by decide) (by decide)) (ldC m c t _ (by decide) (by decide)) (ldC m c t _ (by decide) (by decide)) r k

/-- The up-projection's input gradient after each of the eight products. -/
abbrev vH0 (t : Fin cfg0.N) := k0_pay11 (F := Ideal) k0_pay4 (vDg0 m c t) (bU0 m c t)
@[inherit_doc vH0] abbrev vH1 (t : Fin cfg0.N) := k0_pay24 (F := Ideal) (vH0 m c t) (vDg1 m c t) (bU1 m c t)
@[inherit_doc vH0] abbrev vH2 (t : Fin cfg0.N) := k0_pay37 (F := Ideal) (vH1 m c t) (vDg2 m c t) (k0_pay36 (bU2 m c t)) (constant (F := Ideal) S512x1024 .f32 0#32)
@[inherit_doc vH0] abbrev vH3 (t : Fin cfg0.N) := k0_pay48 (F := Ideal) (v0 t) (vH2 m c t) (bA3 m c t) (bB3 m c t) (bC32 m c t) (bC31 m c t) (bC30 m c t) (bU3 m c t)
@[inherit_doc vH0] abbrev vDh (t : Fin cfg0.N) := k0_pay54 (F := Ideal) (vH3 m c t) (k0_pay53 (bD0 m c t)) (bU4 m c t) (bD1 m c t) (bU5 m c t) (bD2 m c t) (bU6 m c t) (bD3 m c t) (bU7 m c t)
/-- The normalised rows. -/
abbrev vXh (t : Fin cfg0.N) := k0_pay57 (F := Ideal) (iblk m c 6 t) (k0_pay56 (iblk m c 6 t))

/-- One block's part of the input gradient, named. -/
theorem hg_at (t : Fin cfg0.N) (j : Fin 4) (D : FVec Ideal S512x704 .bf16) (U : Vec Ideal S1x704x1024 .bf16)
    (hD : ∀ r k, D (ix2 r k) = dgate (mCw m c) (mDgc m c) (row t r) (col j k)) (hU : ∀ k d, U (ix3 0 k d) = mW m c d (gat (col j k)))
    (r : Fin 512) (d : Fin 1024) : (∑ k : Fin 704, D (ix2 r k) * U (ix3 0 k d)) = hg (mCw m c) (mDgc m c) (mW m c) (row t r) d j := by
  simp only [hD, hU]; rfl
@[inherit_doc hg_at]
theorem hv_at (t : Fin cfg0.N) (j : Fin 4) (D : Vec Ideal S1x512x704 .bf16) (U : Vec Ideal S1x704x1024 .bf16)
    (hD : ∀ r k, D (ix3 0 r k) = mDval m c (row t r) (col j k)) (hU : ∀ k d, U (ix3 0 k d) = mW m c d (val (col j k)))
    (r : Fin 512) (d : Fin 1024) : (∑ k : Fin 704, D (ix3 0 r k) * U (ix3 0 k d)) = hv (mDval m c) (mW m c) (row t r) d j := by
  simp only [hD, hU]; rfl

/-- The first product starts from zero. -/
theorem vH0_at (t : Fin cfg0.N) (r : Fin 512) (d : Fin 1024) : vH0 m c t (ix2 r d) = hg (mCw m c) (mDgc m c) (mW m c) (row t r) d 0 := by
  refine (mm_at k0_pay4 (vDg0 m c t) (bU0 m c t) r d).trans ?_
  rw [hg_at m c t 0 (vDg0 m c t) (bU0 m c t) (vDg0_at m c t) (ldU m c t _ (by decide)),
    show (k0_pay4 (F := Ideal)) (ix2 r d) = (0 : EReal) from Ideal.ofBits_zero_f32, zero_add]
theorem vH1_at (t : Fin cfg0.N) (r : Fin 512) (d : Fin 1024) : vH1 m c t (ix2 r d)
    = hg (mCw m c) (mDgc m c) (mW m c) (row t r) d 0 + hg (mCw m c) (mDgc m c) (mW m c) (row t r) d 1 := by
  refine (mm_at (vH0 m c t) (vDg1 m c t) (bU1 m c t) r d).trans ?_
  rw [hg_at m c t 1 (vDg1 m c t) (bU1 m c t) (vDg1_at m c t) (ldU m c t _ (by decide)), vH0_at]
theorem vH2_at (t : Fin cfg0.N) (r : Fin 512) (d : Fin 1024) : vH2 m c t (ix2 r d)
    = hg (mCw m c) (mDgc m c) (mW m c) (row t r) d 0 + hg (mCw m c) (mDgc m c) (mW m c) (row t r) d 1 + hg (mCw m c) (mDgc m c) (mW m c) (row t r) d 2 := by
  refine (mm_at (vH1 m c t) (vDg2 m c t) (bU2 m c t) r d).trans ?_
  rw [hg_at m c t 2 (vDg2 m c t) (bU2 m c t) (vDg2_at m c t) (ldU m c t _ (by decide)), vH1_at]
theorem vH3_at (t : Fin cfg0.N) (r : Fin 512) (d : Fin 1024) : vH3 m c t (ix2 r d)
    = hg (mCw m c) (mDgc m c) (mW m c) (row t r) d 0 + hg (mCw m c) (mDgc m c) (mW m c) (row t r) d 1 + hg (mCw m c) (mDgc m c) (mW m c) (row t r) d 2
      + hg (mCw m c) (mDgc m c) (mW m c) (row t r) d 3 := by
  refine (mm_at (vH2 m c t) (vDg3 m c t) (bU3 m c t) r d).trans ?_
  rw [hg_at m c t 3 (vDg3 m c t) (bU3 m c t) (vDg3_at m c t) (ldU m c t _ (by decide)), vH2_at]
theorem vDh_at (t : Fin cfg0.N) (r : Fin 512) (d : Fin 1024) : vDh m c t (ix2 r d) = mDh m c (row t r) d := by
  rw [mDh, dh_blocks, ← vH3_at,
    ← hv_at m c t 0 (bD0 m c t) (bU4 m c t) (ldD m c t _ (by decide)) (ldV m c t _ (by decide) (by decide)) r d,
    ← hv_at m c t 1 (bD1 m c t) (bU5 m c t) (ldD m c t _ (by decide)) (ldV m c t _ (by decide) (by decide)) r d,
    ← hv_at m c t 2 (bD2 m c t) (bU6 m c t) (ldD m c t _ (by decide)) (ldV m c t _ (by decide) (by decide)) r d,
    ← hv_at m c t 3 (bD3 m c t) (bU7 m c t) (ldD m c t _ (by decide)) (ldV m c t _ (by decide) (by decide)) r d]
  pointwise [k0_pay54, k0_pay53]
theorem vR_at (t : Fin cfg0.N) (r : Fin 512) : k0_pay55 (F := Ideal) (iblk m c 6 t) (ix2 r 0) = rs (mX m c) (row t r) := by
  pointwise [k0_pay55]
  simp only [ib6]
  rfl
theorem vRb_at (t : Fin cfg0.N) (r : Fin 512) (d : Fin 1024) : k0_pay56 (F := Ideal) (iblk m c 6 t) (ix2 r d) = rs (mX m c) (row t r) := by
  pointwise [k0_pay56, vR_at m c t]
theorem vXh_at (t : Fin cfg0.N) (r : Fin 512) (d : Fin 1024) :
    vXh m c t (ix2 r d) = mX m c (row t r) d * rs (mX m c) (row t r) := by
  pointwise [k0_pay57, vRb_at m c t]
  rw [ib6]
theorem vDx_at (t : Fin cfg0.N) (r : Fin 512) (d : Fin 1024) :
    k0_pay1 (F := Ideal) (k0_pay55 (iblk m c 6 t)) (vXh m c t) (k0_pay62 (vDh m c t) (iblk m c 7 t) (iblk m c 8 t)) (iblk m c 9 t)
        (k0_pay63 (vDh m c t) (iblk m c 6 t) (k0_pay56 (iblk m c 6 t)) (iblk m c 7 t) (iblk m c 8 t)) (ix2 r d)
      = dx (mX m c) (mDh m c) (mDxo m c) (mG m c) (mSc m c) (row t r) d := by
  have hh := vDh_at m c t
  generalize vDh m c t = H at hh ⊢
  pointwise [k0_pay1, k0_pay62, k0_pay63, k0_pay60, vR_at m c t, vXh_at m c t, hh]
  simp only [ib7, ib8, ib9, hh]
  rfl

end Cert.FiKernelIdeal.Hand
end
-- ==== Proof.FiFinal.lean ====
/-
  The arrays the channel mixer's input gradient kernel leaves: the input's gradient and the gate half's gradient block by
  block, and the two blocks of sums, whose rows gather one block of 512 tokens at each of the 32 points.
-/
module

public import proofs.«01_k».proof.Proof.FiPay
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
open Cert.Sc Cert.Fi Cert.Rows
namespace Cert.FiKernelIdeal.Hand
open Cert.FiKernelIdeal Cert.FiKernelIdeal.Gen
variable (m : (ℓ : Loc nD τ sig) → Buf (Elt Ideal) ℓ) (c : Dev nD)

/-- Each row of the block of sums for the affine map gains the point's part of it. -/
theorem st_step (t : Fin cfg0.N) (old : Vec Ideal S8x1024 .f32) (v : View sig .tc .vmem S8x1024 .f32) (f) (L)
    (h2 h1 h0) (o2 o1 o0 : Vec Ideal S1x1024 .f32)
    (ho2 : ∀ d, o2 (ix2 0 d) = old (ix2 2 d)) (ho1 : ∀ d, o1 (ix2 0 d) = old (ix2 1 d)) (ho0 : ∀ d, o0 (ix2 0 d) = old (ix2 0 d)) (hL : v.read (Elt Ideal) (v.writes (Elt Ideal) f L) = old) (r : Fin 8) (d : Fin 1024) :
    v.read (Elt Ideal) (v.writes (Elt Ideal) f
      (⟨Rect.unit (s := S8x1024) ![2, 0] ![1, 1024] h2, k0_pay61 (F := Ideal) (vDh m c t) (iblk m c 6 t) (k0_pay56 (iblk m c 6 t)) (iblk m c 8 t) o2⟩
        :: ⟨Rect.unit (s := S8x1024) ![1, 0] ![1, 1024] h1, k0_pay59 (F := Ideal) (vDh m c t) (iblk m c 6 t) (k0_pay56 (iblk m c 6 t)) (iblk m c 7 t) o1⟩
        :: ⟨Rect.unit (s := S8x1024) ![0, 0] ![1, 1024] h0, k0_pay58 (F := Ideal) (vDh m c t) o0⟩ :: L)) (ix2 r d)
      = old (ix2 r d) + ∑ k : Fin 512, stT (mX m c) (mDh m c) (mG m c) (mSc m c) r (row t k) d := by
  have hh := vDh_at m c t
  generalize vDh m c t = H at hh ⊢
  rw [row1, row1, row1, hL]
  by_cases e2 : r.val = 2
  · obtain rfl : r = 2 := Fin.ext e2
    rw [if_pos e2]
    pointwise [k0_pay61, k0_pay60, vXh_at m c t]
    simp only [ib8, hh]
    exact congrArg₂ (· + ·) (ho2 d) (Finset.sum_congr rfl fun k _ => by simp only [stT]; rfl)
  by_cases e1 : r.val = 1
  · obtain rfl : r = 1 := Fin.ext e1
    rw [if_neg e2, if_pos e1]
    pointwise [k0_pay59, vXh_at m c t]
    simp only [ib7, hh]
    exact congrArg₂ (· + ·) (ho1 d) (Finset.sum_congr rfl fun k _ => by simp only [stT]; rfl)
  by_cases e0 : r.val = 0
  · obtain rfl : r = 0 := Fin.ext e0
    rw [if_neg e2, if_neg e1, if_pos e0]
    pointwise [k0_pay58]
    simp only [hh]
    exact congrArg₂ (· + ·) (ho0 d) (Finset.sum_congr rfl fun k _ => by simp only [stT]; rfl)
  · rw [if_neg e2, if_neg e1, if_neg e0]
    simp only [stT, if_neg e2, if_neg e1, if_neg e0, Finset.sum_const_zero, add_zero]

/-- The first `n` rows of the twelve that gather the convolution's weight gradients: rows one to three of each block. -/
def part (n : ℕ) (T : Fin 4 → Fin 8 → Fin 704 → EReal) (j : Fin 4) (r : Fin 8) (d : Fin 704) : EReal :=
  if 1 ≤ r.val ∧ r.val ≤ 3 ∧ 3 * j.val + r.val ≤ n then T j r d else 0

/-- One more row's store. -/
theorem part_cons (v : View sig .tc .vmem S4x8x704 .f32) (f) (L) (old : Vec Ideal S4x8x704 .f32) (T : Fin 4 → Fin 8 → Fin 704 → EReal)
    (n : ℕ) {p o : ℕ} (hp : p < 4) (ho : 1 ≤ o) (ho' : o ≤ 3) (hn : 3 * p + o = n + 1) (h)
    (w : (Rect.unit (s := S4x8x704) ![p, o, 0] ![1, 1, 704] h).shape.Idx → Elt Ideal .f32)
    (hw : ∀ d : Fin 704, w (ix3 (0 : Fin 1) (0 : Fin 1) d) = (old (ix3 ⟨p, hp⟩ ⟨o, by omega⟩ d) : EReal) + T ⟨p, hp⟩ ⟨o, by omega⟩ d)
    (hL : ∀ j r d, v.read (Elt Ideal) (v.writes (Elt Ideal) f L) (ix3 j r d) = (old (ix3 j r d) : EReal) + part n T j r d)
    (j : Fin 4) (r : Fin 8) (d : Fin 704) :
    v.read (Elt Ideal) (v.writes (Elt Ideal) f (⟨Rect.unit (s := S4x8x704) ![p, o, 0] ![1, 1, 704] h, w⟩ :: L)) (ix3 j r d)
      = (old (ix3 j r d) : EReal) + part (n + 1) T j r d := by
  by_cases hj : j.val = p
  · by_cases hr : r.val = o
    · subst hj hr
      refine (View.read_writes_cons_unit_of_mem v f h w L (ix3 j r d) (ix3 (0 : Fin 1) (0 : Fin 1) d) rfl ?_).trans ?_
      · intro a
        match a with
        | 0 => show j.val = j.val + 0; omega
        | 1 => show r.val = r.val + 0; omega
        | 2 => show d.val = 0 + d.val; omega
      · rw [hw, part, if_pos ⟨ho, ho', by omega⟩]
    · refine (View.read_writes_cons_unit_of_not_mem v f h w L (ix3 j r d) rfl (1 : Fin 3) ?_).trans ?_
      · show r.val < o ∨ o + 1 ≤ r.val; omega
      · rw [hL, part, part]
        congr 1
        exact if_congr (by omega) rfl rfl
  · refine (View.read_writes_cons_unit_of_not_mem v f h w L (ix3 j r d) rfl (0 : Fin 3) ?_).trans ?_
    · show j.val < p ∨ p + 1 ≤ j.val; omega
    · rw [hL, part, part]
      congr 1
      exact if_congr (by omega) rfl rfl

/-- One row of the sums: what it held and the point's part. -/
theorem row_at (W : FVec Ideal S512x704 .f32) (G : Vec Ideal S1x512x704 .bf16) (o : Vec Ideal S1x1x704 .f32) (d : Fin 704) :
    k0_pay26 (F := Ideal) W G o (ix3 0 0 d) = o (ix3 0 0 d) + ∑ k : Fin 512, G (ix3 0 k d) * W (ix2 k d) := by
  pointwise [k0_pay26, k0_pay25]
@[inherit_doc row_at]
theorem row1_at (t : Fin cfg0.N) (j : Fin 4) (A G : Vec Ideal S1x512x704 .bf16) (B : Vec Ideal S1x8x704 .bf16) (o : Vec Ideal S1x1x704 .f32)
    (hA : ∀ r k, A (ix3 0 r k) = mDgc m c (row t r) (col j k))
    (hB : ∀ (r : Fin 8) k, B (ix3 0 r k) = mDgc m c ⟨16 * min (32 * t.val + 32) 1023 + r.val, by omega⟩ (col j k))
    (hG : ∀ r k, G (ix3 0 r k) = mP m c (row t r) (gat (col j k))) (d : Fin 704) :
    k0_pay26 (F := Ideal) (k0_pay21 (v0 t) A B) G o (ix3 0 0 d) = o (ix3 0 0 d) + ∑ k : Fin 512, gcT (mDgc m c) (mP m c) 1 (row t k) (col j d) := by
  rw [row_at]
  congr 1
  exact Finset.sum_congr rfl fun k _ => by rw [hG, e2_at m c t j A B hA hB]; rfl
@[inherit_doc row_at]
theorem row2_at (t : Fin cfg0.N) (j : Fin 4) (A G : Vec Ideal S1x512x704 .bf16) (B : Vec Ideal S1x8x704 .bf16) (o : Vec Ideal S1x1x704 .f32)
    (hA : ∀ r k, A (ix3 0 r k) = mDgc m c (row t r) (col j k))
    (hB : ∀ (r : Fin 8) k, B (ix3 0 r k) = mDgc m c ⟨16 * min (32 * t.val + 32) 1023 + r.val, by omega⟩ (col j k))
    (hG : ∀ r k, G (ix3 0 r k) = mP m c (row t r) (gat (col j k))) (d : Fin 704) :
    k0_pay26 (F := Ideal) (k0_pay20 (v0 t) A B) G o (ix3 0 0 d) = o (ix3 0 0 d) + ∑ k : Fin 512, gcT (mDgc m c) (mP m c) 2 (row t k) (col j d) := by
  rw [row_at]
  congr 1
  exact Finset.sum_congr rfl fun k _ => by rw [hG, e1_at m c t j A B hA hB]; rfl
@[inherit_doc row_at]
theorem row3_at (t : Fin cfg0.N) (j : Fin 4) (A G : Vec Ideal S1x512x704 .bf16) (o : Vec Ideal S1x1x704 .f32)
    (hA : ∀ r k, A (ix3 0 r k) = mDgc m c (row t r) (col j k))
    (hG : ∀ r k, G (ix3 0 r k) = mP m c (row t r) (gat (col j k))) (d : Fin 704) :
    k0_pay26 (F := Ideal) (k0_pay18 A) G o (ix3 0 0 d) = o (ix3 0 0 d) + ∑ k : Fin 512, gcT (mDgc m c) (mP m c) 3 (row t k) (col j d) := by
  rw [row_at]
  congr 1
  exact Finset.sum_congr rfl fun k _ => by
    rw [hG, show k0_pay18 (F := Ideal) A (ix2 k d) = A (ix3 0 k d) by pointwise [k0_pay18], hA]; rfl

/-- One point's part of the convolution's weight gradients. -/
def gcP (t : Fin cfg0.N) (j : Fin 4) (r : Fin 8) (d : Fin 704) : EReal :=
  ∑ k : Fin 512, gcT (mDgc m c) (mP m c) r (row t k) (col j d)

/-- The twelve rows are all the rows that gather anything. -/
theorem part_all (t : Fin cfg0.N) (j : Fin 4) (r : Fin 8) (d : Fin 704) : part 12 (gcP m c t) j r d = gcP m c t j r d := by
  rw [part]
  by_cases h : 1 ≤ r.val ∧ r.val ≤ 3
  · rw [if_pos ⟨h.1, h.2, by omega⟩]
  · rw [if_neg fun h' => h ⟨h'.1, h'.2.1⟩, gcP]
    exact (Finset.sum_eq_zero fun k _ => by
      rw [gcT, if_neg (by omega), if_neg (by omega), if_neg (by omega)]).symm

/-- Each row of the convolution's weight gradients gains the point's part of it. -/
theorem gc_step (t : Fin cfg0.N) (old : Vec Ideal S4x8x704 .f32) (v : View sig .tc .vmem S4x8x704 .f32) (f) (L)
    (h01 h02 h03 h11 h12 h13 h21 h22 h23 h31 h32 h33)
    (o01 o02 o03 o11 o12 o13 o21 o22 o23 o31 o32 o33 : Vec Ideal S1x1x704 .f32)
    (e01 : ∀ d, o01 (ix3 0 0 d) = old (ix3 0 1 d))
    (e02 : ∀ d, o02 (ix3 0 0 d) = old (ix3 0 2 d))
    (e03 : ∀ d, o03 (ix3 0 0 d) = old (ix3 0 3 d))
    (e11 : ∀ d, o11 (ix3 0 0 d) = old (ix3 1 1 d))
    (e12 : ∀ d, o12 (ix3 0 0 d) = old (ix3 1 2 d))
    (e13 : ∀ d, o13 (ix3 0 0 d) = old (ix3 1 3 d))
    (e21 : ∀ d, o21 (ix3 0 0 d) = old (ix3 2 1 d))
    (e22 : ∀ d, o22 (ix3 0 0 d) = old (ix3 2 2 d))
    (e23 : ∀ d, o23 (ix3 0 0 d) = old (ix3 2 3 d))
    (e31 : ∀ d, o31 (ix3 0 0 d) = old (ix3 3 1 d))
    (e32 : ∀ d, o32 (ix3 0 0 d) = old (ix3 3 2 d))
    (e33 : ∀ d, o33 (ix3 0 0 d) = old (ix3 3 3 d))
    (hL : v.read (Elt Ideal) (v.writes (Elt Ideal) f L) = old) (j : Fin 4) (r : Fin 8) (d : Fin 704) :
    v.read (Elt Ideal) (v.writes (Elt Ideal) f
      (⟨Rect.unit (s := S4x8x704) ![3, 3, 0] ![1, 1, 704] h33, k0_pay52 (F := Ideal) (k0_pay42 (bA3 m c t)) (bG3 m c t) o33⟩
        :: ⟨Rect.unit (s := S4x8x704) ![3, 2, 0] ![1, 1, 704] h32, k0_pay51 (F := Ideal) (k0_pay44 (v0 t) (bA3 m c t) (bB3 m c t)) (bG3 m c t) o32⟩
        :: ⟨Rect.unit (s := S4x8x704) ![3, 1, 0] ![1, 1, 704] h31, k0_pay50 (F := Ideal) (k0_pay45 (v0 t) (bA3 m c t) (bB3 m c t)) (bG3 m c t) o31⟩
        :: ⟨Rect.unit (s := S4x8x704) ![2, 3, 0] ![1, 1, 704] h23, k0_pay41 (F := Ideal) (k0_pay30 (bA2 m c t)) (bG2 m c t) o23⟩
        :: ⟨Rect.unit (s := S4x8x704) ![2, 2, 0] ![1, 1, 704] h22, k0_pay40 (F := Ideal) (k0_pay32 (v0 t) (bA2 m c t) (bB2 m c t)) (bG2 m c t) o22⟩
        :: ⟨Rect.unit (s := S4x8x704) ![2, 1, 0] ![1, 1, 704] h21, k0_pay39 (F := Ideal) (k0_pay33 (v0 t) (bA2 m c t) (bB2 m c t)) (bG2 m c t) o21⟩
        :: ⟨Rect.unit (s := S4x8x704) ![1, 3, 0] ![1, 1, 704] h13, k0_pay29 (F := Ideal) (k0_pay28 (k0_pay18 (bA1 m c t)) (bG1 m c t) o13)⟩
        :: ⟨Rect.unit (s := S4x8x704) ![1, 2, 0] ![1, 1, 704] h12, k0_pay27 (F := Ideal) (k0_pay20 (v0 t) (bA1 m c t) (bB1 m c t)) (bG1 m c t) o12⟩
        :: ⟨Rect.unit (s := S4x8x704) ![1, 1, 0] ![1, 1, 704] h11, k0_pay26 (F := Ideal) (k0_pay21 (v0 t) (bA1 m c t) (bB1 m c t)) (bG1 m c t) o11⟩
        :: ⟨Rect.unit (s := S4x8x704) ![0, 3, 0] ![1, 1, 704] h03, k0_pay17 (F := Ideal) (k0_pay15 o03) (k0_pay16 (k0_pay5 (bA0 m c t)) (bG0 m c t))⟩
        :: ⟨Rect.unit (s := S4x8x704) ![0, 2, 0] ![1, 1, 704] h02, k0_pay14 (F := Ideal) (k0_pay7 (grid0.coords t) (bA0 m c t) (bB0 m c t)) (bG0 m c t) o02⟩
        :: ⟨Rect.unit (s := S4x8x704) ![0, 1, 0] ![1, 1, 704] h01, k0_pay13 (F := Ideal) (k0_pay8 (grid0.coords t) (bA0 m c t) (bB0 m c t)) (bG0 m c t) o01⟩
        :: L)) (ix3 j r d)
      = old (ix3 j r d) + gcP m c t j r d := by
  rw [← part_all]
  refine part_cons v f _ old (gcP m c t) 11 (by decide) (by decide) (by decide) (by decide) h33 _
    (fun d => (row3_at m c t 3 (bA3 m c t) (bG3 m c t) o33 (ldA m c t _ (by decide)) (ldG m c t _ (by decide)) d).trans (congrArg (· + gcP m c t 3 3 d) (e33 d))) (fun j r d => ?_) j r d
  refine part_cons v f _ old (gcP m c t) 10 (by decide) (by decide) (by decide) (by decide) h32 _
    (fun d => (row2_at m c t 3 (bA3 m c t) (bG3 m c t) (bB3 m c t) o32 (ldA m c t _ (by decide)) (ldB m c t _ (by decide)) (ldG m c t _ (by decide)) d).trans (congrArg (· + gcP m c t 3 2 d) (e32 d))) (fun j r d => ?_) j r d
  refine part_cons v f _ old (gcP m c t) 9 (by decide) (by decide) (by decide) (by decide) h31 _
    (fun d => (row1_at m c t 3 (bA3 m c t) (bG3 m c t) (bB3 m c t) o31 (ldA m c t _ (by decide)) (ldB m c t _ (by decide)) (ldG m c t _ (by decide)) d).trans (congrArg (· + gcP m c t 3 1 d) (e31 d))) (fun j r d => ?_) j r d
  refine part_cons v f _ old (gcP m c t) 8 (by decide) (by decide) (by decide) (by decide) h23 _
    (fun d => (row3_at m c t 2 (bA2 m c t) (bG2 m c t) o23 (ldA m c t _ (by decide)) (ldG m c t _ (by decide)) d).trans (congrArg (· + gcP m c t 2 3 d) (e23 d))) (fun j r d => ?_) j r d
  refine part_cons v f _ old (gcP m c t) 7 (by decide) (by decide) (by decide) (by decide) h22 _
    (fun d => (row2_at m c t 2 (bA2 m c t) (bG2 m c t) (bB2 m c t) o22 (ldA m c t _ (by decide)) (ldB m c t _ (by decide)) (ldG m c t _ (by decide)) d).trans (congrArg (· + gcP m c t 2 2 d) (e22 d))) (fun j r d => ?_) j r d
  refine part_cons v f _ old (gcP m c t) 6 (by decide) (by decide) (by decide) (by decide) h21 _
    (fun d => (row1_at m c t 2 (bA2 m c t) (bG2 m c t) (bB2 m c t) o21 (ldA m c t _ (by decide)) (ldB m c t _ (by decide)) (ldG m c t _ (by decide)) d).trans (congrArg (· + gcP m c t 2 1 d) (e21 d))) (fun j r d => ?_) j r d
  refine part_cons v f _ old (gcP m c t) 5 (by decide) (by decide) (by decide) (by decide) h13 _
    (fun d => (row3_at m c t 1 (bA1 m c t) (bG1 m c t) o13 (ldA m c t _ (by decide)) (ldG m c t _ (by decide)) d).trans (congrArg (· + gcP m c t 1 3 d) (e13 d))) (fun j r d => ?_) j r d
  refine part_cons v f _ old (gcP m c t) 4 (by decide) (by decide) (by decide) (by decide) h12 _
    (fun d => (row2_at m c t 1 (bA1 m c t) (bG1 m c t) (bB1 m c t) o12 (ldA m c t _ (by decide)) (ldB m c t _ (by decide)) (ldG m c t _ (by decide)) d).trans (congrArg (· + gcP m c t 1 2 d) (e12 d))) (fun j r d => ?_) j r d
  refine part_cons v f _ old (gcP m c t) 3 (by decide) (by decide) (by decide) (by decide) h11 _
    (fun d => (row1_at m c t 1 (bA1 m c t) (bG1 m c t) (bB1 m c t) o11 (ldA m c t _ (by decide)) (ldB m c t _ (by decide)) (ldG m c t _ (by decide)) d).trans (congrArg (· + gcP m c t 1 1 d) (e11 d))) (fun j r d => ?_) j r d
  refine part_cons v f _ old (gcP m c t) 2 (by decide) (by decide) (by decide) (by decide) h03 _
    (fun d => (row3_at m c t 0 (bA0 m c t) (bG0 m c t) o03 (ldA m c t _ (by decide)) (ldG m c t _ (by decide)) d).trans (congrArg (· + gcP m c t 0 3 d) (e03 d))) (fun j r d => ?_) j r d
  refine part_cons v f _ old (gcP m c t) 1 (by decide) (by decide) (by decide) (by decide) h02 _
    (fun d => (row2_at m c t 0 (bA0 m c t) (bG0 m c t) (bB0 m c t) o02 (ldA m c t _ (by decide)) (ldB m c t _ (by decide)) (ldG m c t _ (by decide)) d).trans (congrArg (· + gcP m c t 0 2 d) (e02 d))) (fun j r d => ?_) j r d
  refine part_cons v f _ old (gcP m c t) 0 (by decide) (by decide) (by decide) (by decide) h01 _
    (fun d => (row1_at m c t 0 (bA0 m c t) (bG0 m c t) (bB0 m c t) o01 (ldA m c t _ (by decide)) (ldB m c t _ (by decide)) (ldG m c t _ (by decide)) d).trans (congrArg (· + gcP m c t 0 1 d) (e01 d))) (fun j r d => ?_) j r d
  rw [hL, part, if_neg (by omega), add_zero]

/-- Where entry `y` of the block at `t` lies in the array. -/
theorem emb10 (t : Fin cfg0.N) (y : S512x1024.Idx) : (((View.whole main_v35_0).slice (win0_10.rect t)).emb y) = ix2 (row t (y 0)) (y 1) := by
  have h10 : win0_10.index t = ![t.val, 0] := by simp only [idx t]
  funext a; refine Fin.ext ?_
  match a with
  | 0 =>
    show win0_10.index t 0 * 512 + 1 * (y 0).val = _
    rw [h10]; show t.val * 512 + 1 * (y 0).val = 512 * t.val + (y 0).val; omega
  | 1 =>
    show win0_10.index t 1 * 1024 + 1 * (y 1).val = _
    rw [h10]; show 0 * 1024 + 1 * (y 1).val = (y 1).val; omega

theorem emb11 (t : Fin cfg0.N) (y : S4x512x704.Idx) : (((View.whole main_v35_1).slice (win0_11.rect t)).emb y) = ix3 (y 0) (row t (y 1)) (y 2) := by
  have h11 : win0_11.index t = ![0, t.val, 0] := by simp only [idx t]
  funext a; refine Fin.ext ?_
  match a with
  | 0 =>
    show win0_11.index t 0 * 4 + 1 * (y 0).val = _
    rw [h11]; show 0 * 4 + 1 * (y 0).val = (y 0).val; omega
  | 1 =>
    show win0_11.index t 1 * 512 + 1 * (y 1).val = _
    rw [h11]; show t.val * 512 + 1 * (y 1).val = 512 * t.val + (y 1).val; omega
  | 2 =>
    show win0_11.index t 2 * 704 + 1 * (y 2).val = _
    rw [h11]; show 0 * 704 + 1 * (y 2).val = (y 2).val; omega

/-- A stored block of the gate half's gradient. -/
theorem gst_at (D : FVec Ideal S512x704 .bf16) (r : Fin 512) (k : Fin 704) : k0_pay10 (F := Ideal) D (ix3 0 r k) = D (ix2 r k) := by
  pointwise [k0_pay10]

/-- The gate half's gradient at a point, from the four stores. -/
theorem dgAll (t : Fin cfg0.N) (z : S4x512x704.Idx) :
    View.canon (Val := Elt Ideal) (s := S4x512x704) (e := .bf16) [⟨Rect.unit ![3, 0, 0] ![1, 512, 704] inb_S4x512x704_S1x512x704_3_0_0, k0_pay47 (v0 t) (bA3 m c t) (bB3 m c t) (bC32 m c t) (bC31 m c t) (bC30 m c t)⟩,
      ⟨Rect.unit ![2, 0, 0] ![1, 512, 704] inb_S4x512x704_S1x512x704_2_0_0, k0_pay35 (v0 t) (bA2 m c t) (bB2 m c t) (bC22 m c t) (bC21 m c t) (bC20 m c t)⟩,
      ⟨Rect.unit ![1, 0, 0] ![1, 512, 704] inb_S4x512x704_S1x512x704_1_0_0, k0_pay23 (v0 t) (bA1 m c t) (bB1 m c t) (bC12 m c t) (bC11 m c t) (bC10 m c t)⟩,
      ⟨Rect.unit ![0, 0, 0] ![1, 512, 704] inb_S4x512x704_S1x512x704_0_0_0, k0_pay10 (vDg0 m c t)⟩] z
      = dgate (mCw m c) (mDgc m c) (row t (z 1)) (col (z 0) (z 2)) := by
  canon_tiles z h
  · idx_vars z
    obtain rfl : z0 = 0 := Subsingleton.elim (α := Fin 1) _ _
    refine (gst_at (vDg3 m c t) _ _).trans ((vDg3_at m c t _ _).trans ?_)
    exact congrArg₂ (dgate (mCw m c) (mDgc m c)) (Fin.ext (by simp at h0 h1 h2 ⊢; omega)) (Fin.ext (by simp at h0 h1 h2 ⊢; omega))
  · idx_vars z
    obtain rfl : z0 = 0 := Subsingleton.elim (α := Fin 1) _ _
    refine (gst_at (vDg2 m c t) _ _).trans ((vDg2_at m c t _ _).trans ?_)
    exact congrArg₂ (dgate (mCw m c) (mDgc m c)) (Fin.ext (by simp at h0 h1 h2 ⊢; omega)) (Fin.ext (by simp at h0 h1 h2 ⊢; omega))
  · idx_vars z
    obtain rfl : z0 = 0 := Subsingleton.elim (α := Fin 1) _ _
    refine (gst_at (vDg1 m c t) _ _).trans ((vDg1_at m c t _ _).trans ?_)
    exact congrArg₂ (dgate (mCw m c) (mDgc m c)) (Fin.ext (by simp at h0 h1 h2 ⊢; omega)) (Fin.ext (by simp at h0 h1 h2 ⊢; omega))
  · idx_vars z
    obtain rfl : z0 = 0 := Subsingleton.elim (α := Fin 1) _ _
    refine (gst_at (vDg0 m c t) _ _).trans ((vDg0_at m c t _ _).trans ?_)
    exact congrArg₂ (dgate (mCw m c) (mDgc m c)) (Fin.ext (by simp at h0 h1 h2 ⊢; omega)) (Fin.ext (by simp at h0 h1 h2 ⊢; omega))

theorem out10 : (dats m 0 c).arrAt 10 cfg0.N = fun j : S16384x1024.Idx => dx (mX m c) (mDh m c) (mDxo m c) (mG m c) (mSc m c) (j 0) (j 1) := by
  refine (dats m 0 c).arrAt_eq_of_covers 10 _ (by decide +kernel) fun t hf y => ?_
  blk_simp
  rw [after0_10]
  have hy : ∀ y : S512x1024.Idx, k0_pay1 (F := Ideal) (k0_pay55 (iblk m c 6 t)) (vXh m c t) (k0_pay62 (vDh m c t) (iblk m c 7 t) (iblk m c 8 t)) (iblk m c 9 t)
        (k0_pay63 (vDh m c t) (iblk m c 6 t) (k0_pay56 (iblk m c 6 t)) (iblk m c 7 t) (iblk m c 8 t)) y =
    dx (mX m c) (mDh m c) (mDxo m c) (mG m c) (mSc m c) (((View.whole main_v35_0).slice (win0_10.rect t)).emb y 0)
      (((View.whole main_v35_0).slice (win0_10.rect t)).emb y 1) := by
    intro y
    rw [emb10]
    idx_vars y
    exact vDx_at m c t _ _
  by_cases h : t.val % 32 = 0
  · rw [outsAt0_A m c t h h]; frame_out; exact hy y
  · rw [outsAt0_B m c t h h]; frame_out; exact hy y

theorem out11 : (dats m 0 c).arrAt 11 cfg0.N = fun j : S4x16384x704.Idx => dgate (mCw m c) (mDgc m c) (j 1) (col (j 0) (j 2)) := by
  refine (dats m 0 c).arrAt_eq_of_covers 11 _ (by decide +kernel) fun t hf y => ?_
  blk_simp
  rw [after0_11]
  have he : ∀ z : S4x512x704.Idx, dgate (mCw m c) (mDgc m c) (row t (z 1)) (col (z 0) (z 2))
      = dgate (mCw m c) (mDgc m c) (((View.whole main_v35_1).slice (win0_11.rect t)).emb z 1)
        (col (((View.whole main_v35_1).slice (win0_11.rect t)).emb z 0) (((View.whole main_v35_1).slice (win0_11.rect t)).emb z 2)) := fun z => by rw [emb11]; rfl
  by_cases h : t.val % 32 = 0
  · rw [outsAt0_A m c t h h]; frame_out; exact (dgAll m c t y).trans (he y)
  · rw [outsAt0_B m c t h h]; frame_out; exact (dgAll m c t y).trans (he y)

theorem out12 : (dats m 0 c).arrAt 12 cfg0.N = fun j : S8x1024.Idx => ∑ t, stT (mX m c) (mDh m c) (mG m c) (mSc m c) (j 0) t (j 1) := by
  refine (dats m 0 c).arrAt_eq_of_covers 12 _ (by decide +kernel) fun t hf y => ?_
  blk_simp
  rw [after0_12, Pipeline.eq_sum_fin_of_reset_step_apply_of_flush (fun n h => (outsAt0 m c n h).2.2.1) 32 (fun _ => 0)
    (fun t (j : S8x1024.Idx) => ∑ k : Fin 512, stT (mX m c) (mDh m c) (mG m c) (mSc m c) (j 0) (row t k) (j 1))
    (fun t h j => by
      rw [outsAt0_A m c t h h]; frame_out
      idx_vars j
      rw [← View.read_writes_junk_eq_canon (ms0_12 t).view]
      refine (st_step m c t (k0_pay2 (F := Ideal)) _ _ [_] _ _ _ _ _ _ ?_ ?_ ?_ ?_ _ _).trans ?_
      · intro d
        rw [View.readCov_skip _ _ _ _ _ (by decide), View.readCov_skip _ _ _ _ _ (by decide), View.readCov_fill _ _ _ _ _ (by decide)]
        exact ldRow (k0_pay2 (F := Ideal)) _ d (by decide)
      · intro d
        rw [View.readCov_skip _ _ _ _ _ (by decide), View.readCov_fill _ _ _ _ _ (by decide)]
        exact ldRow (k0_pay2 (F := Ideal)) _ d (by decide)
      · intro d
        rw [View.readCov_fill _ _ _ _ _ (by decide)]
        exact ldRow (k0_pay2 (F := Ideal)) _ d (by decide)
      · rw [View.read_writes_junk_eq_canon]; exact View.canon_cons_unit_lit _ _ _ (by decide)
      · rw [show (k0_pay2 (F := Ideal)) (ix2 j0 j1) = (0 : EReal) from Ideal.ofBits_zero_f32])
    (fun t h j => by
      rw [outsAt0_B m c t h h]; frame_out
      idx_vars j
      exact st_step m c t _ _ _ [] _ _ _ _ _ _ (fun d => ldRow _ _ d (by decide)) (fun d => ldRow _ _ d (by decide)) (fun d => ldRow _ _ d (by decide)) (by exact Memref.IsWhole.read_unread _ _) _ _)
     t ((flush0_12 t).mp hf) _, zero_add]
  have ht : t.val = 31 := by have := (flush0_12 t).mp hf; have := lt32 t; omega
  have he : ((win0_12.blk t).view.emb y : S8x1024.Idx) = y := by
    have hi : win0_12.index t = ![0, 0] := by simp only [idx t]
    funext a; refine Fin.ext ?_
    match a with
    | 0 =>
      show win0_12.index t 0 * 8 + 1 * (y 0).val = _
      rw [hi]; show 0 * 8 + 1 * (y 0).val = (y 0).val; omega
    | 1 =>
      show win0_12.index t 1 * 1024 + 1 * (y 1).val = _
      rw [hi]; show 0 * 1024 + 1 * (y 1).val = (y 1).val; omega
  rw [he]
  exact Fin.sum_mul_add_congr fun s k hl => congrArg (fun i => stT (mX m c) (mDh m c) (mG m c) (mSc m c) (y 0) i (y 1)) (Fin.ext (by
    show 512 * (32 * (t.val / 32) + s.val) + k.val = s.val * 512 + k.val
    omega))

theorem out13 : (dats m 0 c).arrAt 13 cfg0.N = fun j : S4x8x704.Idx => ∑ t, gcT (mDgc m c) (mP m c) (j 1) t (col (j 0) (j 2)) := by
  refine (dats m 0 c).arrAt_eq_of_covers 13 _ (by decide +kernel) fun t hf y => ?_
  blk_simp
  rw [after0_13, Pipeline.eq_sum_fin_of_reset_step_apply_of_flush (fun n h => (outsAt0 m c n h).2.2.2) 32 (fun _ => 0)
    (fun t (j : S4x8x704.Idx) => gcP m c t (j 0) (j 1) (j 2))
    (fun t h j => by
      rw [outsAt0_A m c t h h]; frame_out
      idx_vars j
      rw [← View.read_writes_junk_eq_canon (ms0_13 t).view]
      refine (gc_step m c t (k0_pay3 (F := Ideal)) _ _ [_] _ _ _ _ _ _ _ _ _ _ _ _ _ _ _ _ _ _ _ _ _ _ _ _ ?_ ?_ ?_ ?_ ?_ ?_ ?_ ?_ ?_ ?_ ?_ ?_ ?_ _ _ _).trans ?_
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · intro d
        repeat refine (congrFun (View.readCov_skip _ _ _ _ _ (by decide)) _).trans ?_
        refine (congrFun (View.readCov_fill _ _ _ _ _ (by decide)) _).trans ?_
        rfl
      · rw [View.read_writes_junk_eq_canon]; exact View.canon_cons_unit_lit _ _ _ (by decide)
      · rw [show (k0_pay3 (F := Ideal)) (ix3 j0 j1 j2) = (0 : EReal) from Ideal.ofBits_zero_f32])
    (fun t h j => by
      rw [outsAt0_B m c t h h]; frame_out
      idx_vars j
      exact gc_step m c t _ _ _ [] _ _ _ _ _ _ _ _ _ _ _ _ _ _ _ _ _ _ _ _ _ _ _ _
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (by exact Memref.IsWhole.read_unread _ _) _ _ _)
     t ((flush0_13 t).mp hf) _, zero_add]
  have ht : t.val = 31 := by have := (flush0_13 t).mp hf; have := lt32 t; omega
  have he : ((win0_13.blk t).view.emb y : S4x8x704.Idx) = y := by
    have hi : win0_13.index t = ![0, 0, 0] := by simp only [idx t]
    funext a; refine Fin.ext ?_
    match a with
    | 0 =>
      show win0_13.index t 0 * 4 + 1 * (y 0).val = _
      rw [hi]; show 0 * 4 + 1 * (y 0).val = (y 0).val; omega
    | 1 =>
      show win0_13.index t 1 * 8 + 1 * (y 1).val = _
      rw [hi]; show 0 * 8 + 1 * (y 1).val = (y 1).val; omega
    | 2 =>
      show win0_13.index t 2 * 704 + 1 * (y 2).val = _
      rw [hi]; show 0 * 704 + 1 * (y 2).val = (y 2).val; omega
  rw [he]
  unfold gcP
  exact Fin.sum_mul_add_congr fun s k hl => congrArg (fun i => gcT (mDgc m c) (mP m c) (y 1) i (col (y 0) (y 2))) (Fin.ext (by
    show 512 * (32 * (t.val / 32) + s.val) + k.val = s.val * 512 + k.val
    omega))

end Cert.FiKernelIdeal.Hand
end
-- ==== Proof.FiRef.lean ====
/-
  The reference's gradients of the channel mixer's first half, entry by entry: the chain rule's terms are brought to the
  specification. The convolution's weight gradients are the reference's sums with the shift moved to the other factor;
  the normalisation's gradient is its expanded form brought to the centred one.
-/
module

public import proofs.«01_k».proof.Proof.Gen.FiReferenceIdeal.Run
public import proofs.«01_k».proof.Proof.FiSpec
public import proofs.«01_k».proof.Proof.Norm
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.Sc Cert.Fi
namespace Cert.FiReferenceIdeal.Hand
open Cert.FiReferenceIdeal Cert.FiReferenceIdeal.Gen Cert.FiReferenceIdeal.Value
variable (m : (ℓ : Loc nD τ sig) → Buf (Elt Ideal) ℓ) (c : Dev nD)

/-- The arguments as matrices. -/
def mX : Mat 16384 1024 := fun t d => (m ((c.tc : Thread nD τ).loc main_arg0) : Vec Ideal S16384x1024 .f32) (ix2 t d)
@[inherit_doc mX] def mG : Fin 1024 → EReal := fun d => (m ((c.tc : Thread nD τ).loc main_arg1) : Vec Ideal S1x1024 .f32) (ix2 0 d)
@[inherit_doc mX] def mSc : Fin 1024 → EReal := fun d => (m ((c.tc : Thread nD τ).loc main_arg2) : Vec Ideal S1x1024 .f32) (ix2 0 d)
@[inherit_doc mX] def mSh : Fin 1024 → EReal := fun d => (m ((c.tc : Thread nD τ).loc main_arg3) : Vec Ideal S1x1024 .f32) (ix2 0 d)
@[inherit_doc mX] def mW : Mat 1024 5632 := fun t d => (m ((c.tc : Thread nD τ).loc main_arg4) : Vec Ideal S1024x5632 .f32) (ix2 t d)
@[inherit_doc mX] def mCw : Mat 3 2816 := fun t d => (m ((c.tc : Thread nD τ).loc main_arg5) : Vec Ideal S3x2816 .f32) (ix2 t d)
@[inherit_doc mX] def mDgc : Mat 16384 2816 := fun t d => (m ((c.tc : Thread nD τ).loc main_arg6) : Vec Ideal S16384x2816 .f32) (ix2 t d)
@[inherit_doc mX] def mDval : Mat 16384 2816 := fun t d => (m ((c.tc : Thread nD τ).loc main_arg7) : Vec Ideal S16384x2816 .f32) (ix2 t d)
@[inherit_doc mX] def mDxo : Mat 16384 1024 := fun t d => (m ((c.tc : Thread nD τ).loc main_arg8) : Vec Ideal S16384x1024 .f32) (ix2 t d)
/-- The up-projection. -/
def mP : Mat 16384 5632 := Fi.proj (mX m c) (mG m c) (mSc m c) (mSh m c) (mW m c)

/-- The rows' reciprocal roots. -/
def tR (a0 : FVec Ideal S16384x1024 .f32) : FVec Ideal S16384x1 .f32 :=
  (Host.rsqrt (addf (Host.divf (broadcastInDim S16384x1 ![0] bcast_S16384_S16384x1_0 (Host.reduceAdd (mulf a0 a0) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32))))

/-- The up-projection. -/
def tP (a0 : FVec Ideal S16384x1024 .f32) (tR' : FVec Ideal S16384x1 .f32) (a1 : FVec Ideal S1x1024 .f32) (a2 : FVec Ideal S1x1024 .f32) (a3 : FVec Ideal S1x1024 .f32) (a4 : FVec Ideal S1024x5632 .f32) : FVec Ideal S16384x5632 .f32 :=
  (Host.dotGeneral dot_S16384x1024_S1024x5632_S16384x5632_1_0_0_1_n_n none (addf (mulf (mulf (mulf a0 (broadcastInDim S16384x1024 ![0, 1] bcast_S16384x1_S16384x1024_0_1 tR')) (broadcastInDim S16384x1024 ![0, 1] bcast_S1x1024_S16384x1024_0_1 a1)) (broadcastInDim S16384x1024 ![0, 1] bcast_S1x1024_S16384x1024_0_1 (addf (broadcastInDim S1x1024 ![] bcast_S_S1x1024 (constant (F := Ideal) S_ .f32 0x3F800000#32)) a2))) (broadcastInDim S16384x1024 ![0, 1] bcast_S1x1024_S16384x1024_0_1 a3)) a4)

/-- Its gate half. -/
def tGa (tP' : FVec Ideal S16384x5632 .f32) : FVec Ideal S16384x2816 .f32 :=
  (extractStridedSlice S16384x2816 ![0, 0] tP' slices_S16384x5632_S16384x2816_0_0)

/-- The gate half below two rows of zeros. -/
def tZp (tGa' : FVec Ideal S16384x2816 .f32) : FVec Ideal S16386x2816 .f32 :=
  (fn_main_v25 (F := Ideal) (broadcastInDim S2x2816 ![] bcast_S_S2x2816 (constant (F := Ideal) S_ .f32 0x00000000#32)) tGa')

/-- The gradient of the convolution's weights. -/
def tGc (a6 : FVec Ideal S16384x2816 .f32) (tZp' : FVec Ideal S16386x2816 .f32) : FVec Ideal S3x2816 .f32 :=
  (addf (addf (pad S3x2816 ![2, 0] ![0, 0] ![0, 0] (broadcastInDim S1x2816 ![1] bcast_S2816_S1x2816_1 (Host.reduceAdd (shapeCast _ (Host.reduceAdd (mulf (shapeCast _ a6 shapeCasts_S16384x2816_S16384x2816) (extractStridedSlice S16384x2816 ![2, 0] tZp' slices_S16386x2816_S16384x2816_2_0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_200_000 h_S_) (pad S3x2816 ![1, 0] ![1, 0] ![0, 0] (broadcastInDim S1x2816 ![1] bcast_S2816_S1x2816_1 (Host.reduceAdd (shapeCast _ (Host.reduceAdd (mulf (shapeCast _ a6 shapeCasts_S16384x2816_S16384x2816) (extractStridedSlice S16384x2816 ![1, 0] tZp' slices_S16386x2816_S16384x2816_1_0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_110_000 h_S_)) (pad S3x2816 ![0, 0] ![2, 0] ![0, 0] (broadcastInDim S1x2816 ![1] bcast_S2816_S1x2816_1 (Host.reduceAdd (shapeCast _ (Host.reduceAdd (mulf (shapeCast _ a6 shapeCasts_S16384x2816_S16384x2816) (extractStridedSlice S16384x2816 ![0, 0] tZp' slices_S16386x2816_S16384x2816_0_0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_020_000 h_S_))

/-- The gradient of the gate half. -/
def tDz (a5 : FVec Ideal S3x2816 .f32) (a6 : FVec Ideal S16384x2816 .f32) : FVec Ideal S16384x2816 .f32 :=
  (extractStridedSlice S16384x2816 ![2, 0] (addf (addf (pad S16386x2816 ![2, 0] ![0, 0] ![0, 0] (mulf (broadcastInDim S16384x2816 ![0, 1] bcast_S1x2816_S16384x2816_0_1 (broadcastInDim S1x2816 ![1] bcast_S2816_S1x2816_1 (shapeCast _ (extractStridedSlice S1x2816 ![2, 0] a5 slices_S3x2816_S1x2816_2_0) shapeCasts_S1x2816_S2816))) (shapeCast _ a6 shapeCasts_S16384x2816_S16384x2816)) (constant (F := Ideal) S_ .f32 0x00000000#32) pads_S16384x2816_S16386x2816_200_000 h_S_) (pad S16386x2816 ![1, 0] ![1, 0] ![0, 0] (mulf (broadcastInDim S16384x2816 ![0, 1] bcast_S1x2816_S16384x2816_0_1 (broadcastInDim S1x2816 ![1] bcast_S2816_S1x2816_1 (shapeCast _ (extractStridedSlice S1x2816 ![1, 0] a5 slices_S3x2816_S1x2816_1_0) shapeCasts_S1x2816_S2816))) (shapeCast _ a6 shapeCasts_S16384x2816_S16384x2816)) (constant (F := Ideal) S_ .f32 0x00000000#32) pads_S16384x2816_S16386x2816_110_000 h_S_)) (pad S16386x2816 ![0, 0] ![2, 0] ![0, 0] (mulf (broadcastInDim S16384x2816 ![0, 1] bcast_S1x2816_S16384x2816_0_1 (broadcastInDim S1x2816 ![1] bcast_S2816_S1x2816_1 (shapeCast _ (extractStridedSlice S1x2816 ![0, 0] a5 slices_S3x2816_S1x2816_0_0) shapeCasts_S1x2816_S2816))) (shapeCast _ a6 shapeCasts_S16384x2816_S16384x2816)) (constant (F := Ideal) S_ .f32 0x00000000#32) pads_S16384x2816_S16386x2816_020_000 h_S_)) slices_S16386x2816_S16384x2816_2_0)

/-- The gradient of the up-projection's output. -/
def tCat (tDz' : FVec Ideal S16384x2816 .f32) (a7 : FVec Ideal S16384x2816 .f32) : FVec Ideal S16384x5632 .f32 :=
  (fn_main_v82 (F := Ideal) tDz' a7)

/-- The gradient of the up-projection's input. -/
def tDh (tCat' : FVec Ideal S16384x5632 .f32) (a4 : FVec Ideal S1024x5632 .f32) : FVec Ideal S16384x1024 .f32 :=
  (Host.dotGeneral (φ₁ := .f32) (φ₂ := .f32) dot_S16384x5632_S1024x5632_S16384x1024_1_1_0_0_n_n none tCat' a4)

/-- The gradient of the normalised rows. -/
def tDy (tDh' : FVec Ideal S16384x1024 .f32) (a2 : FVec Ideal S1x1024 .f32) (a1 : FVec Ideal S1x1024 .f32) : FVec Ideal S16384x1024 .f32 :=
  (mulf (mulf tDh' (broadcastInDim S16384x1024 ![0, 1] bcast_S1x1024_S16384x1024_0_1 (addf (broadcastInDim S1x1024 ![] bcast_S_S1x1024 (constant (F := Ideal) S_ .f32 0x3F800000#32)) a2))) (broadcastInDim S16384x1024 ![0, 1] bcast_S1x1024_S16384x1024_0_1 a1))

/-- The factor of the rows in the expanded form. -/
def tB (a0 : FVec Ideal S16384x1024 .f32) (tDy' : FVec Ideal S16384x1024 .f32) (tR' : FVec Ideal S16384x1 .f32) : FVec Ideal S16384x1 .f32 :=
  (Host.divf (mulf (shapeCast _ (Host.reduceAdd (mulf a0 tDy') (constant (F := Ideal) S_ .f32 0x00000000#32) reducesTo_S16384x1024_S16384_d1 h_S_) shapeCasts_S16384_S16384x1) (mulf (broadcastInDim S16384x1 ![] bcast_S_S16384x1 (constant (F := Ideal) S_ .f32 0xBF000000#32)) (Host.divf tR' (addf (Host.divf (broadcastInDim S16384x1 ![0] bcast_S16384_S16384x1_0 (Host.reduceAdd (mulf a0 a0) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1 ![] bcast_S_S16384x1 (constant (F := Ideal) S_ .f32 0x44800000#32)))

/-- The gradient of the input. -/
def tDx (a8 : FVec Ideal S16384x1024 .f32) (tDy' : FVec Ideal S16384x1024 .f32) (tR' : FVec Ideal S16384x1 .f32) (a0 : FVec Ideal S16384x1024 .f32) (tB' : FVec Ideal S16384x1 .f32) : FVec Ideal S16384x1024 .f32 :=
  (addf (addf (addf a8 (mulf tDy' (broadcastInDim S16384x1024 ![0, 1] bcast_S16384x1_S16384x1024_0_1 tR'))) (mulf a0 (broadcastInDim S16384x1024 ![0] bcast_S16384_S16384x1024_0 (Host.reduceAdd tB' (constant (F := Ideal) S_ .f32 0x00000000#32) reducesTo_S16384x1_S16384_d1 h_S_)))) (mulf (broadcastInDim S16384x1024 ![0] bcast_S16384_S16384x1024_0 (Host.reduceAdd tB' (constant (F := Ideal) S_ .f32 0x00000000#32) reducesTo_S16384x1_S16384_d1 h_S_)) a0))

/-- The gate half's gradient, in blocks. -/
def tDg (tCat' : FVec Ideal S16384x5632 .f32) : FVec Ideal S4x16384x704 .bf16 :=
  (truncf (F := Ideal) .bf16 (transpose S4x16384x704 [1, 0, 2] (shapeCast _ (extractStridedSlice S16384x2816 ![0, 0] tCat' slices_S16384x5632_S16384x2816_0_0) shapeCasts_S16384x2816_S16384x4x704) transposes_S16384x4x704_S4x16384x704_1_0_2) bitsLt_bf16_f32)

/-- The sums for the affine map. -/
def tSt (tDh' : FVec Ideal S16384x1024 .f32) (a0 : FVec Ideal S16384x1024 .f32) (tR' : FVec Ideal S16384x1 .f32) (a1 : FVec Ideal S1x1024 .f32) (a2 : FVec Ideal S1x1024 .f32) : FVec Ideal S8x1024 .f32 :=
  (fn_main_v116 (F := Ideal) (shapeCast _ (Host.reduceAdd tDh' (constant (F := Ideal) S_ .f32 0x00000000#32) reducesTo_S16384x1024_S1024_d0 h_S_) shapeCasts_S1024_S1x1024) (shapeCast _ (Host.reduceAdd (mulf (mulf (mulf a0 (broadcastInDim S16384x1024 ![0, 1] bcast_S16384x1_S16384x1024_0_1 tR')) (broadcastInDim S16384x1024 ![0, 1] bcast_S1x1024_S16384x1024_0_1 a1)) tDh') (constant (F := Ideal) S_ .f32 0x00000000#32) reducesTo_S16384x1024_S1024_d0 h_S_) shapeCasts_S1024_S1x1024) (shapeCast _ (Host.reduceAdd (mulf (mulf a0 (broadcastInDim S16384x1024 ![0, 1] bcast_S16384x1_S16384x1024_0_1 tR')) (mulf tDh' (broadcastInDim S16384x1024 ![0, 1] bcast_S1x1024_S16384x1024_0_1 (addf (broadcastInDim S1x1024 ![] bcast_S_S1x1024 (constant (F := Ideal) S_ .f32 0x3F800000#32)) a2)))) (constant (F := Ideal) S_ .f32 0x00000000#32) reducesTo_S16384x1024_S1024_d0 h_S_) shapeCasts_S1024_S1x1024) (broadcastInDim S5x1024 ![] bcast_S_S5x1024 (constant (F := Ideal) S_ .f32 0x00000000#32)))

/-- The convolution's weight gradients in eight rows. -/
def tSc2 (tGc' : FVec Ideal S3x2816 .f32) : FVec Ideal S8x2816 .f32 :=
  (fn_main_v119 (F := Ideal) (broadcastInDim S1x2816 ![] bcast_S_S1x2816 (constant (F := Ideal) S_ .f32 0x00000000#32)) tGc' (broadcastInDim S4x2816 ![] bcast_S_S4x2816 (constant (F := Ideal) S_ .f32 0x00000000#32)))

/-- The eight rows, in blocks. -/
def tSw (tSc2' : FVec Ideal S8x2816 .f32) : FVec Ideal S4x8x704 .f32 :=
  (transpose S4x8x704 [1, 0, 2] (shapeCast _ tSc2' shapeCasts_S8x2816_S8x4x704) transposes_S8x4x704_S4x8x704_1_0_2)

variable (a0 a8 : FVec Ideal S16384x1024 .f32) (a6 a7 : FVec Ideal S16384x2816 .f32) (a1 a2 a3 : FVec Ideal S1x1024 .f32) (a4 : FVec Ideal S1024x5632 .f32) (a5 : FVec Ideal S3x2816 .f32)

theorem tR_at (t : Fin 16384) : tR a0 (ix2 t 0) = rs (fun t d => a0 (ix2 t d)) t := by
  unfold tR
  pointwise
  rfl

theorem tP_at (t : Fin 16384) (k : Fin 5632) :
    tP a0 (tR a0) a1 a2 a3 a4 (ix2 t k) = Fi.proj (fun t d => a0 (ix2 t d)) (fun d => a1 (ix2 0 d)) (fun d => a2 (ix2 0 d)) (fun d => a3 (ix2 0 d)) (fun t d => a4 (ix2 t d)) t k := by
  unfold tP
  pointwise [tR_at]
  rfl

theorem tGa_at (P : FVec Ideal S16384x5632 .f32) (t : Fin 16384) (d : Fin 2816) : tGa P (ix2 t d) = P (ix2 t (gat d)) := by
  unfold tGa
  pointwise

theorem tZp_at (Z : FVec Ideal S16384x2816 .f32) (t : Fin 16386) (d : Fin 2816) :
    tZp Z (ix2 t d) = if h : t.val < 2 then 0 else Z (ix2 ⟨t.val - 2, by omega⟩ d) := by
  unfold tZp fn_main_v25
  pointwise

theorem tDz_at (t : Fin 16384) (d : Fin 2816) :
    tDz a5 a6 (ix2 t d) = dgate (fun t d => a5 (ix2 t d)) (fun t d => a6 (ix2 t d)) t d := by
  unfold tDz
  pointwise
  unfold dgate Fi.up
  congr 2
  · by_cases h : t.val + 1 < 16384
    · rw [dif_pos (by omega), dif_pos h]
      exact congrArg (fun i => a5 (ix2 1 d) * a6 (ix2 i d)) (Fin.ext (by dsimp only; omega))
    · rw [dif_neg (by omega), dif_neg h, mul_zero]
  · by_cases h : t.val + 2 < 16384
    · rw [dif_pos (by omega), dif_pos h]
      exact congrArg (fun i => a5 (ix2 0 d) * a6 (ix2 i d)) (Fin.ext (by dsimp only; omega))
    · rw [dif_neg (by omega), dif_neg h, mul_zero]

theorem tCat_at (t : Fin 16384) (k : Fin 5632) :
    tCat (tDz a5 a6) a7 (ix2 t k) = dup (fun t d => a5 (ix2 t d)) (fun t d => a6 (ix2 t d)) (fun t d => a7 (ix2 t d)) t k := by
  unfold tCat fn_main_v82
  pointwise [tDz_at]
  unfold dup
  rfl

theorem tDh_at (t : Fin 16384) (j : Fin 1024) :
    tDh (tCat (tDz a5 a6) a7) a4 (ix2 t j) = Fi.dh (fun t d => a5 (ix2 t d)) (fun t d => a6 (ix2 t d)) (fun t d => a7 (ix2 t d)) (fun t d => a4 (ix2 t d)) t j := by
  unfold tDh
  pointwise [tCat_at]
  rfl

theorem tGc_at (Zp : FVec Ideal S16386x2816 .f32) (a : Fin 3) (d : Fin 2816) :
    tGc a6 Zp (ix2 a d) = ∑ t : Fin 16384, a6 (ix2 t d) * Zp (ix2 ⟨t.val + a.val, by omega⟩ d) := by
  unfold tGc
  pointwise
  have key : ∀ (i j : Fin 16384 → Fin 16386), (∀ t, i t = j t) →
      (∑ _x : Fin 1, ∑ t : Fin 16384, a6 (ix2 t d) * Zp (ix2 (i t) d)) = ∑ t : Fin 16384, a6 (ix2 t d) * Zp (ix2 (j t) d) := by
    intro i j h
    rw [Fin.sum_univ_one]
    exact Finset.sum_congr rfl fun t _ => by rw [h t]
  by_cases h0 : a.val = 0
  · rw [dif_neg (by omega), dif_neg (by omega), dif_pos (by omega), add_zero, zero_add]
    exact key _ _ fun t => Fin.ext (by dsimp only; omega)
  · by_cases h1 : a.val = 1
    · rw [dif_neg (by omega), dif_pos (by omega), dif_neg (by omega), add_zero, zero_add]
      exact key _ _ fun t => Fin.ext (by dsimp only; omega)
    · rw [dif_pos (by omega), dif_neg (by omega), dif_neg (by omega), add_zero, add_zero]
      exact key _ _ fun t => Fin.ext (by dsimp only; omega)

theorem tDy_at (H : FVec Ideal S16384x1024 .f32) (t : Fin 16384) (d : Fin 1024) :
    tDy H a2 a1 (ix2 t d) = H (ix2 t d) * (1 + a2 (ix2 0 d)) * a1 (ix2 0 d) := by
  unfold tDy
  pointwise

theorem tB_at (Y : FVec Ideal S16384x1024 .f32) (R : FVec Ideal S16384x1 .f32) (t : Fin 16384) :
    tB a0 Y R (ix2 t 0) = Ideal.div ((∑ k, a0 (ix2 t k) * Y (ix2 t k)) * (Ideal.ofBits .f32 0xBF000000#32 * Ideal.div (R (ix2 t 0)) (ms (fun t d => a0 (ix2 t d)) t))) (Ideal.ofBits .f32 0x44800000#32) := by
  unfold tB
  pointwise
  rfl

theorem tDx_at (Y : FVec Ideal S16384x1024 .f32) (R B : FVec Ideal S16384x1 .f32) (t : Fin 16384) (d : Fin 1024) :
    tDx a8 Y R a0 B (ix2 t d) = a8 (ix2 t d) + Y (ix2 t d) * R (ix2 t 0) + a0 (ix2 t d) * B (ix2 t 0) + B (ix2 t 0) * a0 (ix2 t d) := by
  unfold tDx
  pointwise
  rw [Fin.sum_univ_one]

/-- The input's gradient in the centred form. -/
theorem tDx_eq (H : FVec Ideal S16384x1024 .f32) (t : Fin 16384) (j : Fin 1024) :
    tDx a8 (tDy H a2 a1) (tR a0) a0 (tB a0 (tDy H a2 a1) (tR a0)) (ix2 t j)
      = dx (fun t d => a0 (ix2 t d)) (fun t d => H (ix2 t d)) (fun t d => a8 (ix2 t d)) (fun d => a1 (ix2 0 d)) (fun d => a2 (ix2 0 d)) t j := by
  obtain ⟨e, he, hee⟩ := Norm.ofBits_eps
  rw [tDx_at, tB_at, tR_at]
  simp only [tDy_at]
  unfold dx rs ms
  rw [Norm.ofBits_1024, Norm.ofBits_neg_half, hee]
  exact (Norm.row (fun k => a0 (ix2 t k)) (fun k => H (ix2 t k) * (1 + a2 (ix2 0 k)) * a1 (ix2 0 k)) (a8 (ix2 t j)) (by norm_num : (0 : ℝ) < 1024) he j).symm

theorem tSt_at (H : FVec Ideal S16384x1024 .f32) (a : Fin 8) (d : Fin 1024) :
    tSt H a0 (tR a0) a1 a2 (ix2 a d) = ∑ t, stT (fun t d => a0 (ix2 t d)) (fun t d => H (ix2 t d)) (fun d => a1 (ix2 0 d)) (fun d => a2 (ix2 0 d)) a t d := by
  unfold tSt fn_main_v116
  pointwise [tR_at]
  unfold stT
  by_cases h0 : a.val = 0
  · simp only [h0, if_true]
    rw [dif_pos (by omega)]
  · rw [dif_neg (by omega)]
    by_cases h1 : a.val = 1
    · rw [dif_pos (by omega)]
      exact Finset.sum_congr rfl fun t _ => by rw [if_neg h0, if_pos h1, mul_comm]
    · rw [dif_neg (by omega)]
      by_cases h2 : a.val = 2
      · rw [dif_pos (by omega)]
        exact Finset.sum_congr rfl fun t _ => by rw [if_neg h0, if_neg h1, if_pos h2, mul_comm]
      · rw [dif_neg (by omega)]
        exact (Finset.sum_eq_zero fun t _ => by rw [if_neg h0, if_neg h1, if_neg h2]).symm

theorem tDg_at (t : Fin 16384) (j : Fin 4) (k : Fin 704) :
    tDg (tCat (tDz a5 a6) a7) (ix3 j t k) = dgate (fun t d => a5 (ix2 t d)) (fun t d => a6 (ix2 t d)) t (col j k) := by
  unfold tDg
  pointwise [tCat_at]
  rw [dup, dif_pos (by dsimp only; omega)]
  congr 1
  exact Fin.ext (by dsimp only; omega)

theorem tSc2_at (P : FVec Ideal S16384x5632 .f32) (a : Fin 8) (d : Fin 2816) :
    tSc2 (tGc a6 (tZp (tGa P))) (ix2 a d) = ∑ t, gcT (fun t d => a6 (ix2 t d)) (fun t k => P (ix2 t k)) a t d := by
  unfold tSc2 fn_main_v119
  pointwise [tGc_at, tZp_at, tGa_at]
  by_cases h0 : a.val = 0
  · rw [dif_pos (by omega)]
    exact (Finset.sum_eq_zero fun t _ => by simp [gcT, h0]).symm
  rw [dif_neg (by omega)]
  by_cases h1 : a.val = 1
  · rw [dif_pos (by omega)]
    simp only [gcT, if_pos h1, Fi.up]
    rw [sum_shift 2 (by omega) (fun t => P (ix2 t (gat d))) (fun t => a6 (ix2 t d))]
    refine Finset.sum_congr rfl fun t _ => ?_
    by_cases h : 2 ≤ t.val
    · rw [dif_neg (by omega), dif_pos h]
      have e : (⟨t.val + (a.val - 1) - 2, by omega⟩ : Fin 16384) = ⟨t.val - 2, by omega⟩ := Fin.ext (by dsimp only; omega)
      simp only [e]
    · rw [dif_pos (by omega), dif_neg h]
  by_cases h2 : a.val = 2
  · rw [dif_pos (by omega)]
    simp only [gcT, if_neg h1, if_pos h2, Fi.up]
    rw [sum_shift 1 (by omega) (fun t => P (ix2 t (gat d))) (fun t => a6 (ix2 t d))]
    refine Finset.sum_congr rfl fun t _ => ?_
    by_cases h : 1 ≤ t.val
    · rw [dif_neg (by omega), dif_pos h]
      have e : (⟨t.val + (a.val - 1) - 2, by omega⟩ : Fin 16384) = ⟨t.val - 1, by omega⟩ := Fin.ext (by dsimp only; omega)
      simp only [e]
    · rw [dif_pos (by omega), dif_neg h]
  by_cases h3 : a.val = 3
  · rw [dif_pos (by omega)]
    refine Finset.sum_congr rfl fun t _ => ?_
    simp only [gcT, if_neg h1, if_neg h2, if_pos h3]
    rw [dif_neg (by omega), mul_comm]
    have e : (⟨t.val + (a.val - 1) - 2, by omega⟩ : Fin 16384) = t := Fin.ext (by dsimp only; omega)
    simp only [e]
  · rw [dif_neg (by omega)]
    exact (Finset.sum_eq_zero fun t _ => by simp only [gcT, if_neg h1, if_neg h2, if_neg h3]).symm

theorem tSw_at (P : FVec Ideal S16384x5632 .f32) (j : Fin 4) (a : Fin 8) (k : Fin 704) :
    tSw (tSc2 (tGc a6 (tZp (tGa P)))) (ix3 j a k) = ∑ t, gcT (fun t d => a6 (ix2 t d)) (fun t k => P (ix2 t k)) a t (col j k) := by
  have e : (⟨j.val * 704 + k.val, by omega⟩ : Fin 2816) = col j k := Fin.ext (by dsimp only; omega)
  unfold tSw
  pointwise [tSc2_at]
  simp only [e]

/-- The up-projection's term in the reference. -/
abbrev rP : FVec Ideal S16384x5632 .f32 :=
  tP (m ((c.tc : Thread nD τ).loc main_arg0)) (tR (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))
/-- The gradient of the up-projection's output in the reference. -/
abbrev rCat : FVec Ideal S16384x5632 .f32 := tCat (tDz (m ((c.tc : Thread nD τ).loc main_arg5)) (m ((c.tc : Thread nD τ).loc main_arg6))) (m ((c.tc : Thread nD τ).loc main_arg7))
/-- The gradient of the up-projection's input in the reference. -/
abbrev rDh : FVec Ideal S16384x1024 .f32 := tDh (rCat m c) (m ((c.tc : Thread nD τ).loc main_arg4))
/-- The gradient of the up-projection's input. -/
def mDh : Mat 16384 1024 := Fi.dh (mCw m c) (mDgc m c) (mDval m c) (mW m c)

theorem rP_at (t : Fin 16384) (k : Fin 5632) : rP m c (ix2 t k) = mP m c t k := tP_at _ _ _ _ _ t k

theorem rDh_at (t : Fin 16384) (j : Fin 1024) : rDh m c (ix2 t j) = mDh m c t j := tDh_at _ _ _ _ t j

theorem res0 : res_out0 m c = fun j : S16384x1024.Idx => dx (mX m c) (mDh m c) (mDxo m c) (mG m c) (mSc m c) (j 0) (j 1) := by
  have e : res_out0 m c = tDx (m ((c.tc : Thread nD τ).loc main_arg8)) (tDy (rDh m c) (m ((c.tc : Thread nD τ).loc main_arg2)) (m ((c.tc : Thread nD τ).loc main_arg1))) (tR (m ((c.tc : Thread nD τ).loc main_arg0))) (m ((c.tc : Thread nD τ).loc main_arg0)) (tB (m ((c.tc : Thread nD τ).loc main_arg0)) (tDy (rDh m c) (m ((c.tc : Thread nD τ).loc main_arg2)) (m ((c.tc : Thread nD τ).loc main_arg1))) (tR (m ((c.tc : Thread nD τ).loc main_arg0)))) := by
    unfold res_out0 res_main_v110
    rfl
  funext j
  idx_vars j
  rw [e, tDx_eq]
  simp only [rDh_at]
  rfl

theorem res1 : tDg (rCat m c) = fun j : S4x16384x704.Idx => dgate (mCw m c) (mDgc m c) (j 1) (col (j 0) (j 2)) := by
  funext j
  idx_vars j
  exact tDg_at _ _ _ _ _ _

theorem res2 : res_out2 m c = fun j : S8x1024.Idx => ∑ t, stT (mX m c) (mDh m c) (mG m c) (mSc m c) (j 0) t (j 1) := by
  have e : res_out2 m c = tSt (rDh m c) (m ((c.tc : Thread nD τ).loc main_arg0)) (tR (m ((c.tc : Thread nD τ).loc main_arg0))) (m ((c.tc : Thread nD τ).loc main_arg1)) (m ((c.tc : Thread nD τ).loc main_arg2)) := by
    unfold res_out2 res_main_v116
    rfl
  funext j
  idx_vars j
  rw [e, tSt_at]
  simp only [rDh_at]
  rfl

theorem res3 : res_out3 m c = fun j : S4x8x704.Idx => ∑ t, gcT (mDgc m c) (mP m c) (j 1) t (col (j 0) (j 2)) := by
  have e : res_out3 m c = tSw (tSc2 (tGc (m ((c.tc : Thread nD τ).loc main_arg6)) (tZp (tGa (rP m c))))) := by
    unfold res_out3 res_main_v121
    rfl
  funext j
  idx_vars j
  rw [e, tSw_at]
  simp only [rP_at]
  rfl

end Cert.FiReferenceIdeal.Hand
end
-- ==== Proof.FiClaim.lean ====
/-
  The five claims about the channel mixer's input gradient: the three frames, that the ideal program is the
  kernel, and that kernel and reference compute the same four arrays over the extended reals.
-/
module

public import proofs.«01_k».proof.Defs
public import proofs.«01_k».proof.Proof.Gen.FiKernel
public import proofs.«01_k».proof.Proof.Gen.FiKernel.Frame
public import proofs.«01_k».proof.Proof.Gen.FiKernelIdeal.Value
public import proofs.«01_k».proof.Proof.FiFinal
public import proofs.«01_k».proof.Proof.FiRef
public import Idealize.ShloMosaic.Lib.Quiescent

@[expose] public section
noncomputable section
namespace Cert.FiClaim
open Idealize.ShloMosaic Idealize.ShloMosaic.TcCoe Idealize.SL.Sem Cert.Sc

/-- The kernel's frame. -/
theorem frame_kernel : Cert.quiescent_FiKernel (hFiKernel := Cert.FiKernel.Gen.facts) :=
  fun m ρ _ => Cert.FiKernel.Gen.frame m ρ

/-- The ideal kernel's frame. -/
theorem frame_ideal : Cert.quiescent_FiKernelIdeal (hFiKernelIdeal := Cert.FiKernelIdeal.Gen.facts) :=
  fun m ρ _ => Cert.FiKernelIdeal.Gen.frame m ρ

/-- The reference's frame: its run keeps the arguments, and it has no semaphore. -/
theorem frame_reference : Cert.quiescent_FiReferenceIdeal (hFiReferenceIdeal := Cert.FiReferenceIdeal.Gen.facts) :=
  fun m ρ _ => (θ_run Cert.FiReferenceIdeal.defs _ _).mono
    (fun _ h => ⟨fun c => (h c).2.2.2.2, sem_eq_zero_of_no_sems (by decide) _⟩)
    (Cert.FiReferenceIdeal.Value.run (F := Ideal) m ρ)

section agree
variable (m : (ℓ : Loc FiKernelIdeal.nD FiKernelIdeal.τ FiKernelIdeal.sig) → Buf (Elt Ideal) ℓ)
  (m' : (ℓ : Loc FiReferenceIdeal.nD FiReferenceIdeal.τ FiReferenceIdeal.sig) → Buf (Elt Ideal) ℓ)
  (c : Dev FiKernelIdeal.nD)

/-- Where the arguments agree, so do their matrices. -/
structure Agree : Prop where
  x : FiReferenceIdeal.Hand.mX m' c = FiKernelIdeal.Hand.mX m c
  g : FiReferenceIdeal.Hand.mG m' c = FiKernelIdeal.Hand.mG m c
  sc : FiReferenceIdeal.Hand.mSc m' c = FiKernelIdeal.Hand.mSc m c
  sh : FiReferenceIdeal.Hand.mSh m' c = FiKernelIdeal.Hand.mSh m c
  w : FiReferenceIdeal.Hand.mW m' c = FiKernelIdeal.Hand.mW m c
  cw : FiReferenceIdeal.Hand.mCw m' c = FiKernelIdeal.Hand.mCw m c
  dgc : FiReferenceIdeal.Hand.mDgc m' c = FiKernelIdeal.Hand.mDgc m c
  dval : FiReferenceIdeal.Hand.mDval m' c = FiKernelIdeal.Hand.mDval m c
  dxo : FiReferenceIdeal.Hand.mDxo m' c = FiKernelIdeal.Hand.mDxo m c

variable {m m' c}

/-- The projections agree. -/
theorem Agree.p (h : Agree m m' c) : FiReferenceIdeal.Hand.mP m' c = FiKernelIdeal.Hand.mP m c := by
  unfold FiReferenceIdeal.Hand.mP FiKernelIdeal.Hand.mP
  rw [h.x, h.g, h.sc, h.sh, h.w]

/-- The gradients of the projection's input agree. -/
theorem Agree.h (h : Agree m m' c) : FiReferenceIdeal.Hand.mDh m' c = FiKernelIdeal.Hand.mDh m c := by
  unfold FiReferenceIdeal.Hand.mDh FiKernelIdeal.Hand.mDh
  rw [h.cw, h.dgc, h.dval, h.w]

end agree

/-- Kernel and reference compute the same four arrays. -/
theorem algebraic : Cert.algebraic_FiKernelIdeal_FiReferenceIdeal (hFiKernelIdeal := Cert.FiKernelIdeal.Gen.facts)
    (hFiReferenceIdeal := Cert.FiReferenceIdeal.Gen.facts) := by
  intro m ρ m' ρ' _ hargs
  have ha : ∀ c, Agree m m' c := fun c => by
    obtain ⟨h0, h1, h2, h3, h4, h5, h6, h7, h8⟩ := hargs c
    exact ⟨funext fun _ => funext fun _ => congrFun h0 _, funext fun _ => congrFun h1 _, funext fun _ => congrFun h2 _,
      funext fun _ => congrFun h3 _, funext fun _ => funext fun _ => congrFun h4 _, funext fun _ => funext fun _ => congrFun h5 _,
      funext fun _ => funext fun _ => congrFun h6 _, funext fun _ => funext fun _ => congrFun h7 _,
      funext fun _ => funext fun _ => congrFun h8 _⟩
  refine ⟨fun c => (FiKernelIdeal.Gen.dats m 0 c).arrAt 10 FiKernelIdeal.cfg0.N,
    fun c => (FiKernelIdeal.Gen.dats m 0 c).arrAt 11 FiKernelIdeal.cfg0.N,
    fun c => (FiKernelIdeal.Gen.dats m 0 c).arrAt 12 FiKernelIdeal.cfg0.N,
    fun c => (FiKernelIdeal.Gen.dats m 0 c).arrAt 13 FiKernelIdeal.cfg0.N,
    FiKernelIdeal.Value.run_blocks m ρ, ?_⟩
  refine (θ_run FiReferenceIdeal.defs _ _).mono (fun _ h c => ?_) (FiReferenceIdeal.Value.run (F := Ideal) m' ρ')
  obtain ⟨r0, r1, r2, r3, rest⟩ := h c
  have e := ha c
  refine ⟨(r0.trans (FiReferenceIdeal.Hand.res0 m' c)).trans (Eq.trans ?_ (FiKernelIdeal.Hand.out10 m c).symm),
    (r1.trans (FiReferenceIdeal.Hand.res1 m' c)).trans (Eq.trans ?_ (FiKernelIdeal.Hand.out11 m c).symm),
    (r2.trans (FiReferenceIdeal.Hand.res2 m' c)).trans (Eq.trans ?_ (FiKernelIdeal.Hand.out12 m c).symm),
    (r3.trans (FiReferenceIdeal.Hand.res3 m' c)).trans (Eq.trans ?_ (FiKernelIdeal.Hand.out13 m c).symm), rest⟩
  · rw [e.x, e.h, e.dxo, e.g, e.sc]
  · rw [e.cw, e.dgc]
  · rw [e.x, e.h, e.g, e.sc]
  · rw [e.dgc, e.p]

end Cert.FiClaim
end
-- ==== Proof.WuFinal.lean ====
/-
  The gradient of the feed-forward block's first weights, as its kernel leaves it: block `j` gathers the tokens in four
  blocks of 4096.
-/
module

public import proofs.«01_k».proof.Proof.Gen.WuKernelIdeal.Value
public import proofs.«01_k».proof.Proof.Gen.WuReferenceIdeal.Run
public import proofs.«01_k».proof.Proof.Gen.WuReferenceIdeal
public import proofs.«01_k».proof.Proof.Norm
public import Idealize.ShloMosaic.Lib.Pipeline.ValueKit
public import Idealize.ShloMosaic.Lib.Pipeline.ReadBack
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.WuKernelIdeal.Hand
open Cert.WuKernelIdeal Cert.WuKernelIdeal.Gen
variable (m : (ℓ : Loc nD τ sig) → Buf (Elt Ideal) ℓ) (c : Dev nD)

/-- The inputs and the outputs' gradients, entry by entry. -/
def mH (t : Fin 16384) (d : Fin 1024) : EReal := (m ((c : Thread nD τ).loc main_arg0) : Vec Ideal S16384x1024 .f32) (ix2 t d)
@[inherit_doc mH] def mU (t : Fin 16384) (k : Fin 5632) : EReal := (m ((c : Thread nD τ).loc main_arg1) : Vec Ideal S16384x5632 .f32) (ix2 t k)

theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

theorem lt32 (t : Fin cfg0.N) : t.val < 32 := lt_of_lt_of_eq t.isLt N_0

/-- The array's row that is row `r` of the block at `t`, and the column that is column `k` of block `j`. -/
abbrev row (t : Fin cfg0.N) (r : Fin 4096) : Fin 16384 := ⟨4096 * (t.val % 4) + r.val, by omega⟩
@[inherit_doc row] abbrev col (j : Fin 8) (k : Fin 704) : Fin 5632 := ⟨704 * j.val + k.val, by omega⟩
abbrev blk (t : Fin cfg0.N) : Fin 8 := ⟨t.val / 4, by have := lt32 t; omega⟩

theorem V2 (j : Fin 8) (t : Fin 16384) (k : Fin 704) : (V m c main_v2 : Vec Ideal S8x16384x704 .bf16) (ix3 j t k) = mU m c t (col j k) := by
  simp only [V]
  entry_read
  pointwise
  unfold mU
  congr 2
  exact Fin.ext (by dsimp only; omega)
theorem ib0 (t : Fin cfg0.N) (r : Fin 4096) (k : Fin 704) : iblk m c 0 t (ix3 0 r k) = mU m c (row t r) (col (blk t) k) := by
  rw [← V2]; blk_point [iblk, V, idx t]
theorem ib1 (t : Fin cfg0.N) (r : Fin 4096) (d : Fin 1024) : iblk m c 1 t (ix2 r d) = mH m c (row t r) d := by
  blk_point [iblk, V, idx t]

/-- What a point adds to the sum so far. -/
theorem pay2_at (t : Fin cfg0.N) (acc : Vec Ideal S704x1024 .f32) (k : Fin 704) (d : Fin 1024) :
    k0_pay2 (iblk m c 0 t) (iblk m c 1 t) acc (ix2 k d)
      = acc (ix2 k d) + ∑ r : Fin 4096, mU m c (row t r) (col (blk t) k) * mH m c (row t r) d := by
  pointwise [k0_pay2]
  simp only [ib0, ib1]

/-- The carried sum: cleared at a block's first point, and one term more at each. -/
theorem acc_reset (t : Fin cfg0.N) (h : t.val % 4 = 0) (k : Fin 704) (d : Fin 1024) :
    (outsAt0 m c t.val t.isLt).2 (ix2 k d) = 0 + ∑ r : Fin 4096, mU m c (row t r) (col (blk t) k) * mH m c (row t r) d := by
  rw [outsAt0_A m c t h (by omega)]; frame_out
  refine (pay2_at m c t _ k d).trans ?_
  congr 1
  exact Ideal.ofBits_zero_f32
@[inherit_doc acc_reset]
theorem acc_step (t : Fin cfg0.N) (h : ¬t.val % 4 = 0) (k : Fin 704) (d : Fin 1024) :
    (outsAt0 m c t.val t.isLt).2 (ix2 k d) = (outsAt0 m c (t.val - 1) (Nat.lt_of_le_of_lt (Nat.sub_le _ _) t.isLt)).2 (ix2 k d)
      + ∑ r : Fin 4096, mU m c (row t r) (col (blk t) k) * mH m c (row t r) d := by
  by_cases h1 : t.val % 4 = 3
  · rw [outsAt0_C m c t h h1]; frame_out
    refine (pay2_at m c t _ k d).trans ?_
    congr 1
    exact congrFun (Memref.IsWhole.read_unread _ _) _
  · rw [outsAt0_B m c t h h1]; frame_out
    refine (pay2_at m c t _ k d).trans ?_
    congr 1
    exact congrFun (Memref.IsWhole.read_unread _ _) _

/-- What the last point of a block writes is the carried sum. -/
theorem out_last (t : Fin cfg0.N) (h : t.val % 4 = 3) (k : Fin 704) (d : Fin 1024) :
    (outsAt0 m c t.val t.isLt).1 (ix3 0 k d) = (outsAt0 m c t.val t.isLt).2 (ix2 k d) := by
  rw [outsAt0_C m c t (by omega) h]; frame_out
  pointwise [k0_pay3]

/-- The gradient, entry by entry. -/
abbrev dw (j : Fin 8) (k : Fin 704) (d : Fin 1024) : EReal := ∑ t : Fin 16384, mU m c t (col j k) * mH m c t d

theorem out2 : (dats m 0 c).arrAt 2 cfg0.N = fun j : S8x704x1024.Idx => dw m c (j 0) (j 1) (j 2) := by
  refine (dats m 0 c).arrAt_eq_of_covers 2 _ (by decide +kernel) fun t hf y => ?_
  blk_simp
  have h3 : t.val % 4 = 3 := (flush0_2 t).mp hf
  rw [after0_2]
  have he : ∀ y : S1x704x1024.Idx, ((View.whole main_v4).slice (win0_2.rect t)).emb y = ix3 (blk t) (y 1) (y 2) := by
    intro y
    have hi : win0_2.index t = ![t.val / 4, 0, 0] := by simp only [idx t]
    have h0 : (y 0).val < 1 := (y 0).isLt
    funext a; refine Fin.ext ?_
    match a with
    | 0 =>
      show win0_2.index t 0 * 1 + 1 * (y 0).val = _
      rw [hi]; show t.val / 4 * 1 + 1 * (y 0).val = t.val / 4; omega
    | 1 =>
      show win0_2.index t 1 * 704 + 1 * (y 1).val = _
      rw [hi]; show 0 * 704 + 1 * (y 1).val = (y 1).val; omega
    | 2 =>
      show win0_2.index t 2 * 1024 + 1 * (y 2).val = _
      rw [hi]; show 0 * 1024 + 1 * (y 2).val = (y 2).val; omega
  have hy : ∀ y : S1x704x1024.Idx, (outsAt0 m c t.val t.isLt).1 y = dw m c (blk t) (y 1) (y 2) := by
    intro y
    idx_vars y
    obtain rfl : y0 = 0 := Subsingleton.elim (α := Fin 1) _ _
    rw [out_last m c t h3]
    refine (Pipeline.eq_sum_fin_of_reset_step_apply_of_flush (fun n h => (outsAt0 m c n h).2) 4 (fun _ => 0)
      (fun t (j : S704x1024.Idx) => ∑ r : Fin 4096, mU m c (row t r) (col (blk t) (j 0)) * mH m c (row t r) (j 1))
      (fun t h j => by idx_vars j; exact acc_reset m c t h _ _) (fun t h j => by idx_vars j; exact acc_step m c t h _ _) t h3 _).trans ?_
    rw [zero_add]
    refine Fin.sum_mul_add_congr fun s k hl => ?_
    have e0 : blk ⟨4 * (t.val / 4) + s.val, lt_of_lt_of_eq (by have := lt32 t; omega) N_0.symm⟩ = blk t := Fin.ext (by dsimp only; omega)
    have e1 : row ⟨4 * (t.val / 4) + s.val, lt_of_lt_of_eq (by have := lt32 t; omega) N_0.symm⟩ k = ⟨s.val * 4096 + k.val, hl⟩ :=
      Fin.ext (by dsimp only; omega)
    rw [e0, e1]
    rfl
  refine (hy y).trans ?_
  show _ = dw m c (((View.whole main_v4).slice (win0_2.rect t)).emb y 0) (((View.whole main_v4).slice (win0_2.rect t)).emb y 1)
    (((View.whole main_v4).slice (win0_2.rect t)).emb y 2)
  rw [he]
  rfl

end Cert.WuKernelIdeal.Hand

namespace Cert.WuReferenceIdeal.Hand
open Cert.WuReferenceIdeal Cert.WuReferenceIdeal.Gen
variable (m : (ℓ : Loc nD τ sig) → Buf (Elt Ideal) ℓ) (c : Dev nD)

/-- The inputs and the outputs' gradients, entry by entry. -/
def mH (t : Fin 16384) (d : Fin 1024) : EReal := (m ((c : Thread nD τ).loc main_arg0) : Vec Ideal S16384x1024 .f32) (ix2 t d)
@[inherit_doc mH] def mU (t : Fin 16384) (k : Fin 5632) : EReal := (m ((c : Thread nD τ).loc main_arg1) : Vec Ideal S16384x5632 .f32) (ix2 t k)

/-- The reference's gradient, cut into blocks, from its two arguments. -/
def grad (u : FVec Ideal S16384x5632 .f32) (h : FVec Ideal S16384x1024 .f32) : FVec Ideal S8x704x1024 .bf16 :=
  truncf (F := Ideal) .bf16 (shapeCast _ (transpose S5632x1024 [1, 0] (transpose S1024x5632 [1, 0] (Host.dotGeneral dot_S16384x5632_S16384x1024_S5632x1024_0_0_1_1_n_n none u h) transposes_S5632x1024_S1024x5632_1_0) transposes_S1024x5632_S5632x1024_1_0) shapeCasts_S5632x1024_S8x704x1024) bitsLt_bf16_f32

theorem grad_at (u : FVec Ideal S16384x5632 .f32) (h : FVec Ideal S16384x1024 .f32) (j : Fin 8) (k : Fin 704) (d : Fin 1024) :
    grad u h (ix3 j k d) = ∑ t : Fin 16384, u (ix2 t ⟨704 * j.val + k.val, by omega⟩) * h (ix2 t d) := by
  pointwise [grad]
  exact Finset.sum_congr rfl fun t _ => by
    have e : (⟨j.val * 704 + k.val, by omega⟩ : Fin 5632) = ⟨704 * j.val + k.val, by omega⟩ := Fin.ext (by dsimp only; omega)
    simp only [e]

theorem res (j : S8x704x1024.Idx) :
    grad (m ((c : Thread nD τ).loc main_arg1)) (m ((c : Thread nD τ).loc main_arg0)) j
      = ∑ t : Fin 16384, mU m c t ⟨704 * (j 0).val + (j 1).val, by have h0 : (j 0).val < 8 := (j 0).isLt; have h1 : (j 1).val < 704 := (j 1).isLt; omega⟩ * mH m c t (j 2) := by
  idx_vars j
  exact grad_at _ _ _ _ _

end Cert.WuReferenceIdeal.Hand
end
-- ==== Proof.WuClaim.lean ====
/-
  The five claims about the gradient of the feed-forward block's first weights.
-/
module

public import proofs.«01_k».proof.Defs
public import proofs.«01_k».proof.Proof.Gen.WuKernel
public import proofs.«01_k».proof.Proof.Gen.WuKernel.Frame
public import proofs.«01_k».proof.Proof.WuFinal
public import Idealize.ShloMosaic.Lib.Quiescent

@[expose] public section
noncomputable section
namespace Cert.WuClaim
open Idealize.ShloMosaic Idealize.ShloMosaic.TcCoe Idealize.SL.Sem

/-- The kernel's frame. -/
theorem frame_kernel : Cert.quiescent_WuKernel (hWuKernel := Cert.WuKernel.Gen.facts) :=
  fun m ρ _ => Cert.WuKernel.Gen.frame m ρ

/-- The ideal kernel's frame. -/
theorem frame_ideal : Cert.quiescent_WuKernelIdeal (hWuKernelIdeal := Cert.WuKernelIdeal.Gen.facts) :=
  fun m ρ _ => Cert.WuKernelIdeal.Gen.frame m ρ

/-- The reference's frame: its run keeps the arguments, and it has no semaphore. -/
theorem frame_reference : Cert.quiescent_WuReferenceIdeal (hWuReferenceIdeal := Cert.WuReferenceIdeal.Gen.facts) :=
  fun m ρ _ => (θ_run Cert.WuReferenceIdeal.defs _ _).mono
    (fun _ h => ⟨fun c => (h c).2, sem_eq_zero_of_no_sems (by decide) _⟩)
    (Cert.WuReferenceIdeal.Value.run (F := Ideal) m ρ)

/-- Kernel and reference compute the same gradient. -/
theorem algebraic : Cert.algebraic_WuKernelIdeal_WuReferenceIdeal (hWuKernelIdeal := Cert.WuKernelIdeal.Gen.facts)
    (hWuReferenceIdeal := Cert.WuReferenceIdeal.Gen.facts) := by
  intro m ρ m' ρ' _ hargs
  refine ⟨fun c => (WuKernelIdeal.Gen.dats m 0 c).arrAt 2 WuKernelIdeal.cfg0.N, WuKernelIdeal.Value.run_blocks m ρ, ?_⟩
  refine (θ_run WuReferenceIdeal.defs _ _).mono (fun _ h c => ?_) (WuReferenceIdeal.Value.run (F := Ideal) m' ρ')
  obtain ⟨r0, rest⟩ := h c
  obtain ⟨h0, h1⟩ := hargs c
  have e0 : WuReferenceIdeal.Hand.mH m' c = WuKernelIdeal.Hand.mH m c := funext fun _ => funext fun _ => congrFun h0 _
  have e1 : WuReferenceIdeal.Hand.mU m' c = WuKernelIdeal.Hand.mU m c := funext fun _ => funext fun _ => congrFun h1 _
  refine ⟨(r0.trans (funext (WuReferenceIdeal.Hand.res m' c))).trans (Eq.trans ?_ (WuKernelIdeal.Hand.out2 m c).symm), rest⟩
  rw [e0, e1]

end Cert.WuClaim
end
-- ==== Proof.WdFinal.lean ====
/-
  The gradient of the feed-forward block's second weights, as its kernel leaves it: block `j` of the
  hidden units gathers the tokens in four
  blocks of 4096.
-/
module

public import proofs.«01_k».proof.Proof.Gen.WdKernelIdeal.Value
public import proofs.«01_k».proof.Proof.Gen.WdReferenceIdeal.Run
public import proofs.«01_k».proof.Proof.Gen.WdReferenceIdeal
public import proofs.«01_k».proof.Proof.Norm
public import Idealize.ShloMosaic.Lib.Pipeline.ValueKit
public import Idealize.ShloMosaic.Lib.Pipeline.ReadBack
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.WdKernelIdeal.Hand
open Cert.WdKernelIdeal Cert.WdKernelIdeal.Gen
variable (m : (ℓ : Loc nD τ sig) → Buf (Elt Ideal) ℓ) (c : Dev nD)

/-- The outputs' gradients and the activations, entry by entry. -/
def mH (t : Fin 16384) (d : Fin 1024) : EReal := (m ((c : Thread nD τ).loc main_arg1) : Vec Ideal S16384x1024 .f32) (ix2 t d)
@[inherit_doc mH] def mU (t : Fin 16384) (k : Fin 2816) : EReal := (m ((c : Thread nD τ).loc main_arg0) : Vec Ideal S16384x2816 .f32) (ix2 t k)

theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

theorem lt16 (t : Fin cfg0.N) : t.val < 16 := lt_of_lt_of_eq t.isLt N_0

/-- The array's row that is row `r` of the block at `t`, and the column that is column `k` of block `j`. -/
abbrev row (t : Fin cfg0.N) (r : Fin 4096) : Fin 16384 := ⟨4096 * (t.val % 4) + r.val, by omega⟩
@[inherit_doc row] abbrev col (j : Fin 4) (k : Fin 704) : Fin 2816 := ⟨704 * j.val + k.val, by omega⟩
abbrev blk (t : Fin cfg0.N) : Fin 4 := ⟨t.val / 4, by have := lt16 t; omega⟩

theorem V2 (j : Fin 4) (t : Fin 16384) (k : Fin 704) : (V m c main_v2 : Vec Ideal S4x16384x704 .bf16) (ix3 j t k) = mU m c t (col j k) := by
  simp only [V]
  entry_read
  pointwise
  unfold mU
  congr 2
  exact Fin.ext (by dsimp only; omega)
theorem ib0 (t : Fin cfg0.N) (r : Fin 4096) (k : Fin 704) : iblk m c 0 t (ix3 0 r k) = mU m c (row t r) (col (blk t) k) := by
  rw [← V2]; blk_point [iblk, V, idx t]
theorem ib1 (t : Fin cfg0.N) (r : Fin 4096) (d : Fin 1024) : iblk m c 1 t (ix2 r d) = mH m c (row t r) d := by
  blk_point [iblk, V, idx t]

/-- What a point adds to the sum so far. -/
theorem pay2_at (t : Fin cfg0.N) (acc : Vec Ideal S704x1024 .f32) (k : Fin 704) (d : Fin 1024) :
    k0_pay2 (iblk m c 0 t) (iblk m c 1 t) acc (ix2 k d)
      = acc (ix2 k d) + ∑ r : Fin 4096, mU m c (row t r) (col (blk t) k) * mH m c (row t r) d := by
  pointwise [k0_pay2]
  simp only [ib0, ib1]

/-- The carried sum: cleared at a block's first point, and one term more at each. -/
theorem acc_reset (t : Fin cfg0.N) (h : t.val % 4 = 0) (k : Fin 704) (d : Fin 1024) :
    (outsAt0 m c t.val t.isLt).2 (ix2 k d) = 0 + ∑ r : Fin 4096, mU m c (row t r) (col (blk t) k) * mH m c (row t r) d := by
  rw [outsAt0_A m c t h (by omega)]; frame_out
  refine (pay2_at m c t _ k d).trans ?_
  congr 1
  exact Ideal.ofBits_zero_f32
@[inherit_doc acc_reset]
theorem acc_step (t : Fin cfg0.N) (h : ¬t.val % 4 = 0) (k : Fin 704) (d : Fin 1024) :
    (outsAt0 m c t.val t.isLt).2 (ix2 k d) = (outsAt0 m c (t.val - 1) (Nat.lt_of_le_of_lt (Nat.sub_le _ _) t.isLt)).2 (ix2 k d)
      + ∑ r : Fin 4096, mU m c (row t r) (col (blk t) k) * mH m c (row t r) d := by
  by_cases h1 : t.val % 4 = 3
  · rw [outsAt0_C m c t h h1]; frame_out
    refine (pay2_at m c t _ k d).trans ?_
    congr 1
    exact congrFun (Memref.IsWhole.read_unread _ _) _
  · rw [outsAt0_B m c t h h1]; frame_out
    refine (pay2_at m c t _ k d).trans ?_
    congr 1
    exact congrFun (Memref.IsWhole.read_unread _ _) _

/-- What the last point of a block writes is the carried sum. -/
theorem out_last (t : Fin cfg0.N) (h : t.val % 4 = 3) (k : Fin 704) (d : Fin 1024) :
    (outsAt0 m c t.val t.isLt).1 (ix3 0 k d) = (outsAt0 m c t.val t.isLt).2 (ix2 k d) := by
  rw [outsAt0_C m c t (by omega) h]; frame_out
  pointwise [k0_pay3]

/-- The gradient, entry by entry. -/
abbrev dw (j : Fin 4) (k : Fin 704) (d : Fin 1024) : EReal := ∑ t : Fin 16384, mU m c t (col j k) * mH m c t d

theorem out2 : (dats m 0 c).arrAt 2 cfg0.N = fun j : S4x704x1024.Idx => dw m c (j 0) (j 1) (j 2) := by
  refine (dats m 0 c).arrAt_eq_of_covers 2 _ (by decide +kernel) fun t hf y => ?_
  blk_simp
  have h3 : t.val % 4 = 3 := (flush0_2 t).mp hf
  rw [after0_2]
  have he : ∀ y : S1x704x1024.Idx, ((View.whole main_v4).slice (win0_2.rect t)).emb y = ix3 (blk t) (y 1) (y 2) := by
    intro y
    have hi : win0_2.index t = ![t.val / 4, 0, 0] := by simp only [idx t]
    have h0 : (y 0).val < 1 := (y 0).isLt
    funext a; refine Fin.ext ?_
    match a with
    | 0 =>
      show win0_2.index t 0 * 1 + 1 * (y 0).val = _
      rw [hi]; show t.val / 4 * 1 + 1 * (y 0).val = t.val / 4; omega
    | 1 =>
      show win0_2.index t 1 * 704 + 1 * (y 1).val = _
      rw [hi]; show 0 * 704 + 1 * (y 1).val = (y 1).val; omega
    | 2 =>
      show win0_2.index t 2 * 1024 + 1 * (y 2).val = _
      rw [hi]; show 0 * 1024 + 1 * (y 2).val = (y 2).val; omega
  have hy : ∀ y : S1x704x1024.Idx, (outsAt0 m c t.val t.isLt).1 y = dw m c (blk t) (y 1) (y 2) := by
    intro y
    idx_vars y
    obtain rfl : y0 = 0 := Subsingleton.elim (α := Fin 1) _ _
    rw [out_last m c t h3]
    refine (Pipeline.eq_sum_fin_of_reset_step_apply_of_flush (fun n h => (outsAt0 m c n h).2) 4 (fun _ => 0)
      (fun t (j : S704x1024.Idx) => ∑ r : Fin 4096, mU m c (row t r) (col (blk t) (j 0)) * mH m c (row t r) (j 1))
      (fun t h j => by idx_vars j; exact acc_reset m c t h _ _) (fun t h j => by idx_vars j; exact acc_step m c t h _ _) t h3 _).trans ?_
    rw [zero_add]
    refine Fin.sum_mul_add_congr fun s k hl => ?_
    have e0 : blk ⟨4 * (t.val / 4) + s.val, lt_of_lt_of_eq (by have := lt16 t; omega) N_0.symm⟩ = blk t := Fin.ext (by dsimp only; omega)
    have e1 : row ⟨4 * (t.val / 4) + s.val, lt_of_lt_of_eq (by have := lt16 t; omega) N_0.symm⟩ k = ⟨s.val * 4096 + k.val, hl⟩ :=
      Fin.ext (by dsimp only; omega)
    rw [e0, e1]
    rfl
  refine (hy y).trans ?_
  show _ = dw m c (((View.whole main_v4).slice (win0_2.rect t)).emb y 0) (((View.whole main_v4).slice (win0_2.rect t)).emb y 1)
    (((View.whole main_v4).slice (win0_2.rect t)).emb y 2)
  rw [he]
  rfl

end Cert.WdKernelIdeal.Hand

namespace Cert.WdReferenceIdeal.Hand
open Cert.WdReferenceIdeal Cert.WdReferenceIdeal.Gen
variable (m : (ℓ : Loc nD τ sig) → Buf (Elt Ideal) ℓ) (c : Dev nD)

/-- The outputs' gradients and the activations, entry by entry. -/
def mH (t : Fin 16384) (d : Fin 1024) : EReal := (m ((c : Thread nD τ).loc main_arg1) : Vec Ideal S16384x1024 .f32) (ix2 t d)
@[inherit_doc mH] def mU (t : Fin 16384) (k : Fin 2816) : EReal := (m ((c : Thread nD τ).loc main_arg0) : Vec Ideal S16384x2816 .f32) (ix2 t k)

/-- The reference's gradient, cut into blocks, from its two arguments. -/
def grad (u : FVec Ideal S16384x2816 .f32) (h : FVec Ideal S16384x1024 .f32) : FVec Ideal S4x704x1024 .bf16 :=
  truncf (F := Ideal) .bf16 (shapeCast _ (transpose S2816x1024 [1, 0] (Host.dotGeneral dot_S16384x1024_S16384x2816_S1024x2816_0_0_1_1_n_n none h u) transposes_S1024x2816_S2816x1024_1_0) shapeCasts_S2816x1024_S4x704x1024) bitsLt_bf16_f32

theorem grad_at (u : FVec Ideal S16384x2816 .f32) (h : FVec Ideal S16384x1024 .f32) (j : Fin 4) (k : Fin 704) (d : Fin 1024) :
    grad u h (ix3 j k d) = ∑ t : Fin 16384, u (ix2 t ⟨704 * j.val + k.val, by omega⟩) * h (ix2 t d) := by
  pointwise [grad]
  exact Finset.sum_congr rfl fun t _ => by
    have e : (⟨j.val * 704 + k.val, by omega⟩ : Fin 2816) = ⟨704 * j.val + k.val, by omega⟩ := Fin.ext (by dsimp only; omega)
    rw [mul_comm]
    simp only [e]

theorem res (j : S4x704x1024.Idx) :
    grad (m ((c : Thread nD τ).loc main_arg0)) (m ((c : Thread nD τ).loc main_arg1)) j
      = ∑ t : Fin 16384, mU m c t ⟨704 * (j 0).val + (j 1).val, by have h0 : (j 0).val < 4 := (j 0).isLt; have h1 : (j 1).val < 704 := (j 1).isLt; omega⟩ * mH m c t (j 2) := by
  idx_vars j
  exact grad_at _ _ _ _ _

end Cert.WdReferenceIdeal.Hand
end
-- ==== Proof.WdClaim.lean ====
/-
  The five claims about the gradient of the feed-forward block's second weights.
-/
module

public import proofs.«01_k».proof.Defs
public import proofs.«01_k».proof.Proof.Gen.WdKernel
public import proofs.«01_k».proof.Proof.Gen.WdKernel.Frame
public import proofs.«01_k».proof.Proof.WdFinal
public import Idealize.ShloMosaic.Lib.Quiescent

@[expose] public section
noncomputable section
namespace Cert.WdClaim
open Idealize.ShloMosaic Idealize.ShloMosaic.TcCoe Idealize.SL.Sem

/-- The kernel's frame. -/
theorem frame_kernel : Cert.quiescent_WdKernel (hWdKernel := Cert.WdKernel.Gen.facts) :=
  fun m ρ _ => Cert.WdKernel.Gen.frame m ρ

/-- The ideal kernel's frame. -/
theorem frame_ideal : Cert.quiescent_WdKernelIdeal (hWdKernelIdeal := Cert.WdKernelIdeal.Gen.facts) :=
  fun m ρ _ => Cert.WdKernelIdeal.Gen.frame m ρ

/-- The reference's frame: its run keeps the arguments, and it has no semaphore. -/
theorem frame_reference : Cert.quiescent_WdReferenceIdeal (hWdReferenceIdeal := Cert.WdReferenceIdeal.Gen.facts) :=
  fun m ρ _ => (θ_run Cert.WdReferenceIdeal.defs _ _).mono
    (fun _ h => ⟨fun c => (h c).2, sem_eq_zero_of_no_sems (by decide) _⟩)
    (Cert.WdReferenceIdeal.Value.run (F := Ideal) m ρ)

/-- Kernel and reference compute the same gradient. -/
theorem algebraic : Cert.algebraic_WdKernelIdeal_WdReferenceIdeal (hWdKernelIdeal := Cert.WdKernelIdeal.Gen.facts)
    (hWdReferenceIdeal := Cert.WdReferenceIdeal.Gen.facts) := by
  intro m ρ m' ρ' _ hargs
  refine ⟨fun c => (WdKernelIdeal.Gen.dats m 0 c).arrAt 2 WdKernelIdeal.cfg0.N, WdKernelIdeal.Value.run_blocks m ρ, ?_⟩
  refine (θ_run WdReferenceIdeal.defs _ _).mono (fun _ h c => ?_) (WdReferenceIdeal.Value.run (F := Ideal) m' ρ')
  obtain ⟨r0, rest⟩ := h c
  obtain ⟨h0, h1⟩ := hargs c
  have e0 : WdReferenceIdeal.Hand.mH m' c = WdKernelIdeal.Hand.mH m c := funext fun _ => funext fun _ => congrFun h1 _
  have e1 : WdReferenceIdeal.Hand.mU m' c = WdKernelIdeal.Hand.mU m c := funext fun _ => funext fun _ => congrFun h0 _
  refine ⟨(r0.trans (funext (WdReferenceIdeal.Hand.res m' c))).trans (Eq.trans ?_ (WdKernelIdeal.Hand.out2 m c).symm), rest⟩
  rw [e0, e1]

end Cert.WdClaim
end
-- ==== Proof.FoSpec.lean ====
/-
  The gradients of the channel mixer's second half, entry by entry over the extended reals: the gradient of the
  down-projection's output through the normalisation, the gradients of the gate and of the value, and the sums that are
  the gradients of the gains and of the convolution's bias. The kernel's logistic is half a hyperbolic tangent; the
  reference's derivative of the gate is the product rule's sum.
-/
module

public import proofs.«01_k».proof.Proof.FiSpec
public import proofs.«01_k».proof.Proof.Norm

@[expose] public section
noncomputable section
namespace Cert.Fo
open Idealize.ShloMosaic
open Cert.Sc (Mat rs)

/-- The logistic function. -/
def sg (x : EReal) : EReal := Ideal.div 1 (1 + Ideal.exp (-x))

/-- The constant one half. -/
theorem ofBits_half : Ideal.ofBits .f32 0x3F000000#32 = ((1 / 2 : ℝ) : EReal) := by
  simp [Ideal.ofBits, Ideal.ieee, -EReal.coe_mul, -EReal.coe_neg]; norm_num [-EReal.coe_mul, -EReal.coe_neg, Nat.shiftRight_eq_div_pow]

/-- The logistic function by the hyperbolic tangent of half the argument. -/
theorem sg_tanh (x : EReal) :
    Ideal.ofBits .f32 0x3F000000#32 * Ideal.tanh (Ideal.ofBits .f32 0x3F000000#32 * x) + Ideal.ofBits .f32 0x3F000000#32 = sg x := by
  rw [ofBits_half]
  change _ = Ideal.logistic x
  induction x using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe x =>
    rw [← EReal.coe_mul, Ideal.tanh_coe, Ideal.logistic_coe, ← EReal.coe_mul, ← EReal.coe_add]
    congr 1
    rw [Real.tanh_eq_sinh_div_cosh, Real.sinh_eq, Real.cosh_eq, show -x = -(1 / 2 * x) + -(1 / 2 * x) by ring, Real.exp_add, Real.exp_neg]
    have h : 0 < Real.exp (1 / 2 * x) := Real.exp_pos _
    set E := Real.exp (1 / 2 * x)
    have h' : (1 + E ^ 2) ≠ 0 := by positivity
    field_simp
    ring

/-- The product rule's sum is the kernel's product. -/
theorem dsilu_eq (g : EReal) : sg g * (1 + g * (1 - sg g)) = sg g + g * (sg g * (1 - sg g)) := by
  change Ideal.logistic g * (1 + g * (1 - Ideal.logistic g)) = Ideal.logistic g + g * (Ideal.logistic g * (1 - Ideal.logistic g))
  induction g using EReal.rec with
  | bot => rw [Ideal.logistic_bot]; simp
  | top =>
    rw [Ideal.logistic_top, show (1 : EReal) - 1 = 0 by rw [← EReal.coe_one, ← EReal.coe_sub, sub_self]; rfl]
    simp
  | coe g =>
    rw [Ideal.logistic_coe]
    generalize (1 + Real.exp (-g))⁻¹ = s
    norm_cast
    ring

/-- The down-projection of the gated values. -/
def fm (gc val : Mat 16384 2816) (w : Mat 2816 1024) : Mat 16384 1024 := fun t d =>
  ∑ q, gc t q * sg (gc t q) * val t q * w q d

/-- The gradient of the normalised rows. -/
def dy (dxo : Mat 16384 1024) (gn gt : Fin 1024 → EReal) : Mat 16384 1024 := fun t d => dxo t d * gt d * gn d

/-- The gradient of the down-projection's output, in the centred form. -/
def df (f dxo : Mat 16384 1024) (gn gt : Fin 1024 → EReal) : Mat 16384 1024 := fun t j =>
  rs f t * (dy dxo gn gt t j
    - f t j * rs f t * Ideal.div (∑ k, dy dxo gn gt t k * (f t k * rs f t)) (Ideal.ofBits .f32 0x44800000#32))

/-- The gradient of the gated values. -/
def da (f : Mat 16384 1024) (w : Mat 2816 1024) : Mat 16384 2816 := fun t q => ∑ d, f t d * w q d

/-- The gradient of the values. -/
def dval (a gc : Mat 16384 2816) : Mat 16384 2816 := fun t q => a t q * (gc t q * sg (gc t q))

/-- The gradient of the gate's input. -/
def dgc (a gc val : Mat 16384 2816) : Mat 16384 2816 := fun t q =>
  a t q * val t q * (sg (gc t q) * (1 + gc t q * (1 - sg (gc t q))))

/-- One token's part of row `a` of the sums that are the gradients of the normalisation's gain and of the layer's gain. -/
def stF (f dxo : Mat 16384 1024) (gn gt : Fin 1024 → EReal) (a : Fin 8) : Mat 16384 1024 := fun t d =>
  if a.val = 0 then dxo t d * (f t d * rs f t * gn d)
  else if a.val = 1 then dxo t d * gt d * (f t d * rs f t)
  else 0

/-- One token's part of row `a` of the sums that are the gradient of the convolution's bias. -/
def sbF (g : Mat 16384 2816) (a : Fin 8) : Mat 16384 2816 := fun t q => if a.val = 0 then g t q else 0

end Cert.Fo
end
-- ==== Proof.FoBlocks.lean ====
/-
  The blocks the channel mixer's output gradient kernel reads at a grid point, entry by entry: row `r` of the point's block
  of 512 rows is row `512 t + r` of the array, and block `j` of the hidden units holds columns `704 j` and on.
-/
module

public import proofs.«01_k».proof.Proof.Gen.FoKernelIdeal.Frame
public import proofs.«01_k».proof.Proof.FoSpec
public import proofs.«01_k».proof.Proof.Rows
public import Idealize.ShloMosaic.Lib.Pipeline.ValueKit
public import Idealize.ShloMosaic.Lib.Claim
public import Idealize.ShloMosaic.Lib.Pointwise
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
open Cert.Sc (Mat rs)
open Cert.Fi (col)
open Cert.Fo Cert.Rows
namespace Cert.FoKernelIdeal.Hand
open Cert.FoKernelIdeal Cert.FoKernelIdeal.Gen
variable (m : (ℓ : Loc nD τ sig) → Buf (Elt Ideal) ℓ) (c : Dev nD)

/-- The arguments as matrices. -/
def mGc : Mat 16384 2816 := fun t d => (m ((c : Thread nD τ).loc main_arg0) : Vec Ideal S16384x2816 .f32) (ix2 t d)
@[inherit_doc mGc] def mVal : Mat 16384 2816 := fun t d => (m ((c : Thread nD τ).loc main_arg1) : Vec Ideal S16384x2816 .f32) (ix2 t d)
@[inherit_doc mGc] def mW : Mat 2816 1024 := fun t d => (m ((c : Thread nD τ).loc main_arg2) : Vec Ideal S2816x1024 .f32) (ix2 t d)
@[inherit_doc mGc] def mGn : Fin 1024 → EReal := fun d => (m ((c : Thread nD τ).loc main_arg3) : Vec Ideal S1x1024 .f32) (ix2 0 d)
@[inherit_doc mGc] def mGt : Fin 1024 → EReal := fun d => (m ((c : Thread nD τ).loc main_arg4) : Vec Ideal S1x1024 .f32) (ix2 0 d)
@[inherit_doc mGc] def mDxo : Mat 16384 1024 := fun t d => (m ((c : Thread nD τ).loc main_arg5) : Vec Ideal S16384x1024 .f32) (ix2 t d)

/-- The down-projection the host hands the kernel, entry by entry. -/
def mF : Mat 16384 1024 := fm (mGc m c) (mVal m c) (mW m c)

theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, t.val, 0]
    ∧ win0_6.index t = ![1, t.val, 0] ∧ win0_7.index t = ![t.val, 0] ∧ win0_8.index t = ![0, t.val, 0] ∧ win0_9.index t = ![0, t.val, 0]
    ∧ win0_10.index t = ![0, 0] ∧ win0_11.index t = ![0, 0, 0] :=
  (by decide +kernel : ∀ t : Fin grid0.N, _)

theorem lt32 (t : Fin cfg0.N) : t.val < 32 := lt_of_lt_of_eq t.isLt N_0

/-- The array's row that is row `r` of the block at `t`. -/
abbrev row (t : Fin cfg0.N) (r : Fin 512) : Fin 16384 := ⟨512 * t.val + r.val, by have := lt32 t; omega⟩

theorem V12 (j : Fin 4) (t : Fin 16384) (k : Fin 704) : (V m c main_v12 : Vec Ideal S4x16384x704 .bf16) (ix3 j t k) = mGc m c t (col j k) := by
  simp only [V]
  after_reads_at
  unfold mGc
  exact congrArg _ (congrArg (ix2 t) (Fin.ext (by dsimp only; omega)))
theorem V7 (j : Fin 4) (t : Fin 16384) (k : Fin 704) :
    (V m c main_v7 : Vec Ideal S8x16384x704 .bf16) (ix3 (⟨4 + j.val, by omega⟩ : Fin 8) t k) = mVal m c t (col j k) := by
  simp only [V]
  after_reads_at
  after_reads_at
  unfold mVal
  exact congrArg _ (congrArg (ix2 t) (Fin.ext (by first | rfl | (dsimp only; omega))))
theorem V8 (t : Fin 16384) (d : Fin 1024) : (V m c main_v8 : Vec Ideal S16384x1024 .bf16) (ix2 t d) = mF m c t d := by
  simp only [V]
  after_reads_at
  rfl

theorem ib0 (t : Fin cfg0.N) (r : Fin 512) (d : Fin 1024) : iblk m c 0 t (ix2 r d) = mDxo m c (row t r) d := by
  blk_point [iblk, V, idx t]
theorem ib1 (t : Fin cfg0.N) (r : Fin 512) (d : Fin 1024) : iblk m c 1 t (ix2 r d) = mF m c (row t r) d := by
  rw [← V8]; blk_point [iblk, V, idx t]
theorem ib2 (t : Fin cfg0.N) (d : Fin 1024) : iblk m c 2 t (ix2 0 d) = mGn m c d := by
  blk_point [iblk, V, idx t]
theorem ib3 (t : Fin cfg0.N) (d : Fin 1024) : iblk m c 3 t (ix2 0 d) = mGt m c d := by
  blk_point [iblk, V, idx t]
theorem ib4 (t : Fin cfg0.N) (q : Fin 2816) (d : Fin 1024) : iblk m c 4 t (ix2 q d) = mW m c q d := by
  blk_point [iblk, V, idx t]
theorem ib5 (t : Fin cfg0.N) (j : Fin 4) (r : Fin 512) (k : Fin 704) : iblk m c 5 t (ix3 j r k) = mGc m c (row t r) (col j k) := by
  rw [← V12]; blk_point [iblk, V, idx t]
theorem ib6 (t : Fin cfg0.N) (j : Fin 4) (r : Fin 512) (k : Fin 704) : iblk m c 6 t (ix3 j r k) = mVal m c (row t r) (col j k) := by
  rw [← V7]; blk_point [iblk, V, idx t]

end Cert.FoKernelIdeal.Hand
end
-- ==== Proof.FoPay.lean ====
/-
  What the channel mixer's output gradient kernel computes at a grid point, entry by entry: the four blocks of hidden
  units are one computation at four offsets, so each value is read once for an arbitrary block and then at the four.
-/
module

public import proofs.«01_k».proof.Proof.FoBlocks

@[expose] public section
set_option maxRecDepth 16384
noncomputable section
open Idealize.ShloMosaic Idealize.ShloMosaic.TcCoe Idealize.SL.Sem
open Idealize.ShloMosaic.Pipeline (Dat)
open Cert.Sc (Mat rs)
open Cert.Fi (col)
open Cert.Fo Cert.Rows
namespace Cert.FoKernelIdeal.Hand
open Cert.FoKernelIdeal Cert.FoKernelIdeal.Gen
variable (m : (ℓ : Loc nD τ sig) → Buf (Elt Ideal) ℓ) (c : Dev nD)

/-- The gradients in this launch. -/
abbrev mDf : Mat 16384 1024 := df (mF m c) (mDxo m c) (mGn m c) (mGt m c)
@[inherit_doc mDf] abbrev mDa : Mat 16384 2816 := da (mDf m c) (mW m c)
@[inherit_doc mDf] abbrev mDval : Mat 16384 2816 := dval (mDa m c) (mGc m c)
@[inherit_doc mDf] abbrev mDgc : Mat 16384 2816 := dgc (mDa m c) (mGc m c) (mVal m c)

/-- Loads of one block of hidden units, by its number. -/
theorem ldG (t : Fin cfg0.N) {o : ℕ} (h) (ho : o < 4) (r : Fin 512) (k : Fin 704) :
    View.ld (iblk m c 5 t) (Rect.unit (s := S4x512x704) ![o, 0, 0] ![1, 512, 704] h) (ix3 0 r k) = mGc m c (row t r) (col ⟨o, ho⟩ k) := by
  refine (ld3 (iblk m c 5 t) _ (0 : Fin 1) r k (by simpa using ho) (by omega) (by omega)).trans ((ib5 m c t _ _ _).trans ?_)
  congr 1 <;> exact Fin.ext (by simp)
@[inherit_doc ldG]
theorem ldU (t : Fin cfg0.N) {o : ℕ} (h) (ho : o < 4) (r : Fin 512) (k : Fin 704) :
    View.ld (iblk m c 6 t) (Rect.unit (s := S4x512x704) ![o, 0, 0] ![1, 512, 704] h) (ix3 0 r k) = mVal m c (row t r) (col ⟨o, ho⟩ k) := by
  refine (ld3 (iblk m c 6 t) _ (0 : Fin 1) r k (by simpa using ho) (by omega) (by omega)).trans ((ib6 m c t _ _ _).trans ?_)
  congr 1 <;> exact Fin.ext (by simp)

abbrev bG0 (t : Fin cfg0.N) := View.ld (iblk m c 5 t) (Rect.unit ![0, 0, 0] ![1, 512, 704] inb_S4x512x704_S1x512x704_0_0_0)
abbrev bG1 (t : Fin cfg0.N) := View.ld (iblk m c 5 t) (Rect.unit ![1, 0, 0] ![1, 512, 704] inb_S4x512x704_S1x512x704_1_0_0)
abbrev bG2 (t : Fin cfg0.N) := View.ld (iblk m c 5 t) (Rect.unit ![2, 0, 0] ![1, 512, 704] inb_S4x512x704_S1x512x704_2_0_0)
abbrev bG3 (t : Fin cfg0.N) := View.ld (iblk m c 5 t) (Rect.unit ![3, 0, 0] ![1, 512, 704] inb_S4x512x704_S1x512x704_3_0_0)
abbrev bU0 (t : Fin cfg0.N) := View.ld (iblk m c 6 t) (Rect.unit ![0, 0, 0] ![1, 512, 704] inb_S4x512x704_S1x512x704_0_0_0)
abbrev bU1 (t : Fin cfg0.N) := View.ld (iblk m c 6 t) (Rect.unit ![1, 0, 0] ![1, 512, 704] inb_S4x512x704_S1x512x704_1_0_0)
abbrev bU2 (t : Fin cfg0.N) := View.ld (iblk m c 6 t) (Rect.unit ![2, 0, 0] ![1, 512, 704] inb_S4x512x704_S1x512x704_2_0_0)
abbrev bU3 (t : Fin cfg0.N) := View.ld (iblk m c 6 t) (Rect.unit ![3, 0, 0] ![1, 512, 704] inb_S4x512x704_S1x512x704_3_0_0)

/-- The rows' reciprocal roots, the normalised rows, their gradient and its sum against them. -/
abbrev vR (t : Fin cfg0.N) := k0_pay5 (F := Ideal) (iblk m c 1 t)
@[inherit_doc vR] abbrev vXh (t : Fin cfg0.N) := k0_pay6 (F := Ideal) (iblk m c 1 t)
@[inherit_doc vR] abbrev vDy (t : Fin cfg0.N) := k0_pay10 (F := Ideal) (iblk m c 0 t) (iblk m c 2 t) (iblk m c 3 t)
@[inherit_doc vR] abbrev vS (t : Fin cfg0.N) := k0_pay11 (F := Ideal) (iblk m c 0 t) (iblk m c 1 t) (iblk m c 2 t) (iblk m c 3 t)
/-- The gradient of the down-projection's output at a point. -/
abbrev vDf (t : Fin cfg0.N) := k0_pay15 (F := Ideal) (vR m c t) (vXh m c t) (vDy m c t) (vS m c t) k0_pay12
/-- The gradient of the gated values at a point. -/
abbrev vDa (t : Fin cfg0.N) := k0_pay16 (F := Ideal) (vR m c t) (vXh m c t) (vDy m c t) (vS m c t) k0_pay12 (iblk m c 4 t)

theorem vR_at (t : Fin cfg0.N) (r : Fin 512) : vR m c t (ix2 r 0) = rs (mF m c) (row t r) := by
  pointwise [k0_pay5, k0_pay4]
  simp only [ib1]
  rfl
theorem vXh_at (t : Fin cfg0.N) (r : Fin 512) (d : Fin 1024) : vXh m c t (ix2 r d) = mF m c (row t r) d * rs (mF m c) (row t r) := by
  pointwise [k0_pay6, k0_pay4, vR_at m c t]
  rw [ib1]
theorem vDy_at (t : Fin cfg0.N) (r : Fin 512) (d : Fin 1024) : vDy m c t (ix2 r d) = dy (mDxo m c) (mGn m c) (mGt m c) (row t r) d := by
  pointwise [k0_pay10, k0_pay8]
  rw [ib0, ib2, ib3]
  rfl
theorem vS_at (t : Fin cfg0.N) (r : Fin 512) :
    vS m c t (ix2 r 0) = ∑ k, dy (mDxo m c) (mGn m c) (mGt m c) (row t r) k * (mF m c (row t r) k * rs (mF m c) (row t r)) := by
  pointwise [k0_pay11, vDy_at m c t, vXh_at m c t]
theorem vDf_at (t : Fin cfg0.N) (r : Fin 512) (d : Fin 1024) : vDf m c t (ix2 r d) = mDf m c (row t r) d := by
  pointwise [k0_pay15, k0_pay12, vR_at m c t, vXh_at m c t, vDy_at m c t, vS_at m c t]
  rfl
/-- A product with the transposed projection. -/
theorem mm_at (a : FVec Ideal S512x1 .f32) (b d : FVec Ideal S512x1024 .f32) (e g : FVec Ideal S512x1 .f32) (W : Vec Ideal S2816x1024 .bf16) (r : Fin 512) (q : Fin 2816) :
    k0_pay16 (F := Ideal) a b d e g W (ix2 r q) = ∑ k : Fin 1024, k0_pay15 (F := Ideal) a b d e g (ix2 r k) * W (ix2 q k) := by
  unfold k0_pay16
  generalize k0_pay15 (F := Ideal) a b d e g = D
  pointwise
theorem vDa_at (t : Fin cfg0.N) (r : Fin 512) (q : Fin 2816) : vDa m c t (ix2 r q) = mDa m c (row t r) q := by
  refine (mm_at _ _ _ _ _ (iblk m c 4 t) r q).trans ?_
  exact Finset.sum_congr rfl fun k _ => congrArg₂ (· * ·) (vDf_at m c t r k) (ib4 m c t q k)

/-- The gradient of the gated values in each of the four blocks. -/
abbrev vA0 (t : Fin cfg0.N) := k0_pay17 (F := Ideal) (vR m c t) (vXh m c t) (vDy m c t) (vS m c t) k0_pay12 (iblk m c 4 t)
@[inherit_doc vA0] abbrev vA1 (t : Fin cfg0.N) := k0_pay25 (F := Ideal) (vDa m c t)
@[inherit_doc vA0] abbrev vA2 (t : Fin cfg0.N) := k0_pay33 (F := Ideal) (vDa m c t)
@[inherit_doc vA0] abbrev vA3 (t : Fin cfg0.N) := k0_pay41 (F := Ideal) (vDa m c t)
theorem sl0_at (A : FVec Ideal S512x2816 .f32) (r : Fin 512) (k : Fin 704) :
    extractStridedSlice S512x704 ![0, 0] A slices_S512x2816_o0_0_S512x704 (ix2 r k) = A (ix2 r (col 0 k)) := by
  pointwise
  congr 1
  exact congrArg (ix2 r) (Fin.ext (by simp))
theorem vA0_at (t : Fin cfg0.N) (r : Fin 512) (k : Fin 704) : vA0 m c t (ix2 r k) = mDa m c (row t r) (col 0 k) :=
  (sl0_at (vDa m c t) r k).trans (vDa_at m c t r _)
theorem sl1_at (A : FVec Ideal S512x2816 .f32) (r : Fin 512) (k : Fin 704) : k0_pay25 (F := Ideal) A (ix2 r k) = A (ix2 r (col 1 k)) := by
  pointwise [k0_pay25]
  congr 1
theorem vA1_at (t : Fin cfg0.N) (r : Fin 512) (k : Fin 704) : vA1 m c t (ix2 r k) = mDa m c (row t r) (col 1 k) :=
  (sl1_at (vDa m c t) r k).trans (vDa_at m c t r _)
theorem sl2_at (A : FVec Ideal S512x2816 .f32) (r : Fin 512) (k : Fin 704) : k0_pay33 (F := Ideal) A (ix2 r k) = A (ix2 r (col 2 k)) := by
  pointwise [k0_pay33]
  congr 1
theorem vA2_at (t : Fin cfg0.N) (r : Fin 512) (k : Fin 704) : vA2 m c t (ix2 r k) = mDa m c (row t r) (col 2 k) :=
  (sl2_at (vDa m c t) r k).trans (vDa_at m c t r _)
theorem sl3_at (A : FVec Ideal S512x2816 .f32) (r : Fin 512) (k : Fin 704) : k0_pay41 (F := Ideal) A (ix2 r k) = A (ix2 r (col 3 k)) := by
  pointwise [k0_pay41]
  congr 1
theorem vA3_at (t : Fin cfg0.N) (r : Fin 512) (k : Fin 704) : vA3 m c t (ix2 r k) = mDa m c (row t r) (col 3 k) :=
  (sl3_at (vDa m c t) r k).trans (vDa_at m c t r _)

/-- The logistic of a gate, for any block. -/
theorem sg_at (G : Vec Ideal S1x512x704 .bf16) (r : Fin 512) (k : Fin 704) : k0_pay27 (F := Ideal) G (ix2 r k) = sg (G (ix3 0 r k)) := by
  rw [← sg_tanh]
  pointwise [k0_pay27, k0_pay26]
/-- The gradient of the values, for any block. -/
theorem dv_at (t : Fin cfg0.N) (j : Fin 4) (A : FVec Ideal S512x704 .f32) (G : Vec Ideal S1x512x704 .bf16)
    (hA : ∀ r k, A (ix2 r k) = mDa m c (row t r) (col j k)) (hG : ∀ r k, G (ix3 0 r k) = mGc m c (row t r) (col j k))
    (r : Fin 512) (k : Fin 704) : k0_pay29 (F := Ideal) A (k0_pay28 G) (ix3 0 r k) = mDval m c (row t r) (col j k) := by
  pointwise [k0_pay29, k0_pay28, k0_pay26, sg_at]
  rw [hA, hG]
  rfl
/-- The gradient of the gate's input, for any block. -/
theorem dg_at (t : Fin cfg0.N) (j : Fin 4) (A : FVec Ideal S512x704 .f32) (G U : Vec Ideal S1x512x704 .bf16)
    (hA : ∀ r k, A (ix2 r k) = mDa m c (row t r) (col j k)) (hG : ∀ r k, G (ix3 0 r k) = mGc m c (row t r) (col j k))
    (hU : ∀ r k, U (ix3 0 r k) = mVal m c (row t r) (col j k))
    (r : Fin 512) (k : Fin 704) : k0_pay30 (F := Ideal) A (k0_pay26 G) (k0_pay27 G) U (ix2 r k) = mDgc m c (row t r) (col j k) := by
  pointwise [k0_pay30, k0_pay26, sg_at]
  rw [hA, hG, hU]
  rfl
/-- A stored block of the gradient of the gate's input. -/
theorem dgs_at (t : Fin cfg0.N) (j : Fin 4) (A : FVec Ideal S512x704 .f32) (G U : Vec Ideal S1x512x704 .bf16)
    (hA : ∀ r k, A (ix2 r k) = mDa m c (row t r) (col j k)) (hG : ∀ r k, G (ix3 0 r k) = mGc m c (row t r) (col j k))
    (hU : ∀ r k, U (ix3 0 r k) = mVal m c (row t r) (col j k))
    (r : Fin 512) (k : Fin 704) : k0_pay31 (F := Ideal) A (k0_pay26 G) (k0_pay27 G) U (ix3 0 r k) = mDgc m c (row t r) (col j k) := by
  refine Eq.trans ?_ (dg_at m c t j A G U hA hG hU r k)
  unfold k0_pay31
  generalize k0_pay30 (F := Ideal) A (k0_pay26 G) (k0_pay27 G) U = D
  pointwise
/-- The bias's row of the sums, for any block: what it held and the point's part. -/
theorem sb_at (t : Fin cfg0.N) (j : Fin 4) (A : FVec Ideal S512x704 .f32) (G U : Vec Ideal S1x512x704 .bf16) (o : Vec Ideal S1x1x704 .f32)
    (hA : ∀ r k, A (ix2 r k) = mDa m c (row t r) (col j k)) (hG : ∀ r k, G (ix3 0 r k) = mGc m c (row t r) (col j k))
    (hU : ∀ r k, U (ix3 0 r k) = mVal m c (row t r) (col j k)) (d : Fin 704) :
    k0_pay32 (F := Ideal) A (k0_pay26 G) (k0_pay27 G) U o (ix3 0 0 d) = o (ix3 0 0 d) + ∑ k : Fin 512, mDgc m c (row t k) (col j d) := by
  have hh := dg_at m c t j A G U hA hG hU
  unfold k0_pay32
  generalize k0_pay30 (F := Ideal) A (k0_pay26 G) (k0_pay27 G) U = D at hh ⊢
  pointwise
  simp only [hh]

end Cert.FoKernelIdeal.Hand
end
-- ==== Proof.FoFinal.lean ====
/-
  The arrays the channel mixer's output gradient kernel leaves: the three gradients block by block, and the two blocks of
  sums, whose rows gather one block of 512 tokens at each of the 32 points.
-/
module

public import proofs.«01_k».proof.Proof.FoPay
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
open Cert.Sc (Mat rs)
open Cert.Fi (col)
open Cert.Fo Cert.Rows
namespace Cert.FoKernelIdeal.Hand
open Cert.FoKernelIdeal Cert.FoKernelIdeal.Gen
variable (m : (ℓ : Loc nD τ sig) → Buf (Elt Ideal) ℓ) (c : Dev nD)

/-- Each row of the block of sums for the gains gains the point's part of it. -/
theorem st_step (t : Fin cfg0.N) (old : Vec Ideal S8x1024 .f32) (v : View sig .tc .vmem S8x1024 .f32) (f) (L)
    (h1 h0) (o1 o0 : Vec Ideal S1x1024 .f32)
    (ho1 : ∀ d, o1 (ix2 0 d) = old (ix2 1 d)) (ho0 : ∀ d, o0 (ix2 0 d) = old (ix2 0 d)) (hL : v.read (Elt Ideal) (v.writes (Elt Ideal) f L) = old) (r : Fin 8) (d : Fin 1024) :
    v.read (Elt Ideal) (v.writes (Elt Ideal) f
      (⟨Rect.unit (s := S8x1024) ![1, 0] ![1, 1024] h1, k0_pay14 (F := Ideal) (k0_pay9 (iblk m c 0 t) (iblk m c 1 t) (iblk m c 3 t)) o1⟩
        :: ⟨Rect.unit (s := S8x1024) ![0, 0] ![1, 1024] h0, k0_pay13 (F := Ideal) (k0_pay7 (iblk m c 0 t) (iblk m c 1 t) (iblk m c 2 t)) o0⟩ :: L)) (ix2 r d)
      = old (ix2 r d) + ∑ k : Fin 512, stF (mF m c) (mDxo m c) (mGn m c) (mGt m c) r (row t k) d := by
  rw [row1, row1, hL]
  by_cases e1 : r.val = 1
  · obtain rfl : r = 1 := Fin.ext e1
    rw [if_pos e1]
    pointwise [k0_pay14, k0_pay9, k0_pay8, vXh_at m c t]
    simp only [ib0, ib3]
    exact congrArg₂ (· + ·) (ho1 d) (Finset.sum_congr rfl fun k _ => by simp only [stF]; rfl)
  by_cases e0 : r.val = 0
  · obtain rfl : r = 0 := Fin.ext e0
    rw [if_neg e1, if_pos e0]
    pointwise [k0_pay13, k0_pay7, vXh_at m c t]
    simp only [ib0, ib2]
    exact congrArg₂ (· + ·) (ho0 d) (Finset.sum_congr rfl fun k _ => by simp only [stF]; rfl)
  · rw [if_neg e1, if_neg e0]
    simp only [stF, if_neg e1, if_neg e0, Finset.sum_const_zero, add_zero]

/-- The first `n` of the four rows that gather the bias's gradient: the first of each block. -/
def part (n : ℕ) (T : Fin 4 → Fin 8 → Fin 704 → EReal) (j : Fin 4) (r : Fin 8) (d : Fin 704) : EReal :=
  if r.val = 0 ∧ j.val < n then T j r d else 0

/-- One more row's store. -/
theorem part_cons (v : View sig .tc .vmem S4x8x704 .f32) (f) (L) (old : Vec Ideal S4x8x704 .f32) (T : Fin 4 → Fin 8 → Fin 704 → EReal)
    {p : ℕ} (hp : p < 4) (h)
    (w : (Rect.unit (s := S4x8x704) ![p, 0, 0] ![1, 1, 704] h).shape.Idx → Elt Ideal .f32)
    (hw : ∀ d : Fin 704, w (ix3 (0 : Fin 1) (0 : Fin 1) d) = (old (ix3 ⟨p, hp⟩ 0 d) : EReal) + T ⟨p, hp⟩ 0 d)
    (hL : ∀ j r d, v.read (Elt Ideal) (v.writes (Elt Ideal) f L) (ix3 j r d) = (old (ix3 j r d) : EReal) + part p T j r d)
    (j : Fin 4) (r : Fin 8) (d : Fin 704) :
    v.read (Elt Ideal) (v.writes (Elt Ideal) f (⟨Rect.unit (s := S4x8x704) ![p, 0, 0] ![1, 1, 704] h, w⟩ :: L)) (ix3 j r d)
      = (old (ix3 j r d) : EReal) + part (p + 1) T j r d := by
  by_cases hj : j.val = p
  · by_cases hr : r.val = 0
    · subst hj
      obtain rfl : r = 0 := Fin.ext hr
      refine (View.read_writes_cons_unit_of_mem v f h w L (ix3 j 0 d) (ix3 (0 : Fin 1) (0 : Fin 1) d) rfl ?_).trans ?_
      · intro a
        match a with
        | 0 => show j.val = j.val + 0; omega
        | 1 => rfl
        | 2 => show d.val = 0 + d.val; omega
      · rw [hw, part, if_pos ⟨hr, by omega⟩]
    · refine (View.read_writes_cons_unit_of_not_mem v f h w L (ix3 j r d) rfl (1 : Fin 3) ?_).trans ?_
      · show r.val < 0 ∨ 0 + 1 ≤ r.val; omega
      · rw [hL, part, part]
        congr 1
        exact if_congr (by omega) rfl rfl
  · refine (View.read_writes_cons_unit_of_not_mem v f h w L (ix3 j r d) rfl (0 : Fin 3) ?_).trans ?_
    · show j.val < p ∨ p + 1 ≤ j.val; omega
    · rw [hL, part, part]
      congr 1
      exact if_congr (by omega) rfl rfl

/-- One point's part of the bias's gradient. -/
def sbP (t : Fin cfg0.N) (j : Fin 4) (r : Fin 8) (d : Fin 704) : EReal :=
  ∑ k : Fin 512, sbF (mDgc m c) r (row t k) (col j d)

/-- The four rows are all the rows that gather anything. -/
theorem part_all (t : Fin cfg0.N) (j : Fin 4) (r : Fin 8) (d : Fin 704) : part 4 (sbP m c t) j r d = sbP m c t j r d := by
  rw [part]
  by_cases h : r.val = 0
  · rw [if_pos ⟨h, by omega⟩]
  · rw [if_neg fun h' => h h'.1, sbP]
    exact (Finset.sum_eq_zero fun k _ => by rw [sbF, if_neg h]).symm

/-- Each block's row of the bias's gradient gains the point's part of it. -/
theorem sb_step (t : Fin cfg0.N) (old : Vec Ideal S4x8x704 .f32) (v : View sig .tc .vmem S4x8x704 .f32) (f) (L)
    (h3 h2 h1 h0) (o3 o2 o1 o0 : Vec Ideal S1x1x704 .f32)
    (e3 : ∀ d, o3 (ix3 0 0 d) = old (ix3 3 0 d)) (e2 : ∀ d, o2 (ix3 0 0 d) = old (ix3 2 0 d))
    (e1 : ∀ d, o1 (ix3 0 0 d) = old (ix3 1 0 d)) (e0 : ∀ d, o0 (ix3 0 0 d) = old (ix3 0 0 d))
    (hL : v.read (Elt Ideal) (v.writes (Elt Ideal) f L) = old) (j : Fin 4) (r : Fin 8) (d : Fin 704) :
    v.read (Elt Ideal) (v.writes (Elt Ideal) f
      (⟨Rect.unit (s := S4x8x704) ![3, 0, 0] ![1, 1, 704] h3, k0_pay1 (F := Ideal) (k0_pay47 (vA3 m c t) (bG3 m c t) (bU3 m c t) o3)⟩
        :: ⟨Rect.unit (s := S4x8x704) ![2, 0, 0] ![1, 1, 704] h2, k0_pay40 (F := Ideal) (vA2 m c t) (k0_pay34 (bG2 m c t)) (k0_pay35 (bG2 m c t)) (bU2 m c t) o2⟩
        :: ⟨Rect.unit (s := S4x8x704) ![1, 0, 0] ![1, 1, 704] h1, k0_pay32 (F := Ideal) (vA1 m c t) (k0_pay26 (bG1 m c t)) (k0_pay27 (bG1 m c t)) (bU1 m c t) o1⟩
        :: ⟨Rect.unit (s := S4x8x704) ![0, 0, 0] ![1, 1, 704] h0, k0_pay24 (F := Ideal) (vA0 m c t) (k0_pay18 (bG0 m c t)) (k0_pay19 (bG0 m c t)) (bU0 m c t) o0⟩
        :: L)) (ix3 j r d)
      = old (ix3 j r d) + sbP m c t j r d := by
  rw [← part_all]
  refine part_cons v f _ old (sbP m c t) (by decide) h3 _
    (fun d => (sb_at m c t 3 (vA3 m c t) (bG3 m c t) (bU3 m c t) o3 (vA3_at m c t) (ldG m c t _ (by decide)) (ldU m c t _ (by decide)) d).trans (congrArg (· + sbP m c t 3 0 d) (e3 d))) (fun j r d => ?_) j r d
  refine part_cons v f _ old (sbP m c t) (by decide) h2 _
    (fun d => (sb_at m c t 2 (vA2 m c t) (bG2 m c t) (bU2 m c t) o2 (vA2_at m c t) (ldG m c t _ (by decide)) (ldU m c t _ (by decide)) d).trans (congrArg (· + sbP m c t 2 0 d) (e2 d))) (fun j r d => ?_) j r d
  refine part_cons v f _ old (sbP m c t) (by decide) h1 _
    (fun d => (sb_at m c t 1 (vA1 m c t) (bG1 m c t) (bU1 m c t) o1 (vA1_at m c t) (ldG m c t _ (by decide)) (ldU m c t _ (by decide)) d).trans (congrArg (· + sbP m c t 1 0 d) (e1 d))) (fun j r d => ?_) j r d
  refine part_cons v f _ old (sbP m c t) (by decide) h0 _
    (fun d => (sb_at m c t 0 (vA0 m c t) (bG0 m c t) (bU0 m c t) o0 (vA0_at m c t) (ldG m c t _ (by decide)) (ldU m c t _ (by decide)) d).trans (congrArg (· + sbP m c t 0 0 d) (e0 d))) (fun j r d => ?_) j r d
  rw [hL, part, if_neg (by omega), add_zero]

/-- Where entry `y` of the block at `t` lies in the array. -/
theorem emb7 (t : Fin cfg0.N) (y : S512x1024.Idx) : (((View.whole main_v13_0).slice (win0_7.rect t)).emb y) = ix2 (row t (y 0)) (y 1) := by
  have h7 : win0_7.index t = ![t.val, 0] := by simp only [idx t]
  funext a; refine Fin.ext ?_
  match a with
  | 0 =>
    show win0_7.index t 0 * 512 + 1 * (y 0).val = _
    rw [h7]; show t.val * 512 + 1 * (y 0).val = 512 * t.val + (y 0).val; omega
  | 1 =>
    show win0_7.index t 1 * 1024 + 1 * (y 1).val = _
    rw [h7]; show 0 * 1024 + 1 * (y 1).val = (y 1).val; omega
@[inherit_doc emb7]
theorem emb8 (t : Fin cfg0.N) (y : S4x512x704.Idx) : (((View.whole main_v13_1).slice (win0_8.rect t)).emb y) = ix3 (y 0) (row t (y 1)) (y 2) := by
  have hi : win0_8.index t = ![0, t.val, 0] := by simp only [idx t]
  funext a; refine Fin.ext ?_
  match a with
  | 0 =>
    show win0_8.index t 0 * 4 + 1 * (y 0).val = _
    rw [hi]; show 0 * 4 + 1 * (y 0).val = (y 0).val; omega
  | 1 =>
    show win0_8.index t 1 * 512 + 1 * (y 1).val = _
    rw [hi]; show t.val * 512 + 1 * (y 1).val = 512 * t.val + (y 1).val; omega
  | 2 =>
    show win0_8.index t 2 * 704 + 1 * (y 2).val = _
    rw [hi]; show 0 * 704 + 1 * (y 2).val = (y 2).val; omega
@[inherit_doc emb7]
theorem emb9 (t : Fin cfg0.N) (y : S4x512x704.Idx) : (((View.whole main_v13_2).slice (win0_9.rect t)).emb y) = ix3 (y 0) (row t (y 1)) (y 2) := by
  have hi : win0_9.index t = ![0, t.val, 0] := by simp only [idx t]
  funext a; refine Fin.ext ?_
  match a with
  | 0 =>
    show win0_9.index t 0 * 4 + 1 * (y 0).val = _
    rw [hi]; show 0 * 4 + 1 * (y 0).val = (y 0).val; omega
  | 1 =>
    show win0_9.index t 1 * 512 + 1 * (y 1).val = _
    rw [hi]; show t.val * 512 + 1 * (y 1).val = 512 * t.val + (y 1).val; omega
  | 2 =>
    show win0_9.index t 2 * 704 + 1 * (y 2).val = _
    rw [hi]; show 0 * 704 + 1 * (y 2).val = (y 2).val; omega

/-- The gradient of the gate's input at a point, from the four stores. -/
theorem dgAll (t : Fin cfg0.N) (z : S4x512x704.Idx) :
    View.canon (Val := Elt Ideal) (s := S4x512x704) (e := .bf16) [⟨Rect.unit ![3, 0, 0] ![1, 512, 704] inb_S4x512x704_S1x512x704_3_0_0, k0_pay46 (vA3 m c t) (bG3 m c t) (bU3 m c t)⟩,
      ⟨Rect.unit ![2, 0, 0] ![1, 512, 704] inb_S4x512x704_S1x512x704_2_0_0, k0_pay39 (vA2 m c t) (k0_pay34 (bG2 m c t)) (k0_pay35 (bG2 m c t)) (bU2 m c t)⟩,
      ⟨Rect.unit ![1, 0, 0] ![1, 512, 704] inb_S4x512x704_S1x512x704_1_0_0, k0_pay31 (vA1 m c t) (k0_pay26 (bG1 m c t)) (k0_pay27 (bG1 m c t)) (bU1 m c t)⟩,
      ⟨Rect.unit ![0, 0, 0] ![1, 512, 704] inb_S4x512x704_S1x512x704_0_0_0, k0_pay23 (vA0 m c t) (k0_pay18 (bG0 m c t)) (k0_pay19 (bG0 m c t)) (bU0 m c t)⟩] z
      = mDgc m c (row t (z 1)) (col (z 0) (z 2)) := by
  canon_tiles z h
  · idx_vars z
    obtain rfl : z0 = 0 := Subsingleton.elim (α := Fin 1) _ _
    refine (dgs_at m c t 3 (vA3 m c t) (bG3 m c t) (bU3 m c t) (vA3_at m c t) (ldG m c t _ (by decide)) (ldU m c t _ (by decide)) _ _).trans ?_
    exact congrArg₂ (mDgc m c) (Fin.ext (by simp at h0 h1 h2 ⊢; omega)) (Fin.ext (by simp at h0 h1 h2 ⊢; omega))
  · idx_vars z
    obtain rfl : z0 = 0 := Subsingleton.elim (α := Fin 1) _ _
    refine (dgs_at m c t 2 (vA2 m c t) (bG2 m c t) (bU2 m c t) (vA2_at m c t) (ldG m c t _ (by decide)) (ldU m c t _ (by decide)) _ _).trans ?_
    exact congrArg₂ (mDgc m c) (Fin.ext (by simp at h0 h1 h2 ⊢; omega)) (Fin.ext (by simp at h0 h1 h2 ⊢; omega))
  · idx_vars z
    obtain rfl : z0 = 0 := Subsingleton.elim (α := Fin 1) _ _
    refine (dgs_at m c t 1 (vA1 m c t) (bG1 m c t) (bU1 m c t) (vA1_at m c t) (ldG m c t _ (by decide)) (ldU m c t _ (by decide)) _ _).trans ?_
    exact congrArg₂ (mDgc m c) (Fin.ext (by simp at h0 h1 h2 ⊢; omega)) (Fin.ext (by simp at h0 h1 h2 ⊢; omega))
  · idx_vars z
    obtain rfl : z0 = 0 := Subsingleton.elim (α := Fin 1) _ _
    refine (dgs_at m c t 0 (vA0 m c t) (bG0 m c t) (bU0 m c t) (vA0_at m c t) (ldG m c t _ (by decide)) (ldU m c t _ (by decide)) _ _).trans ?_
    exact congrArg₂ (mDgc m c) (Fin.ext (by simp at h0 h1 h2 ⊢; omega)) (Fin.ext (by simp at h0 h1 h2 ⊢; omega))

/-- The gradient of the values at a point, from the four stores. -/
theorem dvAll (t : Fin cfg0.N) (z : S4x512x704.Idx) :
    View.canon (Val := Elt Ideal) (s := S4x512x704) (e := .bf16) [⟨Rect.unit ![3, 0, 0] ![1, 512, 704] inb_S4x512x704_S1x512x704_3_0_0, k0_pay44 (vA3 m c t) (bG3 m c t)⟩,
      ⟨Rect.unit ![2, 0, 0] ![1, 512, 704] inb_S4x512x704_S1x512x704_2_0_0, k0_pay37 (vA2 m c t) (k0_pay34 (bG2 m c t)) (k0_pay35 (bG2 m c t))⟩,
      ⟨Rect.unit ![1, 0, 0] ![1, 512, 704] inb_S4x512x704_S1x512x704_1_0_0, k0_pay29 (vA1 m c t) (k0_pay28 (bG1 m c t))⟩,
      ⟨Rect.unit ![0, 0, 0] ![1, 512, 704] inb_S4x512x704_S1x512x704_0_0_0, k0_pay21 (k0_pay20 (vR m c t) (vXh m c t) (vDy m c t) (vS m c t) k0_pay12 (iblk m c 4 t) (bG0 m c t))⟩] z
      = mDval m c (row t (z 1)) (col (z 0) (z 2)) := by
  canon_tiles z h
  · idx_vars z
    obtain rfl : z0 = 0 := Subsingleton.elim (α := Fin 1) _ _
    refine (dv_at m c t 3 (vA3 m c t) (bG3 m c t) (vA3_at m c t) (ldG m c t _ (by decide)) _ _).trans ?_
    exact congrArg₂ (mDval m c) (Fin.ext (by simp at h0 h1 h2 ⊢; omega)) (Fin.ext (by simp at h0 h1 h2 ⊢; omega))
  · idx_vars z
    obtain rfl : z0 = 0 := Subsingleton.elim (α := Fin 1) _ _
    refine (dv_at m c t 2 (vA2 m c t) (bG2 m c t) (vA2_at m c t) (ldG m c t _ (by decide)) _ _).trans ?_
    exact congrArg₂ (mDval m c) (Fin.ext (by simp at h0 h1 h2 ⊢; omega)) (Fin.ext (by simp at h0 h1 h2 ⊢; omega))
  · idx_vars z
    obtain rfl : z0 = 0 := Subsingleton.elim (α := Fin 1) _ _
    refine (dv_at m c t 1 (vA1 m c t) (bG1 m c t) (vA1_at m c t) (ldG m c t _ (by decide)) _ _).trans ?_
    exact congrArg₂ (mDval m c) (Fin.ext (by simp at h0 h1 h2 ⊢; omega)) (Fin.ext (by simp at h0 h1 h2 ⊢; omega))
  · idx_vars z
    obtain rfl : z0 = 0 := Subsingleton.elim (α := Fin 1) _ _
    refine (dv_at m c t 0 (vA0 m c t) (bG0 m c t) (vA0_at m c t) (ldG m c t _ (by decide)) _ _).trans ?_
    exact congrArg₂ (mDval m c) (Fin.ext (by simp at h0 h1 h2 ⊢; omega)) (Fin.ext (by simp at h0 h1 h2 ⊢; omega))

theorem out7 : (dats m 0 c).arrAt 7 cfg0.N = fun j : S16384x1024.Idx => mDf m c (j 0) (j 1) := by
  refine (dats m 0 c).arrAt_eq_of_covers 7 _ (by decide +kernel) fun t hf y => ?_
  blk_simp
  rw [after0_7]
  have hy : ∀ y : S512x1024.Idx, vDf m c t y =
    mDf m c (((View.whole main_v13_0).slice (win0_7.rect t)).emb y 0) (((View.whole main_v13_0).slice (win0_7.rect t)).emb y 1) := by
    intro y
    rw [emb7]
    idx_vars y
    exact vDf_at m c t _ _
  by_cases h : t.val % 32 = 0
  · rw [outsAt0_A m c t h h]; frame_out; exact hy y
  · rw [outsAt0_B m c t h h]; frame_out; exact hy y

theorem out8 : (dats m 0 c).arrAt 8 cfg0.N = fun j : S4x16384x704.Idx => mDgc m c (j 1) (col (j 0) (j 2)) := by
  refine (dats m 0 c).arrAt_eq_of_covers 8 _ (by decide +kernel) fun t hf y => ?_
  blk_simp
  rw [after0_8]
  have he : ∀ z : S4x512x704.Idx, mDgc m c (row t (z 1)) (col (z 0) (z 2))
      = mDgc m c (((View.whole main_v13_1).slice (win0_8.rect t)).emb z 1)
        (col (((View.whole main_v13_1).slice (win0_8.rect t)).emb z 0) (((View.whole main_v13_1).slice (win0_8.rect t)).emb z 2)) := fun z => by rw [emb8]; rfl
  by_cases h : t.val % 32 = 0
  · rw [outsAt0_A m c t h h]; frame_out; exact (dgAll m c t y).trans (he y)
  · rw [outsAt0_B m c t h h]; frame_out; exact (dgAll m c t y).trans (he y)

theorem out9 : (dats m 0 c).arrAt 9 cfg0.N = fun j : S4x16384x704.Idx => mDval m c (j 1) (col (j 0) (j 2)) := by
  refine (dats m 0 c).arrAt_eq_of_covers 9 _ (by decide +kernel) fun t hf y => ?_
  blk_simp
  rw [after0_9]
  have he : ∀ z : S4x512x704.Idx, mDval m c (row t (z 1)) (col (z 0) (z 2))
      = mDval m c (((View.whole main_v13_2).slice (win0_9.rect t)).emb z 1)
        (col (((View.whole main_v13_2).slice (win0_9.rect t)).emb z 0) (((View.whole main_v13_2).slice (win0_9.rect t)).emb z 2)) := fun z => by rw [emb9]; rfl
  by_cases h : t.val % 32 = 0
  · rw [outsAt0_A m c t h h]; frame_out; exact (dvAll m c t y).trans (he y)
  · rw [outsAt0_B m c t h h]; frame_out; exact (dvAll m c t y).trans (he y)

theorem out10 : (dats m 0 c).arrAt 10 cfg0.N = fun j : S8x1024.Idx => ∑ t, stF (mF m c) (mDxo m c) (mGn m c) (mGt m c) (j 0) t (j 1) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 32 (fun _ => 0)
    (fun t (j : S8x1024.Idx) => ∑ k : Fin 512, stF (mF m c) (mDxo m c) (mGn m c) (mGt m c) (j 0) (row t k) (j 1))
    (fun t h j => by
      rw [outsAt0_A m c t h h]; frame_out
      idx_vars j
      rw [← View.read_writes_junk_eq_canon (ms0_10 t).view]
      refine (st_step m c t (k0_pay2 (F := Ideal)) _ _ [_] _ _ _ _ ?_ ?_ ?_ _ _).trans ?_
      · intro d
        rw [View.readCov_skip _ _ _ _ _ (by decide), View.readCov_fill _ _ _ _ _ (by decide)]
        exact ldRow (k0_pay2 (F := Ideal)) _ d (by decide)
      · intro d
        rw [View.readCov_fill _ _ _ _ _ (by decide)]
        exact ldRow (k0_pay2 (F := Ideal)) _ d (by decide)
      · rw [View.read_writes_junk_eq_canon]; exact View.canon_cons_unit_lit _ _ _ (by decide)
      · rw [show (k0_pay2 (F := Ideal)) (ix2 j0 j1) = (0 : EReal) from Ideal.ofBits_zero_f32])
    (fun t h j => by
      rw [outsAt0_B m c t h h]; frame_out
      idx_vars j
      exact st_step m c t _ _ _ [] _ _ _ _ (fun d => ldRow _ _ d (by decide)) (fun d => ldRow _ _ d (by decide)) (by exact Memref.IsWhole.read_unread _ _) _ _)
     t ((flush0_10 t).mp hf) _, zero_add]
  have ht : t.val = 31 := by have := (flush0_10 t).mp hf; have := lt32 t; omega
  have he : ((win0_10.blk t).view.emb y : S8x1024.Idx) = y := by
    have hi : win0_10.index t = ![0, 0] := by simp only [idx t]
    funext a; refine Fin.ext ?_
    match a with
    | 0 =>
      show win0_10.index t 0 * 8 + 1 * (y 0).val = _
      rw [hi]; show 0 * 8 + 1 * (y 0).val = (y 0).val; omega
    | 1 =>
      show win0_10.index t 1 * 1024 + 1 * (y 1).val = _
      rw [hi]; show 0 * 1024 + 1 * (y 1).val = (y 1).val; omega
  rw [he]
  exact Fin.sum_mul_add_congr fun s k hl => congrArg (fun i => stF (mF m c) (mDxo m c) (mGn m c) (mGt m c) (y 0) i (y 1)) (Fin.ext (by
    show 512 * (32 * (t.val / 32) + s.val) + k.val = s.val * 512 + k.val
    omega))

theorem out11 : (dats m 0 c).arrAt 11 cfg0.N = fun j : S4x8x704.Idx => ∑ t, sbF (mDgc m c) (j 1) t (col (j 0) (j 2)) := by
  refine (dats m 0 c).arrAt_eq_of_covers 11 _ (by decide +kernel) fun t hf y => ?_
  blk_simp
  rw [after0_11, Pipeline.eq_sum_fin_of_reset_step_apply_of_flush (fun n h => (outsAt0 m c n h).2.2.2.2) 32 (fun _ => 0)
    (fun t (j : S4x8x704.Idx) => sbP m c t (j 0) (j 1) (j 2))
    (fun t h j => by
      rw [outsAt0_A m c t h h]; frame_out
      idx_vars j
      rw [← View.read_writes_junk_eq_canon (ms0_11 t).view]
      refine (sb_step m c t (k0_pay3 (F := Ideal)) _ _ [_] _ _ _ _ _ _ _ _ ?_ ?_ ?_ ?_ ?_ _ _ _).trans ?_
      iterate 4
        · intro d
          repeat refine (congrFun (View.readCov_skip _ _ _ _ _ (by decide)) _).trans ?_
          refine (congrFun (View.readCov_fill _ _ _ _ _ (by decide)) _).trans ?_
          rfl
      · rw [View.read_writes_junk_eq_canon]; exact View.canon_cons_unit_lit _ _ _ (by decide)
      · rw [show (k0_pay3 (F := Ideal)) (ix3 j0 j1 j2) = (0 : EReal) from Ideal.ofBits_zero_f32])
    (fun t h j => by
      rw [outsAt0_B m c t h h]; frame_out
      idx_vars j
      exact sb_step m c t _ _ _ [] _ _ _ _ _ _ _ _
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (fun d => (ld3 _ _ (0 : Fin 1) (0 : Fin 1) d (by decide) (by decide) (by omega)).trans (congrArg _ (congrArg (ix3 _ _) (Fin.ext (by simp)))))
        (by exact Memref.IsWhole.read_unread _ _) _ _ _)
     t ((flush0_11 t).mp hf) _, zero_add]
  have ht : t.val = 31 := by have := (flush0_11 t).mp hf; have := lt32 t; omega
  have he : ((win0_11.blk t).view.emb y : S4x8x704.Idx) = y := by
    have hi : win0_11.index t = ![0, 0, 0] := by simp only [idx t]
    funext a; refine Fin.ext ?_
    match a with
    | 0 =>
      show win0_11.index t 0 * 4 + 1 * (y 0).val = _
      rw [hi]; show 0 * 4 + 1 * (y 0).val = (y 0).val; omega
    | 1 =>
      show win0_11.index t 1 * 8 + 1 * (y 1).val = _
      rw [hi]; show 0 * 8 + 1 * (y 1).val = (y 1).val; omega
    | 2 =>
      show win0_11.index t 2 * 704 + 1 * (y 2).val = _
      rw [hi]; show 0 * 704 + 1 * (y 2).val = (y 2).val; omega
  rw [he]
  unfold sbP
  exact Fin.sum_mul_add_congr fun s k hl => congrArg (fun i => sbF (mDgc m c) (y 1) i (col (y 0) (y 2))) (Fin.ext (by
    show 512 * (32 * (t.val / 32) + s.val) + k.val = s.val * 512 + k.val
    omega))

end Cert.FoKernelIdeal.Hand
end
-- ==== Proof.FoRef.lean ====
/-
  The reference's gradients of the channel mixer's second half, entry by entry: the chain rule's terms are brought to the
  specification. The normalisation's gradient is its expanded form brought to the centred one, and the gate's derivative
  the product rule's sum brought to a product.
-/
module

public import proofs.«01_k».proof.Proof.Gen.FoReferenceIdeal.Run
public import proofs.«01_k».proof.Proof.FoSpec
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.Sc (Mat rs ms)
open Cert.Fi (col)
open Cert.Fo
namespace Cert.FoReferenceIdeal.Hand
open Cert.FoReferenceIdeal Cert.FoReferenceIdeal.Gen Cert.FoReferenceIdeal.Value
variable (m : (ℓ : Loc nD τ sig) → Buf (Elt Ideal) ℓ) (c : Dev nD)

/-- The arguments as matrices. -/
def mGc : Mat 16384 2816 := fun t d => (m ((c.tc : Thread nD τ).loc main_arg0) : Vec Ideal S16384x2816 .f32) (ix2 t d)
@[inherit_doc mGc] def mVal : Mat 16384 2816 := fun t d => (m ((c.tc : Thread nD τ).loc main_arg1) : Vec Ideal S16384x2816 .f32) (ix2 t d)
@[inherit_doc mGc] def mW : Mat 2816 1024 := fun t d => (m ((c.tc : Thread nD τ).loc main_arg2) : Vec Ideal S2816x1024 .f32) (ix2 t d)
@[inherit_doc mGc] def mGn : Fin 1024 → EReal := fun d => (m ((c.tc : Thread nD τ).loc main_arg3) : Vec Ideal S1x1024 .f32) (ix2 0 d)
@[inherit_doc mGc] def mGt : Fin 1024 → EReal := fun d => (m ((c.tc : Thread nD τ).loc main_arg4) : Vec Ideal S1x1024 .f32) (ix2 0 d)
@[inherit_doc mGc] def mDxo : Mat 16384 1024 := fun t d => (m ((c.tc : Thread nD τ).loc main_arg5) : Vec Ideal S16384x1024 .f32) (ix2 t d)
/-- The down-projection and the gradients. -/
def mF : Mat 16384 1024 := fm (mGc m c) (mVal m c) (mW m c)
@[inherit_doc mF] abbrev mDf : Mat 16384 1024 := df (mF m c) (mDxo m c) (mGn m c) (mGt m c)
@[inherit_doc mF] abbrev mDa : Mat 16384 2816 := da (mDf m c) (mW m c)
@[inherit_doc mF] abbrev mDval : Mat 16384 2816 := dval (mDa m c) (mGc m c)
@[inherit_doc mF] abbrev mDgc : Mat 16384 2816 := dgc (mDa m c) (mGc m c) (mVal m c)

/-- The logistic of the gate. -/
def tSg (a0 : FVec Ideal S16384x2816 .f32) : FVec Ideal S16384x2816 .f32 :=
  (Host.divf (broadcastInDim S16384x2816 ![] bcast_S_S16384x2816 (constant (F := Ideal) S_ .f32 0x3F800000#32)) (addf (broadcastInDim S16384x2816 ![] bcast_S_S16384x2816 (constant (F := Ideal) S_ .f32 0x3F800000#32)) (Host.exp (Host.negf a0))))

/-- The gate times its logistic. -/
def tSil (a0 : FVec Ideal S16384x2816 .f32) (tSg' : FVec Ideal S16384x2816 .f32) : FVec Ideal S16384x2816 .f32 :=
  (mulf a0 tSg')

/-- The down-projection of the gated values. -/
def tF (tSil' : FVec Ideal S16384x2816 .f32) (a1 : FVec Ideal S16384x2816 .f32) (a2 : FVec Ideal S2816x1024 .f32) : FVec Ideal S16384x1024 .f32 :=
  (Host.dotGeneral (φ₁ := .f32) (φ₂ := .f32) dot_S16384x2816_S2816x1024_S16384x1024_1_0_0_1_n_n none (mulf tSil' a1) a2)

/-- The rows' reciprocal roots. -/
def tR (tF' : FVec Ideal S16384x1024 .f32) : FVec Ideal S16384x1 .f32 :=
  (Host.rsqrt (addf (Host.divf (broadcastInDim S16384x1 ![0] bcast_S16384_S16384x1_0 (Host.reduceAdd (mulf tF' tF') (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32))))

/-- The gradient of the normalised rows. -/
def tDy (a4 : FVec Ideal S1x1024 .f32) (a5 : FVec Ideal S16384x1024 .f32) (a3 : FVec Ideal S1x1024 .f32) : FVec Ideal S16384x1024 .f32 :=
  (mulf (mulf (broadcastInDim S16384x1024 ![0, 1] bcast_S1x1024_S16384x1024_0_1 a4) a5) (broadcastInDim S16384x1024 ![0, 1] bcast_S1x1024_S16384x1024_0_1 a3))

/-- The factor of the rows in the expanded form. -/
def tB (tF' : FVec Ideal S16384x1024 .f32) (tDy' : FVec Ideal S16384x1024 .f32) (tR' : FVec Ideal S16384x1 .f32) : FVec Ideal S16384x1 .f32 :=
  (Host.divf (mulf (shapeCast _ (Host.reduceAdd (mulf tF' tDy') (constant (F := Ideal) S_ .f32 0x00000000#32) reducesTo_S16384x1024_S16384_d1 h_S_) shapeCasts_S16384_S16384x1) (mulf (broadcastInDim S16384x1 ![] bcast_S_S16384x1 (constant (F := Ideal) S_ .f32 0xBF000000#32)) (Host.divf tR' (addf (Host.divf (broadcastInDim S16384x1 ![0] bcast_S16384_S16384x1_0 (Host.reduceAdd (mulf tF' tF') (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1 ![] bcast_S_S16384x1 (constant (F := Ideal) S_ .f32 0x44800000#32)))

/-- The gradient of the down-projection's output. -/
def tDf (tDy' : FVec Ideal S16384x1024 .f32) (tR' : FVec Ideal S16384x1 .f32) (tF' : FVec Ideal S16384x1024 .f32) (tB' : FVec Ideal S16384x1 .f32) : FVec Ideal S16384x1024 .f32 :=
  (addf (addf (mulf tDy' (broadcastInDim S16384x1024 ![0, 1] bcast_S16384x1_S16384x1024_0_1 tR')) (mulf tF' (broadcastInDim S16384x1024 ![0] bcast_S16384_S16384x1024_0 (Host.reduceAdd tB' (constant (F := Ideal) S_ .f32 0x00000000#32) reducesTo_S16384x1_S16384_d1 h_S_)))) (mulf (broadcastInDim S16384x1024 ![0] bcast_S16384_S16384x1024_0 (Host.reduceAdd tB' (constant (F := Ideal) S_ .f32 0x00000000#32) reducesTo_S16384x1_S16384_d1 h_S_)) tF'))

/-- The gradient of the gated values. -/
def tDa (tDf' : FVec Ideal S16384x1024 .f32) (a2 : FVec Ideal S2816x1024 .f32) : FVec Ideal S16384x2816 .f32 :=
  (Host.dotGeneral (φ₁ := .f32) (φ₂ := .f32) dot_S16384x1024_S2816x1024_S16384x2816_1_1_0_0_n_n none tDf' a2)

/-- The gradient of the values. -/
def tDv (tSil' : FVec Ideal S16384x2816 .f32) (tDa' : FVec Ideal S16384x2816 .f32) : FVec Ideal S16384x2816 .f32 :=
  (mulf tSil' tDa')

/-- The gradient of the gate's input. -/
def tDg (tDa' : FVec Ideal S16384x2816 .f32) (a1 : FVec Ideal S16384x2816 .f32) (tSg' : FVec Ideal S16384x2816 .f32) (a0 : FVec Ideal S16384x2816 .f32) : FVec Ideal S16384x2816 .f32 :=
  (mulf (mulf tDa' a1) (addf (mulf (broadcastInDim S16384x2816 ![] bcast_S_S16384x2816 (constant (F := Ideal) S_ .f32 0x3F800000#32)) tSg') (mulf (mulf a0 (broadcastInDim S16384x2816 ![] bcast_S_S16384x2816 (constant (F := Ideal) S_ .f32 0x3F800000#32))) (mulf tSg' (subf (broadcastInDim S16384x2816 ![] bcast_S_S16384x2816 (constant (F := Ideal) S_ .f32 0x3F800000#32)) tSg')))))

/-- The sums for the gains. -/
def tSt (a5 : FVec Ideal S16384x1024 .f32) (tF' : FVec Ideal S16384x1024 .f32) (tR' : FVec Ideal S16384x1 .f32) (a3 : FVec Ideal S1x1024 .f32) (a4 : FVec Ideal S1x1024 .f32) : FVec Ideal S8x1024 .f32 :=
  (fn_main_v51 (F := Ideal) (shapeCast _ (Host.reduceAdd (mulf a5 (mulf (mulf tF' (broadcastInDim S16384x1024 ![0, 1] bcast_S16384x1_S16384x1024_0_1 tR')) (broadcastInDim S16384x1024 ![0, 1] bcast_S1x1024_S16384x1024_0_1 a3))) (constant (F := Ideal) S_ .f32 0x00000000#32) reducesTo_S16384x1024_S1024_d0 h_S_) shapeCasts_S1024_S1x1024) (shapeCast _ (Host.reduceAdd (mulf (mulf tF' (broadcastInDim S16384x1024 ![0, 1] bcast_S16384x1_S16384x1024_0_1 tR')) (mulf (broadcastInDim S16384x1024 ![0, 1] bcast_S1x1024_S16384x1024_0_1 a4) a5)) (constant (F := Ideal) S_ .f32 0x00000000#32) reducesTo_S16384x1024_S1024_d0 h_S_) shapeCasts_S1024_S1x1024) (broadcastInDim S6x1024 ![] bcast_S_S6x1024 (constant (F := Ideal) S_ .f32 0x00000000#32)))

/-- The bias's gradient in eight rows. -/
def tSb8 (tDg' : FVec Ideal S16384x2816 .f32) : FVec Ideal S8x2816 .f32 :=
  (fn_main_v55 (F := Ideal) (broadcastInDim S1x2816 ![1] bcast_S2816_S1x2816_1 (Host.reduceAdd tDg' (constant (F := Ideal) S_ .f32 0x00000000#32) reducesTo_S16384x2816_S2816_d0 h_S_)) (broadcastInDim S7x2816 ![] bcast_S_S7x2816 (constant (F := Ideal) S_ .f32 0x00000000#32)))

/-- The gradient of the gate's input, in blocks. -/
def tDgB (tDg' : FVec Ideal S16384x2816 .f32) : FVec Ideal S4x16384x704 .bf16 :=
  (truncf (F := Ideal) .bf16 (transpose S4x16384x704 [1, 0, 2] (shapeCast _ tDg' shapeCasts_S16384x2816_S16384x4x704) transposes_S16384x4x704_S4x16384x704_1_0_2) bitsLt_bf16_f32)

/-- The gradient of the values, in blocks. -/
def tDvB (tDv' : FVec Ideal S16384x2816 .f32) : FVec Ideal S4x16384x704 .bf16 :=
  (truncf (F := Ideal) .bf16 (transpose S4x16384x704 [1, 0, 2] (shapeCast _ tDv' shapeCasts_S16384x2816_S16384x4x704) transposes_S16384x4x704_S4x16384x704_1_0_2) bitsLt_bf16_f32)

/-- The eight rows, in blocks. -/
def tSb (tSb8' : FVec Ideal S8x2816 .f32) : FVec Ideal S4x8x704 .f32 :=
  (transpose S4x8x704 [1, 0, 2] (shapeCast _ tSb8' shapeCasts_S8x2816_S8x4x704) transposes_S8x4x704_S4x8x704_1_0_2)

variable (F a5 : FVec Ideal S16384x1024 .f32) (a0 a1 : FVec Ideal S16384x2816 .f32) (a3 a4 : FVec Ideal S1x1024 .f32) (a2 : FVec Ideal S2816x1024 .f32)

theorem tSg_at (t : Fin 16384) (q : Fin 2816) : tSg a0 (ix2 t q) = sg (a0 (ix2 t q)) := by
  unfold tSg
  pointwise
  rfl

theorem tF_at (t : Fin 16384) (d : Fin 1024) : tF (tSil a0 (tSg a0)) a1 a2 (ix2 t d)
    = fm (fun t d => a0 (ix2 t d)) (fun t d => a1 (ix2 t d)) (fun t d => a2 (ix2 t d)) t d := by
  unfold tF tSil
  pointwise [tSg_at]
  rfl

theorem tR_at (t : Fin 16384) : tR F (ix2 t 0) = rs (fun t d => F (ix2 t d)) t := by
  unfold tR
  pointwise
  rfl

theorem tDy_at (t : Fin 16384) (d : Fin 1024) : tDy a4 a5 a3 (ix2 t d)
    = dy (fun t d => a5 (ix2 t d)) (fun d => a3 (ix2 0 d)) (fun d => a4 (ix2 0 d)) t d := by
  unfold tDy
  pointwise
  rw [mul_comm (a4 _)]
  rfl

theorem tB_at (Y : FVec Ideal S16384x1024 .f32) (R : FVec Ideal S16384x1 .f32) (t : Fin 16384) :
    tB F Y R (ix2 t 0) = Ideal.div ((∑ k, F (ix2 t k) * Y (ix2 t k)) * (Ideal.ofBits .f32 0xBF000000#32 * Ideal.div (R (ix2 t 0)) (ms (fun t d => F (ix2 t d)) t))) (Ideal.ofBits .f32 0x44800000#32) := by
  unfold tB
  pointwise
  rfl

theorem tDf_at (Y : FVec Ideal S16384x1024 .f32) (R B : FVec Ideal S16384x1 .f32) (t : Fin 16384) (d : Fin 1024) :
    tDf Y R F B (ix2 t d) = Y (ix2 t d) * R (ix2 t 0) + F (ix2 t d) * B (ix2 t 0) + B (ix2 t 0) * F (ix2 t d) := by
  unfold tDf
  pointwise
  rw [Fin.sum_univ_one]

/-- The gradient of the down-projection's output in the centred form. -/
theorem tDf_eq (t : Fin 16384) (j : Fin 1024) :
    tDf (tDy a4 a5 a3) (tR F) F (tB F (tDy a4 a5 a3) (tR F)) (ix2 t j)
      = df (fun t d => F (ix2 t d)) (fun t d => a5 (ix2 t d)) (fun d => a3 (ix2 0 d)) (fun d => a4 (ix2 0 d)) t j := by
  obtain ⟨e, he, hee⟩ := Norm.ofBits_eps
  rw [tDf_at, tB_at, tR_at]
  simp only [tDy_at]
  unfold df rs ms
  rw [Norm.ofBits_1024, Norm.ofBits_neg_half, hee]
  have h := Norm.row (fun k => F (ix2 t k)) (fun k => dy (fun t d => a5 (ix2 t d)) (fun d => a3 (ix2 0 d)) (fun d => a4 (ix2 0 d)) t k) 0 (by norm_num : (0 : ℝ) < 1024) he j
  rw [zero_add, zero_add] at h
  exact h.symm

theorem tDa_at (D : FVec Ideal S16384x1024 .f32) (t : Fin 16384) (q : Fin 2816) :
    tDa D a2 (ix2 t q) = da (fun t d => D (ix2 t d)) (fun t d => a2 (ix2 t d)) t q := by
  unfold tDa
  pointwise
  rfl

theorem tDvB_at (A : FVec Ideal S16384x2816 .f32) (j : Fin 4) (t : Fin 16384) (k : Fin 704) :
    tDvB (tDv (tSil a0 (tSg a0)) A) (ix3 j t k) = dval (fun t d => A (ix2 t d)) (fun t d => a0 (ix2 t d)) t (col j k) := by
  have e : (⟨j.val * 704 + k.val, by omega⟩ : Fin 2816) = col j k := Fin.ext (by dsimp only; omega)
  unfold tDvB tDv tSil
  pointwise [tSg_at]
  simp only [e]
  exact mul_comm _ _

theorem tDg_at (A : FVec Ideal S16384x2816 .f32) (t : Fin 16384) (q : Fin 2816) :
    tDg A a1 (tSg a0) a0 (ix2 t q) = dgc (fun t d => A (ix2 t d)) (fun t d => a0 (ix2 t d)) (fun t d => a1 (ix2 t d)) t q := by
  unfold tDg
  pointwise [tSg_at]
  unfold dgc
  simp only [dsilu_eq, one_mul, mul_one]

theorem tDgB_at (D : FVec Ideal S16384x2816 .f32) (j : Fin 4) (t : Fin 16384) (k : Fin 704) : tDgB D (ix3 j t k) = D (ix2 t (col j k)) := by
  have e : (⟨j.val * 704 + k.val, by omega⟩ : Fin 2816) = col j k := Fin.ext (by dsimp only; omega)
  unfold tDgB
  pointwise
  simp only [e]

theorem tSt_at (a : Fin 8) (d : Fin 1024) : tSt a5 F (tR F) a3 a4 (ix2 a d)
    = ∑ t, stF (fun t d => F (ix2 t d)) (fun t d => a5 (ix2 t d)) (fun d => a3 (ix2 0 d)) (fun d => a4 (ix2 0 d)) a t d := by
  unfold tSt fn_main_v51
  pointwise [tR_at]
  unfold stF
  by_cases h0 : a.val = 0
  · simp only [h0, if_true]
    rw [dif_pos (by omega)]
  · rw [dif_neg (by omega)]
    by_cases h1 : a.val = 1
    · rw [dif_pos (by omega)]
      exact Finset.sum_congr rfl fun t _ => by rw [if_neg h0, if_pos h1, mul_comm, mul_comm (a4 _)]
    · rw [dif_neg (by omega)]
      exact (Finset.sum_eq_zero fun t _ => by rw [if_neg h0, if_neg h1]).symm

theorem tSb8_at (D : FVec Ideal S16384x2816 .f32) (a : Fin 8) (q : Fin 2816) :
    tSb8 D (ix2 a q) = ∑ t, sbF (fun t d => D (ix2 t d)) a t q := by
  unfold tSb8 fn_main_v55
  pointwise
  unfold sbF
  by_cases h0 : a.val = 0
  · simp only [h0, if_true]
    rw [dif_pos (by omega)]
  · rw [dif_neg (by omega)]
    exact (Finset.sum_eq_zero fun t _ => by rw [if_neg h0]).symm

theorem tSb_at (D : FVec Ideal S16384x2816 .f32) (j : Fin 4) (a : Fin 8) (k : Fin 704) :
    tSb (tSb8 D) (ix3 j a k) = ∑ t, sbF (fun t d => D (ix2 t d)) a t (col j k) := by
  have e : (⟨j.val * 704 + k.val, by omega⟩ : Fin 2816) = col j k := Fin.ext (by dsimp only; omega)
  unfold tSb
  pointwise [tSb8_at]
  simp only [e]

/-- The arguments' terms, and the terms of the down-projection and of the gradients in the reference. -/
abbrev r0 : FVec Ideal S16384x2816 .f32 := m ((c.tc : Thread nD τ).loc main_arg0)
@[inherit_doc r0] abbrev r1 : FVec Ideal S16384x2816 .f32 := m ((c.tc : Thread nD τ).loc main_arg1)
@[inherit_doc r0] abbrev r2 : FVec Ideal S2816x1024 .f32 := m ((c.tc : Thread nD τ).loc main_arg2)
@[inherit_doc r0] abbrev r3 : FVec Ideal S1x1024 .f32 := m ((c.tc : Thread nD τ).loc main_arg3)
@[inherit_doc r0] abbrev r4 : FVec Ideal S1x1024 .f32 := m ((c.tc : Thread nD τ).loc main_arg4)
@[inherit_doc r0] abbrev r5 : FVec Ideal S16384x1024 .f32 := m ((c.tc : Thread nD τ).loc main_arg5)
@[inherit_doc r0] abbrev rF : FVec Ideal S16384x1024 .f32 := tF (tSil (r0 m c) (tSg (r0 m c))) (r1 m c) (r2 m c)
@[inherit_doc r0] abbrev rDf : FVec Ideal S16384x1024 .f32 :=
  tDf (tDy (r4 m c) (r5 m c) (r3 m c)) (tR (rF m c)) (rF m c) (tB (rF m c) (tDy (r4 m c) (r5 m c) (r3 m c)) (tR (rF m c)))
@[inherit_doc r0] abbrev rDa : FVec Ideal S16384x2816 .f32 := tDa (rDf m c) (r2 m c)
@[inherit_doc r0] abbrev rDg : FVec Ideal S16384x2816 .f32 := tDg (rDa m c) (r1 m c) (tSg (r0 m c)) (r0 m c)

theorem rF_at (t : Fin 16384) (d : Fin 1024) : rF m c (ix2 t d) = mF m c t d := tF_at _ _ _ t d

theorem rDf_at (t : Fin 16384) (d : Fin 1024) : rDf m c (ix2 t d) = mDf m c t d := by
  rw [rDf, tDf_eq]
  simp only [rF_at]
  rfl

theorem rDa_at (t : Fin 16384) (q : Fin 2816) : rDa m c (ix2 t q) = mDa m c t q := by
  rw [rDa, tDa_at]
  simp only [rDf_at]
  rfl

theorem rDg_at (t : Fin 16384) (q : Fin 2816) : rDg m c (ix2 t q) = mDgc m c t q := by
  rw [rDg, tDg_at]
  simp only [rDa_at]
  rfl

theorem res0 : res_out0 m c = fun j : S16384x1024.Idx => mDf m c (j 0) (j 1) := by
  have e : res_out0 m c = truncf (F := Ideal) .bf16 (rDf m c) bitsLt_bf16_f32 := by
    unfold res_out0 res_main_v56
    rfl
  funext j
  idx_vars j
  rw [e]
  exact rDf_at m c _ _

theorem res1 : res_out1 m c = fun j : S4x16384x704.Idx => mDgc m c (j 1) (col (j 0) (j 2)) := by
  have e : res_out1 m c = tDgB (rDg m c) := by
    unfold res_out1 res_main_v59
    rfl
  funext j
  idx_vars j
  rw [e, tDgB_at]
  exact rDg_at m c _ _

theorem res2 : res_out2 m c = fun j : S4x16384x704.Idx => mDval m c (j 1) (col (j 0) (j 2)) := by
  have e : res_out2 m c = tDvB (tDv (tSil (r0 m c) (tSg (r0 m c))) (rDa m c)) := by
    unfold res_out2 res_main_v62
    rfl
  funext j
  idx_vars j
  rw [e, tDvB_at]
  simp only [rDa_at]
  rfl

theorem res3 : res_out3 m c = fun j : S8x1024.Idx => ∑ t, stF (mF m c) (mDxo m c) (mGn m c) (mGt m c) (j 0) t (j 1) := by
  have e : res_out3 m c = tSt (r5 m c) (rF m c) (tR (rF m c)) (r3 m c) (r4 m c) := by
    unfold res_out3 res_main_v51
    rfl
  funext j
  idx_vars j
  rw [e, tSt_at]
  simp only [rF_at]
  rfl

theorem res4 : res_out4 m c = fun j : S4x8x704.Idx => ∑ t, sbF (mDgc m c) (j 1) t (col (j 0) (j 2)) := by
  have e : res_out4 m c = tSb (tSb8 (rDg m c)) := by
    unfold res_out4 res_main_v64
    rfl
  funext j
  idx_vars j
  rw [e, tSb_at]
  simp only [rDg_at]

end Cert.FoReferenceIdeal.Hand
end
-- ==== Proof.FoClaim.lean ====
/-
  The five claims about the channel mixer's output gradient: the three frames, that the ideal program is the
  kernel, and that kernel and reference compute the same five arrays over the extended reals.
-/
module

public import proofs.«01_k».proof.Defs
public import proofs.«01_k».proof.Proof.Gen.FoKernel
public import proofs.«01_k».proof.Proof.Gen.FoKernel.Frame
public import proofs.«01_k».proof.Proof.Gen.FoKernelIdeal.Value
public import proofs.«01_k».proof.Proof.FoFinal
public import proofs.«01_k».proof.Proof.FoRef
public import Idealize.ShloMosaic.Lib.Quiescent

@[expose] public section
noncomputable section
namespace Cert.FoClaim
open Idealize.ShloMosaic Idealize.ShloMosaic.TcCoe Idealize.SL.Sem

/-- The kernel's frame. -/
theorem frame_kernel : Cert.quiescent_FoKernel (hFoKernel := Cert.FoKernel.Gen.facts) :=
  fun m ρ _ => Cert.FoKernel.Gen.frame m ρ

/-- The ideal kernel's frame. -/
theorem frame_ideal : Cert.quiescent_FoKernelIdeal (hFoKernelIdeal := Cert.FoKernelIdeal.Gen.facts) :=
  fun m ρ _ => Cert.FoKernelIdeal.Gen.frame m ρ

/-- The reference's frame: its run keeps the arguments, and it has no semaphore. -/
theorem frame_reference : Cert.quiescent_FoReferenceIdeal (hFoReferenceIdeal := Cert.FoReferenceIdeal.Gen.facts) :=
  fun m ρ _ => (θ_run Cert.FoReferenceIdeal.defs _ _).mono
    (fun _ h => ⟨fun c => (h c).2.2.2.2.2, sem_eq_zero_of_no_sems (by decide) _⟩)
    (Cert.FoReferenceIdeal.Value.run (F := Ideal) m ρ)

section agree
variable (m : (ℓ : Loc FoKernelIdeal.nD FoKernelIdeal.τ FoKernelIdeal.sig) → Buf (Elt Ideal) ℓ)
  (m' : (ℓ : Loc FoReferenceIdeal.nD FoReferenceIdeal.τ FoReferenceIdeal.sig) → Buf (Elt Ideal) ℓ)
  (c : Dev FoKernelIdeal.nD)

/-- Where the arguments agree, so do their matrices. -/
structure Agree : Prop where
  gc : FoReferenceIdeal.Hand.mGc m' c = FoKernelIdeal.Hand.mGc m c
  val : FoReferenceIdeal.Hand.mVal m' c = FoKernelIdeal.Hand.mVal m c
  w : FoReferenceIdeal.Hand.mW m' c = FoKernelIdeal.Hand.mW m c
  gn : FoReferenceIdeal.Hand.mGn m' c = FoKernelIdeal.Hand.mGn m c
  gt : FoReferenceIdeal.Hand.mGt m' c = FoKernelIdeal.Hand.mGt m c
  dxo : FoReferenceIdeal.Hand.mDxo m' c = FoKernelIdeal.Hand.mDxo m c

variable {m m' c}

/-- The down-projections agree. -/
theorem Agree.f (h : Agree m m' c) : FoReferenceIdeal.Hand.mF m' c = FoKernelIdeal.Hand.mF m c := by
  unfold FoReferenceIdeal.Hand.mF FoKernelIdeal.Hand.mF
  rw [h.gc, h.val, h.w]

/-- The gradients of the down-projection's output agree. -/
theorem Agree.df (h : Agree m m' c) : FoReferenceIdeal.Hand.mDf m' c = FoKernelIdeal.Hand.mDf m c := by
  unfold FoReferenceIdeal.Hand.mDf FoKernelIdeal.Hand.mDf
  rw [h.f, h.dxo, h.gn, h.gt]

/-- The gradients of the values agree. -/
theorem Agree.dval (h : Agree m m' c) : FoReferenceIdeal.Hand.mDval m' c = FoKernelIdeal.Hand.mDval m c := by
  unfold FoReferenceIdeal.Hand.mDval FoKernelIdeal.Hand.mDval FoReferenceIdeal.Hand.mDa FoKernelIdeal.Hand.mDa
  rw [h.df, h.w, h.gc]

/-- The gradients of the gate's input agree. -/
theorem Agree.dgc (h : Agree m m' c) : FoReferenceIdeal.Hand.mDgc m' c = FoKernelIdeal.Hand.mDgc m c := by
  unfold FoReferenceIdeal.Hand.mDgc FoKernelIdeal.Hand.mDgc FoReferenceIdeal.Hand.mDa FoKernelIdeal.Hand.mDa
  rw [h.df, h.w, h.gc, h.val]

end agree

/-- Kernel and reference compute the same five arrays. -/
theorem algebraic : Cert.algebraic_FoKernelIdeal_FoReferenceIdeal (hFoKernelIdeal := Cert.FoKernelIdeal.Gen.facts)
    (hFoReferenceIdeal := Cert.FoReferenceIdeal.Gen.facts) := by
  intro m ρ m' ρ' _ hargs
  have ha : ∀ c, Agree m m' c := fun c => by
    obtain ⟨h0, h1, h2, h3, h4, h5⟩ := hargs c
    exact ⟨funext fun _ => funext fun _ => congrFun h0 _, funext fun _ => funext fun _ => congrFun h1 _,
      funext fun _ => funext fun _ => congrFun h2 _, funext fun _ => congrFun h3 _, funext fun _ => congrFun h4 _,
      funext fun _ => funext fun _ => congrFun h5 _⟩
  refine ⟨fun c => (FoKernelIdeal.Gen.dats m 0 c).arrAt 7 FoKernelIdeal.cfg0.N,
    fun c => (FoKernelIdeal.Gen.dats m 0 c).arrAt 8 FoKernelIdeal.cfg0.N,
    fun c => (FoKernelIdeal.Gen.dats m 0 c).arrAt 9 FoKernelIdeal.cfg0.N,
    fun c => (FoKernelIdeal.Gen.dats m 0 c).arrAt 10 FoKernelIdeal.cfg0.N,
    fun c => (FoKernelIdeal.Gen.dats m 0 c).arrAt 11 FoKernelIdeal.cfg0.N,
    FoKernelIdeal.Value.run_blocks m ρ, ?_⟩
  refine (θ_run FoReferenceIdeal.defs _ _).mono (fun _ h c => ?_) (FoReferenceIdeal.Value.run (F := Ideal) m' ρ')
  obtain ⟨r0, r1, r2, r3, r4, rest⟩ := h c
  have e := ha c
  refine ⟨(r0.trans (FoReferenceIdeal.Hand.res0 m' c)).trans (Eq.trans ?_ (FoKernelIdeal.Hand.out7 m c).symm),
    (r1.trans (FoReferenceIdeal.Hand.res1 m' c)).trans (Eq.trans ?_ (FoKernelIdeal.Hand.out8 m c).symm),
    (r2.trans (FoReferenceIdeal.Hand.res2 m' c)).trans (Eq.trans ?_ (FoKernelIdeal.Hand.out9 m c).symm),
    (r3.trans (FoReferenceIdeal.Hand.res3 m' c)).trans (Eq.trans ?_ (FoKernelIdeal.Hand.out10 m c).symm),
    (r4.trans (FoReferenceIdeal.Hand.res4 m' c)).trans (Eq.trans ?_ (FoKernelIdeal.Hand.out11 m c).symm), rest⟩
  · rw [e.df]
  · rw [e.dgc]
  · rw [e.dval]
  · rw [e.f, e.dxo, e.gn, e.gt]
  · rw [e.dgc]

end Cert.FoClaim
end
-- ==== Proof.WiFinal.lean ====
/-
  The gradient of the short gated convolution's first weights, as its kernel leaves it: block `j` of the columns gathers the
  tokens in four blocks of 4096.
-/
module

public import proofs.«01_k».proof.Proof.Gen.WiKernelIdeal.Value
public import proofs.«01_k».proof.Proof.Gen.WiReferenceIdeal.Run
public import proofs.«01_k».proof.Proof.Gen.WiReferenceIdeal
public import proofs.«01_k».proof.Proof.Norm
public import Idealize.ShloMosaic.Lib.Pipeline.ValueKit
public import Idealize.ShloMosaic.Lib.Pipeline.ReadBack
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.WiKernelIdeal.Hand
open Cert.WiKernelIdeal Cert.WiKernelIdeal.Gen
variable (m : (ℓ : Loc nD τ sig) → Buf (Elt Ideal) ℓ) (c : Dev nD)

/-- The inputs and the outputs' gradients, entry by entry. -/
def mH (t : Fin 16384) (k : Fin 1024) : EReal := (m ((c : Thread nD τ).loc main_arg0) : Vec Ideal S16384x1024 .f32) (ix2 t k)
@[inherit_doc mH] def mU (t : Fin 16384) (d : Fin 3072) : EReal := (m ((c : Thread nD τ).loc main_arg1) : Vec Ideal S16384x3072 .f32) (ix2 t d)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem lt16 (t : Fin cfg0.N) : t.val < 16 := lt_of_lt_of_eq t.isLt N_0

/-- The array's row that is row `r` of the block at `t`, and the column that is column `d` of block `j`. -/
abbrev row (t : Fin cfg0.N) (r : Fin 4096) : Fin 16384 := ⟨4096 * (t.val % 4) + r.val, by omega⟩
@[inherit_doc row] abbrev col (j : Fin 4) (d : Fin 768) : Fin 3072 := ⟨768 * j.val + d.val, by omega⟩
abbrev blk (t : Fin cfg0.N) : Fin 4 := ⟨t.val / 4, by have := lt16 t; omega⟩

theorem ib0 (t : Fin cfg0.N) (r : Fin 4096) (k : Fin 1024) : iblk m c 0 t (ix2 r k) = mH m c (row t r) k := by
  blk_point [iblk, V, idx t]
theorem ib1 (t : Fin cfg0.N) (r : Fin 4096) (d : Fin 768) : iblk m c 1 t (ix2 r d) = mU m c (row t r) (col (blk t) d) := by
  blk_point [iblk, V, idx t]

/-- What a point adds to the sum so far. -/
theorem pay2_at (t : Fin cfg0.N) (acc : Vec Ideal S1024x768 .f32) (k : Fin 1024) (d : Fin 768) :
    k0_pay2 (iblk m c 0 t) (iblk m c 1 t) acc (ix2 k d)
      = acc (ix2 k d) + ∑ r : Fin 4096, mH m c (row t r) k * mU m c (row t r) (col (blk t) d) := by
  pointwise [k0_pay2]
  simp only [ib0, ib1]

/-- The carried sum: cleared at a block's first point, and one term more at each. -/
theorem acc_reset (t : Fin cfg0.N) (h : t.val % 4 = 0) (k : Fin 1024) (d : Fin 768) :
    (outsAt0 m c t.val t.isLt).2 (ix2 k d) = 0 + ∑ r : Fin 4096, mH m c (row t r) k * mU m c (row t r) (col (blk t) d) := by
  rw [outsAt0_A m c t h (by omega)]; frame_out
  refine (pay2_at m c t _ k d).trans ?_
  congr 1
  exact Ideal.ofBits_zero_f32
@[inherit_doc acc_reset]
theorem acc_step (t : Fin cfg0.N) (h : ¬t.val % 4 = 0) (k : Fin 1024) (d : Fin 768) :
    (outsAt0 m c t.val t.isLt).2 (ix2 k d) = (outsAt0 m c (t.val - 1) (Nat.lt_of_le_of_lt (Nat.sub_le _ _) t.isLt)).2 (ix2 k d)
      + ∑ r : Fin 4096, mH m c (row t r) k * mU m c (row t r) (col (blk t) d) := by
  by_cases h1 : t.val % 4 = 3
  · rw [outsAt0_C m c t h h1]; frame_out
    refine (pay2_at m c t _ k d).trans ?_
    congr 1
    exact congrFun (Memref.IsWhole.read_unread _ _) _
  · rw [outsAt0_B m c t h h1]; frame_out
    refine (pay2_at m c t _ k d).trans ?_
    congr 1
    exact congrFun (Memref.IsWhole.read_unread _ _) _

/-- What the last point of a block writes is the carried sum. -/
theorem out_last (t : Fin cfg0.N) (h : t.val % 4 = 3) (k : Fin 1024) (d : Fin 768) :
    (outsAt0 m c t.val t.isLt).1 (ix3 0 k d) = (outsAt0 m c t.val t.isLt).2 (ix2 k d) := by
  rw [outsAt0_C m c t (by omega) h]; frame_out
  pointwise [k0_pay3]

/-- The gradient, entry by entry. -/
abbrev dw (j : Fin 4) (k : Fin 1024) (d : Fin 768) : EReal := ∑ t : Fin 16384, mH m c t k * mU m c t (col j d)

theorem out2 : (dats m 0 c).arrAt 2 cfg0.N = fun j : S4x1024x768.Idx => dw m c (j 0) (j 1) (j 2) := by
  refine (dats m 0 c).arrAt_eq_of_covers 2 _ (by decide +kernel) fun t hf y => ?_
  blk_simp
  have h3 : t.val % 4 = 3 := (flush0_2 t).mp hf
  rw [after0_2]
  have he : ∀ y : S1x1024x768.Idx, ((View.whole main_v2).slice (win0_2.rect t)).emb y = ix3 (blk t) (y 1) (y 2) := by
    intro y
    have hi : win0_2.index t = ![t.val / 4, 0, 0] := by simp only [idx t]
    have h0 : (y 0).val < 1 := (y 0).isLt
    funext a; refine Fin.ext ?_
    match a with
    | 0 =>
      show win0_2.index t 0 * 1 + 1 * (y 0).val = _
      rw [hi]; show t.val / 4 * 1 + 1 * (y 0).val = t.val / 4; omega
    | 1 =>
      show win0_2.index t 1 * 1024 + 1 * (y 1).val = _
      rw [hi]; show 0 * 1024 + 1 * (y 1).val = (y 1).val; omega
    | 2 =>
      show win0_2.index t 2 * 768 + 1 * (y 2).val = _
      rw [hi]; show 0 * 768 + 1 * (y 2).val = (y 2).val; omega
  have hy : ∀ y : S1x1024x768.Idx, (outsAt0 m c t.val t.isLt).1 y = dw m c (blk t) (y 1) (y 2) := by
    intro y
    idx_vars y
    obtain rfl : y0 = 0 := Subsingleton.elim (α := Fin 1) _ _
    rw [out_last m c t h3]
    refine (Pipeline.eq_sum_fin_of_reset_step_apply_of_flush (fun n h => (outsAt0 m c n h).2) 4 (fun _ => 0)
      (fun t (j : S1024x768.Idx) => ∑ r : Fin 4096, mH m c (row t r) (j 0) * mU m c (row t r) (col (blk t) (j 1)))
      (fun t h j => by idx_vars j; exact acc_reset m c t h _ _) (fun t h j => by idx_vars j; exact acc_step m c t h _ _) t h3 _).trans ?_
    rw [zero_add]
    refine Fin.sum_mul_add_congr fun s k hl => ?_
    have e0 : blk ⟨4 * (t.val / 4) + s.val, lt_of_lt_of_eq (by have := lt16 t; omega) N_0.symm⟩ = blk t := Fin.ext (by dsimp only; omega)
    have e1 : row ⟨4 * (t.val / 4) + s.val, lt_of_lt_of_eq (by have := lt16 t; omega) N_0.symm⟩ k = ⟨s.val * 4096 + k.val, hl⟩ :=
      Fin.ext (by dsimp only; omega)
    rw [e0, e1]
    rfl
  refine (hy y).trans ?_
  show _ = dw m c (((View.whole main_v2).slice (win0_2.rect t)).emb y 0) (((View.whole main_v2).slice (win0_2.rect t)).emb y 1)
    (((View.whole main_v2).slice (win0_2.rect t)).emb y 2)
  rw [he]
  rfl

end Cert.WiKernelIdeal.Hand

namespace Cert.WiReferenceIdeal.Hand
open Cert.WiReferenceIdeal Cert.WiReferenceIdeal.Gen
variable (m : (ℓ : Loc nD τ sig) → Buf (Elt Ideal) ℓ) (c : Dev nD)

/-- The inputs and the outputs' gradients, entry by entry. -/
def mH (t : Fin 16384) (k : Fin 1024) : EReal := (m ((c : Thread nD τ).loc main_arg0) : Vec Ideal S16384x1024 .f32) (ix2 t k)
@[inherit_doc mH] def mU (t : Fin 16384) (d : Fin 3072) : EReal := (m ((c : Thread nD τ).loc main_arg1) : Vec Ideal S16384x3072 .f32) (ix2 t d)

/-- The reference's gradient, cut into blocks, from its two arguments. -/
def grad (u : FVec Ideal S16384x3072 .f32) (h : FVec Ideal S16384x1024 .f32) : FVec Ideal S4x1024x768 .bf16 :=
  truncf (F := Ideal) .bf16 (transpose S4x1024x768 [1, 0, 2] (shapeCast _ (transpose S1024x3072 [1, 0] (Host.dotGeneral dot_S16384x3072_S16384x1024_S3072x1024_0_0_1_1_n_n none u h) transposes_S3072x1024_S1024x3072_1_0) shapeCasts_S1024x3072_S1024x4x768) transposes_S1024x4x768_S4x1024x768_1_0_2) bitsLt_bf16_f32

theorem grad_at (u : FVec Ideal S16384x3072 .f32) (h : FVec Ideal S16384x1024 .f32) (j : Fin 4) (k : Fin 1024) (d : Fin 768) :
    grad u h (ix3 j k d) = ∑ t : Fin 16384, h (ix2 t k) * u (ix2 t ⟨768 * j.val + d.val, by omega⟩) := by
  pointwise [grad]
  exact Finset.sum_congr rfl fun t _ => by
    have e : (⟨j.val * 768 + d.val, by omega⟩ : Fin 3072) = ⟨768 * j.val + d.val, by omega⟩ := Fin.ext (by dsimp only; omega)
    simp only [e]
    exact mul_comm _ _

theorem res (j : S4x1024x768.Idx) :
    grad (m ((c : Thread nD τ).loc main_arg1)) (m ((c : Thread nD τ).loc main_arg0)) j
      = ∑ t : Fin 16384, mH m c t (j 1) * mU m c t ⟨768 * (j 0).val + (j 2).val, by have h0 : (j 0).val < 4 := (j 0).isLt; have h1 : (j 2).val < 768 := (j 2).isLt; omega⟩ := by
  idx_vars j
  exact grad_at _ _ _ _ _

end Cert.WiReferenceIdeal.Hand
end
-- ==== Proof.WiClaim.lean ====
/-
  The five claims about the gradient of the short gated convolution's first weights.
-/
module

public import proofs.«01_k».proof.Defs
public import proofs.«01_k».proof.Proof.Gen.WiKernel
public import proofs.«01_k».proof.Proof.Gen.WiKernel.Frame
public import proofs.«01_k».proof.Proof.WiFinal
public import Idealize.ShloMosaic.Lib.Quiescent

@[expose] public section
noncomputable section
namespace Cert.WiClaim
open Idealize.ShloMosaic Idealize.ShloMosaic.TcCoe Idealize.SL.Sem

/-- The kernel's frame. -/
theorem frame_kernel : Cert.quiescent_WiKernel (hWiKernel := Cert.WiKernel.Gen.facts) :=
  fun m ρ _ => Cert.WiKernel.Gen.frame m ρ

/-- The ideal kernel's frame. -/
theorem frame_ideal : Cert.quiescent_WiKernelIdeal (hWiKernelIdeal := Cert.WiKernelIdeal.Gen.facts) :=
  fun m ρ _ => Cert.WiKernelIdeal.Gen.frame m ρ

/-- The reference's frame: its run keeps the arguments, and it has no semaphore. -/
theorem frame_reference : Cert.quiescent_WiReferenceIdeal (hWiReferenceIdeal := Cert.WiReferenceIdeal.Gen.facts) :=
  fun m ρ _ => (θ_run Cert.WiReferenceIdeal.defs _ _).mono
    (fun _ h => ⟨fun c => (h c).2, sem_eq_zero_of_no_sems (by decide) _⟩)
    (Cert.WiReferenceIdeal.Value.run (F := Ideal) m ρ)

/-- Kernel and reference compute the same gradient. -/
theorem algebraic : Cert.algebraic_WiKernelIdeal_WiReferenceIdeal (hWiKernelIdeal := Cert.WiKernelIdeal.Gen.facts)
    (hWiReferenceIdeal := Cert.WiReferenceIdeal.Gen.facts) := by
  intro m ρ m' ρ' _ hargs
  refine ⟨fun c => (WiKernelIdeal.Gen.dats m 0 c).arrAt 2 WiKernelIdeal.cfg0.N, WiKernelIdeal.Value.run_blocks m ρ, ?_⟩
  refine (θ_run WiReferenceIdeal.defs _ _).mono (fun _ h c => ?_) (WiReferenceIdeal.Value.run (F := Ideal) m' ρ')
  obtain ⟨r0, rest⟩ := h c
  obtain ⟨h0, h1⟩ := hargs c
  have e0 : WiReferenceIdeal.Hand.mH m' c = WiKernelIdeal.Hand.mH m c := funext fun _ => funext fun _ => congrFun h0 _
  have e1 : WiReferenceIdeal.Hand.mU m' c = WiKernelIdeal.Hand.mU m c := funext fun _ => funext fun _ => congrFun h1 _
  refine ⟨(r0.trans (funext (WiReferenceIdeal.Hand.res m' c))).trans (Eq.trans ?_ (WiKernelIdeal.Hand.out2 m c).symm), rest⟩
  rw [e0, e1]

end Cert.WiClaim
end
-- ==== Proof.WoFinal.lean ====
/-
  The gradient of the short gated convolution's last weights, as its kernel leaves it, gathered over the tokens in four
  blocks of 4096.
-/
module

public import proofs.«01_k».proof.Proof.Gen.WoKernelIdeal.Value
public import proofs.«01_k».proof.Proof.Gen.WoReferenceIdeal.Run
public import proofs.«01_k».proof.Proof.Gen.WoReferenceIdeal
public import proofs.«01_k».proof.Proof.Norm
public import Idealize.ShloMosaic.Lib.Pipeline.ValueKit
public import Idealize.ShloMosaic.Lib.Pipeline.ReadBack
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.WoKernelIdeal.Hand
open Cert.WoKernelIdeal Cert.WoKernelIdeal.Gen
variable (m : (ℓ : Loc nD τ sig) → Buf (Elt Ideal) ℓ) (c : Dev nD)

/-- The inputs and the outputs' gradients, entry by entry. -/
def mH (t : Fin 16384) (k : Fin 1024) : EReal := (m ((c : Thread nD τ).loc main_arg0) : Vec Ideal S16384x1024 .f32) (ix2 t k)
@[inherit_doc mH] def mU (t : Fin 16384) (d : Fin 1024) : EReal := (m ((c : Thread nD τ).loc main_arg1) : Vec Ideal S16384x1024 .f32) (ix2 t d)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem lt4 (t : Fin cfg0.N) : t.val < 4 := lt_of_lt_of_eq t.isLt N_0

/-- The array's row that is row `r` of the block at `t`, and the column that is column `d` of block `j`. -/
abbrev row (t : Fin cfg0.N) (r : Fin 4096) : Fin 16384 := ⟨4096 * (t.val % 4) + r.val, by omega⟩
@[inherit_doc row] abbrev col (j : Fin 1) (d : Fin 1024) : Fin 1024 := ⟨1024 * j.val + d.val, by omega⟩
abbrev blk (t : Fin cfg0.N) : Fin 1 := ⟨t.val / 4, by have := lt4 t; omega⟩

theorem ib0 (t : Fin cfg0.N) (r : Fin 4096) (k : Fin 1024) : iblk m c 0 t (ix2 r k) = mH m c (row t r) k := by
  blk_point [iblk, V, idx t]
theorem ib1 (t : Fin cfg0.N) (r : Fin 4096) (d : Fin 1024) : iblk m c 1 t (ix2 r d) = mU m c (row t r) (col (blk t) d) := by
  blk_point [iblk, V, idx t]

/-- What a point adds to the sum so far. -/
theorem pay2_at (t : Fin cfg0.N) (acc : Vec Ideal S1024x1024 .f32) (k : Fin 1024) (d : Fin 1024) :
    k0_pay2 (iblk m c 0 t) (iblk m c 1 t) acc (ix2 k d)
      = acc (ix2 k d) + ∑ r : Fin 4096, mH m c (row t r) k * mU m c (row t r) (col (blk t) d) := by
  pointwise [k0_pay2]
  simp only [ib0, ib1]

/-- The carried sum: cleared at a block's first point, and one term more at each. -/
theorem acc_reset (t : Fin cfg0.N) (h : t.val % 4 = 0) (k : Fin 1024) (d : Fin 1024) :
    (outsAt0 m c t.val t.isLt).2 (ix2 k d) = 0 + ∑ r : Fin 4096, mH m c (row t r) k * mU m c (row t r) (col (blk t) d) := by
  rw [outsAt0_A m c t h (by omega)]; frame_out
  refine (pay2_at m c t _ k d).trans ?_
  congr 1
  exact Ideal.ofBits_zero_f32
@[inherit_doc acc_reset]
theorem acc_step (t : Fin cfg0.N) (h : ¬t.val % 4 = 0) (k : Fin 1024) (d : Fin 1024) :
    (outsAt0 m c t.val t.isLt).2 (ix2 k d) = (outsAt0 m c (t.val - 1) (Nat.lt_of_le_of_lt (Nat.sub_le _ _) t.isLt)).2 (ix2 k d)
      + ∑ r : Fin 4096, mH m c (row t r) k * mU m c (row t r) (col (blk t) d) := by
  by_cases h1 : t.val % 4 = 3
  · rw [outsAt0_C m c t h h1]; frame_out
    refine (pay2_at m c t _ k d).trans ?_
    congr 1
    exact congrFun (Memref.IsWhole.read_unread _ _) _
  · rw [outsAt0_B m c t h h1]; frame_out
    refine (pay2_at m c t _ k d).trans ?_
    congr 1
    exact congrFun (Memref.IsWhole.read_unread _ _) _

/-- What the last point of a block writes is the carried sum. -/
theorem out_last (t : Fin cfg0.N) (h : t.val % 4 = 3) (k : Fin 1024) (d : Fin 1024) :
    (outsAt0 m c t.val t.isLt).1 (ix3 0 k d) = (outsAt0 m c t.val t.isLt).2 (ix2 k d) := by
  rw [outsAt0_C m c t (by omega) h]; frame_out
  pointwise [k0_pay3]

/-- The gradient, entry by entry. -/
abbrev dw (j : Fin 1) (k : Fin 1024) (d : Fin 1024) : EReal := ∑ t : Fin 16384, mH m c t k * mU m c t (col j d)

theorem out2 : (dats m 0 c).arrAt 2 cfg0.N = fun j : S1x1024x1024.Idx => dw m c (j 0) (j 1) (j 2) := by
  refine (dats m 0 c).arrAt_eq_of_covers 2 _ (by decide +kernel) fun t hf y => ?_
  blk_simp
  have h3 : t.val % 4 = 3 := (flush0_2 t).mp hf
  rw [after0_2]
  have he : ∀ y : S1x1024x1024.Idx, ((View.whole main_v2).slice (win0_2.rect t)).emb y = ix3 (blk t) (y 1) (y 2) := by
    intro y
    have hi : win0_2.index t = ![t.val / 4, 0, 0] := by simp only [idx t]
    have h0 : (y 0).val < 1 := (y 0).isLt
    funext a; refine Fin.ext ?_
    match a with
    | 0 =>
      show win0_2.index t 0 * 1 + 1 * (y 0).val = _
      rw [hi]; show t.val / 4 * 1 + 1 * (y 0).val = t.val / 4; omega
    | 1 =>
      show win0_2.index t 1 * 1024 + 1 * (y 1).val = _
      rw [hi]; show 0 * 1024 + 1 * (y 1).val = (y 1).val; omega
    | 2 =>
      show win0_2.index t 2 * 1024 + 1 * (y 2).val = _
      rw [hi]; show 0 * 1024 + 1 * (y 2).val = (y 2).val; omega
  have hy : ∀ y : S1x1024x1024.Idx, (outsAt0 m c t.val t.isLt).1 y = dw m c (blk t) (y 1) (y 2) := by
    intro y
    idx_vars y
    obtain rfl : y0 = 0 := Subsingleton.elim (α := Fin 1) _ _
    rw [out_last m c t h3]
    refine (Pipeline.eq_sum_fin_of_reset_step_apply_of_flush (fun n h => (outsAt0 m c n h).2) 4 (fun _ => 0)
      (fun t (j : S1024x1024.Idx) => ∑ r : Fin 4096, mH m c (row t r) (j 0) * mU m c (row t r) (col (blk t) (j 1)))
      (fun t h j => by idx_vars j; exact acc_reset m c t h _ _) (fun t h j => by idx_vars j; exact acc_step m c t h _ _) t h3 _).trans ?_
    rw [zero_add]
    refine Fin.sum_mul_add_congr fun s k hl => ?_
    have e0 : blk ⟨4 * (t.val / 4) + s.val, lt_of_lt_of_eq (by have := lt4 t; omega) N_0.symm⟩ = blk t := Fin.ext (by dsimp only; omega)
    have e1 : row ⟨4 * (t.val / 4) + s.val, lt_of_lt_of_eq (by have := lt4 t; omega) N_0.symm⟩ k = ⟨s.val * 4096 + k.val, hl⟩ :=
      Fin.ext (by dsimp only; omega)
    rw [e0, e1]
    rfl
  refine (hy y).trans ?_
  show _ = dw m c (((View.whole main_v2).slice (win0_2.rect t)).emb y 0) (((View.whole main_v2).slice (win0_2.rect t)).emb y 1)
    (((View.whole main_v2).slice (win0_2.rect t)).emb y 2)
  rw [he]
  rfl

end Cert.WoKernelIdeal.Hand

namespace Cert.WoReferenceIdeal.Hand
open Cert.WoReferenceIdeal Cert.WoReferenceIdeal.Gen
variable (m : (ℓ : Loc nD τ sig) → Buf (Elt Ideal) ℓ) (c : Dev nD)

/-- The inputs and the outputs' gradients, entry by entry. -/
def mH (t : Fin 16384) (k : Fin 1024) : EReal := (m ((c : Thread nD τ).loc main_arg0) : Vec Ideal S16384x1024 .f32) (ix2 t k)
@[inherit_doc mH] def mU (t : Fin 16384) (d : Fin 1024) : EReal := (m ((c : Thread nD τ).loc main_arg1) : Vec Ideal S16384x1024 .f32) (ix2 t d)

/-- The reference's gradient, cut into blocks, from its two arguments. -/
def grad (u : FVec Ideal S16384x1024 .f32) (h : FVec Ideal S16384x1024 .f32) : FVec Ideal S1x1024x1024 .bf16 :=
  truncf (F := Ideal) .bf16 (broadcastInDim S1x1024x1024 ![1, 2] bcast_S1024x1024_S1x1024x1024_1_2 (transpose S1024x1024 [1, 0] (Host.dotGeneral dot_S16384x1024_S16384x1024_S1024x1024_0_0_1_1_n_n none u h) transposes_S1024x1024_S1024x1024_1_0)) bitsLt_bf16_f32

theorem grad_at (u : FVec Ideal S16384x1024 .f32) (h : FVec Ideal S16384x1024 .f32) (j : Fin 1) (k : Fin 1024) (d : Fin 1024) :
    grad u h (ix3 j k d) = ∑ t : Fin 16384, h (ix2 t k) * u (ix2 t ⟨1024 * j.val + d.val, by omega⟩) := by
  pointwise [grad]
  exact Finset.sum_congr rfl fun t _ => by
    exact mul_comm _ _

theorem res (j : S1x1024x1024.Idx) :
    grad (m ((c : Thread nD τ).loc main_arg1)) (m ((c : Thread nD τ).loc main_arg0)) j
      = ∑ t : Fin 16384, mH m c t (j 1) * mU m c t ⟨1024 * (j 0).val + (j 2).val, by have h0 : (j 0).val < 1 := (j 0).isLt; have h1 : (j 2).val < 1024 := (j 2).isLt; omega⟩ := by
  idx_vars j
  exact grad_at _ _ _ _ _

end Cert.WoReferenceIdeal.Hand
end
-- ==== Proof.WoClaim.lean ====
/-
  The five claims about the gradient of the short gated convolution's last weights.
-/
module

public import proofs.«01_k».proof.Defs
public import proofs.«01_k».proof.Proof.Gen.WoKernel
public import proofs.«01_k».proof.Proof.Gen.WoKernel.Frame
public import proofs.«01_k».proof.Proof.WoFinal
public import Idealize.ShloMosaic.Lib.Quiescent

@[expose] public section
noncomputable section
namespace Cert.WoClaim
open Idealize.ShloMosaic Idealize.ShloMosaic.TcCoe Idealize.SL.Sem

/-- The kernel's frame. -/
theorem frame_kernel : Cert.quiescent_WoKernel (hWoKernel := Cert.WoKernel.Gen.facts) :=
  fun m ρ _ => Cert.WoKernel.Gen.frame m ρ

/-- The ideal kernel's frame. -/
theorem frame_ideal : Cert.quiescent_WoKernelIdeal (hWoKernelIdeal := Cert.WoKernelIdeal.Gen.facts) :=
  fun m ρ _ => Cert.WoKernelIdeal.Gen.frame m ρ

/-- The reference's frame: its run keeps the arguments, and it has no semaphore. -/
theorem frame_reference : Cert.quiescent_WoReferenceIdeal (hWoReferenceIdeal := Cert.WoReferenceIdeal.Gen.facts) :=
  fun m ρ _ => (θ_run Cert.WoReferenceIdeal.defs _ _).mono
    (fun _ h => ⟨fun c => (h c).2, sem_eq_zero_of_no_sems (by decide) _⟩)
    (Cert.WoReferenceIdeal.Value.run (F := Ideal) m ρ)

/-- Kernel and reference compute the same gradient. -/
theorem algebraic : Cert.algebraic_WoKernelIdeal_WoReferenceIdeal (hWoKernelIdeal := Cert.WoKernelIdeal.Gen.facts)
    (hWoReferenceIdeal := Cert.WoReferenceIdeal.Gen.facts) := by
  intro m ρ m' ρ' _ hargs
  refine ⟨fun c => (WoKernelIdeal.Gen.dats m 0 c).arrAt 2 WoKernelIdeal.cfg0.N, WoKernelIdeal.Value.run_blocks m ρ, ?_⟩
  refine (θ_run WoReferenceIdeal.defs _ _).mono (fun _ h c => ?_) (WoReferenceIdeal.Value.run (F := Ideal) m' ρ')
  obtain ⟨r0, rest⟩ := h c
  obtain ⟨h0, h1⟩ := hargs c
  have e0 : WoReferenceIdeal.Hand.mH m' c = WoKernelIdeal.Hand.mH m c := funext fun _ => funext fun _ => congrFun h0 _
  have e1 : WoReferenceIdeal.Hand.mU m' c = WoKernelIdeal.Hand.mU m c := funext fun _ => funext fun _ => congrFun h1 _
  refine ⟨(r0.trans (funext (WoReferenceIdeal.Hand.res m' c))).trans (Eq.trans ?_ (WoKernelIdeal.Hand.out2 m c).symm), rest⟩
  rw [e0, e1]

end Cert.WoClaim
end
-- ==== Proof.FwdSpec.lean ====
/-
  The forward projections, entry by entry over the extended reals: the normalised and modulated rows, and their product
  with a weight matrix.
-/
module

public import proofs.«01_k».proof.Proof.ScSpec

@[expose] public section
noncomputable section
namespace Cert.Fwd
open Idealize.ShloMosaic Cert.Sc

/-- The normalised and modulated rows. -/
def aff (x : Mat 16384 1024) (g sc sh : Fin 1024 → EReal) : Mat 16384 1024 := fun t j => x t j * rs x t * g j * (1 + sc j) + sh j

/-- A product of matrices. -/
def prod {n : ℕ} (h : Mat 16384 1024) (w : Mat 1024 n) : Mat 16384 n := fun t k => ∑ j, h t j * w j k

end Cert.Fwd
end
-- ==== Proof.UfFinal.lean ====
/-
  The channel mixer's up-projection kernel, entry by entry: a point's 512 normalised and modulated rows, and their product
  with the weights in two halves of four blocks of columns each.
-/
module

public import proofs.«01_k».proof.Proof.Gen.UfKernelIdeal.Value
public import proofs.«01_k».proof.Proof.FwdSpec
public import proofs.«01_k».proof.Proof.Rows
public import Idealize.ShloMosaic.Lib.Pipeline.ValueKit
public import Idealize.ShloMosaic.Lib.Pipeline.ReadBack
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Sc Cert.Fwd Cert.Rows
namespace Cert.UfKernelIdeal.Hand
open Cert.UfKernelIdeal Cert.UfKernelIdeal.Gen
variable (m : (ℓ : Loc nD τ sig) → Buf (Elt Ideal) ℓ) (c : Dev nD)

/-- The arguments as matrices. -/
def mX : Mat 16384 1024 := fun t d => (m ((c : Thread nD τ).loc main_arg0) : Vec Ideal S16384x1024 .f32) (ix2 t d)
@[inherit_doc mX] def mG : Fin 1024 → EReal := fun d => (m ((c : Thread nD τ).loc main_arg1) : Vec Ideal S1x1024 .f32) (ix2 0 d)
@[inherit_doc mX] def mSc : Fin 1024 → EReal := fun d => (m ((c : Thread nD τ).loc main_arg2) : Vec Ideal S1x1024 .f32) (ix2 0 d)
@[inherit_doc mX] def mSh : Fin 1024 → EReal := fun d => (m ((c : Thread nD τ).loc main_arg3) : Vec Ideal S1x1024 .f32) (ix2 0 d)
@[inherit_doc mX] def mW : Mat 1024 5632 := fun t d => (m ((c : Thread nD τ).loc main_arg4) : Vec Ideal S1024x5632 .f32) (ix2 t d)

/-- The normalised and modulated rows of this launch, and their product. -/
abbrev mH : Mat 16384 1024 := aff (mX m c) (mG m c) (mSc m c) (mSh m c)
@[inherit_doc mH] abbrev mP : Mat 16384 5632 := prod (mH m c) (mW m c)

theorem idx : ∀ t : Fin cfg0.N, win0_0.index t = ![t.val, 0] ∧ win0_1.index t = ![0, 0]
    ∧ win0_2.index t = ![0, 0] ∧ win0_3.index t = ![0, 0] ∧ win0_4.index t = ![0, 0, 0] ∧ win0_5.index t = ![t.val, 0]
    ∧ win0_6.index t = ![0, t.val, 0] :=
  (by decide +kernel : ∀ t : Fin grid0.N, _)

theorem lt32 (t : Fin cfg0.N) : t.val < 32 := lt_of_lt_of_eq t.isLt N_0

/-- The array's row that is row `r` of the block at `t`. -/
abbrev row (t : Fin cfg0.N) (r : Fin 512) : Fin 16384 := ⟨512 * t.val + r.val, by have := lt32 t; omega⟩

theorem ib0 (t : Fin cfg0.N) (r : Fin 512) (d : Fin 1024) : iblk m c 0 t (ix2 r d) = mX m c (row t r) d := by
  blk_point [iblk, V, idx t]
theorem ib1 (t : Fin cfg0.N) (d : Fin 1024) : iblk m c 1 t (ix2 0 d) = mG m c d := by
  blk_point [iblk, V, idx t]
theorem ib2 (t : Fin cfg0.N) (d : Fin 1024) : iblk m c 2 t (ix2 0 d) = mSc m c d := by
  blk_point [iblk, V, idx t]
theorem ib3 (t : Fin cfg0.N) (d : Fin 1024) : iblk m c 3 t (ix2 0 d) = mSh m c d := by
  blk_point [iblk, V, idx t]

/-- The blocks as the kernel reads them. -/
abbrev bX (t : Fin cfg0.N) := View.ld (iblk m c 0 t) r0_0
@[inherit_doc bX] abbrev bG (t : Fin cfg0.N) := View.ld (iblk m c 1 t) r0_1
@[inherit_doc bX] abbrev bSc (t : Fin cfg0.N) := View.ld (iblk m c 2 t) r0_1
@[inherit_doc bX] abbrev bSh (t : Fin cfg0.N) := View.ld (iblk m c 3 t) r0_1
theorem bX_at (t : Fin cfg0.N) (r : Fin 512) (d : Fin 1024) : bX m c t (ix2 r d) = mX m c (row t r) d := by
  refine (ld2 (iblk m c 0 t) _ r d (by omega) (by omega)).trans ((ib0 m c t _ _).trans ?_)
  congr 1 <;> exact Fin.ext (by simp)
theorem bG_at (t : Fin cfg0.N) (d : Fin 1024) : bG m c t (ix2 0 d) = mG m c d :=
  (ldRow (iblk m c 1 t) _ d (by decide)).trans (ib1 m c t d)
theorem bSc_at (t : Fin cfg0.N) (d : Fin 1024) : bSc m c t (ix2 0 d) = mSc m c d :=
  (ldRow (iblk m c 2 t) _ d (by decide)).trans (ib2 m c t d)
theorem bSh_at (t : Fin cfg0.N) (d : Fin 1024) : bSh m c t (ix2 0 d) = mSh m c d :=
  (ldRow (iblk m c 3 t) _ d (by decide)).trans (ib3 m c t d)

/-- The point's normalised and modulated rows. -/
abbrev vH (t : Fin cfg0.N) := k0_pay2 (F := Ideal) (bX m c t) (bG m c t) (bSc m c t) (bSh m c t)
theorem vH_at (t : Fin cfg0.N) (r : Fin 512) (d : Fin 1024) : vH m c t (ix2 r d) = mH m c (row t r) d := by
  pointwise [k0_pay2]
  simp only [bX_at, bG_at, bSc_at, bSh_at]
  rfl

theorem emb5 (t : Fin cfg0.N) (y : S512x1024.Idx) : (((View.whole main_v3_0).slice (win0_5.rect t)).emb y) = ix2 (row t (y 0)) (y 1) := by
  have h5 : win0_5.index t = ![t.val, 0] := by simp only [idx t]
  funext a; refine Fin.ext ?_
  match a with
  | 0 =>
    show win0_5.index t 0 * 512 + 1 * (y 0).val = _
    rw [h5]; show t.val * 512 + 1 * (y 0).val = 512 * t.val + (y 0).val; omega
  | 1 =>
    show win0_5.index t 1 * 1024 + 1 * (y 1).val = _
    rw [h5]; show 0 * 1024 + 1 * (y 1).val = (y 1).val; omega

theorem out5 : (dats m 0 c).arrAt 5 cfg0.N = fun j : S16384x1024.Idx => mH m c (j 0) (j 1) := by
  refine (dats m 0 c).arrAt_eq_of_covers 5 _ (by decide +kernel) fun t hf y => ?_
  blk_simp
  rw [after0_5]
  have hy : ∀ z : S512x1024.Idx, out0_5 (iblk m c 0 t) (iblk m c 1 t) (iblk m c 2 t) (iblk m c 3 t) (iblk m c 4 t) z
      = mH m c (((View.whole main_v3_0).slice (win0_5.rect t)).emb z 0) (((View.whole main_v3_0).slice (win0_5.rect t)).emb z 1) := by
    intro z
    rw [emb5]
    unfold out0_5
    refine (congrFun (View.canon_unit_zero (by funext a; match a with | 0 => rfl | 1 => rfl) _ _) z).trans ?_
    idx_vars z
    exact vH_at m c t _ _
  exact hy y

theorem V2 (j : Fin 8) (k : Fin 704) (d : Fin 1024) :
    (V m c main_v2 : Vec Ideal S8x704x1024 .bf16) (ix3 j k d) = mW m c d ⟨704 * j.val + k.val, by omega⟩ := by
  simp only [V]
  entry_read
  pointwise
  unfold mW
  congr 2
  exact Fin.ext (by dsimp only; omega)
theorem ib4 (t : Fin cfg0.N) (j : Fin 8) (k : Fin 704) (d : Fin 1024) : iblk m c 4 t (ix3 j k d) = mW m c d ⟨704 * j.val + k.val, by omega⟩ := by
  rw [← V2]; blk_point [iblk, V, idx t]

/-- Four blocks of the weights, as the kernel reads them. -/
theorem ldW (t : Fin cfg0.N) {o : ℕ} (h) (ho : o + 4 ≤ 8) (a : Fin 4) (k : Fin 704) (d : Fin 1024) :
    View.ld (iblk m c 4 t) (Rect.unit (s := S8x704x1024) ![o, 0, 0] ![4, 704, 1024] h) (ix3 a k d)
      = mW m c d ⟨704 * (o + a.val) + k.val, by omega⟩ := by
  refine (ld3 (iblk m c 4 t) _ a k d (by omega) (by omega) (by omega)).trans ((ib4 m c t _ _ _).trans ?_)
  congr 1 <;> exact Fin.ext (by simp)

/-- Four blocks' columns of the product. -/
theorem y_at (H : FVec Ideal S512x1024 .bf16) (w : Vec Ideal S4x704x1024 .bf16) (r : Fin 512) (a : Fin 4) (k : Fin 704) (q : Fin 2816)
    (hq : q.val = 704 * a.val + k.val) :
    k0_pay9 (F := Ideal) H w (ix2 r q) = ∑ j : Fin 1024, H (ix2 r j) * w (ix3 a k j) := by
  pointwise [k0_pay9]
  refine Finset.sum_congr rfl fun j _ => ?_
  congr 2
  refine congrArg₂ (fun x y => ix3 x y j) (Fin.ext ?_) (Fin.ext ?_) <;> (dsimp only; omega)

/-- The product's columns at a point. -/
theorem p_at (t : Fin cfg0.N) {o : ℕ} (h) (ho : o + 4 ≤ 8) (r : Fin 512) (a : Fin 4) (k : Fin 704) (q : Fin 2816)
    (hq : q.val = 704 * a.val + k.val) :
    k0_pay9 (F := Ideal) (vH m c t) (View.ld (iblk m c 4 t) (Rect.unit (s := S8x704x1024) ![o, 0, 0] ![4, 704, 1024] h)) (ix2 r q)
      = mP m c (row t r) ⟨704 * (o + a.val) + k.val, by omega⟩ := by
  refine (y_at _ _ r a k q hq).trans ?_
  exact Finset.sum_congr rfl fun j _ => by rw [vH_at, ldW m c t h ho]

@[inherit_doc p_at]
theorem st0_at (t : Fin cfg0.N) (r : Fin 512) (k : Fin 704) :
    (k0_pay4 (bX m c t) (bG m c t) (bSc m c t) (bSh m c t) (View.ld (iblk m c 4 t) r0_2) : FVec Ideal S1x512x704 .bf16) (ix3 0 r k) = mP m c (row t r) ⟨704 * 0 + k.val, by omega⟩ := by
  pointwise [k0_pay4]
  exact (p_at m c t (o := 0) (by decide) (by decide) r 0 k ⟨k.val, by omega⟩ (by simp)).trans (congrArg (mP m c (row t r)) (Fin.ext (by simp)))
@[inherit_doc p_at]
theorem st1_at (t : Fin cfg0.N) (r : Fin 512) (k : Fin 704) :
    (k0_pay6 (k0_pay5 (bX m c t) (bG m c t) (bSc m c t) (bSh m c t) (View.ld (iblk m c 4 t) r0_2)) : FVec Ideal S1x512x704 .bf16) (ix3 0 r k) = mP m c (row t r) ⟨704 * 1 + k.val, by omega⟩ := by
  pointwise [k0_pay6, k0_pay5]
  exact p_at m c t (o := 0) (by decide) (by decide) r 1 k _ (by rfl)
@[inherit_doc p_at]
theorem st2_at (t : Fin cfg0.N) (r : Fin 512) (k : Fin 704) :
    (k0_pay7 (k0_pay15 (iblk m c 0 t) (iblk m c 1 t) (iblk m c 2 t) (iblk m c 3 t) (iblk m c 4 t)) : FVec Ideal S1x512x704 .bf16) (ix3 0 r k) = mP m c (row t r) ⟨704 * 2 + k.val, by omega⟩ := by
  pointwise [k0_pay7]
  exact p_at m c t (o := 0) (by decide) (by decide) r 2 k _ (by rfl)
@[inherit_doc p_at]
theorem st3_at (t : Fin cfg0.N) (r : Fin 512) (k : Fin 704) :
    (k0_pay8 (k0_pay15 (iblk m c 0 t) (iblk m c 1 t) (iblk m c 2 t) (iblk m c 3 t) (iblk m c 4 t)) : FVec Ideal S1x512x704 .bf16) (ix3 0 r k) = mP m c (row t r) ⟨704 * 3 + k.val, by omega⟩ := by
  pointwise [k0_pay8]
  exact p_at m c t (o := 0) (by decide) (by decide) r 3 k _ (by rfl)
@[inherit_doc p_at]
theorem st4_at (t : Fin cfg0.N) (r : Fin 512) (k : Fin 704) :
    (k0_pay10 (k0_pay14 (iblk m c 0 t) (iblk m c 1 t) (iblk m c 2 t) (iblk m c 3 t) (iblk m c 4 t)) (View.ld (iblk m c 4 t) r0_7) : FVec Ideal S1x512x704 .bf16) (ix3 0 r k) = mP m c (row t r) ⟨704 * 4 + k.val, by omega⟩ := by
  pointwise [k0_pay10]
  exact p_at m c t (o := 4) (by decide) (by decide) r 0 k ⟨k.val, by omega⟩ (by simp)
@[inherit_doc p_at]
theorem st5_at (t : Fin cfg0.N) (r : Fin 512) (k : Fin 704) :
    (k0_pay11 (k0_pay14 (iblk m c 0 t) (iblk m c 1 t) (iblk m c 2 t) (iblk m c 3 t) (iblk m c 4 t)) (View.ld (iblk m c 4 t) r0_7) : FVec Ideal S1x512x704 .bf16) (ix3 0 r k) = mP m c (row t r) ⟨704 * 5 + k.val, by omega⟩ := by
  pointwise [k0_pay11]
  exact p_at m c t (o := 4) (by decide) (by decide) r 1 k _ (by rfl)
@[inherit_doc p_at]
theorem st6_at (t : Fin cfg0.N) (r : Fin 512) (k : Fin 704) :
    (k0_pay12 (k0_pay14 (iblk m c 0 t) (iblk m c 1 t) (iblk m c 2 t) (iblk m c 3 t) (iblk m c 4 t)) (View.ld (iblk m c 4 t) r0_7) : FVec Ideal S1x512x704 .bf16) (ix3 0 r k) = mP m c (row t r) ⟨704 * 6 + k.val, by omega⟩ := by
  pointwise [k0_pay12]
  exact p_at m c t (o := 4) (by decide) (by decide) r 2 k _ (by rfl)
@[inherit_doc p_at]
theorem st7_at (t : Fin cfg0.N) (r : Fin 512) (k : Fin 704) :
    (k0_pay1 (k0_pay13 (k0_pay14 (iblk m c 0 t) (iblk m c 1 t) (iblk m c 2 t) (iblk m c 3 t) (iblk m c 4 t)) (View.ld (iblk m c 4 t) r0_7)) : FVec Ideal S1x512x704 .bf16) (ix3 0 r k) = mP m c (row t r) ⟨704 * 7 + k.val, by omega⟩ := by
  pointwise [k0_pay1, k0_pay13]
  exact p_at m c t (o := 4) (by decide) (by decide) r 3 k _ (by rfl)

theorem emb6 (t : Fin cfg0.N) (y : S8x512x704.Idx) : (((View.whole main_v3_1).slice (win0_6.rect t)).emb y) = ix3 (y 0) (row t (y 1)) (y 2) := by
  have h6 : win0_6.index t = ![0, t.val, 0] := by simp only [idx t]
  funext a; refine Fin.ext ?_
  match a with
  | 0 =>
    show win0_6.index t 0 * 8 + 1 * (y 0).val = _
    rw [h6]; show 0 * 8 + 1 * (y 0).val = (y 0).val; omega
  | 1 =>
    show win0_6.index t 1 * 512 + 1 * (y 1).val = _
    rw [h6]; show t.val * 512 + 1 * (y 1).val = 512 * t.val + (y 1).val; omega
  | 2 =>
    show win0_6.index t 2 * 704 + 1 * (y 2).val = _
    rw [h6]; show 0 * 704 + 1 * (y 2).val = (y 2).val; omega

/-- Column `k` of block `j` of the product. -/
abbrev col (j : Fin 8) (k : Fin 704) : Fin 5632 := ⟨704 * j.val + k.val, by omega⟩

/-- The product's block at a point, from the eight stores. -/
theorem pAll (t : Fin cfg0.N) (z : S8x512x704.Idx) :
    out0_6 (iblk m c 0 t) (iblk m c 1 t) (iblk m c 2 t) (iblk m c 3 t) (iblk m c 4 t) z = mP m c (row t (z 1)) (col (z 0) (z 2)) := by
  unfold out0_6
  canon_tiles z h
  · idx_vars z
    obtain rfl : z0 = 0 := Subsingleton.elim (α := Fin 1) _ _
    refine (st7_at m c t _ _).trans ?_
    exact congrArg₂ (mP m c) (Fin.ext (by simp at h0 h1 h2 ⊢; omega)) (Fin.ext (by simp at h0 h1 h2 ⊢; omega))
  · idx_vars z
    obtain rfl : z0 = 0 := Subsingleton.elim (α := Fin 1) _ _
    refine (st6_at m c t _ _).trans ?_
    exact congrArg₂ (mP m c) (Fin.ext (by simp at h0 h1 h2 ⊢; omega)) (Fin.ext (by simp at h0 h1 h2 ⊢; omega))
  · idx_vars z
    obtain rfl : z0 = 0 := Subsingleton.elim (α := Fin 1) _ _
    refine (st5_at m c t _ _).trans ?_
    exact congrArg₂ (mP m c) (Fin.ext (by simp at h0 h1 h2 ⊢; omega)) (Fin.ext (by simp at h0 h1 h2 ⊢; omega))
  · idx_vars z
    obtain rfl : z0 = 0 := Subsingleton.elim (α := Fin 1) _ _
    refine (st4_at m c t _ _).trans ?_
    exact congrArg₂ (mP m c) (Fin.ext (by simp at h0 h1 h2 ⊢; omega)) (Fin.ext (by simp at h0 h1 h2 ⊢; omega))
  · idx_vars z
    obtain rfl : z0 = 0 := Subsingleton.elim (α := Fin 1) _ _
    refine (st3_at m c t _ _).trans ?_
    exact congrArg₂ (mP m c) (Fin.ext (by simp at h0 h1 h2 ⊢; omega)) (Fin.ext (by simp at h0 h1 h2 ⊢; omega))
  · idx_vars z
    obtain rfl : z0 = 0 := Subsingleton.elim (α := Fin 1) _ _
    refine (st2_at m c t _ _).trans ?_
    exact congrArg₂ (mP m c) (Fin.ext (by simp at h0 h1 h2 ⊢; omega)) (Fin.ext (by simp at h0 h1 h2 ⊢; omega))
  · idx_vars z
    obtain rfl : z0 = 0 := Subsingleton.elim (α := Fin 1) _ _
    refine (st1_at m c t _ _).trans ?_
    exact congrArg₂ (mP m c) (Fin.ext (by simp at h0 h1 h2 ⊢; omega)) (Fin.ext (by simp at h0 h1 h2 ⊢; omega))
  · idx_vars z
    obtain rfl : z0 = 0 := Subsingleton.elim (α := Fin 1) _ _
    refine (st0_at m c t _ _).trans ?_
    exact congrArg₂ (mP m c) (Fin.ext (by simp at h0 h1 h2 ⊢; omega)) (Fin.ext (by simp at h0 h1 h2 ⊢; omega))

theorem out6 : (dats m 0 c).arrAt 6 cfg0.N = fun j : S8x16384x704.Idx => mP m c (j 1) (col (j 0) (j 2)) := by
  refine (dats m 0 c).arrAt_eq_of_covers 6 _ (by decide +kernel) fun t hf y => ?_
  blk_simp
  rw [after0_6]
  have he : ∀ z : S8x512x704.Idx, mP m c (row t (z 1)) (col (z 0) (z 2))
      = mP m c (((View.whole main_v3_1).slice (win0_6.rect t)).emb z 1)
        (col (((View.whole main_v3_1).slice (win0_6.rect t)).emb z 0) (((View.whole main_v3_1).slice (win0_6.rect t)).emb z 2)) := fun z => by rw [emb6]; rfl
  exact (pAll m c t y).trans (he y)

end Cert.UfKernelIdeal.Hand
end
-- ==== Proof.UfRef.lean ====
/-
  The reference's up-projection, entry by entry.
-/
module

public import proofs.«01_k».proof.Proof.Gen.UfReferenceIdeal.Run
public import proofs.«01_k».proof.Proof.FwdSpec
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.Sc Cert.Fwd
namespace Cert.UfReferenceIdeal.Hand
open Cert.UfReferenceIdeal Cert.UfReferenceIdeal.Gen Cert.UfReferenceIdeal.Value
variable (m : (ℓ : Loc nD τ sig) → Buf (Elt Ideal) ℓ) (c : Dev nD)

/-- The arguments as matrices. -/
def mX : Mat 16384 1024 := fun t d => (m ((c.tc : Thread nD τ).loc main_arg0) : Vec Ideal S16384x1024 .f32) (ix2 t d)
@[inherit_doc mX] def mG : Fin 1024 → EReal := fun d => (m ((c.tc : Thread nD τ).loc main_arg1) : Vec Ideal S1x1024 .f32) (ix2 0 d)
@[inherit_doc mX] def mSc : Fin 1024 → EReal := fun d => (m ((c.tc : Thread nD τ).loc main_arg2) : Vec Ideal S1x1024 .f32) (ix2 0 d)
@[inherit_doc mX] def mSh : Fin 1024 → EReal := fun d => (m ((c.tc : Thread nD τ).loc main_arg3) : Vec Ideal S1x1024 .f32) (ix2 0 d)
@[inherit_doc mX] def mW : Mat 1024 5632 := fun t d => (m ((c.tc : Thread nD τ).loc main_arg4) : Vec Ideal S1024x5632 .f32) (ix2 t d)
/-- The normalised and modulated rows, and their product. -/
abbrev mH : Mat 16384 1024 := aff (mX m c) (mG m c) (mSc m c) (mSh m c)
@[inherit_doc mH] abbrev mP : Mat 16384 5632 := prod (mH m c) (mW m c)

/-- The normalised and modulated rows. -/
def tH (a0 : FVec Ideal S16384x1024 .f32) (a1 : FVec Ideal S1x1024 .f32) (a2 : FVec Ideal S1x1024 .f32) (a3 : FVec Ideal S1x1024 .f32) : FVec Ideal S16384x1024 .f32 :=
  (addf (mulf (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 a1)) (broadcastInDim S16384x1024 ![0, 1] bcast_S1x1024_S16384x1024_0_1 (addf (broadcastInDim S1x1024 ![] bcast_S_S1x1024 (constant (F := Ideal) S_ .f32 0x3F800000#32)) a2))) (broadcastInDim S16384x1024 ![0, 1] bcast_S1x1024_S16384x1024_0_1 a3))

/-- The first result, stored. -/
def tO0 (h : FVec Ideal S16384x1024 .f32) : FVec Ideal S16384x1024 .bf16 :=
  (truncf (F := Ideal) .bf16 h bitsLt_bf16_f32)

/-- The second result, stored. -/
def tO1 (h : FVec Ideal S16384x1024 .f32) (a4 : FVec Ideal S1024x5632 .f32) : FVec Ideal S8x16384x704 .bf16 :=
  (truncf (F := Ideal) .bf16 (transpose S8x16384x704 [1, 0, 2] (shapeCast _ (Host.dotGeneral (φ₁ := .f32) (φ₂ := .f32) dot_S16384x1024_S1024x5632_S16384x5632_1_0_0_1_n_n none h a4) shapeCasts_S16384x5632_S16384x8x704) transposes_S16384x8x704_S8x16384x704_1_0_2) bitsLt_bf16_f32)

variable (a0 : FVec Ideal S16384x1024 .f32) (a1 a2 a3 : FVec Ideal S1x1024 .f32) (a4 : FVec Ideal S1024x5632 .f32)

theorem tH_at (t : Fin 16384) (d : Fin 1024) :
    tH a0 a1 a2 a3 (ix2 t d) = aff (fun t d => a0 (ix2 t d)) (fun d => a1 (ix2 0 d)) (fun d => a2 (ix2 0 d)) (fun d => a3 (ix2 0 d)) t d := by
  unfold tH
  pointwise
  rfl

theorem res0 : tO0 (tH (m ((c.tc : Thread nD τ).loc main_arg0)) (m ((c.tc : Thread nD τ).loc main_arg1)) (m ((c.tc : Thread nD τ).loc main_arg2)) (m ((c.tc : Thread nD τ).loc main_arg3)))
    = fun j : S16384x1024.Idx => mH m c (j 0) (j 1) := by
  funext j
  idx_vars j
  unfold tO0
  exact tH_at _ _ _ _ _ _

theorem tO1_at (h : FVec Ideal S16384x1024 .f32) (j : Fin 8) (t : Fin 16384) (k : Fin 704) :
    tO1 h a4 (ix3 j t k) = prod (fun t d => h (ix2 t d)) (fun t d => a4 (ix2 t d)) t ⟨704 * j.val + k.val, by omega⟩ := by
  unfold tO1
  pointwise
  have e : (⟨j.val * 704 + k.val, by omega⟩ : Fin 5632) = ⟨704 * j.val + k.val, by omega⟩ := Fin.ext (by dsimp only; omega)
  simp only [e]
  rfl

/-- Column `k` of block `j` of the product. -/
abbrev col (j : Fin 8) (k : Fin 704) : Fin 5632 := ⟨704 * j.val + k.val, by omega⟩

theorem res1 : tO1 (tH (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
    = fun j : S8x16384x704.Idx => mP m c (j 1) (col (j 0) (j 2)) := by
  funext j
  idx_vars j
  refine (tO1_at _ _ _ _ _).trans ?_
  simp only [tH_at]
  rfl

end Cert.UfReferenceIdeal.Hand
end
-- ==== Proof.UfClaim.lean ====
/-
  The five claims about the channel mixer's up-projection.
-/
module

public import proofs.«01_k».proof.Defs
public import proofs.«01_k».proof.Proof.Gen.UfKernel
public import proofs.«01_k».proof.Proof.Gen.UfKernel.Frame
public import proofs.«01_k».proof.Proof.UfFinal
public import proofs.«01_k».proof.Proof.UfRef
public import Idealize.ShloMosaic.Lib.Quiescent

@[expose] public section
noncomputable section
namespace Cert.UfClaim
open Idealize.ShloMosaic Idealize.ShloMosaic.TcCoe Idealize.SL.Sem

/-- The kernel's frame. -/
theorem frame_kernel : Cert.quiescent_UfKernel (hUfKernel := Cert.UfKernel.Gen.facts) :=
  fun m ρ _ => Cert.UfKernel.Gen.frame m ρ

/-- The ideal kernel's frame. -/
theorem frame_ideal : Cert.quiescent_UfKernelIdeal (hUfKernelIdeal := Cert.UfKernelIdeal.Gen.facts) :=
  fun m ρ _ => Cert.UfKernelIdeal.Gen.frame m ρ

/-- The reference's frame: its run keeps the arguments, and it has no semaphore. -/
theorem frame_reference : Cert.quiescent_UfReferenceIdeal (hUfReferenceIdeal := Cert.UfReferenceIdeal.Gen.facts) :=
  fun m ρ _ => (θ_run Cert.UfReferenceIdeal.defs _ _).mono
    (fun _ h => ⟨fun c => (h c).2.2, sem_eq_zero_of_no_sems (by decide) _⟩)
    (Cert.UfReferenceIdeal.Value.run (F := Ideal) m ρ)

/-- Kernel and reference compute the same two arrays. -/
theorem algebraic : Cert.algebraic_UfKernelIdeal_UfReferenceIdeal (hUfKernelIdeal := Cert.UfKernelIdeal.Gen.facts)
    (hUfReferenceIdeal := Cert.UfReferenceIdeal.Gen.facts) := by
  intro m ρ m' ρ' _ hargs
  refine ⟨fun c => (UfKernelIdeal.Gen.dats m 0 c).arrAt 5 UfKernelIdeal.cfg0.N,
    fun c => (UfKernelIdeal.Gen.dats m 0 c).arrAt 6 UfKernelIdeal.cfg0.N, UfKernelIdeal.Value.run_blocks m ρ, ?_⟩
  refine (θ_run UfReferenceIdeal.defs _ _).mono (fun _ h c => ?_) (UfReferenceIdeal.Value.run (F := Ideal) m' ρ')
  obtain ⟨r0, r1, rest⟩ := h c
  obtain ⟨h0, h1, h2, h3, h4⟩ := hargs c
  have e0 : UfReferenceIdeal.Hand.mX m' c = UfKernelIdeal.Hand.mX m c := funext fun _ => funext fun _ => congrFun h0 _
  have e1 : UfReferenceIdeal.Hand.mG m' c = UfKernelIdeal.Hand.mG m c := funext fun _ => congrFun h1 _
  have e2 : UfReferenceIdeal.Hand.mSc m' c = UfKernelIdeal.Hand.mSc m c := funext fun _ => congrFun h2 _
  have e3 : UfReferenceIdeal.Hand.mSh m' c = UfKernelIdeal.Hand.mSh m c := funext fun _ => congrFun h3 _
  have e4 : UfReferenceIdeal.Hand.mW m' c = UfKernelIdeal.Hand.mW m c := funext fun _ => funext fun _ => congrFun h4 _
  refine ⟨(r0.trans (UfReferenceIdeal.Hand.res0 m' c)).trans (Eq.trans ?_ (UfKernelIdeal.Hand.out5 m c).symm),
    (r1.trans (UfReferenceIdeal.Hand.res1 m' c)).trans (Eq.trans ?_ (UfKernelIdeal.Hand.out6 m c).symm), rest⟩
  · simp only [UfReferenceIdeal.Hand.mH, UfKernelIdeal.Hand.mH]
    rw [e0, e1, e2, e3]
  · simp only [UfReferenceIdeal.Hand.mP, UfKernelIdeal.Hand.mP, UfReferenceIdeal.Hand.mH, UfKernelIdeal.Hand.mH]
    rw [e0, e1, e2, e3, e4]

end Cert.UfClaim
end
-- ==== Proof.IfFinal.lean ====
/-
  The gated short convolution's first projection kernel, entry by entry: a point's 512 normalised and modulated rows, and
  their product with the weights in three blocks of columns.
-/
module

public import proofs.«01_k».proof.Proof.Gen.IfKernelIdeal.Value
public import proofs.«01_k».proof.Proof.FwdSpec
public import proofs.«01_k».proof.Proof.Rows
public import Idealize.ShloMosaic.Lib.Pipeline.ValueKit
public import Idealize.ShloMosaic.Lib.Pipeline.ReadBack
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Sc Cert.Fwd Cert.Rows
namespace Cert.IfKernelIdeal.Hand
open Cert.IfKernelIdeal Cert.IfKernelIdeal.Gen
variable (m : (ℓ : Loc nD τ sig) → Buf (Elt Ideal) ℓ) (c : Dev nD)

/-- The arguments as matrices. -/
def mX : Mat 16384 1024 := fun t d => (m ((c : Thread nD τ).loc main_arg0) : Vec Ideal S16384x1024 .f32) (ix2 t d)
@[inherit_doc mX] def mG : Fin 1024 → EReal := fun d => (m ((c : Thread nD τ).loc main_arg1) : Vec Ideal S1x1024 .f32) (ix2 0 d)
@[inherit_doc mX] def mSc : Fin 1024 → EReal := fun d => (m ((c : Thread nD τ).loc main_arg2) : Vec Ideal S1x1024 .f32) (ix2 0 d)
@[inherit_doc mX] def mSh : Fin 1024 → EReal := fun d => (m ((c : Thread nD τ).loc main_arg3) : Vec Ideal S1x1024 .f32) (ix2 0 d)
@[inherit_doc mX] def mW : Mat 1024 3072 := fun t d => (m ((c : Thread nD τ).loc main_arg4) : Vec Ideal S1024x3072 .f32) (ix2 t d)

/-- The normalised and modulated rows of this launch, and their product. -/
abbrev mH : Mat 16384 1024 := aff (mX m c) (mG m c) (mSc m c) (mSh m c)
@[inherit_doc mH] abbrev mP : Mat 16384 3072 := prod (mH m c) (mW m c)

theorem idx : ∀ t : Fin cfg0.N, win0_0.index t = ![t.val, 0] ∧ win0_1.index t = ![0, 0]
    ∧ win0_2.index t = ![0, 0] ∧ win0_3.index t = ![0, 0] ∧ win0_4.index t = ![0, 0, 0] ∧ win0_5.index t = ![t.val, 0]
    ∧ win0_6.index t = ![t.val, 0] :=
  (by decide +kernel : ∀ t : Fin grid0.N, _)

theorem lt32 (t : Fin cfg0.N) : t.val < 32 := lt_of_lt_of_eq t.isLt N_0

/-- The array's row that is row `r` of the block at `t`. -/
abbrev row (t : Fin cfg0.N) (r : Fin 512) : Fin 16384 := ⟨512 * t.val + r.val, by have := lt32 t; omega⟩

theorem ib0 (t : Fin cfg0.N) (r : Fin 512) (d : Fin 1024) : iblk m c 0 t (ix2 r d) = mX m c (row t r) d := by
  blk_point [iblk, V, idx t]
theorem ib1 (t : Fin cfg0.N) (d : Fin 1024) : iblk m c 1 t (ix2 0 d) = mG m c d := by
  blk_point [iblk, V, idx t]
theorem ib2 (t : Fin cfg0.N) (d : Fin 1024) : iblk m c 2 t (ix2 0 d) = mSc m c d := by
  blk_point [iblk, V, idx t]
theorem ib3 (t : Fin cfg0.N) (d : Fin 1024) : iblk m c 3 t (ix2 0 d) = mSh m c d := by
  blk_point [iblk, V, idx t]

/-- The blocks as the kernel reads them. -/
abbrev bX (t : Fin cfg0.N) := View.ld (iblk m c 0 t) r0_0
@[inherit_doc bX] abbrev bG (t : Fin cfg0.N) := View.ld (iblk m c 1 t) r0_1
@[inherit_doc bX] abbrev bSc (t : Fin cfg0.N) := View.ld (iblk m c 2 t) r0_1
@[inherit_doc bX] abbrev bSh (t : Fin cfg0.N) := View.ld (iblk m c 3 t) r0_1
theorem bX_at (t : Fin cfg0.N) (r : Fin 512) (d : Fin 1024) : bX m c t (ix2 r d) = mX m c (row t r) d := by
  refine (ld2 (iblk m c 0 t) _ r d (by omega) (by omega)).trans ((ib0 m c t _ _).trans ?_)
  congr 1 <;> exact Fin.ext (by simp)
theorem bG_at (t : Fin cfg0.N) (d : Fin 1024) : bG m c t (ix2 0 d) = mG m c d :=
  (ldRow (iblk m c 1 t) _ d (by decide)).trans (ib1 m c t d)
theorem bSc_at (t : Fin cfg0.N) (d : Fin 1024) : bSc m c t (ix2 0 d) = mSc m c d :=
  (ldRow (iblk m c 2 t) _ d (by decide)).trans (ib2 m c t d)
theorem bSh_at (t : Fin cfg0.N) (d : Fin 1024) : bSh m c t (ix2 0 d) = mSh m c d :=
  (ldRow (iblk m c 3 t) _ d (by decide)).trans (ib3 m c t d)

/-- The point's normalised and modulated rows. -/
abbrev vH (t : Fin cfg0.N) := k0_pay2 (F := Ideal) (bX m c t) (bG m c t) (bSc m c t) (bSh m c t)
theorem vH_at (t : Fin cfg0.N) (r : Fin 512) (d : Fin 1024) : vH m c t (ix2 r d) = mH m c (row t r) d := by
  pointwise [k0_pay2]
  simp only [bX_at, bG_at, bSc_at, bSh_at]
  rfl

theorem emb5 (t : Fin cfg0.N) (y : S512x1024.Idx) : (((View.whole main_v3_0).slice (win0_5.rect t)).emb y) = ix2 (row t (y 0)) (y 1) := by
  have h5 : win0_5.index t = ![t.val, 0] := by simp only [idx t]
  funext a; refine Fin.ext ?_
  match a with
  | 0 =>
    show win0_5.index t 0 * 512 + 1 * (y 0).val = _
    rw [h5]; show t.val * 512 + 1 * (y 0).val = 512 * t.val + (y 0).val; omega
  | 1 =>
    show win0_5.index t 1 * 1024 + 1 * (y 1).val = _
    rw [h5]; show 0 * 1024 + 1 * (y 1).val = (y 1).val; omega

theorem out5 : (dats m 0 c).arrAt 5 cfg0.N = fun j : S16384x1024.Idx => mH m c (j 0) (j 1) := by
  refine (dats m 0 c).arrAt_eq_of_covers 5 _ (by decide +kernel) fun t hf y => ?_
  blk_simp
  rw [after0_5]
  have hy : ∀ z : S512x1024.Idx, out0_5 (iblk m c 0 t) (iblk m c 1 t) (iblk m c 2 t) (iblk m c 3 t) (iblk m c 4 t) z
      = mH m c (((View.whole main_v3_0).slice (win0_5.rect t)).emb z 0) (((View.whole main_v3_0).slice (win0_5.rect t)).emb z 1) := by
    intro z
    rw [emb5]
    unfold out0_5
    refine (congrFun (View.canon_unit_zero (by funext a; match a with | 0 => rfl | 1 => rfl) _ _) z).trans ?_
    idx_vars z
    exact vH_at m c t _ _
  exact hy y

theorem V2 (j : Fin 3) (k d : Fin 1024) :
    (V m c main_v2 : Vec Ideal S3x1024x1024 .bf16) (ix3 j k d) = mW m c k ⟨1024 * j.val + d.val, by omega⟩ := by
  simp only [V]
  entry_read
  pointwise
  unfold mW
  congr 2
  exact Fin.ext (by dsimp only; omega)
theorem ib4 (t : Fin cfg0.N) (j : Fin 3) (k d : Fin 1024) : iblk m c 4 t (ix3 j k d) = mW m c k ⟨1024 * j.val + d.val, by omega⟩ := by
  rw [← V2]; blk_point [iblk, V, idx t]

/-- One block of the weights, as the kernel reads it. -/
theorem ldW (t : Fin cfg0.N) {o : ℕ} (h) (ho : o < 3) (k d : Fin 1024) :
    View.ld (iblk m c 4 t) (Rect.unit (s := S3x1024x1024) ![o, 0, 0] ![1, 1024, 1024] h) (ix3 0 k d) = mW m c k ⟨1024 * o + d.val, by omega⟩ := by
  refine (ld3 (iblk m c 4 t) _ (0 : Fin 1) k d (by simpa using ho) (by omega) (by omega)).trans ((ib4 m c t _ _ _).trans ?_)
  congr 1 <;> exact Fin.ext (by simp)

/-- One block of the product's columns. -/
theorem y_at (H : FVec Ideal S512x1024 .bf16) (w : Vec Ideal S1x1024x1024 .bf16) (r : Fin 512) (k : Fin 1024) :
    k0_pay1 (F := Ideal) H w (ix2 r k) = ∑ j : Fin 1024, H (ix2 r j) * w (ix3 0 j k) := by
  pointwise [k0_pay1]

/-- One block of the product's columns at a point. -/
theorem p_at (t : Fin cfg0.N) {o : ℕ} (h) (ho : o < 3) (r : Fin 512) (k : Fin 1024) :
    k0_pay1 (F := Ideal) (vH m c t) (View.ld (iblk m c 4 t) (Rect.unit (s := S3x1024x1024) ![o, 0, 0] ![1, 1024, 1024] h)) (ix2 r k)
      = mP m c (row t r) ⟨1024 * o + k.val, by omega⟩ := by
  refine (y_at _ _ r k).trans ?_
  exact Finset.sum_congr rfl fun j _ => by rw [vH_at, ldW m c t h ho]

@[inherit_doc p_at]
theorem st0_at (t : Fin cfg0.N) (r : Fin 512) (k : Fin 1024) :
    (k0_pay3 (bX m c t) (bG m c t) (bSc m c t) (bSh m c t) (View.ld (iblk m c 4 t) r0_2) : FVec Ideal S512x1024 .bf16) (ix2 r k) = mP m c (row t r) ⟨1024 * 0 + k.val, by omega⟩ :=
  p_at m c t (o := 0) (by decide) (by decide) r k
@[inherit_doc p_at]
theorem st1_at (t : Fin cfg0.N) (r : Fin 512) (k : Fin 1024) :
    (k0_pay4 (bX m c t) (bG m c t) (bSc m c t) (bSh m c t) (View.ld (iblk m c 4 t) r0_4) : FVec Ideal S512x1024 .bf16) (ix2 r k) = mP m c (row t r) ⟨1024 * 1 + k.val, by omega⟩ :=
  p_at m c t (o := 1) (by decide) (by decide) r k
@[inherit_doc p_at]
theorem st2_at (t : Fin cfg0.N) (r : Fin 512) (k : Fin 1024) :
    (k0_pay1 (k0_pay2 (bX m c t) (bG m c t) (bSc m c t) (bSh m c t)) (View.ld (iblk m c 4 t) r0_6) : FVec Ideal S512x1024 .bf16) (ix2 r k) = mP m c (row t r) ⟨1024 * 2 + k.val, by omega⟩ :=
  p_at m c t (o := 2) (by decide) (by decide) r k

theorem emb6 (t : Fin cfg0.N) (y : S512x3072.Idx) : (((View.whole main_v3_1).slice (win0_6.rect t)).emb y) = ix2 (row t (y 0)) (y 1) := by
  have h6 : win0_6.index t = ![t.val, 0] := by simp only [idx t]
  funext a; refine Fin.ext ?_
  match a with
  | 0 =>
    show win0_6.index t 0 * 512 + 1 * (y 0).val = _
    rw [h6]; show t.val * 512 + 1 * (y 0).val = 512 * t.val + (y 0).val; omega
  | 1 =>
    show win0_6.index t 1 * 3072 + 1 * (y 1).val = _
    rw [h6]; show 0 * 3072 + 1 * (y 1).val = (y 1).val; omega

/-- The product's block at a point, from the three stores. -/
theorem pAll (t : Fin cfg0.N) (z : S512x3072.Idx) :
    out0_6 (iblk m c 0 t) (iblk m c 1 t) (iblk m c 2 t) (iblk m c 3 t) (iblk m c 4 t) z = mP m c (row t (z 0)) (z 1) := by
  unfold out0_6
  canon_tiles z h
  · idx_vars z
    refine (st2_at m c t _ _).trans ?_
    exact congrArg₂ (mP m c) (Fin.ext (by simp at h0 h1 ⊢; try omega)) (Fin.ext (by simp at h0 h1 ⊢; try omega))
  · idx_vars z
    refine (st1_at m c t _ _).trans ?_
    exact congrArg₂ (mP m c) (Fin.ext (by simp at h0 h1 ⊢; try omega)) (Fin.ext (by simp at h0 h1 ⊢; try omega))
  · idx_vars z
    refine (st0_at m c t _ _).trans ?_
    exact congrArg₂ (mP m c) (Fin.ext (by simp at h0 h1 ⊢; try omega)) (Fin.ext (by simp at h0 h1 ⊢; try omega))

theorem out6 : (dats m 0 c).arrAt 6 cfg0.N = fun j : S16384x3072.Idx => mP m c (j 0) (j 1) := by
  refine (dats m 0 c).arrAt_eq_of_covers 6 _ (by decide +kernel) fun t hf y => ?_
  blk_simp
  rw [after0_6]
  have he : ∀ z : S512x3072.Idx, mP m c (row t (z 0)) (z 1)
      = mP m c (((View.whole main_v3_1).slice (win0_6.rect t)).emb z 0) (((View.whole main_v3_1).slice (win0_6.rect t)).emb z 1) := fun z => by rw [emb6]; rfl
  exact (pAll m c t y).trans (he y)

end Cert.IfKernelIdeal.Hand
end
-- ==== Proof.IfRef.lean ====
/-
  The reference's first projection of the gated short convolution, entry by entry.
-/
module

public import proofs.«01_k».proof.Proof.Gen.IfReferenceIdeal.Run
public import proofs.«01_k».proof.Proof.FwdSpec
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.Sc Cert.Fwd
namespace Cert.IfReferenceIdeal.Hand
open Cert.IfReferenceIdeal Cert.IfReferenceIdeal.Gen Cert.IfReferenceIdeal.Value
variable (m : (ℓ : Loc nD τ sig) → Buf (Elt Ideal) ℓ) (c : Dev nD)

/-- The arguments as matrices. -/
def mX : Mat 16384 1024 := fun t d => (m ((c.tc : Thread nD τ).loc main_arg0) : Vec Ideal S16384x1024 .f32) (ix2 t d)
@[inherit_doc mX] def mG : Fin 1024 → EReal := fun d => (m ((c.tc : Thread nD τ).loc main_arg1) : Vec Ideal S1x1024 .f32) (ix2 0 d)
@[inherit_doc mX] def mSc : Fin 1024 → EReal := fun d => (m ((c.tc : Thread nD τ).loc main_arg2) : Vec Ideal S1x1024 .f32) (ix2 0 d)
@[inherit_doc mX] def mSh : Fin 1024 → EReal := fun d => (m ((c.tc : Thread nD τ).loc main_arg3) : Vec Ideal S1x1024 .f32) (ix2 0 d)
@[inherit_doc mX] def mW : Mat 1024 3072 := fun t d => (m ((c.tc : Thread nD τ).loc main_arg4) : Vec Ideal S1024x3072 .f32) (ix2 t d)
/-- The normalised and modulated rows, and their product. -/
abbrev mH : Mat 16384 1024 := aff (mX m c) (mG m c) (mSc m c) (mSh m c)
@[inherit_doc mH] abbrev mP : Mat 16384 3072 := prod (mH m c) (mW m c)

/-- The normalised and modulated rows. -/
def tH (a0 : FVec Ideal S16384x1024 .f32) (a1 : FVec Ideal S1x1024 .f32) (a2 : FVec Ideal S1x1024 .f32) (a3 : FVec Ideal S1x1024 .f32) : FVec Ideal S16384x1024 .f32 :=
  (addf (mulf (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 a1)) (broadcastInDim S16384x1024 ![0, 1] bcast_S1x1024_S16384x1024_0_1 (addf (broadcastInDim S1x1024 ![] bcast_S_S1x1024 (constant (F := Ideal) S_ .f32 0x3F800000#32)) a2))) (broadcastInDim S16384x1024 ![0, 1] bcast_S1x1024_S16384x1024_0_1 a3))

/-- The first result, stored. -/
def tO0 (h : FVec Ideal S16384x1024 .f32) : FVec Ideal S16384x1024 .bf16 :=
  (truncf (F := Ideal) .bf16 h bitsLt_bf16_f32)

/-- The second result, stored. -/
def tO1 (h : FVec Ideal S16384x1024 .f32) (a4 : FVec Ideal S1024x3072 .f32) : FVec Ideal S16384x3072 .bf16 :=
  (truncf (F := Ideal) .bf16 (Host.dotGeneral (φ₁ := .f32) (φ₂ := .f32) dot_S16384x1024_S1024x3072_S16384x3072_1_0_0_1_n_n none h a4) bitsLt_bf16_f32)

variable (a0 : FVec Ideal S16384x1024 .f32) (a1 a2 a3 : FVec Ideal S1x1024 .f32) (a4 : FVec Ideal S1024x3072 .f32)

theorem tH_at (t : Fin 16384) (d : Fin 1024) :
    tH a0 a1 a2 a3 (ix2 t d) = aff (fun t d => a0 (ix2 t d)) (fun d => a1 (ix2 0 d)) (fun d => a2 (ix2 0 d)) (fun d => a3 (ix2 0 d)) t d := by
  unfold tH
  pointwise
  rfl

theorem res0 : tO0 (tH (m ((c.tc : Thread nD τ).loc main_arg0)) (m ((c.tc : Thread nD τ).loc main_arg1)) (m ((c.tc : Thread nD τ).loc main_arg2)) (m ((c.tc : Thread nD τ).loc main_arg3)))
    = fun j : S16384x1024.Idx => mH m c (j 0) (j 1) := by
  funext j
  idx_vars j
  unfold tO0
  exact tH_at _ _ _ _ _ _

theorem tO1_at (h : FVec Ideal S16384x1024 .f32) (t : Fin 16384) (k : Fin 3072) :
    tO1 h a4 (ix2 t k) = prod (fun t d => h (ix2 t d)) (fun t d => a4 (ix2 t d)) t k := by
  unfold tO1
  pointwise
  rfl

theorem res1 : tO1 (tH (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
    = fun j : S16384x3072.Idx => mP m c (j 0) (j 1) := by
  funext j
  idx_vars j
  refine (tO1_at _ _ _ _).trans ?_
  simp only [tH_at]
  rfl

end Cert.IfReferenceIdeal.Hand
end
-- ==== Proof.IfClaim.lean ====
/-
  The five claims about the gated short convolution's first projection.
-/
module

public import proofs.«01_k».proof.Defs
public import proofs.«01_k».proof.Proof.Gen.IfKernel
public import proofs.«01_k».proof.Proof.Gen.IfKernel.Frame
public import proofs.«01_k».proof.Proof.IfFinal
public import proofs.«01_k».proof.Proof.IfRef
public import Idealize.ShloMosaic.Lib.Quiescent

@[expose] public section
noncomputable section
namespace Cert.IfClaim
open Idealize.ShloMosaic Idealize.ShloMosaic.TcCoe Idealize.SL.Sem

/-- The kernel's frame. -/
theorem frame_kernel : Cert.quiescent_IfKernel (hIfKernel := Cert.IfKernel.Gen.facts) :=
  fun m ρ _ => Cert.IfKernel.Gen.frame m ρ

/-- The ideal kernel's frame. -/
theorem frame_ideal : Cert.quiescent_IfKernelIdeal (hIfKernelIdeal := Cert.IfKernelIdeal.Gen.facts) :=
  fun m ρ _ => Cert.IfKernelIdeal.Gen.frame m ρ

/-- The reference's frame: its run keeps the arguments, and it has no semaphore. -/
theorem frame_reference : Cert.quiescent_IfReferenceIdeal (hIfReferenceIdeal := Cert.IfReferenceIdeal.Gen.facts) :=
  fun m ρ _ => (θ_run Cert.IfReferenceIdeal.defs _ _).mono
    (fun _ h => ⟨fun c => (h c).2.2, sem_eq_zero_of_no_sems (by decide) _⟩)
    (Cert.IfReferenceIdeal.Value.run (F := Ideal) m ρ)

/-- Kernel and reference compute the same two arrays. -/
theorem algebraic : Cert.algebraic_IfKernelIdeal_IfReferenceIdeal (hIfKernelIdeal := Cert.IfKernelIdeal.Gen.facts)
    (hIfReferenceIdeal := Cert.IfReferenceIdeal.Gen.facts) := by
  intro m ρ m' ρ' _ hargs
  refine ⟨fun c => (IfKernelIdeal.Gen.dats m 0 c).arrAt 5 IfKernelIdeal.cfg0.N,
    fun c => (IfKernelIdeal.Gen.dats m 0 c).arrAt 6 IfKernelIdeal.cfg0.N, IfKernelIdeal.Value.run_blocks m ρ, ?_⟩
  refine (θ_run IfReferenceIdeal.defs _ _).mono (fun _ h c => ?_) (IfReferenceIdeal.Value.run (F := Ideal) m' ρ')
  obtain ⟨r0, r1, rest⟩ := h c
  obtain ⟨h0, h1, h2, h3, h4⟩ := hargs c
  have e0 : IfReferenceIdeal.Hand.mX m' c = IfKernelIdeal.Hand.mX m c := funext fun _ => funext fun _ => congrFun h0 _
  have e1 : IfReferenceIdeal.Hand.mG m' c = IfKernelIdeal.Hand.mG m c := funext fun _ => congrFun h1 _
  have e2 : IfReferenceIdeal.Hand.mSc m' c = IfKernelIdeal.Hand.mSc m c := funext fun _ => congrFun h2 _
  have e3 : IfReferenceIdeal.Hand.mSh m' c = IfKernelIdeal.Hand.mSh m c := funext fun _ => congrFun h3 _
  have e4 : IfReferenceIdeal.Hand.mW m' c = IfKernelIdeal.Hand.mW m c := funext fun _ => funext fun _ => congrFun h4 _
  refine ⟨(r0.trans (IfReferenceIdeal.Hand.res0 m' c)).trans (Eq.trans ?_ (IfKernelIdeal.Hand.out5 m c).symm),
    (r1.trans (IfReferenceIdeal.Hand.res1 m' c)).trans (Eq.trans ?_ (IfKernelIdeal.Hand.out6 m c).symm), rest⟩
  · simp only [IfReferenceIdeal.Hand.mH, IfKernelIdeal.Hand.mH]
    rw [e0, e1, e2, e3]
  · simp only [IfReferenceIdeal.Hand.mP, IfKernelIdeal.Hand.mP, IfReferenceIdeal.Hand.mH, IfKernelIdeal.Hand.mH]
    rw [e0, e1, e2, e3, e4]

end Cert.IfClaim
end
-- ==== Proof.FfSpec.lean ====
/-
  The channel mixer's forward half, entry by entry over the extended reals: the causal convolution of the gate over three
  tokens, the gate's activation times the value, its down-projection, and the normalised output added to the layer's input.
-/
module

public import proofs.«01_k».proof.Proof.FoSpec

@[expose] public section
noncomputable section
namespace Cert.Ff
open Idealize.ShloMosaic
open Cert.Sc (Mat rs)
open Cert.Fi (col)
open Cert.Fo (sg fm)

/-- The rows `k` above, zero before the first. -/
def dn (g : Mat 16384 2816) (k : ℕ) : Mat 16384 2816 := fun t q =>
  if h : k ≤ t.val then g ⟨t.val - k, by omega⟩ q else 0

/-- The convolution of the gate over three tokens. -/
def conv (cw : Mat 3 2816) (cb : Fin 2816 → EReal) (g : Mat 16384 2816) : Mat 16384 2816 := fun t q =>
  cb q + cw 0 q * dn g 2 t q + cw 1 q * dn g 1 t q + cw 2 q * g t q

/-- The activated gate times the value. -/
def act (gc val : Mat 16384 2816) : Mat 16384 2816 := fun t q => gc t q * sg (gc t q) * val t q

/-- The layer's output. -/
def out (x f : Mat 16384 1024) (gn gt : Fin 1024 → EReal) : Mat 16384 1024 := fun t d =>
  x t d + gt d * (f t d * rs f t * gn d)

/-- One block's part of the down-projection. -/
def part (gc val : Mat 16384 2816) (w : Mat 2816 1024) (t : Fin 16384) (d : Fin 1024) (j : Fin 4) : EReal :=
  ∑ k : Fin 704, act gc val t (col j k) * w (col j k) d

/-- The down-projection, gathered block by block. -/
theorem f_blocks (gc val : Mat 16384 2816) (w : Mat 2816 1024) (t : Fin 16384) (d : Fin 1024) :
    fm gc val w t d = part gc val w t d 0 + part gc val w t d 1 + part gc val w t d 2 + part gc val w t d 3 := by
  have e : ∀ (j : Fin 4), (∑ k : Fin 704, act gc val t ⟨j.val * 704 + k.val, by omega⟩ * w ⟨j.val * 704 + k.val, by omega⟩ d)
      = part gc val w t d j := fun j => Finset.sum_congr rfl fun k _ => by
    have e : (⟨j.val * 704 + k.val, by omega⟩ : Fin 2816) = col j k := Fin.ext (by dsimp only; omega)
    simp only [e]
  rw [← e 0, ← e 1, ← e 2, ← e 3]
  exact (Fin.sum_mul_add_fin 4 704 (fun q => act gc val t q * w q d)).symm.trans (Fin.sum_univ_four _)

end Cert.Ff
end
-- ==== Proof.FfFinal.lean ====
/-
  The channel mixer's forward kernel, entry by entry: a point's 512 tokens, whose convolution reads the two tokens above the
  block from the previous sixteen rows. The four blocks of hidden units are one computation at four offsets.
-/
module

public import proofs.«01_k».proof.Proof.Gen.FfKernelIdeal.Value
public import proofs.«01_k».proof.Proof.FfSpec
public import proofs.«01_k».proof.Proof.Rows
public import Idealize.ShloMosaic.Lib.Pipeline.ValueKit
public import Idealize.ShloMosaic.Lib.Pipeline.ReadBack
public import Idealize.ShloMosaic.Lib.Claim
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Sc (Mat rs)
open Cert.Fi (col)
open Cert.Fo (sg sg_tanh fm)
open Cert.Ff Cert.Rows
namespace Cert.FfKernelIdeal.Hand
open Cert.FfKernelIdeal Cert.FfKernelIdeal.Gen
variable (m : (ℓ : Loc nD τ sig) → Buf (Elt Ideal) ℓ) (c : Dev nD)

/-- The arguments as matrices. -/
def mGate : Mat 16384 2816 := fun t q => (m ((c : Thread nD τ).loc main_arg0) : Vec Ideal S16384x5632 .f32) (ix2 t (Fi.gat q))
@[inherit_doc mGate] def mVal : Mat 16384 2816 := fun t q => (m ((c : Thread nD τ).loc main_arg0) : Vec Ideal S16384x5632 .f32) (ix2 t (Fi.val q))
@[inherit_doc mGate] def mCw : Mat 3 2816 := fun t d => (m ((c : Thread nD τ).loc main_arg1) : Vec Ideal S3x2816 .f32) (ix2 t d)
@[inherit_doc mGate] def mCb : Fin 2816 → EReal := fun d => (m ((c : Thread nD τ).loc main_arg2) : Vec Ideal S1x2816 .f32) (ix2 0 d)
@[inherit_doc mGate] def mW : Mat 2816 1024 := fun t d => (m ((c : Thread nD τ).loc main_arg3) : Vec Ideal S2816x1024 .f32) (ix2 t d)
@[inherit_doc mGate] def mX : Mat 16384 1024 := fun t d => (m ((c : Thread nD τ).loc main_arg4) : Vec Ideal S16384x1024 .f32) (ix2 t d)
@[inherit_doc mGate] def mGn : Fin 1024 → EReal := fun d => (m ((c : Thread nD τ).loc main_arg5) : Vec Ideal S1x1024 .f32) (ix2 0 d)
@[inherit_doc mGate] def mGt : Fin 1024 → EReal := fun d => (m ((c : Thread nD τ).loc main_arg6) : Vec Ideal S1x1024 .f32) (ix2 0 d)

/-- The convolution, the activation, the down-projection and the output of this launch. -/
def mGc : Mat 16384 2816 := conv (mCw m c) (mCb m c) (mGate m c)
@[inherit_doc mGc] def mA : Mat 16384 2816 := act (mGc m c) (mVal m c)
@[inherit_doc mGc] def mF : Mat 16384 1024 := fm (mGc m c) (mVal m c) (mW m c)
@[inherit_doc mGc] def mO : Mat 16384 1024 := out (mX m c) (mF m c) (mGn m c) (mGt m c)

theorem idx : ∀ t : Fin cfg0.N, win0_0.index t = ![0, t.val, 0] ∧ win0_1.index t = ![0, 32 * t.val - 1, 0]
    ∧ win0_2.index t = ![1, t.val, 0] ∧ win0_3.index t = ![0, 0, 0] ∧ win0_4.index t = ![0, 0, 0] ∧ win0_5.index t = ![0, 0]
    ∧ win0_6.index t = ![t.val, 0] ∧ win0_7.index t = ![0, 0] ∧ win0_8.index t = ![0, 0] ∧ win0_9.index t = ![t.val, 0]
    ∧ win0_10.index t = ![t.val, 0] ∧ win0_11.index t = ![0, t.val, 0] ∧ win0_12.index t = ![0, t.val, 0] :=
  (by decide +kernel : ∀ t : Fin grid0.N, _)

theorem lt32 (t : Fin cfg0.N) : t.val < 32 := lt_of_lt_of_eq t.isLt N_0

/-- The array's row that is row `r` of the block at `t`. -/
abbrev row (t : Fin cfg0.N) (r : Fin 512) : Fin 16384 := ⟨512 * t.val + r.val, by have := lt32 t; omega⟩

/-- The array's row that is row `r` of the sixteen above the block at `t`. -/
abbrev prv (t : Fin cfg0.N) (r : Fin 16) : Fin 16384 := ⟨16 * (32 * t.val - 1) + r.val, by have := lt32 t; omega⟩

theorem V2g (j : Fin 4) (t : Fin 16384) (k : Fin 704) :
    (V m c main_v2 : Vec Ideal S8x16384x704 .bf16) (ix3 (⟨j.val, by omega⟩ : Fin 8) t k) = mGate m c t (col j k) := by
  simp only [V]
  entry_read
  pointwise
  unfold mGate
  congr 2
  exact Fin.ext (by dsimp only; omega)
theorem V2v (j : Fin 4) (t : Fin 16384) (k : Fin 704) :
    (V m c main_v2 : Vec Ideal S8x16384x704 .bf16) (ix3 (⟨4 + j.val, by omega⟩ : Fin 8) t k) = mVal m c t (col j k) := by
  simp only [V]
  entry_read
  pointwise
  unfold mVal
  congr 2
  exact Fin.ext (by dsimp only; omega)
theorem V4 (j : Fin 4) (a : Fin 3) (k : Fin 704) : (V m c main_v4 : Vec Ideal S4x3x704 .f32) (ix3 j a k) = mCw m c a (col j k) := by
  simp only [V]
  entry_read
  pointwise
  unfold mCw
  congr 2
  exact Fin.ext (by dsimp only; omega)
theorem V6 (j : Fin 4) (k : Fin 704) : (V m c main_v6 : Vec Ideal S4x1x704 .f32) (ix3 j 0 k) = mCb m c (col j k) := by
  simp only [V]
  entry_read
  pointwise
  unfold mCb
  congr 2
  exact Fin.ext (by dsimp only; omega)
theorem V7 (q : Fin 2816) (d : Fin 1024) : (V m c main_v7 : Vec Ideal S2816x1024 .bf16) (ix2 q d) = mW m c q d := by
  simp only [V]
  entry_read
  pointwise
  rfl

theorem ib0 (t : Fin cfg0.N) (j : Fin 4) (r : Fin 512) (k : Fin 704) : iblk m c 0 t (ix3 j r k) = mGate m c (row t r) (col j k) := by
  rw [← V2g]; blk_point [iblk, V, idx t]
theorem ib1 (t : Fin cfg0.N) (j : Fin 4) (r : Fin 16) (k : Fin 704) : iblk m c 1 t (ix3 j r k) = mGate m c (prv t r) (col j k) := by
  rw [← V2g]; blk_point [iblk, V, idx t]
theorem ib2 (t : Fin cfg0.N) (j : Fin 4) (r : Fin 512) (k : Fin 704) : iblk m c 2 t (ix3 j r k) = mVal m c (row t r) (col j k) := by
  rw [← V2v]; blk_point [iblk, V, idx t]
theorem ib3 (t : Fin cfg0.N) (j : Fin 4) (a : Fin 3) (k : Fin 704) : iblk m c 3 t (ix3 j a k) = mCw m c a (col j k) := by
  rw [← V4]; blk_point [iblk, V, idx t]
theorem ib4 (t : Fin cfg0.N) (j : Fin 4) (k : Fin 704) : iblk m c 4 t (ix3 j 0 k) = mCb m c (col j k) := by
  rw [← V6]; blk_point [iblk, V, idx t]
theorem ib5 (t : Fin cfg0.N) (q : Fin 2816) (d : Fin 1024) : iblk m c 5 t (ix2 q d) = mW m c q d := by
  rw [← V7]; blk_point [iblk, V, idx t]
theorem ib6 (t : Fin cfg0.N) (r : Fin 512) (d : Fin 1024) : iblk m c 6 t (ix2 r d) = mX m c (row t r) d := by
  blk_point [iblk, V, idx t]
theorem ib7 (t : Fin cfg0.N) (d : Fin 1024) : iblk m c 7 t (ix2 0 d) = mGn m c d := by
  blk_point [iblk, V, idx t]
theorem ib8 (t : Fin cfg0.N) (d : Fin 1024) : iblk m c 8 t (ix2 0 d) = mGt m c d := by
  blk_point [iblk, V, idx t]

/-- Loads of one block of hidden units, by its number. -/
theorem ldG (t : Fin cfg0.N) {o : ℕ} (h) (ho : o < 4) (r : Fin 512) (k : Fin 704) :
    View.ld (iblk m c 0 t) (Rect.unit (s := S4x512x704) ![o, 0, 0] ![1, 512, 704] h) (ix3 0 r k) = mGate m c (row t r) (col ⟨o, ho⟩ k) := by
  refine (ld3 (iblk m c 0 t) _ (0 : Fin 1) r k (by simpa using ho) (by omega) (by omega)).trans ((ib0 m c t _ _ _).trans ?_)
  congr 1 <;> exact Fin.ext (by simp)
@[inherit_doc ldG]
theorem ldH (t : Fin cfg0.N) {o : ℕ} (h) (ho : o < 4) (r : Fin 8) (k : Fin 704) :
    View.ld (iblk m c 1 t) (Rect.unit (s := S4x16x704) ![o, 8, 0] ![1, 8, 704] h) (ix3 0 r k)
      = mGate m c (prv t ⟨8 + r.val, by omega⟩) (col ⟨o, ho⟩ k) := by
  refine (ld3 (iblk m c 1 t) _ (0 : Fin 1) r k (by simpa using ho) (by omega) (by omega)).trans ((ib1 m c t _ _ _).trans ?_)
  congr 1 <;> exact Fin.ext (by simp)
@[inherit_doc ldG]
theorem ldU (t : Fin cfg0.N) {o : ℕ} (h) (ho : o < 4) (r : Fin 512) (k : Fin 704) :
    View.ld (iblk m c 2 t) (Rect.unit (s := S4x512x704) ![o, 0, 0] ![1, 512, 704] h) (ix3 0 r k) = mVal m c (row t r) (col ⟨o, ho⟩ k) := by
  refine (ld3 (iblk m c 2 t) _ (0 : Fin 1) r k (by simpa using ho) (by omega) (by omega)).trans ((ib2 m c t _ _ _).trans ?_)
  congr 1 <;> exact Fin.ext (by simp)
@[inherit_doc ldG]
theorem ldC (t : Fin cfg0.N) {o a : ℕ} (h) (ho : o < 4) (ha : a < 3) (k : Fin 704) :
    View.ld (iblk m c 3 t) (Rect.unit (s := S4x3x704) ![o, a, 0] ![1, 1, 704] h) (ix3 0 0 k) = mCw m c ⟨a, ha⟩ (col ⟨o, ho⟩ k) := by
  refine (ld3 (iblk m c 3 t) _ (0 : Fin 1) (0 : Fin 1) k (by simpa using ho) (by simpa using ha) (by omega)).trans ((ib3 m c t _ _ _).trans ?_)
  congr 1 <;> exact Fin.ext (by simp)
@[inherit_doc ldG]
theorem ldB (t : Fin cfg0.N) {o : ℕ} (h) (ho : o < 4) (k : Fin 704) :
    View.ld (iblk m c 4 t) (Rect.unit (s := S4x1x704) ![o, 0, 0] ![1, 1, 704] h) (ix3 0 0 k) = mCb m c (col ⟨o, ho⟩ k) := by
  refine (ld3 (iblk m c 4 t) _ (0 : Fin 1) (0 : Fin 1) k (by simpa using ho) (by decide) (by omega)).trans ((ib4 m c t _ _).trans ?_)
  congr 1; exact Fin.ext (by simp)
@[inherit_doc ldG]
theorem ldW (t : Fin cfg0.N) {o : ℕ} (h) (j : Fin 4) (ho : o = 704 * j.val) (k : Fin 704) (d : Fin 1024) :
    View.ld (iblk m c 5 t) (Rect.unit (s := S2816x1024) ![o, 0] ![704, 1024] h) (ix2 k d) = mW m c (col j k) d := by
  refine (ld2 (iblk m c 5 t) _ k d (by omega) (by omega)).trans ((ib5 m c t _ _).trans ?_)
  congr 1 <;> exact Fin.ext (by simp [ho])
theorem ldX (t : Fin cfg0.N) (r : Fin 512) (d : Fin 1024) : View.ld (iblk m c 6 t) r0_28 (ix2 r d) = mX m c (row t r) d := by
  refine (ld2 (iblk m c 6 t) _ r d (by omega) (by omega)).trans ((ib6 m c t _ _).trans ?_)
  congr 1 <;> exact Fin.ext (by simp)
theorem ldN (t : Fin cfg0.N) (d : Fin 1024) : View.ld (iblk m c 7 t) r0_29 (ix2 0 d) = mGn m c d :=
  (ldRow (iblk m c 7 t) _ d (by decide)).trans (ib7 m c t d)
theorem ldT (t : Fin cfg0.N) (d : Fin 1024) : View.ld (iblk m c 8 t) r0_29 (ix2 0 d) = mGt m c d :=
  (ldRow (iblk m c 8 t) _ d (by decide)).trans (ib8 m c t d)

/-- The grid's coordinate at a point, and the first block's test. -/
abbrev g0 (t : Fin cfg0.N) : BitVec 32 := BitVec.ofNat 32 (grid0.coords t 0).val
theorem first_at : ∀ t : Fin cfg0.N, Scalar.cmpi .eq (BitVec.ofNat 32 (grid0.coords t 0).val) 0#32 = if t.val = 0 then 1#1 else 0#1 :=
  (by decide +kernel : ∀ t : Fin grid0.N, _)

section blocks
variable (t : Fin cfg0.N) (j : Fin 4) (G : Vec Ideal S1x512x704 .bf16) (H : Vec Ideal S1x8x704 .bf16)
  (hG : ∀ r k, G (ix3 0 r k) = mGate m c (row t r) (col j k))
  (hH : ∀ (r : Fin 8) k, H (ix3 0 r k) = mGate m c (prv t ⟨8 + r.val, by omega⟩) (col j k))
include hG hH

/-- The block's rows with the eight above them, for any block of hidden units. -/
theorem ext_at (s : Fin 520) (k : Fin 704) : k0_pay11 (F := Ideal) (g0 t) G H (ix2 s k)
    = if h : s.val < 8 then (if t.val = 0 then 0 else mGate m c (prv t ⟨8 + s.val, by omega⟩) (col j k))
      else mGate m c (row t ⟨s.val - 8, by omega⟩) (col j k) := by
  pointwise [k0_pay11, k0_pay10]
  rw [first_at]
  simp only [hG, hH]
  by_cases h : s.val < 8
  · rw [dif_pos h, dif_pos h]
    by_cases h2 : t.val = 0
    · rw [if_pos h2, if_pos h2]; rfl
    · rw [if_neg h2, if_neg h2]; rfl
  · rw [dif_neg h, dif_neg h]

/-- Two rows above. -/
theorem e6_at (r : Fin 512) (k : Fin 704) :
    k0_pay11 (F := Ideal) (g0 t) G H (ix2 (⟨6 + r.val, by omega⟩ : Fin 520) k) = dn (mGate m c) 2 (row t r) (col j k) := by
  have ht := lt32 t
  rw [ext_at m c t j G H hG hH]
  unfold dn
  by_cases h : 6 + r.val < 8
  · rw [dif_pos h]
    by_cases h2 : t.val = 0
    · rw [if_pos h2, dif_neg (by show ¬ 2 ≤ 512 * t.val + r.val; omega)]
    · rw [if_neg h2, dif_pos (by show 2 ≤ 512 * t.val + r.val; omega)]
      exact congrFun (congrArg (mGate m c) (Fin.ext (by show 16 * (32 * t.val - 1) + (8 + (6 + r.val)) = 512 * t.val + r.val - 2; omega))) _
  · rw [dif_neg h, dif_pos (by show 2 ≤ 512 * t.val + r.val; omega)]
    exact congrFun (congrArg (mGate m c) (Fin.ext (by show 512 * t.val + (6 + r.val - 8) = 512 * t.val + r.val - 2; omega))) _
/-- One row above. -/
theorem e7_at (r : Fin 512) (k : Fin 704) :
    k0_pay11 (F := Ideal) (g0 t) G H (ix2 (⟨7 + r.val, by omega⟩ : Fin 520) k) = dn (mGate m c) 1 (row t r) (col j k) := by
  have ht := lt32 t
  rw [ext_at m c t j G H hG hH]
  unfold dn
  by_cases h : 7 + r.val < 8
  · rw [dif_pos h]
    by_cases h2 : t.val = 0
    · rw [if_pos h2, dif_neg (by show ¬ 1 ≤ 512 * t.val + r.val; omega)]
    · rw [if_neg h2, dif_pos (by show 1 ≤ 512 * t.val + r.val; omega)]
      exact congrFun (congrArg (mGate m c) (Fin.ext (by show 16 * (32 * t.val - 1) + (8 + (7 + r.val)) = 512 * t.val + r.val - 1; omega))) _
  · rw [dif_neg h, dif_pos (by show 1 ≤ 512 * t.val + r.val; omega)]
    exact congrFun (congrArg (mGate m c) (Fin.ext (by show 512 * t.val + (7 + r.val - 8) = 512 * t.val + r.val - 1; omega))) _

variable (B C0 C1 C2 : Vec Ideal S1x1x704 .f32) (hB : ∀ k, B (ix3 0 0 k) = mCb m c (col j k))
  (h0 : ∀ k, C0 (ix3 0 0 k) = mCw m c 0 (col j k)) (h1 : ∀ k, C1 (ix3 0 0 k) = mCw m c 1 (col j k)) (h2 : ∀ k, C2 (ix3 0 0 k) = mCw m c 2 (col j k))
include hB h0 h1 h2

/-- The convolution, for any block. -/
theorem gc_at (r : Fin 512) (k : Fin 704) :
    k0_pay13 (F := Ideal) (k0_pay10 G) (k0_pay11 (g0 t) G H) (k0_pay12 B) C0 C1 C2 (ix2 r k) = mGc m c (row t r) (col j k) := by
  have e6 := e6_at m c t j G H hG hH r k
  have e7 := e7_at m c t j G H hG hH r k
  unfold mGc conv
  rw [← e6, ← e7]
  generalize k0_pay11 (F := Ideal) (g0 t) G H = E
  pointwise [k0_pay13, k0_pay12, k0_pay10]
  simp only [hB, h0, h1, h2, hG]

end blocks

/-- The activated gate times the value, for any block. -/
theorem a_at (t : Fin cfg0.N) (j : Fin 4) (A : FVec Ideal S512x704 .f32) (U : Vec Ideal S1x512x704 .bf16)
    (hA : ∀ r k, A (ix2 r k) = mGc m c (row t r) (col j k)) (hU : ∀ r k, U (ix3 0 r k) = mVal m c (row t r) (col j k))
    (r : Fin 512) (k : Fin 704) : k0_pay7 (F := Ideal) A U (ix2 r k) = mA m c (row t r) (col j k) := by
  pointwise [k0_pay7]
  simp only [hA, hU, sg_tanh]
  rfl

/-- One block's part of the down-projection gathered, for any block. -/
theorem acc_at (t : Fin cfg0.N) (j : Fin 4) (S : FVec Ideal S512x1024 .f32) (A : FVec Ideal S512x704 .bf16) (W : Vec Ideal S704x1024 .bf16)
    (hA : ∀ r k, A (ix2 r k) = mA m c (row t r) (col j k)) (hW : ∀ k d, W (ix2 k d) = mW m c (col j k) d) (r : Fin 512) (d : Fin 1024) (s : EReal)
    (hs : S (ix2 r d) = s) : k0_pay17 (F := Ideal) S A W (ix2 r d) = s + part (mGc m c) (mVal m c) (mW m c) (row t r) d j := by
  pointwise [k0_pay17]
  rw [hs]
  exact congrArg (s + ·) (Finset.sum_congr rfl fun k _ => congrArg₂ (· * ·) (hA r k) (hW k d))

/-- A block's convolution and its activation, as the kernel computes them. -/
abbrev vC0 (t : Fin cfg0.N) : FVec Ideal S512x704 .f32 := k0_pay5 (F := Ideal) (grid0.coords t) (View.ld (iblk m c 0 t) r0_0) (View.ld (iblk m c 1 t) r0_1) (View.ld (iblk m c 4 t) r0_2) (View.ld (iblk m c 3 t) r0_3) (View.ld (iblk m c 3 t) r0_4) (View.ld (iblk m c 3 t) r0_5)
@[inherit_doc vC0] abbrev vA0 (t : Fin cfg0.N) : FVec Ideal S512x704 .bf16 := k0_pay7 (F := Ideal) (vC0 m c t) (View.ld (iblk m c 2 t) r0_0)
theorem vC0_at (t : Fin cfg0.N) (r : Fin 512) (k : Fin 704) : vC0 m c t (ix2 r k) = mGc m c (row t r) (col 0 k) :=
  gc_at m c t 0 (View.ld (iblk m c 0 t) r0_0) (View.ld (iblk m c 1 t) r0_1) (ldG m c t _ (by decide)) (ldH m c t _ (by decide)) _ _ _ _ (ldB m c t _ (by decide)) (ldC m c t _ (by decide) (by decide)) (ldC m c t _ (by decide) (by decide)) (ldC m c t _ (by decide) (by decide)) r k
theorem vA0_at (t : Fin cfg0.N) (r : Fin 512) (k : Fin 704) : vA0 m c t (ix2 r k) = mA m c (row t r) (col 0 k) :=
  a_at m c t 0 (vC0 m c t) (View.ld (iblk m c 2 t) r0_0) (vC0_at m c t) (ldU m c t _ (by decide)) r k

@[inherit_doc vC0] abbrev vC1 (t : Fin cfg0.N) : FVec Ideal S512x704 .f32 := k0_pay13 (F := Ideal) (k0_pay10 (View.ld (iblk m c 0 t) r0_7)) (k0_pay11 (g0 t) (View.ld (iblk m c 0 t) r0_7) (View.ld (iblk m c 1 t) r0_8)) (k0_pay12 (View.ld (iblk m c 4 t) r0_9)) (View.ld (iblk m c 3 t) r0_10) (View.ld (iblk m c 3 t) r0_11) (View.ld (iblk m c 3 t) r0_12)
@[inherit_doc vC0] abbrev vA1 (t : Fin cfg0.N) : FVec Ideal S512x704 .bf16 := k0_pay15 (F := Ideal) (k0_pay10 (View.ld (iblk m c 0 t) r0_7)) (k0_pay11 (g0 t) (View.ld (iblk m c 0 t) r0_7) (View.ld (iblk m c 1 t) r0_8)) (k0_pay12 (View.ld (iblk m c 4 t) r0_9)) (View.ld (iblk m c 3 t) r0_10) (View.ld (iblk m c 3 t) r0_11) (View.ld (iblk m c 3 t) r0_12) (View.ld (iblk m c 2 t) r0_7)
theorem vC1_at (t : Fin cfg0.N) (r : Fin 512) (k : Fin 704) : vC1 m c t (ix2 r k) = mGc m c (row t r) (col 1 k) :=
  gc_at m c t 1 (View.ld (iblk m c 0 t) r0_7) (View.ld (iblk m c 1 t) r0_8) (ldG m c t _ (by decide)) (ldH m c t _ (by decide)) _ _ _ _ (ldB m c t _ (by decide)) (ldC m c t _ (by decide) (by decide)) (ldC m c t _ (by decide) (by decide)) (ldC m c t _ (by decide) (by decide)) r k
theorem vA1_at (t : Fin cfg0.N) (r : Fin 512) (k : Fin 704) : vA1 m c t (ix2 r k) = mA m c (row t r) (col 1 k) :=
  a_at m c t 1 (vC1 m c t) (View.ld (iblk m c 2 t) r0_7) (vC1_at m c t) (ldU m c t _ (by decide)) r k

@[inherit_doc vC0] abbrev vC2 (t : Fin cfg0.N) : FVec Ideal S512x704 .f32 := k0_pay18 (F := Ideal) (g0 t) (View.ld (iblk m c 0 t) r0_14) (View.ld (iblk m c 1 t) r0_15) (View.ld (iblk m c 4 t) r0_16) (View.ld (iblk m c 3 t) r0_17) (View.ld (iblk m c 3 t) r0_18) (View.ld (iblk m c 3 t) r0_19)
@[inherit_doc vC0] abbrev vA2 (t : Fin cfg0.N) : FVec Ideal S512x704 .bf16 := k0_pay21 (F := Ideal) (vC2 m c t) (View.ld (iblk m c 2 t) r0_14)
theorem vC2_at (t : Fin cfg0.N) (r : Fin 512) (k : Fin 704) : vC2 m c t (ix2 r k) = mGc m c (row t r) (col 2 k) :=
  gc_at m c t 2 (View.ld (iblk m c 0 t) r0_14) (View.ld (iblk m c 1 t) r0_15) (ldG m c t _ (by decide)) (ldH m c t _ (by decide)) _ _ _ _ (ldB m c t _ (by decide)) (ldC m c t _ (by decide) (by decide)) (ldC m c t _ (by decide) (by decide)) (ldC m c t _ (by decide) (by decide)) r k
theorem vA2_at (t : Fin cfg0.N) (r : Fin 512) (k : Fin 704) : vA2 m c t (ix2 r k) = mA m c (row t r) (col 2 k) :=
  a_at m c t 2 (vC2 m c t) (View.ld (iblk m c 2 t) r0_14) (vC2_at m c t) (ldU m c t _ (by decide)) r k

@[inherit_doc vC0] abbrev vC3 (t : Fin cfg0.N) : FVec Ideal S512x704 .f32 := k0_pay27 (F := Ideal) (k0_pay24 (View.ld (iblk m c 0 t) r0_21)) (k0_pay25 (g0 t) (View.ld (iblk m c 0 t) r0_21) (View.ld (iblk m c 1 t) r0_22)) (k0_pay26 (View.ld (iblk m c 4 t) r0_23)) (View.ld (iblk m c 3 t) r0_24) (View.ld (iblk m c 3 t) r0_25) (View.ld (iblk m c 3 t) r0_26)
@[inherit_doc vC0] abbrev vA3 (t : Fin cfg0.N) : FVec Ideal S512x704 .bf16 := k0_pay29 (F := Ideal) (k0_pay24 (View.ld (iblk m c 0 t) r0_21)) (k0_pay25 (g0 t) (View.ld (iblk m c 0 t) r0_21) (View.ld (iblk m c 1 t) r0_22)) (k0_pay26 (View.ld (iblk m c 4 t) r0_23)) (View.ld (iblk m c 3 t) r0_24) (View.ld (iblk m c 3 t) r0_25) (View.ld (iblk m c 3 t) r0_26) (View.ld (iblk m c 2 t) r0_21)
theorem vC3_at (t : Fin cfg0.N) (r : Fin 512) (k : Fin 704) : vC3 m c t (ix2 r k) = mGc m c (row t r) (col 3 k) :=
  gc_at m c t 3 (View.ld (iblk m c 0 t) r0_21) (View.ld (iblk m c 1 t) r0_22) (ldG m c t _ (by decide)) (ldH m c t _ (by decide)) _ _ _ _ (ldB m c t _ (by decide)) (ldC m c t _ (by decide) (by decide)) (ldC m c t _ (by decide) (by decide)) (ldC m c t _ (by decide) (by decide)) r k
theorem vA3_at (t : Fin cfg0.N) (r : Fin 512) (k : Fin 704) : vA3 m c t (ix2 r k) = mA m c (row t r) (col 3 k) :=
  a_at m c t 3 (vC3 m c t) (View.ld (iblk m c 2 t) r0_21) (vC3_at m c t) (ldU m c t _ (by decide)) r k

/-- The first three blocks' sum and the last block's activation, as the kernel names them. -/
abbrev vS (t : Fin cfg0.N) : FVec Ideal S512x1024 .f32 := k0_pay36 (F := Ideal) (grid0.coords t) (iblk m c 0 t) (iblk m c 1 t) (iblk m c 2 t) (iblk m c 3 t) (iblk m c 4 t) (iblk m c 5 t) (iblk m c 6 t) (iblk m c 7 t) (iblk m c 8 t)
@[inherit_doc vS] abbrev vL (t : Fin cfg0.N) : FVec Ideal S512x704 .bf16 := k0_pay40 (F := Ideal) (grid0.coords t) (iblk m c 0 t) (iblk m c 1 t) (iblk m c 2 t) (iblk m c 3 t) (iblk m c 4 t) (iblk m c 5 t) (iblk m c 6 t) (iblk m c 7 t) (iblk m c 8 t)

/-- The down-projection at a point. -/
theorem vF_at (t : Fin cfg0.N) (r : Fin 512) (d : Fin 1024) :
    k0_pay1 (F := Ideal) (vS m c t) (vL m c t) (View.ld (iblk m c 5 t) r0_27) (ix2 r d) = mF m c (row t r) d := by
  have z : k0_pay4 (F := Ideal) (ix2 r d) = 0 := by pointwise [k0_pay4]
  have s0 := acc_at m c t 0 (k0_pay4 (F := Ideal)) (vA0 m c t) (View.ld (iblk m c 5 t) r0_6) (vA0_at m c t) (ldW m c t _ 0 rfl) r d _ z
  have s1 := acc_at m c t 1 _ (vA1 m c t) (View.ld (iblk m c 5 t) r0_13) (vA1_at m c t) (ldW m c t _ 1 rfl) r d _ s0
  have s2 := acc_at m c t 2 _ (vA2 m c t) (View.ld (iblk m c 5 t) r0_20) (vA2_at m c t) (ldW m c t _ 2 rfl) r d _ s1
  have s3 := acc_at m c t 3 _ (vA3 m c t) (View.ld (iblk m c 5 t) r0_27) (vA3_at m c t) (ldW m c t _ 3 rfl) r d _ s2
  unfold mF
  rw [f_blocks]
  refine Eq.trans ?_ (s3.trans ?_)
  · rfl
  · rw [zero_add]

/-- The layer's output from the down-projection. -/
theorem o_at (t : Fin cfg0.N) (S : FVec Ideal S512x1024 .f32) (A : FVec Ideal S512x704 .bf16) (W : Vec Ideal S704x1024 .bf16)
    (X : Vec Ideal S512x1024 .f32) (N T : Vec Ideal S1x1024 .f32)
    (hF : ∀ r d, k0_pay1 (F := Ideal) S A W (ix2 r d) = mF m c (row t r) d) (hX : ∀ r d, X (ix2 r d) = mX m c (row t r) d)
    (hN : ∀ d, N (ix2 0 d) = mGn m c d) (hT : ∀ d, T (ix2 0 d) = mGt m c d) (r : Fin 512) (d : Fin 1024) :
    k0_pay3 (F := Ideal) S A W X N T (ix2 r d) = mO m c (row t r) d := by
  pointwise [k0_pay3]
  simp only [hF, hX, hN, hT]
  rfl

theorem emb9 (t : Fin cfg0.N) (y : S512x1024.Idx) : (((View.whole main_v8_0).slice (win0_9.rect t)).emb y) = ix2 (row t (y 0)) (y 1) := by
  have hi : win0_9.index t = ![t.val, 0] := by simp only [idx t]
  funext a; refine Fin.ext ?_
  match a with
  | 0 =>
    show win0_9.index t 0 * 512 + 1 * (y 0).val = _
    rw [hi]; show t.val * 512 + 1 * (y 0).val = 512 * t.val + (y 0).val; omega
  | 1 =>
    show win0_9.index t 1 * 1024 + 1 * (y 1).val = _
    rw [hi]; show 0 * 1024 + 1 * (y 1).val = (y 1).val; omega

theorem emb10 (t : Fin cfg0.N) (y : S512x1024.Idx) : (((View.whole main_v8_1).slice (win0_10.rect t)).emb y) = ix2 (row t (y 0)) (y 1) := by
  have hi : win0_10.index t = ![t.val, 0] := by simp only [idx t]
  funext a; refine Fin.ext ?_
  match a with
  | 0 =>
    show win0_10.index t 0 * 512 + 1 * (y 0).val = _
    rw [hi]; show t.val * 512 + 1 * (y 0).val = 512 * t.val + (y 0).val; omega
  | 1 =>
    show win0_10.index t 1 * 1024 + 1 * (y 1).val = _
    rw [hi]; show 0 * 1024 + 1 * (y 1).val = (y 1).val; omega

theorem emb11 (t : Fin cfg0.N) (y : S4x512x704.Idx) : (((View.whole main_v8_2).slice (win0_11.rect t)).emb y) = ix3 (y 0) (row t (y 1)) (y 2) := by
  have hi : win0_11.index t = ![0, t.val, 0] := by simp only [idx t]
  funext a; refine Fin.ext ?_
  match a with
  | 0 =>
    show win0_11.index t 0 * 4 + 1 * (y 0).val = _
    rw [hi]; show 0 * 4 + 1 * (y 0).val = (y 0).val; omega
  | 1 =>
    show win0_11.index t 1 * 512 + 1 * (y 1).val = _
    rw [hi]; show t.val * 512 + 1 * (y 1).val = 512 * t.val + (y 1).val; omega
  | 2 =>
    show win0_11.index t 2 * 704 + 1 * (y 2).val = _
    rw [hi]; show 0 * 704 + 1 * (y 2).val = (y 2).val; omega

theorem emb12 (t : Fin cfg0.N) (y : S4x512x704.Idx) : (((View.whole main_v8_3).slice (win0_12.rect t)).emb y) = ix3 (y 0) (row t (y 1)) (y 2) := by
  have hi : win0_12.index t = ![0, t.val, 0] := by simp only [idx t]
  funext a; refine Fin.ext ?_
  match a with
  | 0 =>
    show win0_12.index t 0 * 4 + 1 * (y 0).val = _
    rw [hi]; show 0 * 4 + 1 * (y 0).val = (y 0).val; omega
  | 1 =>
    show win0_12.index t 1 * 512 + 1 * (y 1).val = _
    rw [hi]; show t.val * 512 + 1 * (y 1).val = 512 * t.val + (y 1).val; omega
  | 2 =>
    show win0_12.index t 2 * 704 + 1 * (y 2).val = _
    rw [hi]; show 0 * 704 + 1 * (y 2).val = (y 2).val; omega

theorem out9 : (dats m 0 c).arrAt 9 cfg0.N = fun j : S16384x1024.Idx => mO m c (j 0) (j 1) := by
  refine (dats m 0 c).arrAt_eq_of_covers 9 _ (by decide +kernel) fun t hf y => ?_
  blk_simp
  rw [after0_9]
  have hy : ∀ z : S512x1024.Idx, out0_9 (grid0.coords t) (iblk m c 0 t) (iblk m c 1 t) (iblk m c 2 t) (iblk m c 3 t) (iblk m c 4 t) (iblk m c 5 t) (iblk m c 6 t) (iblk m c 7 t) (iblk m c 8 t) z
      = mO m c (((View.whole main_v8_0).slice (win0_9.rect t)).emb z 0) (((View.whole main_v8_0).slice (win0_9.rect t)).emb z 1) := by
    intro z
    rw [emb9]
    unfold out0_9
    refine (congrFun (View.canon_unit_zero (by funext a; match a with | 0 => rfl | 1 => rfl) _ _) z).trans ?_
    idx_vars z
    exact o_at m c t (vS m c t) (vL m c t) (View.ld (iblk m c 5 t) r0_27) _ _ _ (vF_at m c t) (ldX m c t) (ldN m c t) (ldT m c t) _ _
  exact hy y

theorem out10 : (dats m 0 c).arrAt 10 cfg0.N = fun j : S16384x1024.Idx => mF m c (j 0) (j 1) := by
  refine (dats m 0 c).arrAt_eq_of_covers 10 _ (by decide +kernel) fun t hf y => ?_
  blk_simp
  rw [after0_10]
  have hy : ∀ z : S512x1024.Idx, out0_10 (grid0.coords t) (iblk m c 0 t) (iblk m c 1 t) (iblk m c 2 t) (iblk m c 3 t) (iblk m c 4 t) (iblk m c 5 t) (iblk m c 6 t) (iblk m c 7 t) (iblk m c 8 t) z
      = mF m c (((View.whole main_v8_1).slice (win0_10.rect t)).emb z 0) (((View.whole main_v8_1).slice (win0_10.rect t)).emb z 1) := by
    intro z
    rw [emb10]
    unfold out0_10
    refine (congrFun (View.canon_unit_zero (by funext a; match a with | 0 => rfl | 1 => rfl) _ _) z).trans ?_
    idx_vars z
    exact vF_at m c t _ _
  exact hy y

/-- The convolution's store at a point. -/
theorem gcs0_at (t : Fin cfg0.N) (r : Fin 512) (k : Fin 704) :
    (k0_pay6 (grid0.coords t) (View.ld (iblk m c 0 t) r0_0) (View.ld (iblk m c 1 t) r0_1) (View.ld (iblk m c 4 t) r0_2) (View.ld (iblk m c 3 t) r0_3) (View.ld (iblk m c 3 t) r0_4) (View.ld (iblk m c 3 t) r0_5) : FVec Ideal S1x512x704 .bf16) (ix3 0 r k) = mGc m c (row t r) (col 0 k) := by
  pointwise [k0_pay6]
  exact vC0_at m c t r k

/-- The convolution's store at a point. -/
theorem gcs1_at (t : Fin cfg0.N) (r : Fin 512) (k : Fin 704) :
    (k0_pay14 (k0_pay10 (View.ld (iblk m c 0 t) r0_7)) (k0_pay11 (g0 t) (View.ld (iblk m c 0 t) r0_7) (View.ld (iblk m c 1 t) r0_8)) (k0_pay12 (View.ld (iblk m c 4 t) r0_9)) (View.ld (iblk m c 3 t) r0_10) (View.ld (iblk m c 3 t) r0_11) (View.ld (iblk m c 3 t) r0_12) : FVec Ideal S1x512x704 .bf16) (ix3 0 r k) = mGc m c (row t r) (col 1 k) := by
  pointwise [k0_pay14]
  exact vC1_at m c t r k

/-- The convolution's store at a point. -/
theorem gcs2_at (t : Fin cfg0.N) (r : Fin 512) (k : Fin 704) :
    (k0_pay20 (k0_pay19 (g0 t) (View.ld (iblk m c 0 t) r0_14) (View.ld (iblk m c 1 t) r0_15) (View.ld (iblk m c 4 t) r0_16) (View.ld (iblk m c 3 t) r0_17) (View.ld (iblk m c 3 t) r0_18) (View.ld (iblk m c 3 t) r0_19)) : FVec Ideal S1x512x704 .bf16) (ix3 0 r k) = mGc m c (row t r) (col 2 k) := by
  pointwise [k0_pay20, k0_pay19]
  exact vC2_at m c t r k

/-- The convolution's store at a point. -/
theorem gcs3_at (t : Fin cfg0.N) (r : Fin 512) (k : Fin 704) :
    (k0_pay28 (k0_pay24 (View.ld (iblk m c 0 t) r0_21)) (k0_pay25 (g0 t) (View.ld (iblk m c 0 t) r0_21) (View.ld (iblk m c 1 t) r0_22)) (k0_pay26 (View.ld (iblk m c 4 t) r0_23)) (View.ld (iblk m c 3 t) r0_24) (View.ld (iblk m c 3 t) r0_25) (View.ld (iblk m c 3 t) r0_26) : FVec Ideal S1x512x704 .bf16) (ix3 0 r k) = mGc m c (row t r) (col 3 k) := by
  pointwise [k0_pay28]
  exact vC3_at m c t r k

/-- The convolution's block at a point, from the four stores. -/
theorem gcAll (t : Fin cfg0.N) (z : S4x512x704.Idx) : out0_11 (grid0.coords t) (iblk m c 0 t) (iblk m c 1 t) (iblk m c 2 t) (iblk m c 3 t) (iblk m c 4 t) (iblk m c 5 t) (iblk m c 6 t) (iblk m c 7 t) (iblk m c 8 t) z
    = mGc m c (row t (z 1)) (col (z 0) (z 2)) := by
  unfold out0_11
  canon_tiles z h
  · idx_vars z
    obtain rfl : z0 = 0 := Subsingleton.elim (α := Fin 1) _ _
    refine (gcs3_at m c t _ _).trans ?_
    exact congrArg₂ (mGc m c) (Fin.ext (by simp at h0 h1 h2 ⊢; omega)) (Fin.ext (by simp at h0 h1 h2 ⊢; omega))
  · idx_vars z
    obtain rfl : z0 = 0 := Subsingleton.elim (α := Fin 1) _ _
    refine (gcs2_at m c t _ _).trans ?_
    exact congrArg₂ (mGc m c) (Fin.ext (by simp at h0 h1 h2 ⊢; omega)) (Fin.ext (by simp at h0 h1 h2 ⊢; omega))
  · idx_vars z
    obtain rfl : z0 = 0 := Subsingleton.elim (α := Fin 1) _ _
    refine (gcs1_at m c t _ _).trans ?_
    exact congrArg₂ (mGc m c) (Fin.ext (by simp at h0 h1 h2 ⊢; omega)) (Fin.ext (by simp at h0 h1 h2 ⊢; omega))
  · idx_vars z
    obtain rfl : z0 = 0 := Subsingleton.elim (α := Fin 1) _ _
    refine (gcs0_at m c t _ _).trans ?_
    exact congrArg₂ (mGc m c) (Fin.ext (by simp at h0 h1 h2 ⊢; omega)) (Fin.ext (by simp at h0 h1 h2 ⊢; omega))

theorem out11 : (dats m 0 c).arrAt 11 cfg0.N = fun j : S4x16384x704.Idx => mGc m c (j 1) (col (j 0) (j 2)) := by
  refine (dats m 0 c).arrAt_eq_of_covers 11 _ (by decide +kernel) fun t hf y => ?_
  blk_simp
  rw [after0_11]
  have he : ∀ z : S4x512x704.Idx, mGc m c (row t (z 1)) (col (z 0) (z 2))
      = mGc m c (((View.whole main_v8_2).slice (win0_11.rect t)).emb z 1)
        (col (((View.whole main_v8_2).slice (win0_11.rect t)).emb z 0) (((View.whole main_v8_2).slice (win0_11.rect t)).emb z 2)) := fun z => by rw [emb11]; rfl
  exact (gcAll m c t y).trans (he y)

/-- The activation's store at a point. -/
theorem as0_at (t : Fin cfg0.N) (r : Fin 512) (k : Fin 704) :
    (k0_pay8 (vC0 m c t) (View.ld (iblk m c 2 t) r0_0) : FVec Ideal S1x512x704 .bf16) (ix3 0 r k) = mA m c (row t r) (col 0 k) := by
  pointwise [k0_pay8]
  exact vA0_at m c t r k

/-- The activation's store at a point. -/
theorem as1_at (t : Fin cfg0.N) (r : Fin 512) (k : Fin 704) :
    (k0_pay16 (k0_pay10 (View.ld (iblk m c 0 t) r0_7)) (k0_pay11 (g0 t) (View.ld (iblk m c 0 t) r0_7) (View.ld (iblk m c 1 t) r0_8)) (k0_pay12 (View.ld (iblk m c 4 t) r0_9)) (View.ld (iblk m c 3 t) r0_10) (View.ld (iblk m c 3 t) r0_11) (View.ld (iblk m c 3 t) r0_12) (View.ld (iblk m c 2 t) r0_7) : FVec Ideal S1x512x704 .bf16) (ix3 0 r k) = mA m c (row t r) (col 1 k) := by
  pointwise [k0_pay16]
  exact vA1_at m c t r k

/-- The activation's store at a point. -/
theorem as2_at (t : Fin cfg0.N) (r : Fin 512) (k : Fin 704) :
    (k0_pay22 (vC2 m c t) (View.ld (iblk m c 2 t) r0_14) : FVec Ideal S1x512x704 .bf16) (ix3 0 r k) = mA m c (row t r) (col 2 k) := by
  pointwise [k0_pay22]
  exact vA2_at m c t r k

/-- The activation's store at a point. -/
theorem as3_at (t : Fin cfg0.N) (r : Fin 512) (k : Fin 704) :
    (k0_pay30 (k0_pay24 (View.ld (iblk m c 0 t) r0_21)) (k0_pay25 (g0 t) (View.ld (iblk m c 0 t) r0_21) (View.ld (iblk m c 1 t) r0_22)) (k0_pay26 (View.ld (iblk m c 4 t) r0_23)) (View.ld (iblk m c 3 t) r0_24) (View.ld (iblk m c 3 t) r0_25) (View.ld (iblk m c 3 t) r0_26) (View.ld (iblk m c 2 t) r0_21) : FVec Ideal S1x512x704 .bf16) (ix3 0 r k) = mA m c (row t r) (col 3 k) := by
  pointwise [k0_pay30]
  exact vA3_at m c t r k

/-- The activation's block at a point, from the four stores. -/
theorem aAll (t : Fin cfg0.N) (z : S4x512x704.Idx) : out0_12 (grid0.coords t) (iblk m c 0 t) (iblk m c 1 t) (iblk m c 2 t) (iblk m c 3 t) (iblk m c 4 t) (iblk m c 5 t) (iblk m c 6 t) (iblk m c 7 t) (iblk m c 8 t) z
    = mA m c (row t (z 1)) (col (z 0) (z 2)) := by
  unfold out0_12
  canon_tiles z h
  · idx_vars z
    obtain rfl : z0 = 0 := Subsingleton.elim (α := Fin 1) _ _
    refine (as3_at m c t _ _).trans ?_
    exact congrArg₂ (mA m c) (Fin.ext (by simp at h0 h1 h2 ⊢; omega)) (Fin.ext (by simp at h0 h1 h2 ⊢; omega))
  · idx_vars z
    obtain rfl : z0 = 0 := Subsingleton.elim (α := Fin 1) _ _
    refine (as2_at m c t _ _).trans ?_
    exact congrArg₂ (mA m c) (Fin.ext (by simp at h0 h1 h2 ⊢; omega)) (Fin.ext (by simp at h0 h1 h2 ⊢; omega))
  · idx_vars z
    obtain rfl : z0 = 0 := Subsingleton.elim (α := Fin 1) _ _
    refine (as1_at m c t _ _).trans ?_
    exact congrArg₂ (mA m c) (Fin.ext (by simp at h0 h1 h2 ⊢; omega)) (Fin.ext (by simp at h0 h1 h2 ⊢; omega))
  · idx_vars z
    obtain rfl : z0 = 0 := Subsingleton.elim (α := Fin 1) _ _
    refine (as0_at m c t _ _).trans ?_
    exact congrArg₂ (mA m c) (Fin.ext (by simp at h0 h1 h2 ⊢; omega)) (Fin.ext (by simp at h0 h1 h2 ⊢; omega))

theorem out12 : (dats m 0 c).arrAt 12 cfg0.N = fun j : S4x16384x704.Idx => mA m c (j 1) (col (j 0) (j 2)) := by
  refine (dats m 0 c).arrAt_eq_of_covers 12 _ (by decide +kernel) fun t hf y => ?_
  blk_simp
  rw [after0_12]
  have he : ∀ z : S4x512x704.Idx, mA m c (row t (z 1)) (col (z 0) (z 2))
      = mA m c (((View.whole main_v8_3).slice (win0_12.rect t)).emb z 1)
        (col (((View.whole main_v8_3).slice (win0_12.rect t)).emb z 0) (((View.whole main_v8_3).slice (win0_12.rect t)).emb z 2)) := fun z => by rw [emb12]; rfl
  exact (aAll m c t y).trans (he y)

end Cert.FfKernelIdeal.Hand
end
-- ==== Proof.FfRef.lean ====
/-
  The reference's channel mixer forward, entry by entry: padding, slices and the logistic are brought to the specification.
-/
module

public import proofs.«01_k».proof.Proof.Gen.FfReferenceIdeal.Run
public import proofs.«01_k».proof.Proof.FfSpec
public import Idealize.ShloMosaic.Lib.Pipeline.ValueKit
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.Sc (Mat rs)
open Cert.Fi (col)
open Cert.Fo (sg fm)
open Cert.Ff
namespace Cert.FfReferenceIdeal.Hand
open Cert.FfReferenceIdeal Cert.FfReferenceIdeal.Gen Cert.FfReferenceIdeal.Value
variable (m : (ℓ : Loc nD τ sig) → Buf (Elt Ideal) ℓ) (c : Dev nD)

/-- The arguments as matrices. -/
def mGate : Mat 16384 2816 := fun t q => (m ((c.tc : Thread nD τ).loc main_arg0) : Vec Ideal S16384x5632 .f32) (ix2 t (Fi.gat q))
@[inherit_doc mGate] def mVal : Mat 16384 2816 := fun t q => (m ((c.tc : Thread nD τ).loc main_arg0) : Vec Ideal S16384x5632 .f32) (ix2 t (Fi.val q))
@[inherit_doc mGate] def mCw : Mat 3 2816 := fun t d => (m ((c.tc : Thread nD τ).loc main_arg1) : Vec Ideal S3x2816 .f32) (ix2 t d)
@[inherit_doc mGate] def mCb : Fin 2816 → EReal := fun d => (m ((c.tc : Thread nD τ).loc main_arg2) : Vec Ideal S1x2816 .f32) (ix2 0 d)
@[inherit_doc mGate] def mW : Mat 2816 1024 := fun t d => (m ((c.tc : Thread nD τ).loc main_arg3) : Vec Ideal S2816x1024 .f32) (ix2 t d)
@[inherit_doc mGate] def mX : Mat 16384 1024 := fun t d => (m ((c.tc : Thread nD τ).loc main_arg4) : Vec Ideal S16384x1024 .f32) (ix2 t d)
@[inherit_doc mGate] def mGn : Fin 1024 → EReal := fun d => (m ((c.tc : Thread nD τ).loc main_arg5) : Vec Ideal S1x1024 .f32) (ix2 0 d)
@[inherit_doc mGate] def mGt : Fin 1024 → EReal := fun d => (m ((c.tc : Thread nD τ).loc main_arg6) : Vec Ideal S1x1024 .f32) (ix2 0 d)

/-- The convolution, the activation, the down-projection and the output. -/
def mGc : Mat 16384 2816 := conv (mCw m c) (mCb m c) (mGate m c)
@[inherit_doc mGc] def mA : Mat 16384 2816 := act (mGc m c) (mVal m c)
@[inherit_doc mGc] def mF : Mat 16384 1024 := fm (mGc m c) (mVal m c) (mW m c)
@[inherit_doc mGc] def mO : Mat 16384 1024 := out (mX m c) (mF m c) (mGn m c) (mGt m c)

/-- The gate with two zero rows above it. -/
def tExt (a0 : FVec Ideal S16384x5632 .f32) : FVec Ideal S16386x2816 .f32 :=
  (fn_main_v3 (F := Ideal) (broadcastInDim S2x2816 ![] bcast_S_S2x2816 (constant (F := Ideal) S_ .f32 0x00000000#32)) (extractStridedSlice S16384x2816 ![0, 0] a0 slices_S16384x5632_S16384x2816_0_0))

/-- The convolution of the gate. -/
def tGc (a1 : FVec Ideal S3x2816 .f32) (tExt' : FVec Ideal S16386x2816 .f32) (a2 : FVec Ideal S1x2816 .f32) : FVec Ideal S16384x2816 .f32 :=
  (addf (addf (addf (mulf (broadcastInDim S16384x2816 ![0, 1] bcast_S1x2816_S16384x2816_0_1 (broadcastInDim S1x2816 ![1] bcast_S2816_S1x2816_1 (shapeCast _ (extractStridedSlice S1x2816 ![0, 0] a1 slices_S3x2816_S1x2816_0_0) shapeCasts_S1x2816_S2816))) (extractStridedSlice S16384x2816 ![0, 0] tExt' slices_S16386x2816_S16384x2816_0_0)) (mulf (broadcastInDim S16384x2816 ![0, 1] bcast_S1x2816_S16384x2816_0_1 (broadcastInDim S1x2816 ![1] bcast_S2816_S1x2816_1 (shapeCast _ (extractStridedSlice S1x2816 ![1, 0] a1 slices_S3x2816_S1x2816_1_0) shapeCasts_S1x2816_S2816))) (extractStridedSlice S16384x2816 ![1, 0] tExt' slices_S16386x2816_S16384x2816_1_0))) (mulf (broadcastInDim S16384x2816 ![0, 1] bcast_S1x2816_S16384x2816_0_1 (broadcastInDim S1x2816 ![1] bcast_S2816_S1x2816_1 (shapeCast _ (extractStridedSlice S1x2816 ![2, 0] a1 slices_S3x2816_S1x2816_2_0) shapeCasts_S1x2816_S2816))) (extractStridedSlice S16384x2816 ![2, 0] tExt' slices_S16386x2816_S16384x2816_2_0))) (broadcastInDim S16384x2816 ![0, 1] bcast_S1x2816_S16384x2816_0_1 a2))

/-- The gate's logistic. -/
def tSg (tGc' : FVec Ideal S16384x2816 .f32) : FVec Ideal S16384x2816 .f32 :=
  (Host.divf (broadcastInDim S16384x2816 ![] bcast_S_S16384x2816 (constant (F := Ideal) S_ .f32 0x3F800000#32)) (addf (broadcastInDim S16384x2816 ![] bcast_S_S16384x2816 (constant (F := Ideal) S_ .f32 0x3F800000#32)) (Host.exp (Host.negf tGc'))))

/-- The activated gate times the value. -/
def tA (tGc' : FVec Ideal S16384x2816 .f32) (tSg' : FVec Ideal S16384x2816 .f32) (a0 : FVec Ideal S16384x5632 .f32) : FVec Ideal S16384x2816 .f32 :=
  (mulf (mulf tGc' tSg') (extractStridedSlice S16384x2816 ![0, 2816] a0 slices_S16384x5632_S16384x2816_0_2816))

/-- The down-projection. -/
def tF (tA' : FVec Ideal S16384x2816 .f32) (a3 : FVec Ideal S2816x1024 .f32) : FVec Ideal S16384x1024 .f32 :=
  (Host.dotGeneral (φ₁ := .f32) (φ₂ := .f32) dot_S16384x2816_S2816x1024_S16384x1024_1_0_0_1_n_n none tA' a3)

/-- The rows' reciprocal roots. -/
def tR (tF' : FVec Ideal S16384x1024 .f32) : FVec Ideal S16384x1 .f32 :=
  (Host.rsqrt (addf (Host.divf (broadcastInDim S16384x1 ![0] bcast_S16384_S16384x1_0 (Host.reduceAdd (mulf tF' tF') (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32))))

/-- The layer's output. -/
def tX (a4 : FVec Ideal S16384x1024 .f32) (a6 : FVec Ideal S1x1024 .f32) (tF' : FVec Ideal S16384x1024 .f32) (tR' : FVec Ideal S16384x1 .f32) (a5 : FVec Ideal S1x1024 .f32) : FVec Ideal S16384x1024 .f32 :=
  (addf a4 (mulf (broadcastInDim S16384x1024 ![0, 1] bcast_S1x1024_S16384x1024_0_1 a6) (mulf (mulf tF' (broadcastInDim S16384x1024 ![0, 1] bcast_S16384x1_S16384x1024_0_1 tR')) (broadcastInDim S16384x1024 ![0, 1] bcast_S1x1024_S16384x1024_0_1 a5))))

/-- The convolution, in blocks. -/
def tGcB (tGc' : FVec Ideal S16384x2816 .f32) : FVec Ideal S4x16384x704 .bf16 :=
  (truncf (F := Ideal) .bf16 (transpose S4x16384x704 [1, 0, 2] (shapeCast _ tGc' shapeCasts_S16384x2816_S16384x4x704) transposes_S16384x4x704_S4x16384x704_1_0_2) bitsLt_bf16_f32)

variable (a0 : FVec Ideal S16384x5632 .f32) (a1 : FVec Ideal S3x2816 .f32) (a2 : FVec Ideal S1x2816 .f32) (a3 : FVec Ideal S2816x1024 .f32)
  (a4 F : FVec Ideal S16384x1024 .f32) (a5 a6 : FVec Ideal S1x1024 .f32) (P : FVec Ideal S16384x2816 .f32)

theorem tExt_at (t : Fin 16386) (q : Fin 2816) :
    tExt a0 (ix2 t q) = if h : t.val < 2 then 0 else a0 (ix2 ⟨t.val - 2, by omega⟩ (Fi.gat q)) := by
  unfold tExt fn_main_v3
  pointwise
  try rfl

theorem tGc_at (t : Fin 16384) (q : Fin 2816) : tGc a1 (tExt a0) a2 (ix2 t q)
    = conv (fun t d => a1 (ix2 t d)) (fun d => a2 (ix2 0 d)) (fun t d => a0 (ix2 t (Fi.gat d))) t q := by
  have e0 : tExt a0 (ix2 (⟨t.val, by omega⟩ : Fin 16386) q) = dn (fun t d => a0 (ix2 t (Fi.gat d))) 2 t q := by
    rw [tExt_at]
    unfold dn
    by_cases h : t.val < 2
    · rw [dif_pos h, dif_neg (by omega)]
    · rw [dif_neg h, dif_pos (by omega)]
  have e1 : tExt a0 (ix2 (⟨1 + t.val, by omega⟩ : Fin 16386) q) = dn (fun t d => a0 (ix2 t (Fi.gat d))) 1 t q := by
    rw [tExt_at]
    unfold dn
    by_cases h : 1 + t.val < 2
    · rw [dif_pos h, dif_neg (by omega)]
    · rw [dif_neg h, dif_pos (by omega)]
      exact congrArg (fun s => a0 (ix2 s (Fi.gat q))) (Fin.ext (by show 1 + t.val - 2 = t.val - 1; omega))
  have e2 : tExt a0 (ix2 (⟨2 + t.val, by omega⟩ : Fin 16386) q) = a0 (ix2 t (Fi.gat q)) := by
    rw [tExt_at, dif_neg (by show ¬ 2 + t.val < 2; omega)]
    exact congrArg (fun s => a0 (ix2 s (Fi.gat q))) (Fin.ext (by show 2 + t.val - 2 = t.val; omega))
  unfold conv
  rw [← e0, ← e1]
  dsimp only
  rw [← e2]
  generalize tExt a0 = E
  unfold tGc
  pointwise
  rw [add_comm _ (a2 _), ← add_assoc, ← add_assoc]
  try rfl

theorem tSg_at (t : Fin 16384) (q : Fin 2816) : tSg P (ix2 t q) = sg (P (ix2 t q)) := by
  unfold tSg
  pointwise
  rfl

theorem tA_at (t : Fin 16384) (q : Fin 2816) : tA P (tSg P) a0 (ix2 t q)
    = act (fun t d => P (ix2 t d)) (fun t d => a0 (ix2 t (Fi.val d))) t q := by
  unfold tA
  pointwise [tSg_at]
  rfl

theorem tF_at (A : FVec Ideal S16384x2816 .f32) (t : Fin 16384) (d : Fin 1024) : tF A a3 (ix2 t d) = ∑ q, A (ix2 t q) * a3 (ix2 q d) := by
  unfold tF
  pointwise

theorem tR_at (t : Fin 16384) : tR F (ix2 t 0) = rs (fun t d => F (ix2 t d)) t := by
  unfold tR
  pointwise
  rfl

theorem tX_at (t : Fin 16384) (d : Fin 1024) : tX a4 a6 F (tR F) a5 (ix2 t d)
    = out (fun t d => a4 (ix2 t d)) (fun t d => F (ix2 t d)) (fun d => a5 (ix2 0 d)) (fun d => a6 (ix2 0 d)) t d := by
  unfold tX
  pointwise [tR_at]
  rfl

theorem tGcB_at (j : Fin 4) (t : Fin 16384) (k : Fin 704) : tGcB P (ix3 j t k) = P (ix2 t (col j k)) := by
  have e : (⟨j.val * 704 + k.val, by omega⟩ : Fin 2816) = col j k := Fin.ext (by dsimp only; omega)
  unfold tGcB
  pointwise
  simp only [e]

/-- The arguments' terms, and the terms of the convolution, the activation and the down-projection in the reference. -/
abbrev r0 : FVec Ideal S16384x5632 .f32 := m ((c.tc : Thread nD τ).loc main_arg0)
@[inherit_doc r0] abbrev r1 : FVec Ideal S3x2816 .f32 := m ((c.tc : Thread nD τ).loc main_arg1)
@[inherit_doc r0] abbrev r2 : FVec Ideal S1x2816 .f32 := m ((c.tc : Thread nD τ).loc main_arg2)
@[inherit_doc r0] abbrev r3 : FVec Ideal S2816x1024 .f32 := m ((c.tc : Thread nD τ).loc main_arg3)
@[inherit_doc r0] abbrev r4 : FVec Ideal S16384x1024 .f32 := m ((c.tc : Thread nD τ).loc main_arg4)
@[inherit_doc r0] abbrev r5 : FVec Ideal S1x1024 .f32 := m ((c.tc : Thread nD τ).loc main_arg5)
@[inherit_doc r0] abbrev r6 : FVec Ideal S1x1024 .f32 := m ((c.tc : Thread nD τ).loc main_arg6)
@[inherit_doc r0] abbrev rGc : FVec Ideal S16384x2816 .f32 := tGc (r1 m c) (tExt (r0 m c)) (r2 m c)
@[inherit_doc r0] abbrev rA : FVec Ideal S16384x2816 .f32 := tA (rGc m c) (tSg (rGc m c)) (r0 m c)
@[inherit_doc r0] abbrev rF : FVec Ideal S16384x1024 .f32 := tF (rA m c) (r3 m c)

theorem rGc_at (t : Fin 16384) (q : Fin 2816) : rGc m c (ix2 t q) = mGc m c t q := tGc_at _ _ _ t q

theorem rA_at (t : Fin 16384) (q : Fin 2816) : rA m c (ix2 t q) = mA m c t q := by
  rw [rA, tA_at]
  simp only [rGc_at]
  rfl

theorem rF_at (t : Fin 16384) (d : Fin 1024) : rF m c (ix2 t d) = mF m c t d := by
  rw [rF, tF_at]
  simp only [rA_at]
  rfl

theorem res0 : res_out0 m c = fun j : S16384x1024.Idx => mO m c (j 0) (j 1) := by
  have e : res_out0 m c = tX (r4 m c) (r6 m c) (rF m c) (tR (rF m c)) (r5 m c) := by
    unfold res_out0 res_main_v43
    rfl
  funext j
  idx_vars j
  rw [e, tX_at]
  simp only [rF_at]
  rfl

theorem res1 : res_out1 m c = fun j : S16384x1024.Idx => mF m c (j 0) (j 1) := by
  have e : res_out1 m c = truncf (F := Ideal) .bf16 (rF m c) bitsLt_bf16_f32 := by
    unfold res_out1 res_main_v44
    rfl
  funext j
  idx_vars j
  rw [e]
  exact rF_at m c _ _

theorem res2 : tGcB (rGc m c) = fun j : S4x16384x704.Idx => mGc m c (j 1) (col (j 0) (j 2)) := by
  funext j
  idx_vars j
  rw [tGcB_at]
  exact rGc_at m c _ _

theorem res3 : res_out3 m c = fun j : S4x16384x704.Idx => mA m c (j 1) (col (j 0) (j 2)) := by
  have e : res_out3 m c = tGcB (rA m c) := by
    unfold res_out3 res_main_v50
    rfl
  funext j
  idx_vars j
  rw [e, tGcB_at]
  exact rA_at m c _ _

end Cert.FfReferenceIdeal.Hand
end
-- ==== Proof.FfClaim.lean ====
/-
  The five claims about the channel mixer's forward half: the three frames, that the ideal program is the
  kernel, and that kernel and reference compute the same four arrays over the extended reals.
-/
module

public import proofs.«01_k».proof.Defs
public import proofs.«01_k».proof.Proof.Gen.FfKernel
public import proofs.«01_k».proof.Proof.Gen.FfKernel.Frame
public import proofs.«01_k».proof.Proof.Gen.FfKernelIdeal.Value
public import proofs.«01_k».proof.Proof.FfFinal
public import proofs.«01_k».proof.Proof.FfRef
public import Idealize.ShloMosaic.Lib.Quiescent

@[expose] public section
noncomputable section
namespace Cert.FfClaim
open Idealize.ShloMosaic Idealize.ShloMosaic.TcCoe Idealize.SL.Sem

/-- The kernel's frame. -/
theorem frame_kernel : Cert.quiescent_FfKernel (hFfKernel := Cert.FfKernel.Gen.facts) :=
  fun m ρ _ => Cert.FfKernel.Gen.frame m ρ

/-- The ideal kernel's frame. -/
theorem frame_ideal : Cert.quiescent_FfKernelIdeal (hFfKernelIdeal := Cert.FfKernelIdeal.Gen.facts) :=
  fun m ρ _ => Cert.FfKernelIdeal.Gen.frame m ρ

/-- The reference's frame: its run keeps the arguments, and it has no semaphore. -/
theorem frame_reference : Cert.quiescent_FfReferenceIdeal (hFfReferenceIdeal := Cert.FfReferenceIdeal.Gen.facts) :=
  fun m ρ _ => (θ_run Cert.FfReferenceIdeal.defs _ _).mono
    (fun _ h => ⟨fun c => (h c).2.2.2.2, sem_eq_zero_of_no_sems (by decide) _⟩)
    (Cert.FfReferenceIdeal.Value.run (F := Ideal) m ρ)

section agree
variable (m : (ℓ : Loc FfKernelIdeal.nD FfKernelIdeal.τ FfKernelIdeal.sig) → Buf (Elt Ideal) ℓ)
  (m' : (ℓ : Loc FfReferenceIdeal.nD FfReferenceIdeal.τ FfReferenceIdeal.sig) → Buf (Elt Ideal) ℓ)
  (c : Dev FfKernelIdeal.nD)

/-- Where the arguments agree, so do their matrices. -/
structure Agree : Prop where
  gate : FfReferenceIdeal.Hand.mGate m' c = FfKernelIdeal.Hand.mGate m c
  val : FfReferenceIdeal.Hand.mVal m' c = FfKernelIdeal.Hand.mVal m c
  cw : FfReferenceIdeal.Hand.mCw m' c = FfKernelIdeal.Hand.mCw m c
  cb : FfReferenceIdeal.Hand.mCb m' c = FfKernelIdeal.Hand.mCb m c
  w : FfReferenceIdeal.Hand.mW m' c = FfKernelIdeal.Hand.mW m c
  x : FfReferenceIdeal.Hand.mX m' c = FfKernelIdeal.Hand.mX m c
  gn : FfReferenceIdeal.Hand.mGn m' c = FfKernelIdeal.Hand.mGn m c
  gt : FfReferenceIdeal.Hand.mGt m' c = FfKernelIdeal.Hand.mGt m c

variable {m m' c}

/-- The convolutions agree. -/
theorem Agree.gc (h : Agree m m' c) : FfReferenceIdeal.Hand.mGc m' c = FfKernelIdeal.Hand.mGc m c := by
  unfold FfReferenceIdeal.Hand.mGc FfKernelIdeal.Hand.mGc
  rw [h.cw, h.cb, h.gate]

/-- The activations agree. -/
theorem Agree.a (h : Agree m m' c) : FfReferenceIdeal.Hand.mA m' c = FfKernelIdeal.Hand.mA m c := by
  unfold FfReferenceIdeal.Hand.mA FfKernelIdeal.Hand.mA
  rw [h.gc, h.val]

/-- The down-projections agree. -/
theorem Agree.f (h : Agree m m' c) : FfReferenceIdeal.Hand.mF m' c = FfKernelIdeal.Hand.mF m c := by
  unfold FfReferenceIdeal.Hand.mF FfKernelIdeal.Hand.mF
  rw [h.gc, h.val, h.w]

/-- The outputs agree. -/
theorem Agree.o (h : Agree m m' c) : FfReferenceIdeal.Hand.mO m' c = FfKernelIdeal.Hand.mO m c := by
  unfold FfReferenceIdeal.Hand.mO FfKernelIdeal.Hand.mO
  rw [h.x, h.f, h.gn, h.gt]

end agree

/-- Kernel and reference compute the same four arrays. -/
theorem algebraic : Cert.algebraic_FfKernelIdeal_FfReferenceIdeal (hFfKernelIdeal := Cert.FfKernelIdeal.Gen.facts)
    (hFfReferenceIdeal := Cert.FfReferenceIdeal.Gen.facts) := by
  intro m ρ m' ρ' _ hargs
  have ha : ∀ c, Agree m m' c := fun c => by
    obtain ⟨h0, h1, h2, h3, h4, h5, h6⟩ := hargs c
    exact ⟨funext fun _ => funext fun _ => congrFun h0 _, funext fun _ => funext fun _ => congrFun h0 _,
      funext fun _ => funext fun _ => congrFun h1 _, funext fun _ => congrFun h2 _, funext fun _ => funext fun _ => congrFun h3 _,
      funext fun _ => funext fun _ => congrFun h4 _, funext fun _ => congrFun h5 _, funext fun _ => congrFun h6 _⟩
  refine ⟨fun c => (FfKernelIdeal.Gen.dats m 0 c).arrAt 9 FfKernelIdeal.cfg0.N,
    fun c => (FfKernelIdeal.Gen.dats m 0 c).arrAt 10 FfKernelIdeal.cfg0.N,
    fun c => (FfKernelIdeal.Gen.dats m 0 c).arrAt 11 FfKernelIdeal.cfg0.N,
    fun c => (FfKernelIdeal.Gen.dats m 0 c).arrAt 12 FfKernelIdeal.cfg0.N,
    FfKernelIdeal.Value.run_blocks m ρ, ?_⟩
  refine (θ_run FfReferenceIdeal.defs _ _).mono (fun _ h c => ?_) (FfReferenceIdeal.Value.run (F := Ideal) m' ρ')
  obtain ⟨r0, r1, r2, r3, rest⟩ := h c
  have e := ha c
  refine ⟨(r0.trans (FfReferenceIdeal.Hand.res0 m' c)).trans (Eq.trans ?_ (FfKernelIdeal.Hand.out9 m c).symm),
    (r1.trans (FfReferenceIdeal.Hand.res1 m' c)).trans (Eq.trans ?_ (FfKernelIdeal.Hand.out10 m c).symm),
    (r2.trans (FfReferenceIdeal.Hand.res2 m' c)).trans (Eq.trans ?_ (FfKernelIdeal.Hand.out11 m c).symm),
    (r3.trans (FfReferenceIdeal.Hand.res3 m' c)).trans (Eq.trans ?_ (FfKernelIdeal.Hand.out12 m c).symm), rest⟩
  · rw [e.o]
  · rw [e.f]
  · rw [e.gc]
  · rw [e.a]

end Cert.FfClaim
end
-- ==== Proof.lean ====
module

public import proofs.«01_k».proof.Defs
public import proofs.«01_k».proof.Proof.Gen.ScKernel
public import proofs.«01_k».proof.Proof.Gen.ScKernel.Skeleton
public import proofs.«01_k».proof.Proof.Gen.ScKernel.Launch
public import proofs.«01_k».proof.Proof.Gen.ScKernel.Points
public import proofs.«01_k».proof.Proof.Gen.ScKernel.Frame
public import proofs.«01_k».proof.Proof.Gen.ScKernelIdeal
public import proofs.«01_k».proof.Proof.Gen.ScKernelIdeal.Skeleton
public import proofs.«01_k».proof.Proof.Gen.ScKernelIdeal.Launch
public import proofs.«01_k».proof.Proof.Gen.ScKernelIdeal.Points
public import proofs.«01_k».proof.Proof.Gen.ScKernelIdeal.Frame
public import proofs.«01_k».proof.Proof.Gen.ScKernelIdeal.Value
public import proofs.«01_k».proof.Proof.Gen.ScReferenceIdeal.Run
public import proofs.«01_k».proof.Proof.Gen.ScReferenceIdeal
public import proofs.«01_k».proof.Proof.Gen.FiKernel
public import proofs.«01_k».proof.Proof.Gen.FiKernel.Skeleton
public import proofs.«01_k».proof.Proof.Gen.FiKernel.Launch
public import proofs.«01_k».proof.Proof.Gen.FiKernel.Points
public import proofs.«01_k».proof.Proof.Gen.FiKernel.Frame
public import proofs.«01_k».proof.Proof.Gen.FiKernelIdeal
public import proofs.«01_k».proof.Proof.Gen.FiKernelIdeal.Skeleton
public import proofs.«01_k».proof.Proof.Gen.FiKernelIdeal.Launch
public import proofs.«01_k».proof.Proof.Gen.FiKernelIdeal.Points
public import proofs.«01_k».proof.Proof.Gen.FiKernelIdeal.Frame
public import proofs.«01_k».proof.Proof.Gen.FiKernelIdeal.Value
public import proofs.«01_k».proof.Proof.Gen.FiReferenceIdeal.Run
public import proofs.«01_k».proof.Proof.Gen.FiReferenceIdeal
public import proofs.«01_k».proof.Proof.Gen.WuKernel
public import proofs.«01_k».proof.Proof.Gen.WuKernel.Skeleton
public import proofs.«01_k».proof.Proof.Gen.WuKernel.Launch
public import proofs.«01_k».proof.Proof.Gen.WuKernel.Points
public import proofs.«01_k».proof.Proof.Gen.WuKernel.Frame
public import proofs.«01_k».proof.Proof.Gen.WuKernelIdeal
public import proofs.«01_k».proof.Proof.Gen.WuKernelIdeal.Skeleton
public import proofs.«01_k».proof.Proof.Gen.WuKernelIdeal.Launch
public import proofs.«01_k».proof.Proof.Gen.WuKernelIdeal.Points
public import proofs.«01_k».proof.Proof.Gen.WuKernelIdeal.Frame
public import proofs.«01_k».proof.Proof.Gen.WuKernelIdeal.Value
public import proofs.«01_k».proof.Proof.Gen.WuReferenceIdeal.Run
public import proofs.«01_k».proof.Proof.Gen.WuReferenceIdeal
public import proofs.«01_k».proof.Proof.Gen.WdKernel
public import proofs.«01_k».proof.Proof.Gen.WdKernel.Skeleton
public import proofs.«01_k».proof.Proof.Gen.WdKernel.Launch
public import proofs.«01_k».proof.Proof.Gen.WdKernel.Points
public import proofs.«01_k».proof.Proof.Gen.WdKernel.Frame
public import proofs.«01_k».proof.Proof.Gen.WdKernelIdeal
public import proofs.«01_k».proof.Proof.Gen.WdKernelIdeal.Skeleton
public import proofs.«01_k».proof.Proof.Gen.WdKernelIdeal.Launch
public import proofs.«01_k».proof.Proof.Gen.WdKernelIdeal.Points
public import proofs.«01_k».proof.Proof.Gen.WdKernelIdeal.Frame
public import proofs.«01_k».proof.Proof.Gen.WdKernelIdeal.Value
public import proofs.«01_k».proof.Proof.Gen.WdReferenceIdeal.Run
public import proofs.«01_k».proof.Proof.Gen.WdReferenceIdeal
public import proofs.«01_k».proof.Proof.Gen.FoKernel
public import proofs.«01_k».proof.Proof.Gen.FoKernel.Skeleton
public import proofs.«01_k».proof.Proof.Gen.FoKernel.Launch
public import proofs.«01_k».proof.Proof.Gen.FoKernel.Points
public import proofs.«01_k».proof.Proof.Gen.FoKernel.Frame
public import proofs.«01_k».proof.Proof.Gen.FoKernelIdeal
public import proofs.«01_k».proof.Proof.Gen.FoKernelIdeal.Skeleton
public import proofs.«01_k».proof.Proof.Gen.FoKernelIdeal.Launch
public import proofs.«01_k».proof.Proof.Gen.FoKernelIdeal.Points
public import proofs.«01_k».proof.Proof.Gen.FoKernelIdeal.Frame
public import proofs.«01_k».proof.Proof.Gen.FoKernelIdeal.Value
public import proofs.«01_k».proof.Proof.Gen.FoReferenceIdeal.Run
public import proofs.«01_k».proof.Proof.Gen.FoReferenceIdeal
public import proofs.«01_k».proof.Proof.Gen.WiKernel
public import proofs.«01_k».proof.Proof.Gen.WiKernel.Skeleton
public import proofs.«01_k».proof.Proof.Gen.WiKernel.Launch
public import proofs.«01_k».proof.Proof.Gen.WiKernel.Points
public import proofs.«01_k».proof.Proof.Gen.WiKernel.Frame
public import proofs.«01_k».proof.Proof.Gen.WiKernelIdeal
public import proofs.«01_k».proof.Proof.Gen.WiKernelIdeal.Skeleton
public import proofs.«01_k».proof.Proof.Gen.WiKernelIdeal.Launch
public import proofs.«01_k».proof.Proof.Gen.WiKernelIdeal.Points
public import proofs.«01_k».proof.Proof.Gen.WiKernelIdeal.Frame
public import proofs.«01_k».proof.Proof.Gen.WiKernelIdeal.Value
public import proofs.«01_k».proof.Proof.Gen.WiReferenceIdeal.Run
public import proofs.«01_k».proof.Proof.Gen.WiReferenceIdeal
public import proofs.«01_k».proof.Proof.Gen.WoKernel
public import proofs.«01_k».proof.Proof.Gen.WoKernel.Skeleton
public import proofs.«01_k».proof.Proof.Gen.WoKernel.Launch
public import proofs.«01_k».proof.Proof.Gen.WoKernel.Points
public import proofs.«01_k».proof.Proof.Gen.WoKernel.Frame
public import proofs.«01_k».proof.Proof.Gen.WoKernelIdeal
public import proofs.«01_k».proof.Proof.Gen.WoKernelIdeal.Skeleton
public import proofs.«01_k».proof.Proof.Gen.WoKernelIdeal.Launch
public import proofs.«01_k».proof.Proof.Gen.WoKernelIdeal.Points
public import proofs.«01_k».proof.Proof.Gen.WoKernelIdeal.Frame
public import proofs.«01_k».proof.Proof.Gen.WoKernelIdeal.Value
public import proofs.«01_k».proof.Proof.Gen.WoReferenceIdeal.Run
public import proofs.«01_k».proof.Proof.Gen.WoReferenceIdeal
public import proofs.«01_k».proof.Proof.Gen.UfKernel
public import proofs.«01_k».proof.Proof.Gen.UfKernel.Skeleton
public import proofs.«01_k».proof.Proof.Gen.UfKernel.Launch
public import proofs.«01_k».proof.Proof.Gen.UfKernel.Points
public import proofs.«01_k».proof.Proof.Gen.UfKernel.Frame
public import proofs.«01_k».proof.Proof.Gen.UfKernelIdeal
public import proofs.«01_k».proof.Proof.Gen.UfKernelIdeal.Skeleton
public import proofs.«01_k».proof.Proof.Gen.UfKernelIdeal.Launch
public import proofs.«01_k».proof.Proof.Gen.UfKernelIdeal.Points
public import proofs.«01_k».proof.Proof.Gen.UfKernelIdeal.Frame
public import proofs.«01_k».proof.Proof.Gen.UfKernelIdeal.Value
public import proofs.«01_k».proof.Proof.Gen.UfReferenceIdeal.Run
public import proofs.«01_k».proof.Proof.Gen.UfReferenceIdeal
public import proofs.«01_k».proof.Proof.Gen.IfKernel
public import proofs.«01_k».proof.Proof.Gen.IfKernel.Skeleton
public import proofs.«01_k».proof.Proof.Gen.IfKernel.Launch
public import proofs.«01_k».proof.Proof.Gen.IfKernel.Points
public import proofs.«01_k».proof.Proof.Gen.IfKernel.Frame
public import proofs.«01_k».proof.Proof.Gen.IfKernelIdeal
public import proofs.«01_k».proof.Proof.Gen.IfKernelIdeal.Skeleton
public import proofs.«01_k».proof.Proof.Gen.IfKernelIdeal.Launch
public import proofs.«01_k».proof.Proof.Gen.IfKernelIdeal.Points
public import proofs.«01_k».proof.Proof.Gen.IfKernelIdeal.Frame
public import proofs.«01_k».proof.Proof.Gen.IfKernelIdeal.Value
public import proofs.«01_k».proof.Proof.Gen.IfReferenceIdeal.Run
public import proofs.«01_k».proof.Proof.Gen.IfReferenceIdeal
public import proofs.«01_k».proof.Proof.Gen.FfKernel
public import proofs.«01_k».proof.Proof.Gen.FfKernel.Skeleton
public import proofs.«01_k».proof.Proof.Gen.FfKernel.Launch
public import proofs.«01_k».proof.Proof.Gen.FfKernel.Points
public import proofs.«01_k».proof.Proof.Gen.FfKernel.Frame
public import proofs.«01_k».proof.Proof.Gen.FfKernelIdeal
public import proofs.«01_k».proof.Proof.Gen.FfKernelIdeal.Skeleton
public import proofs.«01_k».proof.Proof.Gen.FfKernelIdeal.Launch
public import proofs.«01_k».proof.Proof.Gen.FfKernelIdeal.Points
public import proofs.«01_k».proof.Proof.Gen.FfKernelIdeal.Frame
public import proofs.«01_k».proof.Proof.Gen.FfKernelIdeal.Value
public import proofs.«01_k».proof.Proof.Gen.FfReferenceIdeal.Run
public import proofs.«01_k».proof.Proof.Gen.FfReferenceIdeal
public import proofs.«01_k».proof.Proof.ScClaim
public import proofs.«01_k».proof.Proof.FiClaim
public import proofs.«01_k».proof.Proof.WuClaim
public import proofs.«01_k».proof.Proof.WdClaim
public import proofs.«01_k».proof.Proof.FoClaim
public import proofs.«01_k».proof.Proof.WiClaim
public import proofs.«01_k».proof.Proof.WoClaim
public import proofs.«01_k».proof.Proof.UfClaim
public import proofs.«01_k».proof.Proof.IfClaim
public import proofs.«01_k».proof.Proof.FfClaim
public import Idealize.ShloMosaic.Adequacy
public import Idealize.ShloMosaic.Init

@[expose] public section

noncomputable section

namespace Cert.Proof

open Idealize.ShloMosaic Idealize.SL.Sem Cert.ScKernel

theorem claim : Cert.Claim :=
  ⟨Cert.ScKernel.Gen.facts, Cert.ScKernelIdeal.Gen.facts, Cert.ScReferenceIdeal.Gen.facts,
    Cert.FiKernel.Gen.facts, Cert.FiKernelIdeal.Gen.facts, Cert.FiReferenceIdeal.Gen.facts,
    Cert.WuKernel.Gen.facts, Cert.WuKernelIdeal.Gen.facts, Cert.WuReferenceIdeal.Gen.facts,
    Cert.WdKernel.Gen.facts, Cert.WdKernelIdeal.Gen.facts, Cert.WdReferenceIdeal.Gen.facts,
    Cert.FoKernel.Gen.facts, Cert.FoKernelIdeal.Gen.facts, Cert.FoReferenceIdeal.Gen.facts,
    Cert.WiKernel.Gen.facts, Cert.WiKernelIdeal.Gen.facts, Cert.WiReferenceIdeal.Gen.facts,
    Cert.WoKernel.Gen.facts, Cert.WoKernelIdeal.Gen.facts, Cert.WoReferenceIdeal.Gen.facts,
    Cert.UfKernel.Gen.facts, Cert.UfKernelIdeal.Gen.facts, Cert.UfReferenceIdeal.Gen.facts,
    Cert.IfKernel.Gen.facts, Cert.IfKernelIdeal.Gen.facts, Cert.IfReferenceIdeal.Gen.facts,
    Cert.FfKernel.Gen.facts, Cert.FfKernelIdeal.Gen.facts, Cert.FfReferenceIdeal.Gen.facts,
    ScClaim.frame_kernel, ScClaim.frame_ideal, ScClaim.frame_reference,
    FiClaim.frame_kernel, FiClaim.frame_ideal, FiClaim.frame_reference,
    WuClaim.frame_kernel, WuClaim.frame_ideal, WuClaim.frame_reference,
    WdClaim.frame_kernel, WdClaim.frame_ideal, WdClaim.frame_reference,
    FoClaim.frame_kernel, FoClaim.frame_ideal, FoClaim.frame_reference,
    WiClaim.frame_kernel, WiClaim.frame_ideal, WiClaim.frame_reference,
    WoClaim.frame_kernel, WoClaim.frame_ideal, WoClaim.frame_reference,
    UfClaim.frame_kernel, UfClaim.frame_ideal, UfClaim.frame_reference,
    IfClaim.frame_kernel, IfClaim.frame_ideal, IfClaim.frame_reference,
    FfClaim.frame_kernel, FfClaim.frame_ideal, FfClaim.frame_reference,
    trivial, ScClaim.algebraic,
    trivial, FiClaim.algebraic,
    trivial, WuClaim.algebraic,
    trivial, WdClaim.algebraic,
    trivial, FoClaim.algebraic,
    trivial, WiClaim.algebraic,
    trivial, WoClaim.algebraic,
    trivial, UfClaim.algebraic,
    trivial, IfClaim.algebraic,
    trivial, FfClaim.algebraic⟩

end Cert.Proof

end
